-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v36) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x1024 : Shape := ⟨2, ![4096, 1024]⟩
abbrev S4096x512 : Shape := ⟨2, ![4096, 512]⟩
abbrev S32x16 : Shape := ⟨2, ![32, 16]⟩
abbrev S1x16 : Shape := ⟨2, ![1, 16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v4 : IVec S_ 1) (main_v9 : IVec S_ 1) (main_v14 : IVec S_ 1) (main_v15 : FVec F S32x16 .f32) (main_v16 : FVec F S32x16 .f32) : IVec S_ 1 :=
  let main_v17 : IVec S32x16 1 := cmpf .olt main_v15 main_v16
  let main_c_5 : IVec S_ 1 := constantI S_ 1 1#1
  let main_v18 : IVec S_ 1 := (fun x v => Host.reduce IntOp.andi x v reducesTo_S32x16_S_d0_1 h_S_) main_v17 main_c_5
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v4 main_v9
  let main_v24 : IVec S_ 1 := andi main_v23 main_v14
  let main_v25 : IVec S_ 1 := andi main_v24 main_v18
  let main_v26 : IVec S_ 1 := andi main_v25 main_v22
  main_v26

def fn {F : FTy → Type} [FloatOps F] (main_arg0 : FVec F S4096x1024 .bf16) (main_arg1 : FVec F S4096x512 .bf16) (main_arg2 : FVec F S4096x1024 .bf16) (main_arg3 : FVec F S32x16 .f32) (main_arg4 : FVec F S1x16 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : FVec F S32x16 .f32 := Host.absf main_arg3
  let main_cst_4 : FVec F S_ .f32 := constant S_ .f32 0x7F800000#32
  let main_v16 : FVec F S32x16 .f32 := broadcastInDim S32x16 ![] bcast_S_S32x16 main_cst_4
  fn_part1 (F := F) main_arg4 main_v4 main_v9 main_v14 main_v15 main_v16
-- ==== Pre_finite2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S4096x1024 .f32) (main_arg2 : FVec F S1x1024 .f32) (main_arg3 : FVec F S1024x5632 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x5632 .f32 := Host.absf main_arg3
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg4 main_v3 main_v7 main_v11 main_v15
-- ==== Kernel.lean ====
abbrev S4096x1024 : Shape := ⟨2, ![4096, 1024]⟩
abbrev S4096x512 : Shape := ⟨2, ![4096, 512]⟩
abbrev S32x16 : Shape := ⟨2, ![32, 16]⟩
abbrev S1x16 : Shape := ⟨2, ![1, 16]⟩
abbrev S128 : Shape := ⟨1, ![128]⟩
abbrev S256 : Shape := ⟨1, ![256]⟩
abbrev S128x1 : Shape := ⟨2, ![128, 1]⟩
abbrev S_ : Shape := ⟨0, ![]⟩
abbrev S1x256 : Shape := ⟨2, ![1, 256]⟩
abbrev S128x256 : Shape := ⟨2, ![128, 256]⟩
abbrev S1x128x256 : Shape := ⟨3, ![1, 128, 256]⟩
abbrev S128x256x1 : Shape := ⟨3, ![128, 256, 1]⟩
abbrev S128x256x16 : Shape := ⟨3, ![128, 256, 16]⟩
abbrev S16x128x256 : Shape := ⟨3, ![16, 128, 256]⟩
abbrev S32x256x512 : Shape := ⟨3, ![32, 256, 512]⟩
abbrev S1x128 : Shape := ⟨2, ![1, 128]⟩
abbrev S128x1024 : Shape := ⟨2, ![128, 1024]⟩
abbrev S128x512 : Shape := ⟨2, ![128, 512]⟩
abbrev S1x256x512 : Shape := ⟨3, ![1, 256, 512]⟩
abbrev S256x512 : Shape := ⟨2, ![256, 512]⟩
abbrev S128x128 : Shape := ⟨2, ![128, 128]⟩
abbrev S256x64 : Shape := ⟨2, ![256, 64]⟩
abbrev S128x64 : Shape := ⟨2, ![128, 64]⟩
abbrev S512x64 : Shape := ⟨2, ![512, 64]⟩
abbrev S4x128x256 : Shape := ⟨3, ![4, 128, 256]⟩
abbrev S512x256 : Shape := ⟨2, ![512, 256]⟩
abbrev S512x1 : Shape := ⟨2, ![512, 1]⟩
abbrev S1x1 : Shape := ⟨2, ![1, 1]⟩
abbrev S512 : Shape := ⟨1, ![512]⟩
abbrev S1x256x64 : Shape := ⟨3, ![1, 256, 64]⟩

abbrev nBuf : Space → Nat
  | .hbm => 80
  | .vmem => 17
  | .smem => 1
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S32x16, .f32⟩
  | .hbm, ⟨4, _⟩ => ⟨S1x16, .f32⟩
  | .hbm, ⟨5, _⟩ => ⟨S128, .i32⟩
  | .hbm, ⟨6, _⟩ => ⟨S256, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S1x256, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S128x256, .i1⟩
  | .hbm, ⟨22, _⟩ => ⟨S1x128x256, .i1⟩
  | .hbm, ⟨23, _⟩ => ⟨S128, .i32⟩
  | .hbm, ⟨24, _⟩ => ⟨S256, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .f32⟩
  | .hbm, ⟨44, _⟩ => ⟨S_, .f32⟩
  | .hbm, ⟨45, _⟩ => ⟨S128x256, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i32⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S_, .i32⟩
  | .hbm, ⟨65, _⟩ => ⟨S128x256, .i32⟩
  | .hbm, ⟨66, _⟩ => ⟨S128x256, .i32⟩
  | .hbm, ⟨67, _⟩ => ⟨S128x256, .i32⟩
  | .hbm, ⟨68, _⟩ => ⟨S128x256x1, .i32⟩
  | .hbm, ⟨69, _⟩ => ⟨S128x256x16, .f32⟩
  | .hbm, ⟨70, _⟩ => ⟨S16x128x256, .f32⟩
  | .hbm, ⟨71, _⟩ => ⟨S_, .f32⟩
  | .hbm, ⟨72, _⟩ => ⟨S_, .f32⟩
  | .hbm, ⟨73, _⟩ => ⟨S16x128x256, .i1⟩
  | .hbm, ⟨74, _⟩ => ⟨S16x128x256, .f32⟩
  | .hbm, ⟨75, _⟩ => ⟨S16x128x256, .f32⟩
  | .hbm, ⟨76, _⟩ => ⟨S4096x1024, .bf16⟩
  | .hbm, ⟨77, _⟩ => ⟨S32x256x512, .bf16⟩
  | .hbm, ⟨78, _⟩ => ⟨S16x128x256, .f32⟩
  | .hbm, ⟨79, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S16x128x256, .f32⟩
  | .local _ .vmem, ⟨9, _⟩ => ⟨S128x1024, .bf16⟩
  | .local _ .vmem, ⟨10, _⟩ => ⟨S128x1024, .bf16⟩
  | .local _ .vmem, ⟨11, _⟩ => ⟨S1x256x512, .bf16⟩
  | .local _ .vmem, ⟨12, _⟩ => ⟨S1x256x512, .bf16⟩
  | .local _ .vmem, ⟨13, _⟩ => ⟨S16x128x256, .f32⟩
  | .local _ .vmem, ⟨14, _⟩ => ⟨S1x128, .f32⟩
  | .local _ .vmem, ⟨15, _⟩ => ⟨S256x512, .bf16⟩
  | .local _ .vmem, ⟨16, _⟩ => ⟨S128x128, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev main_v53_3 : Ref sig .tc := ⟨.hbm, 79, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v701 : BitVec 1 := Scalar.cmpi .eq arg0 c31_i32
  let v702 : BitVec 32 := Scalar.extui v701
  let c0_i32_361 : BitVec 32 := 0#32
  let v703 : BitVec 1 := Scalar.cmpi .ne v702 c0_i32_361
  v703

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x512 : Shape := ⟨2, ![4096, 512]⟩
abbrev S32x16 : Shape := ⟨2, ![32, 16]⟩
abbrev S1x16 : Shape := ⟨2, ![1, 16]⟩
abbrev S4096x256 : Shape := ⟨2, ![4096, 256]⟩
abbrev S32x128x4x64 : Shape := ⟨4, ![32, 128, 4, 64]⟩
abbrev S_ : Shape := ⟨0, ![]⟩
abbrev S33x128x4x64 : Shape := ⟨4, ![33, 128, 4, 64]⟩
abbrev S32x256x4x64 : Shape := ⟨4, ![32, 256, 4, 64]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S32x128x4x4x64 : Shape := ⟨5, ![32, 128, 4, 4, 64]⟩
abbrev S32x4x256x128x4 : Shape := ⟨5, ![32, 4, 256, 128, 4]⟩
abbrev S32x4x4x128x256 : Shape := ⟨5, ![32, 4, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S4x4x128x256 : Shape := ⟨4, ![4, 4, 128, 256]⟩
abbrev S1x4x4x128x256 : Shape := ⟨5, ![1, 4, 4, 128, 256]⟩
abbrev S4x4x1x1 : Shape := ⟨4, ![4, 4, 1, 1]⟩
abbrev S32x4x4x128 : Shape := ⟨4, ![32, 4, 4, 128]⟩
abbrev S32x4x4x128x1 : Shape := ⟨5, ![32, 4, 4, 128, 1]⟩
abbrev S1x4x4x1x1 : Shape := ⟨5, ![1, 4, 4, 1, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S4x4 : Shape := ⟨2, ![4, 4]⟩
abbrev S32x4x128x4x64 : Shape := ⟨5, ![32, 4, 128, 4, 64]⟩
abbrev S32x4x256x64 : Shape := ⟨4, ![32, 4, 256, 64]⟩
abbrev S32x256x256 : Shape := ⟨3, ![32, 256, 256]⟩
abbrev S32x256x512 : Shape := ⟨3, ![32, 256, 512]⟩
abbrev S1x128 : Shape := ⟨2, ![1, 128]⟩

abbrev nBuf : Space → Nat
  | .hbm => 257
  | .vmem => 0
  | .smem => 0
  | _ => 0

abbrev hbmTy0_0 (i : Nat) : BufTy := match i % 128 with
  | 0 => ⟨S4096x1024, .bf16⟩
  | 1 => ⟨S4096x512, .bf16⟩
  | 2 => ⟨S4096x1024, .bf16⟩
  | 3 => ⟨S32x16, .f32⟩
  | 4 => ⟨S1x16, .f32⟩
  | 5 => ⟨S4096x1024, .f32⟩
  | 6 => ⟨S4096x512, .f32⟩
  | 7 => ⟨S4096x1024, .f32⟩
  | 8 => ⟨S4096x256, .f32⟩
  | 9 => ⟨S32x128x4x64, .f32⟩
  | 10 => ⟨S4096x256, .f32⟩
  | 11 => ⟨S32x128x4x64, .f32⟩
  | 12 => ⟨S_, .i32⟩
  | 13 => ⟨S_, .f32⟩
  | 14 => ⟨S33x128x4x64, .f32⟩
  | 15 => ⟨S32x128x4x64, .f32⟩
  | 16 => ⟨S32x256x4x64, .f32⟩
  | 17 => ⟨S_, .i32⟩
  | 18 => ⟨S_, .f32⟩
  | 19 => ⟨S33x128x4x64, .f32⟩
  | 20 => ⟨S32x128x4x64, .f32⟩
  | 21 => ⟨S32x256x4x64, .f32⟩
  | 22 => ⟨S128, .i32⟩
  | 23 => ⟨S256, .i32⟩
  | 24 => ⟨S128x1, .i32⟩
  | 25 => ⟨S_, .i32⟩
  | 26 => ⟨S128x1, .i32⟩
  | 27 => ⟨S128x1, .i32⟩
  | 28 => ⟨S1x256, .i32⟩
  | 29 => ⟨S128x256, .i32⟩
  | 30 => ⟨S128x256, .i32⟩
  | 31 => ⟨S128x256, .i32⟩
  | 32 => ⟨S_, .i32⟩
  | 33 => ⟨S128x256, .i32⟩
  | 34 => ⟨S128x256, .i32⟩
  | 35 => ⟨S_, .i32⟩
  | 36 => ⟨S128x256, .i32⟩
  | 37 => ⟨S128x256, .i32⟩
  | 38 => ⟨S128x256, .f32⟩
  | 39 => ⟨S_, .f32⟩
  | 40 => ⟨S128x256, .f32⟩
  | 41 => ⟨S128x256, .f32⟩
  | 42 => ⟨S128x256, .f32⟩
  | 43 => ⟨S_, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S128x256, .i32⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S128x256, .i32⟩
  | 60 => ⟨S_, .i32⟩
  | 61 => ⟨S128x256, .i32⟩
  | 62 => ⟨S128x256, .i1⟩
  | 63 => ⟨S_, .i32⟩
  | 64 => ⟨S128x256, .i32⟩
  | 65 => ⟨S128x256, .i32⟩
  | 66 => ⟨S128x256, .i32⟩
  | 67 => ⟨S128x256x1, .i32⟩
  | 68 => ⟨S128x256x16, .f32⟩
  | 69 => ⟨S16x128x256, .f32⟩
  | 70 => ⟨S32x128x4x4x64, .f32⟩
  | 71 => ⟨S32x4x256x128x4, .f32⟩
  | 72 => ⟨S32x4x4x128x256, .f32⟩
  | 73 => ⟨S_, .f32⟩
  | 74 => ⟨S32x4x4x128x256, .f32⟩
  | 75 => ⟨S32x4x4x128x256, .f32⟩
  | 76 => ⟨S128, .i32⟩
  | 77 => ⟨S256, .i32⟩
  | 78 => ⟨S128x1, .i32⟩
  | 79 => ⟨S_, .i32⟩
  | 80 => ⟨S128x1, .i32⟩
  | 81 => ⟨S128x1, .i32⟩
  | 82 => ⟨S1x256, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S256, .i32⟩
  | 94 => ⟨S32, .i32⟩
  | 95 => ⟨S32x1, .i32⟩
  | 96 => ⟨S_, .i32⟩
  | 97 => ⟨S32x1, .i32⟩
  | 98 => ⟨S32x1, .i32⟩
  | 99 => ⟨S_, .i32⟩
  | 100 => ⟨S32x1, .i32⟩
  | 101 => ⟨S32x1, .i32⟩
  | 102 => ⟨S1x256, .i32⟩
  | 103 => ⟨S32x256, .i32⟩
  | 104 => ⟨S32x256, .i32⟩
  | 105 => ⟨S32x256, .i32⟩
  | 106 => ⟨S1x128x256, .i1⟩
  | 107 => ⟨S_, .i32⟩
  | 108 => ⟨S32x256, .i32⟩
  | 109 => ⟨S32x256, .i1⟩
  | 110 => ⟨S32x1x256, .i1⟩
  | 111 => ⟨S32x128x256, .i1⟩
  | 112 => ⟨S32x128x256, .i1⟩
  | 113 => ⟨S32x128x256, .i1⟩
  | 114 => ⟨S32x1x1x128x256, .i1⟩
  | 115 => ⟨S4x4x128x256, .f32⟩
  | 116 => ⟨S1x4x4x128x256, .f32⟩
  | 117 => ⟨S32x4x4x128x256, .f32⟩
  | 118 => ⟨S32x4x4x128x256, .f32⟩
  | 119 => ⟨S_, .f32⟩
  | 120 => ⟨S_, .f32⟩
  | 121 => ⟨S32x4x4x128x256, .i1⟩
  | 122 => ⟨S32x4x4x128x256, .f32⟩
  | 123 => ⟨S32x4x4x128x256, .f32⟩
  | 124 => ⟨S_, .f32⟩
  | 125 => ⟨S32x4x4x128x256, .f32⟩
  | 126 => ⟨S4x4x1x1, .f32⟩
  | 127 => ⟨S_, .f32⟩
  | _ => ⟨S4096x1024, .bf16⟩

abbrev hbmTy0_1 (i : Nat) : BufTy := match i % 128 with
  | 0 => ⟨S32x4x4x128, .f32⟩
  | 1 => ⟨S32x4x4x128x1, .f32⟩
  | 2 => ⟨S32x4x4x128x256, .f32⟩
  | 3 => ⟨S32x4x4x128x256, .i1⟩
  | 4 => ⟨S32x4x4x128x256, .f32⟩
  | 5 => ⟨S_, .f32⟩
  | 6 => ⟨S32x4x4x128, .f32⟩
  | 7 => ⟨S32x4x4x128x1, .f32⟩
  | 8 => ⟨S1x4x4x1x1, .f32⟩
  | 9 => ⟨S32x4x4x128x1, .f32⟩
  | 10 => ⟨S32x4x4x128x1, .f32⟩
  | 11 => ⟨S32x4x4x128x1, .f32⟩
  | 12 => ⟨S32x4x4x128x1, .i1⟩
  | 13 => ⟨S32x4x4x128x1, .f32⟩
  | 14 => ⟨S32x4x4x128x1, .i1⟩
  | 15 => ⟨S_, .f32⟩
  | 16 => ⟨S32x4x4x128x1, .f32⟩
  | 17 => ⟨S_, .f32⟩
  | 18 => ⟨S32x4x4x128x1, .f32⟩
  | 19 => ⟨S_, .f32⟩
  | 20 => ⟨S32x4x4x128x1, .f32⟩
  | 21 => ⟨S32x4x4x128x1, .f32⟩
  | 22 => ⟨S32x4x4x128x1, .f32⟩
  | 23 => ⟨S32x4x4x128x1, .f32⟩
  | 24 => ⟨S32x4x4x128x1, .i1⟩
  | 25 => ⟨S32x4x4x128x1, .f32⟩
  | 26 => ⟨S32x4x4x128x1, .i1⟩
  | 27 => ⟨S_, .f32⟩
  | 28 => ⟨S32x4x4x128x1, .f32⟩
  | 29 => ⟨S_, .f32⟩
  | 30 => ⟨S32x4x4x128x1, .f32⟩
  | 31 => ⟨S_, .f32⟩
  | 32 => ⟨S32x4x4x128x1, .f32⟩
  | 33 => ⟨S32x4x4x128x1, .f32⟩
  | 34 => ⟨S32x4x4x128x1, .f32⟩
  | 35 => ⟨S32x4x4x128x256, .f32⟩
  | 36 => ⟨S32x4x4x128x256, .f32⟩
  | 37 => ⟨S32x4x4x128x256, .f32⟩
  | 38 => ⟨S_, .f32⟩
  | 39 => ⟨S32x4x4x128, .f32⟩
  | 40 => ⟨S32x4x4x128x1, .f32⟩
  | 41 => ⟨S1x4x4x1x1, .f32⟩
  | 42 => ⟨S32x4x4x128x1, .f32⟩
  | 43 => ⟨S32x4x4x128x1, .f32⟩
  | 44 => ⟨S32x4x4x128x1, .f32⟩
  | 45 => ⟨S32x4x4x128x1, .f32⟩
  | 46 => ⟨S32x4x4x128x256, .f32⟩
  | 47 => ⟨S32x4x4x128x256, .f32⟩
  | 48 => ⟨S32x4x4x128x1, .f32⟩
  | 49 => ⟨S_, .f32⟩
  | 50 => ⟨S32x4x4x128x1, .f32⟩
  | 51 => ⟨S32x4x4x128x1, .f32⟩
  | 52 => ⟨S32x4x64x4x128, .f32⟩
  | 53 => ⟨S32x128x4x4x64, .f32⟩
  | 54 => ⟨S4096x1024, .f32⟩
  | 55 => ⟨S32x128x4x4x64, .f32⟩
  | 56 => ⟨S32x4x64x4x128, .f32⟩
  | 57 => ⟨S32x4x4x128x256, .f32⟩
  | 58 => ⟨S32x4x64x256, .f32⟩
  | 59 => ⟨S32x256x4x64, .f32⟩
  | 60 => ⟨S32x4x4x128x256, .f32⟩
  | 61 => ⟨S32x4x4x128x256, .f32⟩
  | 62 => ⟨S32x4x4x128x256, .f32⟩
  | 63 => ⟨S_, .f32⟩
  | 64 => ⟨S32x4x4x128, .f32⟩
  | 65 => ⟨S32x4x4x128x1, .f32⟩
  | 66 => ⟨S32x4x4x128x1, .f32⟩
  | 67 => ⟨S32x4x4x128x256, .f32⟩
  | 68 => ⟨S32x4x4x128x256, .f32⟩
  | 69 => ⟨S32x4x4x128x1, .f32⟩
  | 70 => ⟨S_, .f32⟩
  | 71 => ⟨S4x4x1, .f32⟩
  | 72 => ⟨S1x4x4x1x1, .f32⟩
  | 73 => ⟨S32x4x4x128x1, .f32⟩
  | 74 => ⟨S_, .f32⟩
  | 75 => ⟨S4x4, .f32⟩
  | 76 => ⟨S4x4x1x1, .f32⟩
  | 77 => ⟨S_, .f32⟩
  | 78 => ⟨S32x4x4x128, .f32⟩
  | 79 => ⟨S32x4x4x128x256, .f32⟩
  | 80 => ⟨S32x4x4x128x256, .f32⟩
  | 81 => ⟨S32x4x4x128x256, .f32⟩
  | 82 => ⟨S32x4x4x128x256, .f32⟩
  | 83 => ⟨S_, .f32⟩
  | 84 => ⟨S32x4x4x128, .f32⟩
  | 85 => ⟨S32x4x4x128x1, .f32⟩
  | 86 => ⟨S32x4x4x128x1, .f32⟩
  | 87 => ⟨S32x4x4x128x1, .f32⟩
  | 88 => ⟨S_, .f32⟩
  | 89 => ⟨S4x4x1, .f32⟩
  | 90 => ⟨S1x4x4x1x1, .f32⟩
  | 91 => ⟨S32x4x4x128x1, .f32⟩
  | 92 => ⟨S_, .f32⟩
  | 93 => ⟨S4x4, .f32⟩
  | 94 => ⟨S4x4x1x1, .f32⟩
  | 95 => ⟨S4x4x1x1, .f32⟩
  | 96 => ⟨S_, .f32⟩
  | 97 => ⟨S32x4x4x128, .f32⟩
  | 98 => ⟨S32x4x4x128, .f32⟩
  | 99 => ⟨S32x4x4x128x256, .f32⟩
  | 100 => ⟨S32x4x4x128x256, .f32⟩
  | 101 => ⟨S32x4x4x128x256, .f32⟩
  | 102 => ⟨S1x16, .f32⟩
  | 103 => ⟨S_, .f32⟩
  | 104 => ⟨S32x4x4x128x256, .f32⟩
  | 105 => ⟨S32x4x4x128x256, .f32⟩
  | 106 => ⟨S_, .f32⟩
  | 107 => ⟨S4x4x128x256, .f32⟩
  | 108 => ⟨S1x4x4x128x256, .f32⟩
  | 109 => ⟨S_, .f32⟩
  | 110 => ⟨S4x4x128x256, .f32⟩
  | 111 => ⟨S16x128x256, .f32⟩
  | 112 => ⟨S_, .f32⟩
  | 113 => ⟨S32x4x4x128x256, .f32⟩
  | 114 => ⟨S32x4x4x128x256, .f32⟩
  | 115 => ⟨S32x4x256x128x4, .f32⟩
  | 116 => ⟨S32x4x128x4x64, .f32⟩
  | 117 => ⟨S32x128x4x4x64, .f32⟩
  | 118 => ⟨S32x4x256x64, .f32⟩
  | 119 => ⟨S32x256x4x64, .f32⟩
  | 120 => ⟨S4096x1024, .f32⟩
  | 121 => ⟨S32x256x256, .f32⟩
  | 122 => ⟨S32x256x256, .f32⟩
  | 123 => ⟨S32x256x512, .f32⟩
  | 124 => ⟨S4096x1024, .bf16⟩
  | 125 => ⟨S32x256x512, .bf16⟩
  | 126 => ⟨S_, .i32⟩
  | 127 => ⟨S_, .f32⟩
  | _ => ⟨S4096x1024, .bf16⟩

abbrev hbmTy0_2 (i : Nat) : BufTy := match i % 128 with
  | 0 => ⟨S1x128, .f32⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_c_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_v72 : Ref sig .tc := ⟨.hbm, 97, rfl⟩
abbrev main_v73 : Ref sig .tc := ⟨.hbm, 98, rfl⟩
abbrev main_c_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_call3_v0 : Ref sig .tc := ⟨.hbm, 120, rfl⟩
abbrev main_v92_1 : Ref sig .tc := ⟨.hbm, 121, rfl⟩
abbrev main_call3_v2 : Ref sig .tc := ⟨.hbm, 122, rfl⟩
abbrev main_v92_0 : Ref sig .tc := ⟨.hbm, 123, rfl⟩
abbrev main_call3_cst : Ref sig .tc := ⟨.hbm, 124, rfl⟩
abbrev main_v92_2 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_cst_23 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_24 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_cst_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_27 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_28 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_30 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_31 : Ref sig .tc := ⟨.hbm, 202, rfl⟩
abbrev main_v157 : Ref sig .tc := ⟨.hbm, 203, rfl⟩
abbrev main_v158 : Ref sig .tc := ⟨.hbm, 204, rfl⟩
abbrev main_cst_32 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_33 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_34 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_35 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_36 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_call4_cst : Ref sig .tc := ⟨.hbm, 231, rfl⟩
abbrev main_call4_v0 : Ref sig .tc := ⟨.hbm, 232, rfl⟩
abbrev main_v180 : Ref sig .tc := ⟨.hbm, 233, rfl⟩
abbrev main_cst_37 : Ref sig .tc := ⟨.hbm, 234, rfl⟩
abbrev main_v181 : Ref sig .tc := ⟨.hbm, 235, rfl⟩
abbrev main_v182 : Ref sig .tc := ⟨.hbm, 236, rfl⟩
abbrev main_cst_38 : Ref sig .tc := ⟨.hbm, 237, rfl⟩
abbrev main_v183 : Ref sig .tc := ⟨.hbm, 238, rfl⟩
abbrev main_v184 : Ref sig .tc := ⟨.hbm, 239, rfl⟩
abbrev main_cst_39 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_c_40 : Ref sig .tc := ⟨.hbm, 254, rfl⟩
abbrev main_call5_v0 : Ref sig .tc := ⟨.hbm, 255, rfl⟩
abbrev main_v198 : Ref sig .tc := ⟨.hbm, 256, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S4x4096x704 : Shape := ⟨3, ![4, 4096, 704]⟩
abbrev S512x1024 : Shape := ⟨2, ![512, 1024]⟩
abbrev S2x1x512x704 : Shape := ⟨4, ![2, 1, 512, 704]⟩
abbrev S1x2x1x704x1024 : Shape := ⟨5, ![1, 2, 1, 704, 1024]⟩
abbrev S1x1x704x1024 : Shape := ⟨4, ![1, 1, 704, 1024]⟩
abbrev S1x512x704 : Shape := ⟨3, ![1, 512, 704]⟩
abbrev S256x1024 : Shape := ⟨2, ![256, 1024]⟩
abbrev S704x1024 : Shape := ⟨2, ![704, 1024]⟩
abbrev S256x704 : Shape := ⟨2, ![256, 704]⟩
abbrev S1x1x256x704 : Shape := ⟨4, ![1, 1, 256, 704]⟩
abbrev S1x256x704 : Shape := ⟨3, ![1, 256, 704]⟩
abbrev S1x1x1x704x1024 : Shape := ⟨5, ![1, 1, 1, 704, 1024]⟩
abbrev S256 : Shape := ⟨1, ![256]⟩
abbrev S256x1 : Shape := ⟨2, ![256, 1]⟩
abbrev S1024 : Shape := ⟨1, ![1024]⟩

abbrev nBuf : Space → Nat
  | .hbm => 33
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x5632, .bf16⟩
  | .hbm, ⟨22, _⟩ => ⟨S4096x2x4x704, .bf16⟩
  | .hbm, ⟨23, _⟩ => ⟨S2x4x4096x704, .bf16⟩
  | .hbm, ⟨24, _⟩ => ⟨S5632x1024, .f32⟩
  | .hbm, ⟨25, _⟩ => ⟨S5632x1024, .bf16⟩
  | .hbm, ⟨26, _⟩ => ⟨S1x2x4x704x1024, .bf16⟩
  | .hbm, ⟨27, _⟩ => ⟨S2816x1024, .bf16⟩
  | .hbm, ⟨28, _⟩ => ⟨S1x4x704x1024, .bf16⟩
  | .hbm, ⟨29, _⟩ => ⟨S4096x1024, .f32⟩
  | .hbm, ⟨30, _⟩ => ⟨S1x1024, .f32⟩
  | .hbm, ⟨31, _⟩ => ⟨S4x4096x704, .bf16⟩
  | .hbm, ⟨32, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S2x1x512x704, .bf16⟩
  | .local _ .vmem, ⟨3, _⟩ => ⟨S2x1x512x704, .bf16⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x512x704, .bf16⟩
  | .local _ .vmem, ⟨15, _⟩ => ⟨S1x512x704, .bf16⟩
  | .local _ .vmem, ⟨16, _⟩ => ⟨S2x1x512x704, .bf16⟩
  | .local _ .vmem, ⟨17, _⟩ => ⟨S2x1x512x704, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v102 : BitVec 1 := Scalar.cmpi .eq arg1 c3_i32
  let v103 : BitVec 32 := Scalar.extui v102
  let c0_i32_88 : BitVec 32 := 0#32
  let v104 : BitVec 1 := Scalar.cmpi .ne v103 c0_i32_88
  v104

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x5632, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x4x704, .f32⟩
  | .hbm, ⟨75, _⟩ => ⟨S4x4096x704, .f32⟩
  | .hbm, ⟨76, _⟩ => ⟨S4096x2x4x704, .f32⟩
  | .hbm, ⟨77, _⟩ => ⟨S2x4x4096x704, .f32⟩
  | .hbm, ⟨78, _⟩ => ⟨S4096x1024, .f32⟩
  | .hbm, ⟨79, _⟩ => ⟨S4x4096x704, .bf16⟩
  | .hbm, ⟨80, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x8x704, .bf16⟩
  | .hbm, ⟨3, _⟩ => ⟨S8x4096x704, .bf16⟩
  | .hbm, ⟨4, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x704x1024, .f32⟩
  | .hbm, ⟨11, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .f32⟩
  | .local _ .vmem, ⟨3, _⟩ => ⟨S1x704x1024, .bf16⟩
  | .local _ .vmem, ⟨4, _⟩ => ⟨S1x704x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S2x4x4096x704 : Shape := ⟨4, ![2, 4, 4096, 704]⟩
abbrev S1024x1024 : Shape := ⟨2, ![1024, 1024]⟩
abbrev S1x2x1x704x1024 : Shape := ⟨5, ![1, 2, 1, 704, 1024]⟩
abbrev S1x1x704x1024 : Shape := ⟨4, ![1, 1, 704, 1024]⟩
abbrev S2x1x1024x704 : Shape := ⟨4, ![2, 1, 1024, 704]⟩
abbrev S256x1024 : Shape := ⟨2, ![256, 1024]⟩
abbrev S1x1x1x704x1024 : Shape := ⟨5, ![1, 1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S1x2x4x704x1024, .bf16⟩
  | .hbm, ⟨9, _⟩ => ⟨S2816x1024, .bf16⟩
  | .hbm, ⟨10, _⟩ => ⟨S1x4x704x1024, .bf16⟩
  | .hbm, ⟨11, _⟩ => ⟨S4096x1024, .f32⟩
  | .hbm, ⟨12, _⟩ => ⟨S2x4x4096x704, .bf16⟩
  | .hbm, ⟨13, _⟩ => ⟨S4096x1024, .bf16⟩
  | .hbm, ⟨14, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S2x1x1024x704, .bf16⟩
  | .local _ .vmem, ⟨13, _⟩ => ⟨S2x1x1024x704, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v107 : BitVec 1 := Scalar.cmpi .eq arg1 c3_i32
  let v108 : BitVec 32 := Scalar.extui v107
  let c0_i32_119 : BitVec 32 := 0#32
  let v109 : BitVec 1 := Scalar.cmpi .ne v108 c0_i32_119
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S4096x1024, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x2x4x704, .f32⟩
  | .hbm, ⟨23, _⟩ => ⟨S2x4x4096x704, .f32⟩
  | .hbm, ⟨24, _⟩ => ⟨S2x4x4096x704, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S2x4x4096x704 : Shape := ⟨4, ![2, 4, 4096, 704]⟩
abbrev S1024x1024 : Shape := ⟨2, ![1024, 1024]⟩
abbrev S1x2x1x704x1024 : Shape := ⟨5, ![1, 2, 1, 704, 1024]⟩
abbrev S1x1x704x1024 : Shape := ⟨4, ![1, 1, 704, 1024]⟩
abbrev S2x1x1024x704 : Shape := ⟨4, ![2, 1, 1024, 704]⟩
abbrev S256x1024 : Shape := ⟨2, ![256, 1024]⟩
abbrev S1x1x1x704x1024 : Shape := ⟨5, ![1, 1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S1x2x4x704x1024, .bf16⟩
  | .hbm, ⟨8, _⟩ => ⟨S2816x1024, .bf16⟩
  | .hbm, ⟨9, _⟩ => ⟨S1x4x704x1024, .bf16⟩
  | .hbm, ⟨10, _⟩ => ⟨S4096x1024, .f32⟩
  | .hbm, ⟨11, _⟩ => ⟨S2x4x4096x704, .bf16⟩
  | .hbm, ⟨12, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S2x1x1024x704, .bf16⟩
  | .local _ .vmem, ⟨12, _⟩ => ⟨S2x1x1024x704, .bf16⟩
  | .local _ .vmem, ⟨13, _⟩ => ⟨S1024x1024, .bf16⟩
  | .local _ .vmem, ⟨14, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v107 : BitVec 1 := Scalar.cmpi .eq arg1 c3_i32
  let v108 : BitVec 32 := Scalar.extui v107
  let c0_i32_119 : BitVec 32 := 0#32
  let v109 : BitVec 1 := Scalar.cmpi .ne v108 c0_i32_119
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S4096x2x4x704, .f32⟩
  | .hbm, ⟨22, _⟩ => ⟨S2x4x4096x704, .f32⟩
  | .hbm, ⟨23, _⟩ => ⟨S2x4x4096x704, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S2816x1024 : Shape := ⟨2, ![2816, 1024]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S2x4x4096x704 : Shape := ⟨4, ![2, 4, 4096, 704]⟩
abbrev S1024x1024 : Shape := ⟨2, ![1024, 1024]⟩
abbrev S1x2x1x704x1024 : Shape := ⟨5, ![1, 2, 1, 704, 1024]⟩
abbrev S1x1x704x1024 : Shape := ⟨4, ![1, 1, 704, 1024]⟩
abbrev S2x1x1024x704 : Shape := ⟨4, ![2, 1, 1024, 704]⟩
abbrev S256x1024 : Shape := ⟨2, ![256, 1024]⟩
abbrev S1x1x1x704x1024 : Shape := ⟨5, ![1, 1, 1, 704, 1024]⟩
abbrev S704x1024 : Shape := ⟨2, ![704, 1024]⟩
abbrev S256x704 : Shape := ⟨2, ![256, 704]⟩
abbrev S1x1x256x704 : Shape := ⟨4, ![1, 1, 256, 704]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S1x2x4x704x1024, .bf16⟩
  | .hbm, ⟨7, _⟩ => ⟨S2816x1024, .bf16⟩
  | .hbm, ⟨8, _⟩ => ⟨S1x4x704x1024, .bf16⟩
  | .hbm, ⟨9, _⟩ => ⟨S4096x1024, .f32⟩
  | .hbm, ⟨10, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S2x1x1024x704, .bf16⟩
  | .local _ .vmem, ⟨11, _⟩ => ⟨S2x1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S4096x2x4x704, .f32⟩
  | .hbm, ⟨21, _⟩ => ⟨S2x4x4096x704, .f32⟩
  | .hbm, ⟨22, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x2048 : Shape := ⟨2, ![1024, 2048]⟩
abbrev S2x2048 : Shape := ⟨2, ![2, 2048]⟩
abbrev S1024x8x256 : Shape := ⟨3, ![1024, 8, 256]⟩
abbrev S8x1024x256 : Shape := ⟨3, ![8, 1024, 256]⟩
abbrev S1x8x1024x256 : Shape := ⟨4, ![1, 8, 1024, 256]⟩
abbrev S2x1x2048 : Shape := ⟨3, ![2, 1, 2048]⟩
abbrev S4096x2048 : Shape := ⟨2, ![4096, 2048]⟩
abbrev S1024x1024 : Shape := ⟨2, ![1024, 1024]⟩
abbrev S1x1x2048 : Shape := ⟨3, ![1, 1, 2048]⟩
abbrev S256x1024 : Shape := ⟨2, ![256, 1024]⟩
abbrev S1x1x1024x256 : Shape := ⟨4, ![1, 1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x8x1024x256, .bf16⟩
  | .hbm, ⟨7, _⟩ => ⟨S2x1x2048, .f32⟩
  | .hbm, ⟨8, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x8x1024x256, .bf16⟩
  | .local _ .vmem, ⟨3, _⟩ => ⟨S1x1x2048, .f32⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x1024 : Shape := ⟨2, ![4096, 1024]⟩
abbrev S1024x2048 : Shape := ⟨2, ![1024, 2048]⟩
abbrev S2x2048 : Shape := ⟨2, ![2, 2048]⟩
abbrev S4096x2048 : Shape := ⟨2, ![4096, 2048]⟩
abbrev S1x2048 : Shape := ⟨2, ![1, 2048]⟩
abbrev S2048 : Shape := ⟨1, ![2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2x2048, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x1024 : Shape := ⟨2, ![4096, 1024]⟩
abbrev S1024x2048 : Shape := ⟨2, ![1024, 2048]⟩
abbrev S2x2048 : Shape := ⟨2, ![2, 2048]⟩
abbrev S1024x8x256 : Shape := ⟨3, ![1024, 8, 256]⟩
abbrev S8x1024x256 : Shape := ⟨3, ![8, 1024, 256]⟩
abbrev S1x8x1024x256 : Shape := ⟨4, ![1, 8, 1024, 256]⟩
abbrev S2x1x2048 : Shape := ⟨3, ![2, 1, 2048]⟩
abbrev S4096x2048 : Shape := ⟨2, ![4096, 2048]⟩
abbrev S1024x1024 : Shape := ⟨2, ![1024, 1024]⟩
abbrev S1x1x2048 : Shape := ⟨3, ![1, 1, 2048]⟩
abbrev S256x1024 : Shape := ⟨2, ![256, 1024]⟩
abbrev S1x1x1024x256 : Shape := ⟨4, ![1, 1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x8x1024x256, .bf16⟩
  | .hbm, ⟨7, _⟩ => ⟨S2x1x2048, .f32⟩
  | .hbm, ⟨8, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x8x1024x256, .bf16⟩
  | .local _ .vmem, ⟨3, _⟩ => ⟨S1x1x2048, .f32⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S1024x2048 : Shape := ⟨2, ![1024, 2048]⟩
abbrev S2x2048 : Shape := ⟨2, ![2, 2048]⟩
abbrev S4096x2048 : Shape := ⟨2, ![4096, 2048]⟩
abbrev S1x2048 : Shape := ⟨2, ![1, 2048]⟩
abbrev S2048 : Shape := ⟨1, ![2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2x2048, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .hbm, ⟨3, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c0_i32_10 : BitVec 32 := 0#32
  let v16 : BitVec 1 := Scalar.cmpi .eq arg1 c0_i32_10
  let v17 : BitVec 32 := Scalar.extui v16
  let c0_i32_11 : BitVec 32 := 0#32
  let v18 : BitVec 1 := Scalar.cmpi .ne v17 c0_i32_11
  v18

def k0_cond5 (i : grid0.Coords) : BitVec 1 :=
  let arg1 : BitVec 32 := BitVec.ofNat 32 (i 1).val
  let c0_i32_12 : BitVec 32 := 0#32
  let v19 : BitVec 1 := Scalar.cmpi .sgt arg1 c0_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference15Ideal.lean ====
abbrev S4096x1024 : Shape := ⟨2, ![4096, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel16.lean ====
abbrev S4096x1024 : Shape := ⟨2, ![4096, 1024]⟩
abbrev S4096x2048 : Shape := ⟨2, ![4096, 2048]⟩
abbrev S8x1024x256 : Shape := ⟨3, ![8, 1024, 256]⟩
abbrev S1x2048 : Shape := ⟨2, ![1, 2048]⟩
abbrev S1024x1024 : Shape := ⟨2, ![1024, 1024]⟩
abbrev S1024x2048 : Shape := ⟨2, ![1024, 2048]⟩
abbrev S2048 : Shape := ⟨1, ![2048]⟩
abbrev S1024x256 : Shape := ⟨2, ![1024, 256]⟩
abbrev S1x1024x256 : Shape := ⟨3, ![1, 1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .hbm, ⟨3, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .bf16⟩
  | .local _ .vmem, ⟨5, _⟩ => ⟨S1x2048, .f32⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_9 : BitVec 32 := 0#32
  let v15 : BitVec 1 := Scalar.cmpi .ne v14 c0_i32_9
  v15

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg0 : BitVec 32 := BitVec.ofNat 32 (i 0).val
  let c0_i32_7 : BitVec 32 := 0#32
  let v10 : BitVec 1 := Scalar.cmpi .sgt arg0 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048 : Shape := ⟨1, ![2048]⟩
abbrev S1x2048 : Shape := ⟨2, ![1, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S4096x1024, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S_, .f32⟩
  | .hbm, ⟨16, _⟩ => ⟨S2048, .f32⟩
  | .hbm, ⟨17, _⟩ => ⟨S2048x1024, .f32⟩
  | .hbm, ⟨18, _⟩ => ⟨S1024x2048, .f32⟩
  | .hbm, ⟨19, _⟩ => ⟨S1024x8x256, .f32⟩
  | .hbm, ⟨20, _⟩ => ⟨S8x1024x256, .f32⟩
  | .hbm, ⟨21, _⟩ => ⟨S8x1024x256, .bf16⟩
  | .hbm, ⟨22, _⟩ => ⟨S1x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference17Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Spec.lean ====
/- The gradient of the sliding-window attention as one function of real arrays, and the facts about one row of scores
   that both programs' readings use. Nothing here names a program.

   A query row is `(n, i)`: row `i` of block `n`. Its scores against the 256 keys of its band are real where the window
   lets the key in (`win`) and `⊥` elsewhere. -/
module

public import Idealize.ShloMosaic.Lib.StableHlo
public import Idealize.ShloMosaic.PureOps
public import Idealize.ShloMosaic.PureOps.Ideal.Laws
public import Idealize.ShloMosaic.Lib.IdealHost

@[expose] public section

noncomputable section

namespace Cert.Attn

open Idealize.ShloMosaic

/-- A real sum is the same sum taken of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are reals. -/
theorem sum_coe {ι : Type} (s : Finset ι) (f : ι → EReal) (g : ι → ℝ) (h : ∀ i, f i = (g i : EReal)) :
    ∑ i ∈ s, f i = ((∑ i ∈ s, g i : ℝ) : EReal) := by
  rw [coe_sum]; exact Finset.sum_congr rfl fun i _ => h i

/-! ## One row of scores -/

/-- The row of scores: real where the key is in the window, `⊥` elsewhere. -/
def sc (M : Fin 256 → Bool) (s : Fin 256 → ℝ) (j : Fin 256) : EReal := if M j then (s j : EReal) else ⊥

/-- The row's largest score, the sink among them. -/
def mx (M : Fin 256 → Bool) (s : Fin 256 → ℝ) (k : ℝ) : EReal :=
  max ((Finset.univ : Finset (Fin 256)).fold max ⊥ (sc M s)) (k : EReal)

def mxr (M : Fin 256 → Bool) (s : Fin 256 → ℝ) (k : ℝ) : ℝ := (mx M s k).toReal

/-- The unnormalised weight of key `j`. -/
def pe (M : Fin 256 → Bool) (s : Fin 256 → ℝ) (k : ℝ) (j : Fin 256) : ℝ := if M j then Real.exp (s j - mxr M s k) else 0

/-- The unnormalised weight of the sink. -/
def es (M : Fin 256 → Bool) (s : Fin 256 → ℝ) (k : ℝ) : ℝ := Real.exp (k - mxr M s k)

def den (M : Fin 256 → Bool) (s : Fin 256 → ℝ) (k : ℝ) : ℝ := (∑ j, pe M s k j) + es M s k

/-- The weight of key `j`. -/
def pr (M : Fin 256 → Bool) (s : Fin 256 → ℝ) (k : ℝ) (j : Fin 256) : ℝ := pe M s k j * (1 / den M s k)

/-- The mean of the weights' cotangents. -/
def delta (M : Fin 256 → Bool) (s : Fin 256 → ℝ) (k : ℝ) (dp : Fin 256 → ℝ) : ℝ := ∑ j, pr M s k j * dp j

/-- The cotangent of score `j`. -/
def dsr (M : Fin 256 → Bool) (s : Fin 256 → ℝ) (k : ℝ) (dp : Fin 256 → ℝ) (j : Fin 256) : ℝ :=
  pr M s k j * (dp j - delta M s k dp)

/-- The row's share of the sink's cotangent. -/
def dsk (M : Fin 256 → Bool) (s : Fin 256 → ℝ) (k : ℝ) (dp : Fin 256 → ℝ) : ℝ :=
  -(es M s k * (1 / den M s k)) * delta M s k dp

variable (M : Fin 256 → Bool) (s : Fin 256 → ℝ) (k : ℝ)

theorem mx_eq : mx M s k = (mxr M s k : EReal) := by
  have h1 : mx M s k ≠ ⊥ := fun h => by
    have : (k : EReal) ≤ mx M s k := le_max_right _ _
    rw [h, le_bot_iff] at this; exact EReal.coe_ne_bot _ this
  have h2 : mx M s k ≠ ⊤ := by
    apply ne_of_lt
    apply max_lt
    · rw [Finset.fold_max_lt]
      refine ⟨bot_lt_top, fun j _ => ?_⟩
      unfold sc; split
      · exact EReal.coe_lt_top _
      · exact bot_lt_top
    · exact EReal.coe_lt_top _
  exact (EReal.coe_toReal h2 h1).symm

theorem exp_sc (j : Fin 256) : Ideal.exp (sc M s j - mx M s k) = (pe M s k j : EReal) := by
  rw [mx_eq]; unfold sc pe
  split
  · rw [← EReal.coe_sub, Ideal.exp_coe]
  · rw [EReal.bot_sub, Ideal.exp_bot]; rfl

theorem exp_sink : Ideal.exp ((k : EReal) - mx M s k) = (es M s k : EReal) := by
  rw [mx_eq, ← EReal.coe_sub, Ideal.exp_coe]; rfl

theorem pe_nonneg (j : Fin 256) : 0 ≤ pe M s k j := by
  unfold pe; split
  · exact (Real.exp_pos _).le
  · exact le_refl _

theorem den_pos : 0 < den M s k :=
  add_pos_of_nonneg_of_pos (Finset.sum_nonneg fun j _ => pe_nonneg M s k j) (Real.exp_pos _)

theorem den_ne : den M s k ≠ 0 := (den_pos M s k).ne'

theorem pe_masked (j : Fin 256) (h : M j = false) : pe M s k j = 0 := by simp [pe, h]

theorem pr_masked (j : Fin 256) (h : M j = false) : pr M s k j = 0 := by simp [pr, pe_masked M s k j h]

theorem dsr_masked (dp : Fin 256 → ℝ) (j : Fin 256) (h : M j = false) : dsr M s k dp j = 0 := by
  simp [dsr, pr_masked M s k j h]

/-- The largest score is one of the scores. -/
theorem fold_max_mem (f : Fin 256 → EReal) : ∃ j, f j = (Finset.univ : Finset (Fin 256)).fold max ⊥ f := by
  change ∃ j, f j = (Finset.univ : Finset (Fin 256)).sup f
  obtain ⟨j, -, hj⟩ := Finset.exists_mem_eq_sup (Finset.univ : Finset (Fin 256)) ⟨0, Finset.mem_univ _⟩ f
  exact ⟨j, hj.symm⟩

/-- What reverse differentiation writes of a score's cotangent is `dsr`. -/
theorem dsr_vjp (dp : Fin 256 → ℝ) (j : Fin 256) :
    (dp j * (1 / den M s k) + -(∑ j, dp j * (1 / (den M s k * den M s k)) * pe M s k j)) * pe M s k j = dsr M s k dp j := by
  have hd := den_ne M s k
  have e : ∑ j, dp j * (1 / (den M s k * den M s k)) * pe M s k j = (1 / den M s k) * delta M s k dp := by
    unfold delta pr; rw [Finset.mul_sum]
    exact Finset.sum_congr rfl fun j _ => by field_simp
  rw [e]; unfold dsr pr; ring

theorem dsk_vjp (dp : Fin 256 → ℝ) :
    -(∑ j, dp j * (1 / (den M s k * den M s k)) * pe M s k j) * es M s k = dsk M s k dp := by
  have hd := den_ne M s k
  have e : ∑ j, dp j * (1 / (den M s k * den M s k)) * pe M s k j = (1 / den M s k) * delta M s k dp := by
    unfold delta pr; rw [Finset.mul_sum]
    exact Finset.sum_congr rfl fun j _ => by field_simp
  rw [e]; unfold dsk; ring

/-- The cotangents of a row's scores and of its sink sum to zero: the softmax does not see a shift, so nothing flows
    through the maximum that is subtracted. -/
theorem shift_zero (dp : Fin 256 → ℝ) : -dsk M s k dp + ∑ j, -dsr M s k dp j = 0 := by
  have hd := den_ne M s k
  have h1 : ∑ j, dsr M s k dp j = delta M s k dp - (∑ j, pr M s k j) * delta M s k dp := by
    unfold dsr; simp only [mul_sub, Finset.sum_sub_distrib, Finset.sum_mul]; rfl
  have h2 : ∑ j, pr M s k j = (den M s k - es M s k) * (1 / den M s k) := by
    unfold pr; rw [← Finset.sum_mul]; unfold den; ring
  rw [Finset.sum_neg_distrib, h1, h2]; unfold dsk; field_simp; ring

/-- The row's values depend on scores and cotangents at the keys of the window only. -/
theorem pe_congr {s s' : Fin 256 → ℝ} (h : ∀ j, M j = true → s j = s' j) : sc M s = sc M s' := by
  funext j; unfold sc; split
  · rw [h j (by assumption)]
  · rfl

theorem row_congr {s s' dp dp' : Fin 256 → ℝ} (h : ∀ j, M j = true → s j = s' j) (h' : ∀ j, M j = true → dp j = dp' j) :
    pr M s k = pr M s' k ∧ dsr M s k dp = dsr M s' k dp' ∧ dsk M s k dp = dsk M s' k dp' := by
  have e1 : mxr M s k = mxr M s' k := by unfold mxr mx; rw [pe_congr M h]
  have e2 : pe M s k = pe M s' k := by
    funext j; unfold pe; split
    · rw [h j (by assumption), e1]
    · rfl
  have e3 : es M s k = es M s' k := by unfold es; rw [e1]
  have e4 : den M s k = den M s' k := by unfold den; rw [e2, e3]
  have e5 : pr M s k = pr M s' k := by funext j; unfold pr; rw [e2, e4]
  have e6 : delta M s k dp = delta M s' k dp' := by
    unfold delta; refine Finset.sum_congr rfl fun j _ => ?_
    rw [e5]
    cases hm : M j
    · rw [pr_masked M s' k j hm]; ring
    · rw [h' j hm]
  refine ⟨e5, ?_, ?_⟩
  · funext j; unfold dsr; rw [e5, e6]
    cases hm : M j
    · rw [pr_masked M s' k j hm]; ring
    · rw [h' j hm]
  · unfold dsk; rw [e3, e4, e6]

/-! ## The whole arrays -/

/-- The real array behind a rank-two array of extended reals, read at natural numbers (zero outside the array). -/
def re2 {a b : ℕ} (x : (⟨2, ![a, b]⟩ : Shape).Idx → EReal) (r c : ℕ) : ℝ :=
  if h : r < a ∧ c < b then
    (x (fun d => match d with | ⟨0, _⟩ => ⟨r, h.1⟩ | ⟨1, _⟩ => ⟨c, h.2⟩)).toReal
  else 0

/-- The array row that key `j` of block `n`'s band is read from. -/
def krow (n j : ℕ) : ℕ := if j < 128 then 128 * (n - 1) + j else 128 * n + (j - 128)

/-- Key `j` of the band is in the window of query row `i` of block `n`. -/
def win (n i : ℕ) (j : Fin 256) : Bool := decide (i < j.val ∧ j.val ≤ i + 128 ∧ (n = 0 → 128 ≤ j.val))

/-- The arrays the gradient is taken of, as reals: queries, keys and values, output cotangents, bias, sinks. -/
structure Args where
  q : ℕ → ℕ → ℝ
  kv : ℕ → ℕ → ℝ
  dO : ℕ → ℕ → ℝ
  b : ℕ → ℕ → ℕ → ℝ
  sk : ℕ → ℝ

variable (A : Args)

/-- The score of key `j` for row `(n, i)` of head `h`. -/
def score (n h i : ℕ) (j : Fin 256) : ℝ :=
  (∑ d : Fin 64, A.q (128 * n + i) (64 * h + d.val) * A.kv (krow n j) (64 * (h / 4) + d.val)) * (1 / 8) + A.b h i j

/-- The cotangent of the weight of key `j`. -/
def dprob (n h i : ℕ) (j : Fin 256) : ℝ :=
  ∑ d : Fin 64, A.dO (128 * n + i) (64 * h + d.val) * A.kv (krow n j) (256 + 64 * (h / 4) + d.val)

def PR (n h i : ℕ) (j : Fin 256) : ℝ := pr (win n i) (score A n h i) (A.sk h) j
def DS (n h i : ℕ) (j : Fin 256) : ℝ := dsr (win n i) (score A n h i) (A.sk h) (dprob A n h i) j
def DK (n h i : ℕ) : ℝ := dsk (win n i) (score A n h i) (A.sk h) (dprob A n h i)

/-- The gradient of the queries. -/
def DQ (n h i d : ℕ) : ℝ := (∑ j : Fin 256, DS A n h i j * A.kv (krow n j) (64 * (h / 4) + d)) * (1 / 8)

/-- The gradient of block `n`'s band of keys, key head `e`. -/
def DKEY (n e : ℕ) (j : Fin 256) (d : ℕ) : ℝ :=
  (∑ g : Fin 4, ∑ i : Fin 128, DS A n (4 * e + g.val) i.val j * A.q (128 * n + i.val) (64 * (4 * e + g.val) + d)) * (1 / 8)

/-- The gradient of block `n`'s band of values, value head `e`. -/
def DVAL (n e : ℕ) (j : Fin 256) (d : ℕ) : ℝ :=
  ∑ g : Fin 4, ∑ i : Fin 128, PR A n (4 * e + g.val) i.val j * A.dO (128 * n + i.val) (64 * (4 * e + g.val) + d)

/-- The gradient of the bias. -/
def DB (h i : ℕ) (j : Fin 256) : ℝ := ∑ n : Fin 32, DS A n.val h i j

/-- The gradient of a head's sink. -/
def DSINK (h : ℕ) : ℝ := ∑ n : Fin 32, ∑ i : Fin 128, DK A n.val h i.val

end Cert.Attn

end
-- ==== Proof.Group.lean ====
/- One point's work on one group of four query heads that share a key head: the values the body computes from the
   group's blocks, each as one term, and what they are when the blocks hold reals.

   The 512 rows of a group are its four heads' 128 query rows, head by head. -/
module

public import proofs.«01_k».proof.Proof.Gen.KernelIdeal.Skeleton
public import proofs.«01_k».proof.Proof.Spec
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Attn.Kern

open Idealize.ShloMosaic Idealize.ShloMosaic.ValueIdx Cert.KernelIdeal Cert.KernelIdeal.Gen

section Terms

variable {F : FTy → Type} [FloatOps F] [Named F]
variable (fr : FVec F S1x256 .f32) (K V : FVec F S256x64 .bf16) (Q D : FVec F S512x64 .bf16) (B : FVec F S512x256 .f32) (s : FVec F S512x1 .f32)

/-- The scores. -/
def gS : FVec F S512x256 .f32 :=
  addf (addf (mulf (matmul dot_S512x64_S256x64_S512x256_1_1_0_0_n_n none Q K (constant S512x256 .f32 0x00000000#32))
    (broadcast S512x256 (Scalar.ofBits .f32 0x3E000000#32))) B) (broadcastTo S512x256 fr broadcasts_S1x256_S512x256)

/-- Each row's largest score, its sink among them. -/
def gM : FVec F S512x1 .f32 :=
  maximumf (shapeCast S512x1 (multiReduction .maximumf [1] S512 (gS fr K Q B) 0xFF800000#32 reduces_S512x256_S512 (.inl rfl) rfl)
    shapeCasts_S512_S512x1) s

/-- The unnormalised weights. -/
def gE : FVec F S512x256 .f32 := exp (subf (gS fr K Q B) (broadcastTo S512x256 (gM fr K Q B s) broadcasts_S512x1_S512x256))

/-- The sinks' unnormalised weights. -/
def gES : FVec F S512x1 .f32 := exp (subf s (gM fr K Q B s))

/-- The inverses of the normalisers. -/
def gI : FVec F S512x1 .f32 :=
  divf (broadcast S512x1 (Scalar.ofBits .f32 0x3F800000#32))
    (addf (shapeCast S512x1 (multiReduction .add [1] S512 (gE fr K Q B s) 0x00000000#32 reduces_S512x256_S512 (.inl rfl) rfl)
      shapeCasts_S512_S512x1) (gES fr K Q B s))

/-- The weights. -/
def gP : FVec F S512x256 .f32 := mulf (gE fr K Q B s) (broadcastTo S512x256 (gI fr K Q B s) broadcasts_S512x1_S512x256)

/-- The weights' cotangents. -/
def gDP : FVec F S512x256 .f32 :=
  matmul dot_S512x64_S256x64_S512x256_1_1_0_0_n_n none D V (constant S512x256 .f32 0x00000000#32)

/-- Each row's mean of the weights' cotangents. -/
def gDelta : FVec F S512x1 .f32 :=
  shapeCast S512x1 (multiReduction .add [1] S512 (mulf (gP fr K Q B s) (gDP V D)) 0x00000000#32 reduces_S512x256_S512 (.inl rfl) rfl)
    shapeCasts_S512_S512x1

/-- The scores' cotangents. -/
def gDS : FVec F S512x256 .f32 :=
  mulf (gP fr K Q B s) (subf (gDP V D) (broadcastTo S512x256 (gDelta fr K V Q D B s) broadcasts_S512x1_S512x256))

/-- The sinks' cotangents, one per row. -/
def gDK : FVec F S512x1 .f32 :=
  mulf (subf (broadcast S512x1 (Scalar.ofBits .f32 0x00000000#32)) (mulf (gES fr K Q B s) (gI fr K Q B s))) (gDelta fr K V Q D B s)

/-- The queries' gradient. -/
def gDQ : FVec F S512x64 .bf16 :=
  truncf .bf16 (mulf (matmul dot_S512x256_S256x64_S512x64_1_0_0_1_n_n none
    (truncf .bf16 (gDS fr K V Q D B s) bitsLt_bf16_f32 : FVec F S512x256 .bf16) K (constant S512x64 .f32 0x00000000#32))
    (broadcast S512x64 (Scalar.ofBits .f32 0x3E000000#32))) bitsLt_bf16_f32

/-- The keys' gradient. -/
def gKEY : FVec F S1x256x64 .bf16 :=
  shapeCast S1x256x64 (truncf .bf16 (mulf (matmul dot_S512x256_S512x64_S256x64_0_0_1_1_n_n none
    (truncf .bf16 (gDS fr K V Q D B s) bitsLt_bf16_f32 : FVec F S512x256 .bf16) Q (constant S256x64 .f32 0x00000000#32))
    (broadcast S256x64 (Scalar.ofBits .f32 0x3E000000#32))) bitsLt_bf16_f32 : FVec F S256x64 .bf16) shapeCasts_S256x64_S1x256x64

/-- The values' gradient. -/
def gVAL : FVec F S1x256x64 .bf16 :=
  shapeCast S1x256x64 (truncf .bf16 (matmul dot_S512x256_S512x64_S256x64_0_0_1_1_n_n none
    (truncf .bf16 (gP fr K Q B s) bitsLt_bf16_f32 : FVec F S512x256 .bf16) D (constant S256x64 .f32 0x00000000#32))
    bitsLt_bf16_f32 : FVec F S256x64 .bf16) shapeCasts_S256x64_S1x256x64

end Terms

/-! ## The products and the constants, element by element -/

theorem ofBits_eighth : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = ⊥ := by simp [Ideal.ofBits, Ideal.ieee]

theorem dot_nt (L : FVec Ideal S512x64 .bf16) (R : FVec Ideal S256x64 .bf16) (r : Fin 512) (j : Fin 256) :
    matmul dot_S512x64_S256x64_S512x256_1_1_0_0_n_n none L R (constant S512x256 .f32 0x00000000#32) (ix2 r j)
      = ∑ d : Fin 64, L (ix2 r d) * R (ix2 j d) := by
  refine (Ideal.matmul_transposedRhs_apply (M := 512) (K := 64) (N := 256) none L R _ r j).trans ?_
  rw [constant_apply, Ideal.ofBits_zero_f32, zero_add]

theorem dot_nn (L : FVec Ideal S512x256 .bf16) (R : FVec Ideal S256x64 .bf16) (r : Fin 512) (d : Fin 64) :
    matmul dot_S512x256_S256x64_S512x64_1_0_0_1_n_n none L R (constant S512x64 .f32 0x00000000#32) (ix2 r d)
      = ∑ j : Fin 256, L (ix2 r j) * R (ix2 j d) := by
  refine (Ideal.matmul_plain_apply (M := 512) (K := 256) (N := 64) none L R _ r d).trans ?_
  rw [constant_apply, Ideal.ofBits_zero_f32, zero_add]

theorem dot_tn (L : FVec Ideal S512x256 .bf16) (R : FVec Ideal S512x64 .bf16) (j : Fin 256) (d : Fin 64) :
    matmul dot_S512x256_S512x64_S256x64_0_0_1_1_n_n none L R (constant S256x64 .f32 0x00000000#32) (ix2 j d)
      = ∑ r : Fin 512, L (ix2 r j) * R (ix2 r d) := by
  refine (Ideal.matmul_constant_zero_apply _ none L R (ix2 j d)).trans ?_
  rw [← (contrEquiv1 dot_S512x256_S512x64_S256x64_0_0_1_1_n_n 512 rfl rfl).symm.sum_comp]
  refine Finset.sum_congr rfl fun r _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

theorem bc_col (v : FVec Ideal S512x1 .f32) (r : Fin 512) (j : Fin 256) :
    broadcastTo S512x256 v broadcasts_S512x1_S512x256 (ix2 r j) = v (ix2 r 0) :=
  broadcastTo_apply v broadcasts_S512x1_S512x256 _ _ fun a => by
    match a with
    | ⟨0, _⟩ => rfl
    | ⟨1, _⟩ => rfl

theorem bc_row (v : FVec Ideal S1x256 .f32) (r : Fin 512) (j : Fin 256) :
    broadcastTo S512x256 v broadcasts_S1x256_S512x256 (ix2 r j) = v (ix2 0 j) :=
  broadcastTo_1b_ab_apply v broadcasts_S1x256_S512x256 r j

theorem rowSum (x : FVec Ideal S512x256 .f32) (r : Fin 512) :
    shapeCast S512x1 (multiReduction .add [1] S512 x 0x00000000#32 reduces_S512x256_S512 (.inl rfl) rfl) shapeCasts_S512_S512x1 (ix2 r 0)
      = ∑ j : Fin 256, x (ix2 r j) := by
  rw [shapeCast_a_a1_apply]
  refine (Ideal.multiReduction_add_single x _ reduces_S512x256_S512 (.inl rfl) rfl (ix1 r)).trans ?_
  refine Finset.sum_congr rfl fun j _ => congrArg x ?_
  funext a
  match a with
  | ⟨0, _⟩ => exact Fin.ext rfl
  | ⟨1, _⟩ => exact Fin.ext rfl

theorem rowMax (x : FVec Ideal S512x256 .f32) (r : Fin 512) :
    shapeCast S512x1 (multiReduction .maximumf [1] S512 x 0xFF800000#32 reduces_S512x256_S512 (.inl rfl) rfl) shapeCasts_S512_S512x1 (ix2 r 0)
      = (Finset.univ : Finset (Fin 256)).fold max ⊥ fun j => x (ix2 r j) := by
  rw [shapeCast_a_a1_apply]
  refine (Ideal.multiReduction_maximumf_single x _ reduces_S512x256_S512 (.inl rfl) rfl (ix1 r)).trans ?_
  have e : (x ∘ reduces_S512x256_S512.lift (ix1 r) : Fin 256 → EReal) = fun j => x (ix2 r j) := by
    funext j
    refine congrArg x ?_
    funext a
    match a with
    | ⟨0, _⟩ => exact Fin.ext rfl
    | ⟨1, _⟩ => exact Fin.ext rfl
  have e' : (FloatOps.ofBits (F := Ideal) .f32 0xFF800000#32 : EReal) = ⊥ := ofBits_bot
  refine (congrArg (fun b : EReal => (Finset.univ : Finset (Fin 256)).fold max b (x ∘ reduces_S512x256_S512.lift (ix1 r))) e').trans ?_
  exact congrArg (Finset.fold max ⊥ · (Finset.univ : Finset (Fin 256))) e

/-! ## The values on reals -/

section Reals

variable {fr : FVec Ideal S1x256 .f32} {K V : FVec Ideal S256x64 .bf16} {Q D : FVec Ideal S512x64 .bf16} {B : FVec Ideal S512x256 .f32} {s : FVec Ideal S512x1 .f32}
variable {kr vr : Fin 256 → Fin 64 → ℝ} {qr dr : Fin 512 → Fin 64 → ℝ} {br : Fin 512 → Fin 256 → ℝ} {sr : Fin 512 → ℝ}
variable {M : Fin 512 → Fin 256 → Bool}

/-- The blocks hold reals, and the bias and the first block's row put `⊥` outside the window. -/
structure Holds (fr : FVec Ideal S1x256 .f32) (K V : FVec Ideal S256x64 .bf16) (Q D : FVec Ideal S512x64 .bf16) (B : FVec Ideal S512x256 .f32)
    (s : FVec Ideal S512x1 .f32) (kr vr : Fin 256 → Fin 64 → ℝ) (qr dr : Fin 512 → Fin 64 → ℝ) (br : Fin 512 → Fin 256 → ℝ) (sr : Fin 512 → ℝ)
    (M : Fin 512 → Fin 256 → Bool) : Prop where
  hK : ∀ j d, K (ix2 j d) = (kr j d : EReal)
  hV : ∀ j d, V (ix2 j d) = (vr j d : EReal)
  hQ : ∀ r d, Q (ix2 r d) = (qr r d : EReal)
  hD : ∀ r d, D (ix2 r d) = (dr r d : EReal)
  hs : ∀ r, s (ix2 r 0) = (sr r : EReal)
  hB : ∀ r j (x : ℝ), (x : EReal) + B (ix2 r j) + fr (ix2 0 j) = if M r j then ((x + br r j : ℝ) : EReal) else ⊥

variable (H : Holds fr K V Q D B s kr vr qr dr br sr M)

/-- The scores of row `r`. -/
abbrev rs (kr : Fin 256 → Fin 64 → ℝ) (qr : Fin 512 → Fin 64 → ℝ) (br : Fin 512 → Fin 256 → ℝ) (r : Fin 512) (j : Fin 256) : ℝ :=
  (∑ d, qr r d * kr j d) * (1 / 8) + br r j

/-- The cotangents of the weights of row `r`. -/
abbrev rdp (vr : Fin 256 → Fin 64 → ℝ) (dr : Fin 512 → Fin 64 → ℝ) (r : Fin 512) (j : Fin 256) : ℝ := ∑ d, dr r d * vr j d

include H

theorem gS_apply (r : Fin 512) (j : Fin 256) : gS fr K Q B (ix2 r j) = sc (M r) (rs kr qr br r) j := by
  unfold gS
  rw [addf_apply, addf_apply, mulf_apply, dot_nt, bc_row, broadcast_apply]
  have e : ∑ d : Fin 64, Q (ix2 r d) * K (ix2 j d) = ((∑ d, qr r d * kr j d : ℝ) : EReal) :=
    sum_coe _ _ _ fun d => by rw [H.hQ, H.hK, EReal.coe_mul]
  have e' : (Scalar.ofBits (F := Ideal) .f32 0x3E000000#32 : EReal) = ((1 / 8 : ℝ) : EReal) := ofBits_eighth
  rw [e, e', ← EReal.coe_mul, H.hB]
  rfl

theorem gM_apply (r : Fin 512) : gM fr K Q B s (ix2 r 0) = mx (M r) (rs kr qr br r) (sr r) := by
  unfold gM
  rw [maximumf_apply, rowMax, H.hs]
  unfold mx
  exact congrArg (max · _) (congrArg (Finset.fold max ⊥ · (Finset.univ : Finset (Fin 256))) (funext fun j => gS_apply H r j))

theorem gE_apply (r : Fin 512) (j : Fin 256) : gE fr K Q B s (ix2 r j) = (pe (M r) (rs kr qr br r) (sr r) j : EReal) := by
  unfold gE
  rw [← exp_sc, ← gS_apply H, ← gM_apply H, ← bc_col (gM fr K Q B s) r j]
  rfl

theorem gES_apply (r : Fin 512) : gES fr K Q B s (ix2 r 0) = (es (M r) (rs kr qr br r) (sr r) : EReal) := by
  unfold gES
  rw [← exp_sink, ← gM_apply H, ← H.hs]
  rfl

theorem gI_apply (r : Fin 512) : gI fr K Q B s (ix2 r 0) = ((1 / den (M r) (rs kr qr br r) (sr r) : ℝ) : EReal) := by
  unfold gI
  have e : ∑ j, gE fr K Q B s (ix2 r j) = ((∑ j, pe (M r) (rs kr qr br r) (sr r) j : ℝ) : EReal) :=
    sum_coe _ _ _ fun j => gE_apply H r j
  rw [divf_apply, addf_apply, rowSum, e, gES_apply H, ← EReal.coe_add, broadcast_apply]
  have e' : (Scalar.ofBits (F := Ideal) .f32 0x3F800000#32 : EReal) = 1 := Ideal.ofBits_one_f32
  rw [e']
  exact (Ideal.div_coe (den_ne (M r) (rs kr qr br r) (sr r)) 1).trans (one_mul _)

theorem gP_apply (r : Fin 512) (j : Fin 256) : gP fr K Q B s (ix2 r j) = (pr (M r) (rs kr qr br r) (sr r) j : EReal) := by
  unfold gP
  rw [mulf_apply, bc_col, gE_apply H, gI_apply H, ← EReal.coe_mul]; rfl

theorem gDP_apply (r : Fin 512) (j : Fin 256) : gDP V D (ix2 r j) = (rdp vr dr r j : EReal) := by
  unfold gDP
  rw [dot_nt]
  exact sum_coe _ _ _ fun d => by rw [H.hD, H.hV, EReal.coe_mul]

theorem gDelta_apply (r : Fin 512) :
    gDelta fr K V Q D B s (ix2 r 0) = (delta (M r) (rs kr qr br r) (sr r) (rdp vr dr r) : EReal) := by
  unfold gDelta
  rw [rowSum]
  exact sum_coe _ _ _ fun j => by rw [mulf_apply, gP_apply H, gDP_apply H, EReal.coe_mul]

theorem gDS_apply (r : Fin 512) (j : Fin 256) :
    gDS fr K V Q D B s (ix2 r j) = (dsr (M r) (rs kr qr br r) (sr r) (rdp vr dr r) j : EReal) := by
  unfold gDS
  rw [mulf_apply, subf_apply, bc_col, gP_apply H, gDP_apply H, gDelta_apply H, ← EReal.coe_sub, ← EReal.coe_mul]; rfl

theorem gDK_apply (r : Fin 512) :
    gDK fr K V Q D B s (ix2 r 0) = (dsk (M r) (rs kr qr br r) (sr r) (rdp vr dr r) : EReal) := by
  unfold gDK
  rw [mulf_apply, subf_apply, mulf_apply, gES_apply H, gI_apply H, gDelta_apply H, broadcast_apply]
  have e' : (Scalar.ofBits (F := Ideal) .f32 0x00000000#32 : EReal) = 0 := Ideal.ofBits_zero_f32
  rw [e', zero_sub, ← EReal.coe_mul, ← EReal.coe_neg, ← EReal.coe_mul]; rfl

theorem gDQ_apply (r : Fin 512) (d : Fin 64) : gDQ fr K V Q D B s (ix2 r d)
    = (((∑ j, dsr (M r) (rs kr qr br r) (sr r) (rdp vr dr r) j * kr j d) * (1 / 8) : ℝ) : EReal) := by
  unfold gDQ
  rw [truncf_apply, mulf_apply, dot_nn, broadcast_apply]
  have e' : (Scalar.ofBits (F := Ideal) .f32 0x3E000000#32 : EReal) = ((1 / 8 : ℝ) : EReal) := ofBits_eighth
  rw [e', EReal.coe_mul]
  exact congrArg (· * _) (sum_coe _ _ _ fun j => by rw [truncf_apply, gDS_apply H, H.hK, EReal.coe_mul])

theorem gKEY_apply (j : Fin 256) (d : Fin 64) : gKEY fr K V Q D B s (ix3 0 j d)
    = (((∑ r, dsr (M r) (rs kr qr br r) (sr r) (rdp vr dr r) j * qr r d) * (1 / 8) : ℝ) : EReal) := by
  unfold gKEY
  rw [shapeCast_ab_1ab_apply, truncf_apply, mulf_apply, dot_tn, broadcast_apply]
  have e' : (Scalar.ofBits (F := Ideal) .f32 0x3E000000#32 : EReal) = ((1 / 8 : ℝ) : EReal) := ofBits_eighth
  rw [e', EReal.coe_mul]
  exact congrArg (· * _) (sum_coe _ _ _ fun r => by rw [truncf_apply, gDS_apply H, H.hQ, EReal.coe_mul])

theorem gVAL_apply (j : Fin 256) (d : Fin 64) : gVAL fr K Q D B s (ix3 0 j d)
    = ((∑ r, pr (M r) (rs kr qr br r) (sr r) j * dr r d : ℝ) : EReal) := by
  unfold gVAL
  rw [shapeCast_ab_1ab_apply, truncf_apply, dot_tn]
  exact sum_coe _ _ _ fun r => by rw [truncf_apply, gP_apply H, H.hD, EReal.coe_mul]

end Reals

end Cert.Attn.Kern

end
-- ==== Proof.Body.lean ====
/- What one point's body leaves in each of its buffers, over the blocks it reads: for each of the four head groups the
   pieces it stores, in one vocabulary for all three kinds of points (the first, the last, the others). -/
module

public import proofs.«01_k».proof.Proof.Gen.KernelIdeal.Value
public import proofs.«01_k».proof.Proof.Group
public import Idealize.ShloMosaic.Lib.Pipeline.ReadBack
public import Idealize.ShloMosaic.Lib.Pipeline.ValueKit.Acc

@[expose] public section

set_option maxRecDepth 16384

noncomputable section

namespace Cert.Attn.Kern

open Idealize.ShloMosaic Idealize.ShloMosaic.ValueIdx Idealize.ShloMosaic.TcCoe Idealize.ShloMosaic.Tactic
open Idealize.SL Idealize.SL.Sem
open Cert.KernelIdeal Cert.KernelIdeal.Gen

theorem inbQ (o : ℕ) (h : o ≤ 960) : ∀ a, (![0, o] : Fin 2 → ℕ) a + S128x64.size a ≤ S128x1024.size a := by
  intro a
  match a with
  | ⟨0, _⟩ => exact Nat.le_refl 128
  | ⟨1, _⟩ => show o + 64 ≤ 1024; omega

theorem inbB (o : ℕ) (h : o ≤ 448) : ∀ a, (![0, o] : Fin 2 → ℕ) a + S256x64.size a ≤ S256x512.size a := by
  intro a
  match a with
  | ⟨0, _⟩ => exact Nat.le_refl 256
  | ⟨1, _⟩ => show o + 64 ≤ 512; omega

theorem inbKV (o : ℕ) (h : o ≤ 448) : ∀ a, (![0, 0, o] : Fin 3 → ℕ) a + S1x256x64.size a ≤ S1x256x512.size a := by
  intro a
  match a with
  | ⟨0, _⟩ => exact Nat.le_refl 1
  | ⟨1, _⟩ => exact Nat.le_refl 256
  | ⟨2, _⟩ => show o + 64 ≤ 512; omega

theorem inbH (o : ℕ) (h : o ≤ 12) : ∀ a, (![o, 0, 0] : Fin 3 → ℕ) a + S4x128x256.size a ≤ S16x128x256.size a := by
  intro a
  match a with
  | ⟨0, _⟩ => show o + 4 ≤ 16; omega
  | ⟨1, _⟩ => exact Nat.le_refl 128
  | ⟨2, _⟩ => exact Nat.le_refl 256

theorem inbS (o : ℕ) (h : o ≤ 15) : ∀ a, (![0, o] : Fin 2 → ℕ) a + S1x1.size a ≤ S1x16.size a := by
  intro a
  match a with
  | ⟨0, _⟩ => exact Nat.le_refl 1
  | ⟨1, _⟩ => show o + 1 ≤ 16; omega

theorem inbR (o : ℕ) (h : o ≤ 128) : ∀ a, (![o, 0] : Fin 2 → ℕ) a + S128x512.size a ≤ S256x512.size a := by
  intro a
  match a with
  | ⟨0, _⟩ => show o + 128 ≤ 256; omega
  | ⟨1, _⟩ => exact Nat.le_refl 512

theorem firstS : S1x1.numel ≠ 0 := by decide

section Terms

variable {F : FTy → Type} [FloatOps F] [Named F]

/-- 64 columns of a block of queries or of cotangents. -/
def ldQ (x : Vec F S128x1024 .bf16) (o : ℕ) (h : o ≤ 960) : Vec F S128x64 .bf16 := View.ld x (Rect.unit ![0, o] S128x64.size (inbQ o h))

/-- The rows of group `e`: its four heads' columns, one under the other. -/
def catQ (x : Vec F S128x1024 .bf16) (e : Fin 4) : FVec F S512x64 .bf16 :=
  concatenate S512x64 0 [⟨S128x64, ldQ x (256 * e.val) (by omega)⟩, ⟨S128x64, ldQ x (256 * e.val + 64) (by omega)⟩,
    ⟨S128x64, ldQ x (256 * e.val + 128) (by omega)⟩, ⟨S128x64, ldQ x (256 * e.val + 192) (by omega)⟩]
    concatenates_S128x64_S128x64_S128x64_S128x64_S512x64_d0

/-- The band: the previous block's keys and values over the current one's. -/
def band (x3 x4 : Vec F S128x512 .bf16) : Vec F S256x512 .bf16 :=
  View.canon [⟨Rect.unit ![128, 0] S128x512.size (inbR 128 (by omega)), shapeCast S128x512 x3 shapeCasts_S128x512_S128x512⟩,
    ⟨Rect.unit ![0, 0] S128x512.size (inbR 0 (by omega)), shapeCast S128x512 x4 shapeCasts_S128x512_S128x512⟩]

/-- 64 columns of the band. -/
def ldB (x3 x4 : Vec F S128x512 .bf16) (o : ℕ) (h : o ≤ 448) : Vec F S256x64 .bf16 :=
  View.ld (band x3 x4) (Rect.unit ![0, o] S256x64.size (inbB o h))

def keyG (x3 x4 : Vec F S128x512 .bf16) (e : Fin 4) : Vec F S256x64 .bf16 := ldB x3 x4 (64 * e.val) (by omega)
def valG (x3 x4 : Vec F S128x512 .bf16) (e : Fin 4) : Vec F S256x64 .bf16 := ldB x3 x4 (256 + 64 * e.val) (by omega)

/-- Four heads' slabs of a `16×128×256` array. -/
def ldH (x : Vec F S16x128x256 .f32) (e : Fin 4) : Vec F S4x128x256 .f32 :=
  View.ld x (Rect.unit ![4 * e.val, 0, 0] S4x128x256.size (inbH _ (by omega)))

def biasG (x5 : Vec F S16x128x256 .f32) (e : Fin 4) : FVec F S512x256 .f32 :=
  shapeCast S512x256 (shapeCast S4x128x256 (ldH x5 e) shapeCasts_S4x128x256_S4x128x256) shapeCasts_S4x128x256_S512x256

def sinkAt (x0 : Vec F S1x16 .f32) (h : ℕ) (hh : h ≤ 15) : Elt F .f32 :=
  View.ld x0 (Rect.unit ![0, h] S1x1.size (inbS h hh)) (Shape.Idx.first (s := S1x1) (by decide))

/-- The sinks of group `e`, one per row. -/
def sinkG (x0 : Vec F S1x16 .f32) (e : Fin 4) : FVec F S512x1 .f32 :=
  select (cmpi .eq k0_pay12 (broadcast S512x1 3#32)) (broadcast S512x1 (sinkAt x0 (4 * e.val + 3) (by omega)))
    (select (cmpi .eq k0_pay12 (broadcast S512x1 2#32)) (broadcast S512x1 (sinkAt x0 (4 * e.val + 2) (by omega)))
      (select (cmpi .eq k0_pay12 (broadcast S512x1 1#32)) (broadcast S512x1 (sinkAt x0 (4 * e.val + 1) (by omega)))
        (addf (broadcast S512x1 (Scalar.ofBits .f32 0x00000000#32)) (broadcast S512x1 (sinkAt x0 (4 * e.val) (by omega))))))

variable (i : grid0.Coords) (x0 : Vec F S1x16 .f32) (x1 x2 : Vec F S128x1024 .bf16) (x3 x4 : Vec F S128x512 .bf16) (x5 : Vec F S16x128x256 .f32)

def pP (e : Fin 4) : FVec F S512x256 .f32 := gP (k0_pay6 i) (keyG x3 x4 e) (catQ x1 e) (biasG x5 e) (sinkG x0 e)
def pDS (e : Fin 4) : FVec F S512x256 .f32 :=
  gDS (k0_pay6 i) (keyG x3 x4 e) (valG x3 x4 e) (catQ x1 e) (catQ x2 e) (biasG x5 e) (sinkG x0 e)
def pDK (e : Fin 4) : FVec F S512x1 .f32 :=
  gDK (k0_pay6 i) (keyG x3 x4 e) (valG x3 x4 e) (catQ x1 e) (catQ x2 e) (biasG x5 e) (sinkG x0 e)
def pDQ (e : Fin 4) : FVec F S512x64 .bf16 :=
  gDQ (k0_pay6 i) (keyG x3 x4 e) (valG x3 x4 e) (catQ x1 e) (catQ x2 e) (biasG x5 e) (sinkG x0 e)
def pKEY (e : Fin 4) : FVec F S1x256x64 .bf16 :=
  gKEY (k0_pay6 i) (keyG x3 x4 e) (valG x3 x4 e) (catQ x1 e) (catQ x2 e) (biasG x5 e) (sinkG x0 e)
def pVAL (e : Fin 4) : FVec F S1x256x64 .bf16 :=
  gVAL (k0_pay6 i) (keyG x3 x4 e) (catQ x1 e) (catQ x2 e) (biasG x5 e) (sinkG x0 e)

/-- Group `e`'s stores to the queries' gradient, last first. -/
def pieces6 (e : Fin 4) : List (View.Piece (Elt F) S128x1024 .bf16) :=
  [⟨Rect.unit ![0, 256 * e.val + 192] S128x64.size (inbQ _ (by omega)),
      extractStridedSlice S128x64 ![384, 0] (pDQ i x0 x1 x2 x3 x4 x5 e) slices_S512x64_o384_0_S128x64⟩,
    ⟨Rect.unit ![0, 256 * e.val + 128] S128x64.size (inbQ _ (by omega)),
      extractStridedSlice S128x64 ![256, 0] (pDQ i x0 x1 x2 x3 x4 x5 e) slices_S512x64_o256_0_S128x64⟩,
    ⟨Rect.unit ![0, 256 * e.val + 64] S128x64.size (inbQ _ (by omega)),
      extractStridedSlice S128x64 ![128, 0] (pDQ i x0 x1 x2 x3 x4 x5 e) slices_S512x64_o128_0_S128x64⟩,
    ⟨Rect.unit ![0, 256 * e.val] S128x64.size (inbQ _ (by omega)),
      extractStridedSlice S128x64 ![0, 0] (pDQ i x0 x1 x2 x3 x4 x5 e) slices_S512x64_o0_0_S128x64⟩]

/-- Group `e`'s stores to the band's gradient, last first. -/
def pieces7 (e : Fin 4) : List (View.Piece (Elt F) S1x256x512 .bf16) :=
  [⟨Rect.unit ![0, 0, 256 + 64 * e.val] S1x256x64.size (inbKV _ (by omega)), pVAL i x0 x1 x2 x3 x4 x5 e⟩,
    ⟨Rect.unit ![0, 0, 64 * e.val] S1x256x64.size (inbKV _ (by omega)), pKEY i x0 x1 x2 x3 x4 x5 e⟩]

/-- Group `e`'s store to the bias's gradient: what was there and the group's scores' cotangents. -/
def piece8 (acc : Vec F S16x128x256 .f32) (e : Fin 4) : View.Piece (Elt F) S16x128x256 .f32 :=
  ⟨Rect.unit ![4 * e.val, 0, 0] S4x128x256.size (inbH _ (by omega)),
    addf (shapeCast S4x128x256 (ldH acc e) shapeCasts_S4x128x256_S4x128x256)
      (shapeCast S4x128x256 (pDS i x0 x1 x2 x3 x4 x5 e) shapeCasts_S512x256_S4x128x256)⟩

/-- One head's 128 rows of sink cotangents added to the column of its lane. -/
def dsUp (l : BitVec 32) (o : ℕ) (w : FVec F S512x1 .f32) (h : S512x1.Slices ![o, 0] S128x1) (acc : FVec F S128x128 .f32) : FVec F S128x128 .f32 :=
  shapeCast S128x128 (addf acc (select (cmpi .eq (iota .tc S128x128 32 [1] iota_S128x128_d1_w32) (broadcast S128x128 l))
    (broadcastTo S128x128 (shapeCast S128x1 (extractStridedSlice S128x1 ![o, 0] w h) shapeCasts_S128x1_S128x1) broadcasts_S128x1_S128x128)
    (broadcast S128x128 (Scalar.ofBits .f32 0x00000000#32)))) shapeCasts_S128x128_S128x128

/-- A group's four heads, in turn. -/
def dsG (e : Fin 4) (acc : FVec F S128x128 .f32) : FVec F S128x128 .f32 :=
  dsUp (BitVec.ofNat 32 (4 * e.val + 3)) 384 (pDK i x0 x1 x2 x3 x4 x5 e) slices_S512x1_o384_0_S128x1
    (dsUp (BitVec.ofNat 32 (4 * e.val + 2)) 256 (pDK i x0 x1 x2 x3 x4 x5 e) slices_S512x1_o256_0_S128x1
      (dsUp (BitVec.ofNat 32 (4 * e.val + 1)) 128 (pDK i x0 x1 x2 x3 x4 x5 e) slices_S512x1_o128_0_S128x1
        (dsUp (BitVec.ofNat 32 (4 * e.val)) 0 (pDK i x0 x1 x2 x3 x4 x5 e) slices_S512x1_o0_0_S128x1 acc)))

def dsAll (acc : FVec F S128x128 .f32) : FVec F S128x128 .f32 :=
  dsG i x0 x1 x2 x3 x4 x5 3 (dsG i x0 x1 x2 x3 x4 x5 2 (dsG i x0 x1 x2 x3 x4 x5 1 (dsG i x0 x1 x2 x3 x4 x5 0 acc)))

end Terms

end Cert.Attn.Kern

end
-- ==== Proof.Point.lean ====
/- What one point's body computes when its blocks hold the arrays' rows as reals: each piece it stores is the gradient's
   (`Spec.lean`) at the place the piece is stored at. -/
module

public import proofs.«01_k».proof.Proof.Body
public import Idealize.ShloMosaic.Lib.WordCmp

@[expose] public section

set_option maxRecDepth 16384

noncomputable section

namespace Cert.Attn.Kern

open Idealize.ShloMosaic Idealize.ShloMosaic.ValueIdx Idealize.ShloMosaic.TcCoe
open Cert.KernelIdeal Cert.KernelIdeal.Gen

/-- The blocks of point `n`: rows of the arrays, the sinks, the bias with `⊥` outside the window. -/
structure Blocks (A : Args) (n : ℕ) (i : grid0.Coords) (x0 : Vec Ideal S1x16 .f32) (x1 x2 : Vec Ideal S128x1024 .bf16)
    (x3 x4 : Vec Ideal S128x512 .bf16) (x5 : Vec Ideal S16x128x256 .f32) : Prop where
  hn : n < 32
  hi : (i 0).val = n
  h0 : ∀ h : Fin 16, x0 (ix2 0 h) = (A.sk h.val : EReal)
  h1 : ∀ (r : Fin 128) (c : Fin 1024), x1 (ix2 r c) = (A.q (128 * n + r.val) c.val : EReal)
  h2 : ∀ (r : Fin 128) (c : Fin 1024), x2 (ix2 r c) = (A.dO (128 * n + r.val) c.val : EReal)
  h3 : ∀ (r : Fin 128) (c : Fin 512), x3 (ix2 r c) = (A.kv (128 * n + r.val) c.val : EReal)
  h4 : ∀ (r : Fin 128) (c : Fin 512), x4 (ix2 r c) = (A.kv (128 * (n - 1) + r.val) c.val : EReal)
  h5 : ∀ (h : Fin 16) (r : Fin 128) (j : Fin 256),
    x5 (ix3 h r j) = if r.val < j.val ∧ j.val ≤ r.val + 128 then (A.b h.val r.val j.val : EReal) else ⊥

theorem sel_ofBool {α : Type} (p : Prop) [Decidable p] (a b : α) :
    Scalar.select (BitVec.ofBool (decide p)) a b = if p then a else b := by
  unfold Scalar.select
  by_cases h : p <;> simp [h]

theorem ldQ_apply (x : Vec Ideal S128x1024 .bf16) (o : ℕ) (h : o ≤ 960) (r : Fin 128) (d : Fin 64) :
    ldQ x o h (ix2 r d) = x (ix2 r ⟨o + d.val, by omega⟩) := by
  refine congrArg x ?_
  funext a
  match a with
  | ⟨0, _⟩ => exact Fin.ext (show 0 + 1 * r.val = r.val by omega)
  | ⟨1, _⟩ => exact Fin.ext (show o + 1 * d.val = o + d.val by omega)

theorem ldB_apply (x3 x4 : Vec Ideal S128x512 .bf16) (o : ℕ) (h : o ≤ 448) (j : Fin 256) (d : Fin 64) :
    ldB x3 x4 o h (ix2 j d) = band x3 x4 (ix2 j ⟨o + d.val, by omega⟩) := by
  refine congrArg (band x3 x4) ?_
  funext a
  match a with
  | ⟨0, _⟩ => exact Fin.ext (show 0 + 1 * j.val = j.val by omega)
  | ⟨1, _⟩ => exact Fin.ext (show o + 1 * d.val = o + d.val by omega)

theorem ldH_apply (x : Vec Ideal S16x128x256 .f32) (e g : Fin 4) (r : Fin 128) (j : Fin 256) :
    ldH x e (ix3 g r j) = x (ix3 ⟨4 * e.val + g.val, by omega⟩ r j) := by
  refine congrArg x ?_
  funext a
  match a with
  | ⟨0, _⟩ => exact Fin.ext (show 4 * e.val + 1 * g.val = 4 * e.val + g.val by omega)
  | ⟨1, _⟩ => exact Fin.ext (show 0 + 1 * r.val = r.val by omega)
  | ⟨2, _⟩ => exact Fin.ext (show 0 + 1 * j.val = j.val by omega)

theorem sinkAt_apply (x0 : Vec Ideal S1x16 .f32) (h : ℕ) (hh : h ≤ 15) : sinkAt x0 h hh = x0 (ix2 0 ⟨h, by omega⟩) := by
  refine congrArg x0 ?_
  funext a
  match a with
  | ⟨0, _⟩ => exact Fin.ext rfl
  | ⟨1, _⟩ => exact Fin.ext rfl

theorem band_cur (x3 x4 : Vec Ideal S128x512 .bf16) (j : Fin 256) (c : Fin 512) (h : 128 ≤ j.val) :
    band x3 x4 (ix2 j c) = x3 (ix2 ⟨j.val - 128, by omega⟩ c) := by
  unfold band
  have e : (ix2 j c : S256x512.Idx) = (Rect.unit ![128, 0] S128x512.size (inbR 128 (by omega)) : Rect S256x512).emb (ix2 ⟨j.val - 128, by omega⟩ c) := by
    funext a
    match a with
    | ⟨0, _⟩ => exact Fin.ext (show j.val = 128 + 1 * (j.val - 128) by omega)
    | ⟨1, _⟩ => exact Fin.ext (show c.val = 0 + 1 * c.val by omega)
  rw [e, View.canon_cons_emb, shapeCast_self]

theorem band_prev (x3 x4 : Vec Ideal S128x512 .bf16) (j : Fin 256) (c : Fin 512) (h : j.val < 128) :
    band x3 x4 (ix2 j c) = x4 (ix2 ⟨j.val, h⟩ c) := by
  unfold band
  rw [View.canon_cons_of_not_mem]
  · have e : (ix2 j c : S256x512.Idx) = (Rect.unit ![0, 0] S128x512.size (inbR 0 (by omega)) : Rect S256x512).emb (ix2 ⟨j.val, h⟩ c) := by
      funext a
      match a with
      | ⟨0, _⟩ => exact Fin.ext (show j.val = 0 + 1 * j.val by omega)
      | ⟨1, _⟩ => exact Fin.ext (show c.val = 0 + 1 * c.val by omega)
    rw [e, View.canon_cons_emb, shapeCast_self]
  · intro hm
    have := ((Rect.mem_set_unit (s := S256x512) (off := ![128, 0]) (size := S128x512.size) (inb := inbR 128 (by omega))).mp hm 0).1
    have : 128 ≤ j.val := this
    omega

/-- The four column blocks a group's rows are stacked from. -/
abbrev QL (x : Vec Ideal S128x1024 .bf16) (e : Fin 4) : List ((s : Shape) × (s.Idx → Elt Ideal .bf16)) :=
  [⟨S128x64, ldQ x (256 * e.val) (by omega)⟩, ⟨S128x64, ldQ x (256 * e.val + 64) (by omega)⟩,
    ⟨S128x64, ldQ x (256 * e.val + 128) (by omega)⟩, ⟨S128x64, ldQ x (256 * e.val + 192) (by omega)⟩]

theorem catQ_apply (x : Vec Ideal S128x1024 .bf16) (e : Fin 4) (r : Fin 512) (d : Fin 64) :
    catQ x e (ix2 r d) = x (ix2 ⟨r.val % 128, by omega⟩ ⟨64 * (4 * e.val + r.val / 128) + d.val, by omega⟩) := by
  have hlt := r.isLt
  have key : ∀ (k : ℕ) (hk : k < 4) (o : ℕ) (ho : o ≤ 960), r.val / 128 = k → o = 256 * e.val + 64 * k →
      (hx : (QL x e)[k]'hk = ⟨S128x64, ldQ x o ho⟩) →
      catQ x e (ix2 r d) = x (ix2 ⟨r.val % 128, by omega⟩ ⟨64 * (4 * e.val + r.val / 128) + d.val, by omega⟩) := by
    intro k hk o ho hr hoe hx
    unfold catQ
    refine (concatenate_apply_piece 0 (QL x e) concatenates_S128x64_S128x64_S128x64_S128x64_S512x64_d0 (ix2 r d) k hk S128x64 (ldQ x o ho) hx rfl (128 * k) ?_
      (ix2 ⟨r.val % 128, by omega⟩ d) ?_ ?_).trans ?_
    · match k, hk with
      | 0, _ => rfl
      | 1, _ => rfl
      | 2, _ => rfl
      | 3, _ => rfl
    · intro b hb
      match b with
      | ⟨0, _⟩ => exact absurd rfl hb
      | ⟨1, _⟩ => rfl
    · show 128 * k + r.val % 128 = r.val
      omega
    · rw [ldQ_apply]
      congr 2
      exact Fin.ext (show o + d.val = 64 * (4 * e.val + r.val / 128) + d.val by omega)
  have h4 : r.val / 128 = 0 ∨ r.val / 128 = 1 ∨ r.val / 128 = 2 ∨ r.val / 128 = 3 := by omega
  rcases h4 with h | h | h | h
  · exact key 0 (by omega) _ (by omega) h (by omega) rfl
  · exact key 1 (by omega) _ (by omega) h (by omega) rfl
  · exact key 2 (by omega) _ (by omega) h (by omega) rfl
  · exact key 3 (by omega) _ (by omega) h (by omega) rfl

theorem rows_cast {α : Type} (x : S4x128x256.Idx → α) (r : Fin 512) (j : Fin 256) :
    shapeCast S512x256 x shapeCasts_S4x128x256_S512x256 (ix2 r j) = x (ix3 ⟨r.val / 128, by omega⟩ ⟨r.val % 128, by omega⟩ j) := by
  refine shapeCast_apply x _ _ _ ?_
  rw [Shape.rowMajor_val_three, Shape.rowMajor_val_two]
  show (r.val / 128 * 128 + r.val % 128) * 256 + j.val = r.val * 256 + j.val
  omega

theorem rows_uncast {α : Type} (x : S512x256.Idx → α) (g : Fin 4) (r : Fin 128) (j : Fin 256) :
    shapeCast S4x128x256 x shapeCasts_S512x256_S4x128x256 (ix3 g r j) = x (ix2 ⟨128 * g.val + r.val, by omega⟩ j) := by
  refine shapeCast_apply x _ _ _ ?_
  rw [Shape.rowMajor_val_three, Shape.rowMajor_val_two]
  show (128 * g.val + r.val) * 256 + j.val = (g.val * 128 + r.val) * 256 + j.val
  omega

theorem biasG_apply (x5 : Vec Ideal S16x128x256 .f32) (e : Fin 4) (r : Fin 512) (j : Fin 256) :
    biasG x5 e (ix2 r j) = x5 (ix3 ⟨4 * e.val + r.val / 128, by omega⟩ ⟨r.val % 128, by omega⟩ j) := by
  unfold biasG
  rw [rows_cast, shapeCast_self, ldH_apply]

theorem head_word (r : Fin 512) : k0_pay12 (ix2 r 0) = BitVec.ofNat 32 (r.val / 128) := by
  have h : ∀ r : Fin 512, k0_pay12 (ix2 r 0) = BitVec.ofNat 32 (r.val / 128) := by decide +kernel
  exact h r

theorem sinkG_apply (x0 : Vec Ideal S1x16 .f32) (e : Fin 4) (r : Fin 512) :
    sinkG x0 e (ix2 r 0) = x0 (ix2 0 ⟨4 * e.val + r.val / 128, by omega⟩) := by
  have hlt := r.isLt
  have c : ∀ k : ℕ, k < 4 → IntOp.cmpi .eq (BitVec.ofNat 32 (r.val / 128)) (BitVec.ofNat 32 k) = BitVec.ofBool (decide (r.val / 128 = k)) :=
    fun k hk => WordCmp.cmpi_eq_ofNat (by omega) (by omega)
  have u : sinkG x0 e (ix2 r 0) =
      Scalar.select (IntOp.cmpi .eq (k0_pay12 (ix2 r 0)) (BitVec.ofNat 32 3)) (sinkAt x0 (4 * e.val + 3) (by omega))
        (Scalar.select (IntOp.cmpi .eq (k0_pay12 (ix2 r 0)) (BitVec.ofNat 32 2)) (sinkAt x0 (4 * e.val + 2) (by omega))
          (Scalar.select (IntOp.cmpi .eq (k0_pay12 (ix2 r 0)) (BitVec.ofNat 32 1)) (sinkAt x0 (4 * e.val + 1) (by omega))
            (Scalar.ofBits (F := Ideal) .f32 0x00000000#32 + sinkAt x0 (4 * e.val) (by omega)))) := rfl
  rw [u, head_word, c 3 (by omega), c 2 (by omega), c 1 (by omega), sel_ofBool, sel_ofBool, sel_ofBool,
    show Scalar.ofBits (F := Ideal) .f32 0x00000000#32 = (0 : EReal) from Ideal.ofBits_zero_f32, zero_add, sinkAt_apply, sinkAt_apply, sinkAt_apply, sinkAt_apply]
  split
  · congr 2; exact Fin.ext (by show 4 * e.val + 3 = 4 * e.val + r.val / 128; omega)
  · split
    · congr 2; exact Fin.ext (by show 4 * e.val + 2 = 4 * e.val + r.val / 128; omega)
    · split
      · congr 2; exact Fin.ext (by show 4 * e.val + 1 = 4 * e.val + r.val / 128; omega)
      · congr 2; exact Fin.ext (by show 4 * e.val = 4 * e.val + r.val / 128; omega)

/-- The band's first half is shut out at the first block. -/
theorem first_apply (i : grid0.Coords) (n : ℕ) (hn : n < 32) (hi : (i 0).val = n) (j : Fin 256) :
    k0_pay6 (F := Ideal) i (ix2 0 j) = if j.val < 128 ∧ n = 0 then (⊥ : EReal) else 0 := by
  have hj := j.isLt
  have w : iota .tc S1x256 32 [1] iota_S1x256_d1_w32 (ix2 0 j) = BitVec.ofNat 32 j.val := iota_single_apply ..
  have u : k0_pay6 (F := Ideal) i (ix2 0 j) =
      Scalar.select (IntOp.andi (IntOp.cmpi .slt (iota .tc S1x256 32 [1] iota_S1x256_d1_w32 (ix2 0 j)) (BitVec.ofNat 32 128))
        (IntOp.cmpi .eq (BitVec.ofNat 32 (i 0).val) (BitVec.ofNat 32 0)))
        (Named.named (F := Ideal) (φ := .f32) κ "mask" 0xF149F2CA#32) (Scalar.ofBits (F := Ideal) .f32 0x00000000#32) := rfl
  rw [u, w, hi, WordCmp.cmpi_slt_ofNat (by omega) (by omega), WordCmp.cmpi_eq_ofNat (by omega) (by omega), WordCmp.andi_ofBool, ← Bool.decide_and,
    sel_ofBool, show Scalar.ofBits (F := Ideal) .f32 0x00000000#32 = (0 : EReal) from Ideal.ofBits_zero_f32]
  rfl

section Point

variable {A : Args} {n : ℕ} {i : grid0.Coords} {x0 : Vec Ideal S1x16 .f32} {x1 x2 : Vec Ideal S128x1024 .bf16}
  {x3 x4 : Vec Ideal S128x512 .bf16} {x5 : Vec Ideal S16x128x256 .f32}

theorem Blocks.band (b : Blocks A n i x0 x1 x2 x3 x4 x5) (j : Fin 256) (c : Fin 512) :
    band x3 x4 (ix2 j c) = (A.kv (krow n j.val) c.val : EReal) := by
  unfold krow
  split
  · rename_i h; rw [band_prev _ _ _ _ h, b.h4]
  · rename_i h; rw [band_cur _ _ _ _ (by omega), b.h3]

/-- The group's reals: head `e`'s keys and values, and row by row the queries, cotangents, bias and sink. -/
theorem Blocks.holds (b : Blocks A n i x0 x1 x2 x3 x4 x5) (e : Fin 4) :
    Holds (k0_pay6 i) (keyG x3 x4 e) (valG x3 x4 e) (catQ x1 e) (catQ x2 e) (biasG x5 e) (sinkG x0 e)
      (fun j d => A.kv (krow n j.val) (64 * e.val + d.val)) (fun j d => A.kv (krow n j.val) (256 + 64 * e.val + d.val))
      (fun r d => A.q (128 * n + r.val % 128) (64 * (4 * e.val + r.val / 128) + d.val))
      (fun r d => A.dO (128 * n + r.val % 128) (64 * (4 * e.val + r.val / 128) + d.val))
      (fun r j => A.b (4 * e.val + r.val / 128) (r.val % 128) j.val) (fun r => A.sk (4 * e.val + r.val / 128))
      (fun r => win n (r.val % 128)) where
  hK j d := by unfold keyG; rw [ldB_apply, b.band]
  hV j d := by unfold valG; rw [ldB_apply, b.band]
  hQ r d := by rw [catQ_apply, b.h1]
  hD r d := by rw [catQ_apply, b.h2]
  hs r := by rw [sinkG_apply, b.h0]
  hB r j x := by
    have hn := b.hn
    rw [biasG_apply, b.h5, first_apply i n hn b.hi]
    unfold win
    dsimp only
    by_cases h1 : r.val % 128 < j.val ∧ j.val ≤ r.val % 128 + 128
    · rw [if_pos h1]
      by_cases h2 : j.val < 128 ∧ n = 0
      · rw [if_pos h2, if_neg (by simp only [decide_eq_true_eq]; omega), EReal.add_bot]
      · rw [if_neg h2, if_pos (by simp only [decide_eq_true_eq]; omega), add_zero, EReal.coe_add]
    · rw [if_neg h1, EReal.add_bot, EReal.bot_add, if_neg (by simp only [decide_eq_true_eq]; omega)]

theorem row_score (A : Args) (n : ℕ) (e : Fin 4) (r : Fin 512) :
    rs (fun j d => A.kv (krow n j.val) (64 * e.val + d.val))
      (fun r d => A.q (128 * n + r.val % 128) (64 * (4 * e.val + r.val / 128) + d.val))
      (fun r j => A.b (4 * e.val + r.val / 128) (r.val % 128) j.val) r = score A n (4 * e.val + r.val / 128) (r.val % 128) := by
  funext j
  have h : (4 * e.val + r.val / 128) / 4 = e.val := by omega
  unfold rs score
  rw [h]

theorem row_dprob (A : Args) (n : ℕ) (e : Fin 4) (r : Fin 512) :
    rdp (fun j d => A.kv (krow n j.val) (256 + 64 * e.val + d.val))
      (fun r d => A.dO (128 * n + r.val % 128) (64 * (4 * e.val + r.val / 128) + d.val)) r
      = dprob A n (4 * e.val + r.val / 128) (r.val % 128) := by
  funext j
  have h : (4 * e.val + r.val / 128) / 4 = e.val := by omega
  unfold rdp dprob
  rw [h]

variable (b : Blocks A n i x0 x1 x2 x3 x4 x5)
include b

theorem pP_apply (e : Fin 4) (r : Fin 512) (j : Fin 256) :
    pP i x0 x1 x3 x4 x5 e (ix2 r j) = (PR A n (4 * e.val + r.val / 128) (r.val % 128) j : EReal) := by
  unfold pP
  rw [gP_apply (b.holds e), row_score]; rfl

theorem pDS_apply (e : Fin 4) (r : Fin 512) (j : Fin 256) :
    pDS i x0 x1 x2 x3 x4 x5 e (ix2 r j) = (DS A n (4 * e.val + r.val / 128) (r.val % 128) j : EReal) := by
  unfold pDS
  rw [gDS_apply (b.holds e), row_score, row_dprob]; rfl

theorem pDK_apply (e : Fin 4) (r : Fin 512) :
    pDK i x0 x1 x2 x3 x4 x5 e (ix2 r 0) = (DK A n (4 * e.val + r.val / 128) (r.val % 128) : EReal) := by
  unfold pDK
  rw [gDK_apply (b.holds e), row_score, row_dprob]; rfl

theorem pDQ_apply (e : Fin 4) (r : Fin 512) (d : Fin 64) :
    pDQ i x0 x1 x2 x3 x4 x5 e (ix2 r d) = (DQ A n (4 * e.val + r.val / 128) (r.val % 128) d.val : EReal) := by
  have h : (4 * e.val + r.val / 128) / 4 = e.val := by omega
  unfold pDQ DQ
  rw [gDQ_apply (b.holds e), row_score, row_dprob, h]; rfl

omit b in
/-- A group's 512 rows are four heads' 128 rows. -/
theorem sum_rows (f : ℕ → ℕ → ℝ) : ∑ r : Fin 512, f (r.val / 128) (r.val % 128) = ∑ g : Fin 4, ∑ k : Fin 128, f g.val k.val := by
  rw [← Fintype.sum_prod_type' (f := fun (g : Fin 4) (k : Fin 128) => f g.val k.val)]
  refine (Fintype.sum_equiv (finProdFinEquiv (m := 4) (n := 128)) _ _ fun p => ?_).symm
  obtain ⟨g, k⟩ := p
  have h1 : (finProdFinEquiv (m := 4) (n := 128) (g, k)).val = k.val + 128 * g.val := rfl
  rw [h1, show (k.val + 128 * g.val) / 128 = g.val by omega, show (k.val + 128 * g.val) % 128 = k.val by omega]

theorem pKEY_apply (e : Fin 4) (j : Fin 256) (d : Fin 64) :
    pKEY i x0 x1 x2 x3 x4 x5 e (ix3 0 j d) = (DKEY A n e.val j d.val : EReal) := by
  unfold pKEY DKEY
  rw [gKEY_apply (b.holds e),
    ← sum_rows (fun g k => DS A n (4 * e.val + g) k j * A.q (128 * n + k) (64 * (4 * e.val + g) + d.val))]
  simp only [row_score, row_dprob]
  rfl

theorem pVAL_apply (e : Fin 4) (j : Fin 256) (d : Fin 64) :
    pVAL i x0 x1 x2 x3 x4 x5 e (ix3 0 j d) = (DVAL A n e.val j d.val : EReal) := by
  unfold pVAL DVAL
  rw [gVAL_apply (b.holds e),
    ← sum_rows (fun g k => PR A n (4 * e.val + g) k j * A.dO (128 * n + k) (64 * (4 * e.val + g) + d.val))]
  simp only [row_score]
  rfl

end Point

end Cert.Attn.Kern

end
-- ==== Proof.Store.lean ====
/- The buffers one point leaves, when its blocks hold the arrays' rows as reals: the queries' gradient, the band's, the
   bias's with the score cotangents added, and the sinks' column sums. -/
module

public import proofs.«01_k».proof.Proof.Point

@[expose] public section

set_option maxRecDepth 16384

noncomputable section

namespace Cert.Attn.Kern

open Idealize.ShloMosaic Idealize.ShloMosaic.ValueIdx Idealize.ShloMosaic.TcCoe
open Cert.KernelIdeal Cert.KernelIdeal.Gen

theorem pieces_append {s : Shape} {e : EltTy} {G : s.Idx → Elt Ideal e} : ∀ {L L' : List (View.Piece (Elt Ideal) s e)},
    View.PiecesOf G L → View.PiecesOf G L' → View.PiecesOf G (L ++ L')
  | [], _, _, h => h
  | _ :: _, _, h, h' => ⟨h.1, pieces_append h.2 h'⟩

/-- The queries' gradient of point `n`, at the block's index. -/
def Q6 (A : Args) (n : ℕ) (y : S128x1024.Idx) : EReal := (DQ A n ((y 1).val / 64) (y 0).val ((y 1).val % 64) : EReal)

/-- The band's gradient of point `n`: keys in the first half of the columns, values in the second. -/
def KV7 (A : Args) (n : ℕ) (y : S1x256x512.Idx) : EReal :=
  if (y 2).val < 256 then (DKEY A n ((y 2).val / 64) (y 1) ((y 2).val % 64) : EReal)
  else (DVAL A n (((y 2).val - 256) / 64) (y 1) ((y 2).val % 64) : EReal)

variable {A : Args} {n : ℕ} {i : grid0.Coords} {x0 : Vec Ideal S1x16 .f32} {x1 x2 : Vec Ideal S128x1024 .bf16}
  {x3 x4 : Vec Ideal S128x512 .bf16} {x5 : Vec Ideal S16x128x256 .f32}
variable (b : Blocks A n i x0 x1 x2 x3 x4 x5)
include b

theorem dq_piece (e : Fin 4) (k : ℕ) (hk : k < 4) (hs : S512x64.Slices ![128 * k, 0] S128x64) (o : ℕ) (ho : o ≤ 960) (hoe : o = 256 * e.val + 64 * k)
    (x : S128x64.Idx) :
    extractStridedSlice S128x64 ![128 * k, 0] (pDQ i x0 x1 x2 x3 x4 x5 e) hs x
      = Q6 A n ((Rect.unit ![0, o] S128x64.size (inbQ o ho) : Rect S128x1024).emb x) := by
  have hx0 : (x 0).val < 128 := (x 0).isLt
  have hx1 : (x 1).val < 64 := (x 1).isLt
  refine ((extractStridedSlice_apply _ _ hs x (ix2 ⟨128 * k + (x 0).val, by omega⟩ (x 1)) (fun a => by
    match a with
    | ⟨0, _⟩ => rfl
    | ⟨1, _⟩ => exact (Nat.zero_add _).symm)).trans (pDQ_apply b e ⟨128 * k + (x 0).val, by omega⟩ (x 1))).trans ?_
  have e0 : (((Rect.unit ![0, o] S128x64.size (inbQ o ho) : Rect S128x1024).emb x) 0).val = 0 + 1 * (x 0).val := rfl
  have e1 : (((Rect.unit ![0, o] S128x64.size (inbQ o ho) : Rect S128x1024).emb x) 1).val = o + 1 * (x 1).val := rfl
  unfold Q6
  rw [e0, e1]
  dsimp only
  rw [show 4 * e.val + (128 * k + (x 0).val) / 128 = (o + 1 * (x 1).val) / 64 by omega,
    show (128 * k + (x 0).val) % 128 = 0 + 1 * (x 0).val by omega, show (o + 1 * (x 1).val) % 64 = (x 1).val by omega]

theorem of6 (e : Fin 4) : View.PiecesOf (Q6 A n) (pieces6 i x0 x1 x2 x3 x4 x5 e) :=
  ⟨dq_piece b e 3 (by omega) slices_S512x64_o384_0_S128x64 _ (by omega) (by omega), dq_piece b e 2 (by omega) slices_S512x64_o256_0_S128x64 _ (by omega) (by omega),
    dq_piece b e 1 (by omega) slices_S512x64_o128_0_S128x64 _ (by omega) (by omega), dq_piece b e 0 (by omega) slices_S512x64_o0_0_S128x64 _ (by omega) (by omega), trivial⟩

omit b in
theorem mem6 (y : S128x1024.Idx) (o : ℕ) (ho : o ≤ 960) (h : o ≤ (y 1).val) (h' : (y 1).val < o + 64) :
    y ∈ (Rect.unit ![0, o] S128x64.size (inbQ o ho) : Rect S128x1024).set := by
  refine Rect.mem_set_unit.mpr fun a => ?_
  match a with
  | ⟨0, _⟩ => exact ⟨Nat.zero_le _, by show (y 0).val < 0 + 128; have : (y 0).val < 128 := (y 0).isLt; omega⟩
  | ⟨1, _⟩ => exact ⟨h, h'⟩

omit b in
theorem cov6 (y : S128x1024.Idx) (e : Fin 4) (h : (y 1).val / 256 = e.val) :
    ∃ p ∈ pieces6 i x0 x1 x2 x3 x4 x5 e, y ∈ p.1.set := by
  have hk : (y 1).val % 256 / 64 = 0 ∨ (y 1).val % 256 / 64 = 1 ∨ (y 1).val % 256 / 64 = 2 ∨ (y 1).val % 256 / 64 = 3 := by omega
  unfold pieces6
  rcases hk with k | k | k | k
  · exact ⟨_, (List.mem_cons_of_mem _ (List.mem_cons_of_mem _ (List.mem_cons_of_mem _ List.mem_cons_self))), mem6 y (256 * e.val) (by omega) (by omega) (by omega)⟩
  · exact ⟨_, (List.mem_cons_of_mem _ (List.mem_cons_of_mem _ List.mem_cons_self)), mem6 y (256 * e.val + 64) (by omega) (by omega) (by omega)⟩
  · exact ⟨_, (List.mem_cons_of_mem _ List.mem_cons_self), mem6 y (256 * e.val + 128) (by omega) (by omega) (by omega)⟩
  · exact ⟨_, List.mem_cons_self, mem6 y (256 * e.val + 192) (by omega) (by omega) (by omega)⟩

theorem canon6 (y : S128x1024.Idx) :
    View.canon (pieces6 i x0 x1 x2 x3 x4 x5 3 ++ (pieces6 i x0 x1 x2 x3 x4 x5 2 ++ (pieces6 i x0 x1 x2 x3 x4 x5 1 ++ pieces6 i x0 x1 x2 x3 x4 x5 0))) y
      = Q6 A n y := by
  refine View.canon_apply_of_pieces (S := S128x1024) (e := .bf16) (Q6 A n) _
    (View.PiecesOf.mem (pieces_append (of6 b 3) (pieces_append (of6 b 2) (pieces_append (of6 b 1) (of6 b 0))))) y ?_
  have hy : (y 1).val < 1024 := (y 1).isLt
  have hk : (y 1).val / 256 = 0 ∨ (y 1).val / 256 = 1 ∨ (y 1).val / 256 = 2 ∨ (y 1).val / 256 = 3 := by omega
  rcases hk with k | k | k | k
  · obtain ⟨p, hp, hm⟩ := cov6 (i := i) (x0 := x0) (x1 := x1) (x2 := x2) (x3 := x3) (x4 := x4) (x5 := x5) y 0 k
    exact ⟨p, by simp only [List.mem_append, hp, true_or, or_true], hm⟩
  · obtain ⟨p, hp, hm⟩ := cov6 (i := i) (x0 := x0) (x1 := x1) (x2 := x2) (x3 := x3) (x4 := x4) (x5 := x5) y 1 k
    exact ⟨p, by simp only [List.mem_append, hp, true_or, or_true], hm⟩
  · obtain ⟨p, hp, hm⟩ := cov6 (i := i) (x0 := x0) (x1 := x1) (x2 := x2) (x3 := x3) (x4 := x4) (x5 := x5) y 2 k
    exact ⟨p, by simp only [List.mem_append, hp, true_or, or_true], hm⟩
  · obtain ⟨p, hp, hm⟩ := cov6 (i := i) (x0 := x0) (x1 := x1) (x2 := x2) (x3 := x3) (x4 := x4) (x5 := x5) y 3 k
    exact ⟨p, by simp only [List.mem_append, hp, true_or, or_true], hm⟩

omit b in
theorem unit_ix (x : S1x256x64.Idx) : x = ix3 (n0 := 1) (n1 := 256) (n2 := 64) 0 (x 1) (x 2) := by
  funext a
  match a with
  | ⟨0, _⟩ => exact Subsingleton.elim (α := Fin 1) _ _
  | ⟨1, _⟩ => rfl
  | ⟨2, _⟩ => rfl

theorem val_piece (e : Fin 4) (x : S1x256x64.Idx) : pVAL i x0 x1 x2 x3 x4 x5 e x = KV7 A n ((Rect.unit ![0, 0, 256 + 64 * e.val] S1x256x64.size (inbKV _ (by omega)) : Rect S1x256x512).emb x) := by
  have hx : (x 2).val < 64 := (x 2).isLt
  have e1 : ((Rect.unit ![0, 0, 256 + 64 * e.val] S1x256x64.size (inbKV _ (by omega)) : Rect S1x256x512).emb x) 1 = x 1 := Fin.ext (show 0 + 1 * (x 1).val = (x 1).val by omega)
  have e2 : (((Rect.unit ![0, 0, 256 + 64 * e.val] S1x256x64.size (inbKV _ (by omega)) : Rect S1x256x512).emb x) 2).val = 256 + 64 * e.val + (x 2).val := show 256 + 64 * e.val + 1 * (x 2).val = _ by omega
  refine ((congrArg (pVAL i x0 x1 x2 x3 x4 x5 e) (unit_ix x)).trans (pVAL_apply b e (x 1) (x 2))).trans ?_
  unfold KV7
  rw [e1, e2, if_neg (by omega), show (256 + 64 * e.val + (x 2).val - 256) / 64 = e.val by omega,
    show (256 + 64 * e.val + (x 2).val) % 64 = (x 2).val by omega]

theorem key_piece (e : Fin 4) (x : S1x256x64.Idx) : pKEY i x0 x1 x2 x3 x4 x5 e x = KV7 A n ((Rect.unit ![0, 0, 64 * e.val] S1x256x64.size (inbKV _ (by omega)) : Rect S1x256x512).emb x) := by
  have hx : (x 2).val < 64 := (x 2).isLt
  have e1 : ((Rect.unit ![0, 0, 64 * e.val] S1x256x64.size (inbKV _ (by omega)) : Rect S1x256x512).emb x) 1 = x 1 := Fin.ext (show 0 + 1 * (x 1).val = (x 1).val by omega)
  have e2 : (((Rect.unit ![0, 0, 64 * e.val] S1x256x64.size (inbKV _ (by omega)) : Rect S1x256x512).emb x) 2).val = 64 * e.val + (x 2).val := show 64 * e.val + 1 * (x 2).val = _ by omega
  refine ((congrArg (pKEY i x0 x1 x2 x3 x4 x5 e) (unit_ix x)).trans (pKEY_apply b e (x 1) (x 2))).trans ?_
  unfold KV7
  rw [e1, e2, if_pos (by omega), show (64 * e.val + (x 2).val) / 64 = e.val by omega,
    show (64 * e.val + (x 2).val) % 64 = (x 2).val by omega]

theorem of7 (e : Fin 4) : View.PiecesOf (KV7 A n) (pieces7 i x0 x1 x2 x3 x4 x5 e) :=
  ⟨val_piece b e, key_piece b e, trivial⟩

omit b in
theorem mem7 (y : S1x256x512.Idx) (o : ℕ) (ho : o ≤ 448) (h : o ≤ (y 2).val) (h' : (y 2).val < o + 64) :
    y ∈ (Rect.unit ![0, 0, o] S1x256x64.size (inbKV o ho) : Rect S1x256x512).set := by
  refine Rect.mem_set_unit.mpr fun a => ?_
  match a with
  | ⟨0, _⟩ => exact ⟨Nat.zero_le _, by show (y 0).val < 0 + 1; have : (y 0).val < 1 := (y 0).isLt; omega⟩
  | ⟨1, _⟩ => exact ⟨Nat.zero_le _, by show (y 1).val < 0 + 256; have : (y 1).val < 256 := (y 1).isLt; omega⟩
  | ⟨2, _⟩ => exact ⟨h, h'⟩

omit b in
theorem cov7 (y : S1x256x512.Idx) (e : Fin 4) (h : (y 2).val % 256 / 64 = e.val) :
    ∃ p ∈ pieces7 i x0 x1 x2 x3 x4 x5 e, y ∈ p.1.set := by
  have hy : (y 2).val < 512 := (y 2).isLt
  unfold pieces7
  by_cases k : (y 2).val < 256
  · exact ⟨_, (List.mem_cons_of_mem _ List.mem_cons_self), mem7 y (64 * e.val) (by omega) (by omega) (by omega)⟩
  · exact ⟨_, List.mem_cons_self, mem7 y (256 + 64 * e.val) (by omega) (by omega) (by omega)⟩

theorem canon7 (y : S1x256x512.Idx) :
    View.canon (pieces7 i x0 x1 x2 x3 x4 x5 3 ++ (pieces7 i x0 x1 x2 x3 x4 x5 2 ++ (pieces7 i x0 x1 x2 x3 x4 x5 1 ++ pieces7 i x0 x1 x2 x3 x4 x5 0))) y
      = KV7 A n y := by
  refine View.canon_apply_of_pieces (S := S1x256x512) (e := .bf16) (KV7 A n) _
    (View.PiecesOf.mem (pieces_append (of7 b 3) (pieces_append (of7 b 2) (pieces_append (of7 b 1) (of7 b 0))))) y ?_
  have hk : (y 2).val % 256 / 64 = 0 ∨ (y 2).val % 256 / 64 = 1 ∨ (y 2).val % 256 / 64 = 2 ∨ (y 2).val % 256 / 64 = 3 := by omega
  rcases hk with k | k | k | k
  · obtain ⟨p, hp, hm⟩ := cov7 (i := i) (x0 := x0) (x1 := x1) (x2 := x2) (x3 := x3) (x4 := x4) (x5 := x5) y 0 k
    exact ⟨p, by simp only [List.mem_append, hp, true_or, or_true], hm⟩
  · obtain ⟨p, hp, hm⟩ := cov7 (i := i) (x0 := x0) (x1 := x1) (x2 := x2) (x3 := x3) (x4 := x4) (x5 := x5) y 1 k
    exact ⟨p, by simp only [List.mem_append, hp, true_or, or_true], hm⟩
  · obtain ⟨p, hp, hm⟩ := cov7 (i := i) (x0 := x0) (x1 := x1) (x2 := x2) (x3 := x3) (x4 := x4) (x5 := x5) y 2 k
    exact ⟨p, by simp only [List.mem_append, hp, true_or, or_true], hm⟩
  · obtain ⟨p, hp, hm⟩ := cov7 (i := i) (x0 := x0) (x1 := x1) (x2 := x2) (x3 := x3) (x4 := x4) (x5 := x5) y 3 k
    exact ⟨p, by simp only [List.mem_append, hp, true_or, or_true], hm⟩

/-- What point `n` makes of the bias's gradient. -/
def B8 (A : Args) (n : ℕ) (acc : Vec Ideal S16x128x256 .f32) (y : S16x128x256.Idx) : EReal :=
  acc y + (DS A n (y 0).val (y 1).val (y 2) : EReal)

theorem ds_piece (acc : Vec Ideal S16x128x256 .f32) (e : Fin 4) (x : S4x128x256.Idx) :
    addf (F := Ideal) (φ := .f32) (shapeCast S4x128x256 (ldH acc e) shapeCasts_S4x128x256_S4x128x256)
      (shapeCast S4x128x256 (pDS i x0 x1 x2 x3 x4 x5 e) shapeCasts_S512x256_S4x128x256) x
      = B8 A n acc ((Rect.unit ![4 * e.val, 0, 0] S4x128x256.size (inbH _ (by omega)) : Rect S16x128x256).emb x) := by
  have hx0 : (x 0).val < 4 := (x 0).isLt
  have hx1 : (x 1).val < 128 := (x 1).isLt
  have v : shapeCast S4x128x256 (pDS i x0 x1 x2 x3 x4 x5 e) shapeCasts_S512x256_S4x128x256 x
      = (DS A n (4 * e.val + 1 * (x 0).val) (0 + 1 * (x 1).val) (x 2) : EReal) := by
    refine ((congrArg (shapeCast S4x128x256 (pDS i x0 x1 x2 x3 x4 x5 e) shapeCasts_S512x256_S4x128x256) (eq_ix3 x)).trans
      (rows_uncast (pDS i x0 x1 x2 x3 x4 x5 e) (x 0) (x 1) (x 2))).trans ((pDS_apply b e _ _).trans ?_)
    dsimp only
    rw [show 4 * e.val + (128 * (x 0).val + (x 1).val) / 128 = 4 * e.val + 1 * (x 0).val by omega,
      show (128 * (x 0).val + (x 1).val) % 128 = 0 + 1 * (x 1).val by omega]
  have w : ((Rect.unit ![4 * e.val, 0, 0] S4x128x256.size (inbH _ (by omega)) : Rect S16x128x256).emb x) 2 = x 2 := Fin.ext (show 0 + 1 * (x 2).val = (x 2).val by omega)
  rw [addf_apply, v, shapeCast_self]
  unfold B8
  rw [w]
  rfl

omit b in
theorem mem8 (y : S16x128x256.Idx) (e : Fin 4) (h : (y 0).val / 4 = e.val) (acc : Vec Ideal S16x128x256 .f32) :
    y ∈ (piece8 i x0 x1 x2 x3 x4 x5 acc e).1.set := by
  refine (Rect.mem_set_unit (s := S16x128x256) (off := ![4 * e.val, 0, 0]) (size := S4x128x256.size) (inb := inbH _ (by omega))).mpr fun a => ?_
  match a with
  | ⟨0, _⟩ => exact ⟨show 4 * e.val ≤ (y 0).val by omega, show (y 0).val < 4 * e.val + 4 by omega⟩
  | ⟨1, _⟩ => exact ⟨Nat.zero_le _, by show (y 1).val < 0 + 128; have : (y 1).val < 128 := (y 1).isLt; omega⟩
  | ⟨2, _⟩ => exact ⟨Nat.zero_le _, by show (y 2).val < 0 + 256; have : (y 2).val < 256 := (y 2).isLt; omega⟩

theorem canon8 (acc : Vec Ideal S16x128x256 .f32) (L : List (View.Piece (Elt Ideal) S16x128x256 .f32)) (y : S16x128x256.Idx) :
    View.canon ([piece8 i x0 x1 x2 x3 x4 x5 acc 3, piece8 i x0 x1 x2 x3 x4 x5 acc 2, piece8 i x0 x1 x2 x3 x4 x5 acc 1,
      piece8 i x0 x1 x2 x3 x4 x5 acc 0] ++ L) y = B8 A n acc y := by
  have hL : View.PiecesOf (Val := Elt Ideal) (e := .f32) (B8 A n acc) [piece8 i x0 x1 x2 x3 x4 x5 acc 3, piece8 i x0 x1 x2 x3 x4 x5 acc 2,
      piece8 i x0 x1 x2 x3 x4 x5 acc 1, piece8 i x0 x1 x2 x3 x4 x5 acc 0] :=
    ⟨ds_piece b acc 3, ds_piece b acc 2, ds_piece b acc 1, ds_piece b acc 0, trivial⟩
  refine View.canon_append_of_piecesOf (s := S16x128x256) (e := .f32) (B8 A n acc) L _ hL y ?_
  have hy : (y 0).val < 16 := (y 0).isLt
  have hk : (y 0).val / 4 = 0 ∨ (y 0).val / 4 = 1 ∨ (y 0).val / 4 = 2 ∨ (y 0).val / 4 = 3 := by omega
  rcases hk with k | k | k | k
  · exact ⟨_, (List.mem_cons_of_mem _ (List.mem_cons_of_mem _ (List.mem_cons_of_mem _ List.mem_cons_self))), mem8 y 0 k acc⟩
  · exact ⟨_, (List.mem_cons_of_mem _ (List.mem_cons_of_mem _ List.mem_cons_self)), mem8 y 1 k acc⟩
  · exact ⟨_, (List.mem_cons_of_mem _ List.mem_cons_self), mem8 y 2 k acc⟩
  · exact ⟨_, List.mem_cons_self, mem8 y 3 k acc⟩

theorem dsUp_apply (acc : FVec Ideal S128x128 .f32) (e : Fin 4) (k : ℕ) (hk : k < 4) (hs : S512x1.Slices ![128 * k, 0] S128x1)
    (r l : Fin 128) :
    dsUp (BitVec.ofNat 32 (4 * e.val + k)) (128 * k) (pDK i x0 x1 x2 x3 x4 x5 e) hs acc (ix2 r l)
      = acc (ix2 r l) + (if l.val = 4 * e.val + k then (DK A n l.val r.val : EReal) else 0) := by
  unfold dsUp
  rw [shapeCast_self, addf_apply, select_apply, broadcast_apply, shapeCast_self]
  have w : iota .tc S128x128 32 [1] iota_S128x128_d1_w32 (ix2 r l) = BitVec.ofNat 32 l.val := iota_single_apply ..
  have u : cmpi .eq (iota .tc S128x128 32 [1] iota_S128x128_d1_w32) (broadcast S128x128 (BitVec.ofNat 32 (4 * e.val + k))) (ix2 r l)
      = IntOp.cmpi .eq (iota .tc S128x128 32 [1] iota_S128x128_d1_w32 (ix2 r l)) (BitVec.ofNat 32 (4 * e.val + k)) := rfl
  rw [u, w, WordCmp.cmpi_eq_ofNat (by omega) (by omega), sel_ofBool,
    show Scalar.ofBits (F := Ideal) .f32 0x00000000#32 = (0 : EReal) from Ideal.ofBits_zero_f32]
  congr 1
  split
  · rename_i hl
    rw [broadcastTo_apply _ _ (ix2 r l) (ix2 r 0) (fun a => by
      match a with
      | ⟨0, _⟩ => rfl
      | ⟨1, _⟩ => rfl)]
    rw [extractStridedSlice_apply _ _ hs (ix2 r 0) (ix2 ⟨128 * k + r.val, by omega⟩ 0) (fun a => by
      match a with
      | ⟨0, _⟩ => rfl
      | ⟨1, _⟩ => rfl), pDK_apply b]
    dsimp only
    rw [show 4 * e.val + (128 * k + r.val) / 128 = l.val by omega, show (128 * k + r.val) % 128 = r.val by omega]
  · rfl

theorem dsG_apply (acc : FVec Ideal S128x128 .f32) (e : Fin 4) (r l : Fin 128) :
    dsG i x0 x1 x2 x3 x4 x5 e acc (ix2 r l) = acc (ix2 r l) + (if l.val / 4 = e.val then (DK A n l.val r.val : EReal) else 0) := by
  unfold dsG
  rw [dsUp_apply b _ e 3 (by omega), dsUp_apply b _ e 2 (by omega), dsUp_apply b _ e 1 (by omega)]
  rw [show dsUp (BitVec.ofNat 32 (4 * e.val)) 0 (pDK i x0 x1 x2 x3 x4 x5 e) slices_S512x1_o0_0_S128x1 acc (ix2 r l)
    = _ from dsUp_apply b acc e 0 (by omega) slices_S512x1_o0_0_S128x1 r l]
  rcases (by omega : l.val = 4 * e.val ∨ l.val = 4 * e.val + 1 ∨ l.val = 4 * e.val + 2 ∨ l.val = 4 * e.val + 3 ∨ l.val / 4 ≠ e.val) with h | h | h | h | h
  · rw [if_pos (by omega), if_neg (by omega), if_neg (by omega), if_neg (by omega), if_pos (by omega), add_zero, add_zero, add_zero]
  · rw [if_neg (by omega), if_pos (by omega), if_neg (by omega), if_neg (by omega), if_pos (by omega), add_zero, add_zero, add_zero]
  · rw [if_neg (by omega), if_neg (by omega), if_pos (by omega), if_neg (by omega), if_pos (by omega), add_zero, add_zero, add_zero]
  · rw [if_neg (by omega), if_neg (by omega), if_neg (by omega), if_pos (by omega), if_pos (by omega), add_zero, add_zero, add_zero]
  · rw [if_neg (by omega), if_neg (by omega), if_neg (by omega), if_neg (by omega), if_neg (by omega), add_zero, add_zero, add_zero]

theorem dsAll_apply (acc : FVec Ideal S128x128 .f32) (r l : Fin 128) :
    dsAll i x0 x1 x2 x3 x4 x5 acc (ix2 r l) = acc (ix2 r l) + (if l.val < 16 then (DK A n l.val r.val : EReal) else 0) := by
  unfold dsAll
  rw [dsG_apply b, dsG_apply b, dsG_apply b, dsG_apply b]
  have e0 : (0 : Fin 4).val = 0 := rfl
  have e1 : (1 : Fin 4).val = 1 := rfl
  have e2 : (2 : Fin 4).val = 2 := rfl
  have e3 : (3 : Fin 4).val = 3 := rfl
  rw [e0, e1, e2, e3]
  rcases (by omega : l.val / 4 = 0 ∨ l.val / 4 = 1 ∨ l.val / 4 = 2 ∨ l.val / 4 = 3 ∨ 4 ≤ l.val / 4) with h | h | h | h | h
  · rw [if_pos (by omega), if_neg (by omega), if_neg (by omega), if_neg (by omega), if_pos (by omega), add_zero, add_zero, add_zero]
  · rw [if_neg (by omega), if_pos (by omega), if_neg (by omega), if_neg (by omega), if_pos (by omega), add_zero, add_zero, add_zero]
  · rw [if_neg (by omega), if_neg (by omega), if_pos (by omega), if_neg (by omega), if_pos (by omega), add_zero, add_zero, add_zero]
  · rw [if_neg (by omega), if_neg (by omega), if_neg (by omega), if_pos (by omega), if_pos (by omega), add_zero, add_zero, add_zero]
  · rw [if_neg (by omega), if_neg (by omega), if_neg (by omega), if_neg (by omega), if_neg (by omega), add_zero, add_zero, add_zero, add_zero]

end Cert.Attn.Kern

end
-- ==== Proof.Outs.lean ====
/- The contents each kind of point leaves in its buffers, as the head groups' pieces over the blocks it reads: the first
   point (case A: the accumulators start from zero), the points between (case B) and the last one (case C: the sinks'
   sums are also stored). -/
module

public import proofs.«01_k».proof.Proof.Body

@[expose] public section

set_option maxRecDepth 16384

noncomputable section

namespace Cert.Attn.Kern

open Idealize.ShloMosaic Idealize.ShloMosaic.ValueIdx Idealize.ShloMosaic.TcCoe Idealize.ShloMosaic.Tactic
open Idealize.SL Idealize.SL.Sem
open Cert.KernelIdeal Cert.KernelIdeal.Gen

variable {F : FTy → Type} [FloatOps F] [Named F]
variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S16x128x256 .f32) (harg6 : arg6.IsWhole) (arg7 : Memref sig .tc .vmem S128x1024 .bf16) (harg7 : arg7.IsWhole) (arg8 : Memref sig .tc .vmem S1x256x512 .bf16) (harg8 : arg8.IsWhole) (arg9 : Memref sig .tc .vmem S16x128x256 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S128x128 .f32) (harg12 : arg12.IsWhole)

section A

variable (hc0 : cond0_0 i) (hc1 : ¬cond0_1 i) (x0 : Vec F S1x16 .f32) (x1 : Vec F S128x1024 .bf16) (x2 : Vec F S128x1024 .bf16) (x3 : Vec F S128x512 .bf16) (x4 : Vec F S128x512 .bf16) (x5 : Vec F S16x128x256 .f32)

theorem out0_A_6_eq : out0_A_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = View.canon (pieces6 i x0 x1 x2 x3 x4 x5 3 ++ (pieces6 i x0 x1 x2 x3 x4 x5 2 ++ (pieces6 i x0 x1 x2 x3 x4 x5 1 ++ pieces6 i x0 x1 x2 x3 x4 x5 0))) := by
  frame_out [↓View.readCov_skip, ↓View.readCov_fill, View.readCov_eq_canon']
  rfl

theorem out0_A_7_eq : out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = View.canon (pieces7 i x0 x1 x2 x3 x4 x5 3 ++ (pieces7 i x0 x1 x2 x3 x4 x5 2 ++ (pieces7 i x0 x1 x2 x3 x4 x5 1 ++ pieces7 i x0 x1 x2 x3 x4 x5 0))) := by
  frame_out [↓View.readCov_skip, ↓View.readCov_fill, View.readCov_eq_canon']
  rfl

theorem out0_A_8_eq : out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = View.canon [piece8 i x0 x1 x2 x3 x4 x5 k0_pay7 3, piece8 i x0 x1 x2 x3 x4 x5 k0_pay7 2, piece8 i x0 x1 x2 x3 x4 x5 k0_pay7 1, piece8 i x0 x1 x2 x3 x4 x5 k0_pay7 0, ⟨Rect.unit ![0, 0, 0] S16x128x256.size (by decide), k0_pay7⟩] := by
  frame_out [↓View.readCov_skip, ↓View.readCov_fill, View.readCov_eq_canon']
  rfl

theorem sout0_A_1_eq : sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = dsAll i x0 x1 x2 x3 x4 x5 k0_pay8 := by
  frame_out [↓View.readCov_skip, ↓View.readCov_fill, View.readCov_eq_canon']
  rfl

end A

section B

variable (hc0 : ¬cond0_0 i) (hc1 : ¬cond0_1 i) (x0 : Vec F S1x16 .f32) (x1 : Vec F S128x1024 .bf16) (x2 : Vec F S128x1024 .bf16) (x3 : Vec F S128x512 .bf16) (x4 : Vec F S128x512 .bf16) (x5 : Vec F S16x128x256 .f32) (xo8 : Vec F S16x128x256 .f32) (xs1 : Vec F S128x128 .f32)

theorem out0_B_6_eq : out0_B_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon (pieces6 i x0 x1 x2 x3 x4 x5 3 ++ (pieces6 i x0 x1 x2 x3 x4 x5 2 ++ (pieces6 i x0 x1 x2 x3 x4 x5 1 ++ pieces6 i x0 x1 x2 x3 x4 x5 0))) := by
  frame_out [↓View.readCov_skip, ↓View.readCov_fill, View.readCov_eq_canon']
  rfl

theorem out0_B_7_eq : out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon (pieces7 i x0 x1 x2 x3 x4 x5 3 ++ (pieces7 i x0 x1 x2 x3 x4 x5 2 ++ (pieces7 i x0 x1 x2 x3 x4 x5 1 ++ pieces7 i x0 x1 x2 x3 x4 x5 0))) := by
  frame_out [↓View.readCov_skip, ↓View.readCov_fill, View.readCov_eq_canon']
  rfl

theorem out0_B_8_eq : out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon [piece8 i x0 x1 x2 x3 x4 x5 xo8 3, piece8 i x0 x1 x2 x3 x4 x5 xo8 2, piece8 i x0 x1 x2 x3 x4 x5 xo8 1, piece8 i x0 x1 x2 x3 x4 x5 xo8 0] := by
  frame_out [↓View.readCov_skip, ↓View.readCov_fill, View.readCov_eq_canon']
  rfl

theorem sout0_B_1_eq : sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = dsAll i x0 x1 x2 x3 x4 x5 xs1 := by
  frame_out [↓View.readCov_skip, ↓View.readCov_fill, View.readCov_eq_canon']
  rfl

end B

section C

variable (hc0 : ¬cond0_0 i) (hc1 : cond0_1 i) (x0 : Vec F S1x16 .f32) (x1 : Vec F S128x1024 .bf16) (x2 : Vec F S128x1024 .bf16) (x3 : Vec F S128x512 .bf16) (x4 : Vec F S128x512 .bf16) (x5 : Vec F S16x128x256 .f32) (xo8 : Vec F S16x128x256 .f32) (xs1 : Vec F S128x128 .f32)

theorem out0_C_6_eq : out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon (pieces6 i x0 x1 x2 x3 x4 x5 3 ++ (pieces6 i x0 x1 x2 x3 x4 x5 2 ++ (pieces6 i x0 x1 x2 x3 x4 x5 1 ++ pieces6 i x0 x1 x2 x3 x4 x5 0))) := by
  frame_out [↓View.readCov_skip, ↓View.readCov_fill, View.readCov_eq_canon']
  rfl

theorem out0_C_7_eq : out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon (pieces7 i x0 x1 x2 x3 x4 x5 3 ++ (pieces7 i x0 x1 x2 x3 x4 x5 2 ++ (pieces7 i x0 x1 x2 x3 x4 x5 1 ++ pieces7 i x0 x1 x2 x3 x4 x5 0))) := by
  frame_out [↓View.readCov_skip, ↓View.readCov_fill, View.readCov_eq_canon']
  rfl

theorem out0_C_8_eq : out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = View.canon [piece8 i x0 x1 x2 x3 x4 x5 xo8 3, piece8 i x0 x1 x2 x3 x4 x5 xo8 2, piece8 i x0 x1 x2 x3 x4 x5 xo8 1, piece8 i x0 x1 x2 x3 x4 x5 xo8 0] := by
  frame_out [↓View.readCov_skip, ↓View.readCov_fill, View.readCov_eq_canon']
  rfl

theorem sout0_C_1_eq : sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = dsAll i x0 x1 x2 x3 x4 x5 xs1 := by
  frame_out [↓View.readCov_skip, ↓View.readCov_fill, View.readCov_eq_canon']
  rfl

theorem out0_C_9_eq : out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xo8 xs1 = k0_pay3 (dsAll i x0 x1 x2 x3 x4 x5 xs1) := by
  frame_out [↓View.readCov_skip, ↓View.readCov_fill, View.readCov_eq_canon']
  rfl

end C

end Cert.Attn.Kern

end
-- ==== Proof.Fold.lean ====
/- What the buffers hold after each of the 32 points, and the four arrays the kernel leaves: the point's own blocks of the
   queries' and the band's gradients, and the sums over the points of the bias's and the sinks'. -/
module

public import proofs.«01_k».proof.Proof.Store
public import proofs.«01_k».proof.Proof.Outs

@[expose] public section

set_option maxRecDepth 16384

noncomputable section

namespace Cert.Attn.Kern

open Idealize.ShloMosaic Idealize.ShloMosaic.ValueIdx Idealize.ShloMosaic.TcCoe
open Idealize.SL Idealize.SL.Sem
open Cert.KernelIdeal Cert.KernelIdeal.Gen Cert.KernelIdeal.Value

/-- The five buffers the points hand on. -/
abbrev Tup := Vec Ideal S128x1024 .bf16 × Vec Ideal S1x256x512 .bf16 × Vec Ideal S16x128x256 .f32 × Vec Ideal S1x128 .f32 × Vec Ideal S128x128 .f32

/-- The buffers after point `n`. -/
structure Ok (A : Args) (n : ℕ) (u : Tup) : Prop where
  dq : ∀ y, u.1 y = Q6 A n y
  dkv : ∀ y, u.2.1 y = KV7 A n y
  db : ∀ y : S16x128x256.Idx, u.2.2.1 y = ((∑ k ∈ Finset.range (n + 1), DS A k (y 0).val (y 1).val (y 2) : ℝ) : EReal)
  ds : ∀ r l : Fin 128, u.2.2.2.2 (ix2 r l) = if l.val < 16 then ((∑ k ∈ Finset.range (n + 1), DK A k l.val r.val : ℝ) : EReal) else 0
  out : n = 31 → u.2.2.2.1 = k0_pay3 u.2.2.2.2

theorem sum_next (f : ℕ → ℝ) (n : ℕ) :
    ((∑ k ∈ Finset.range (n + 1), f k : ℝ) : EReal) + (f (n + 1) : EReal) = ((∑ k ∈ Finset.range (n + 1 + 1), f k : ℝ) : EReal) := by
  rw [Finset.sum_range_succ f (n + 1), EReal.coe_add]

theorem ds_next (A : Args) (n : ℕ) (r l : Fin 128) :
    (if l.val < 16 then ((∑ k ∈ Finset.range (n + 1), DK A k l.val r.val : ℝ) : EReal) else 0) + (if l.val < 16 then (DK A (n + 1) l.val r.val : EReal) else 0)
      = if l.val < 16 then ((∑ k ∈ Finset.range (n + 1 + 1), DK A k l.val r.val : ℝ) : EReal) else 0 := by
  split
  · exact sum_next (fun k => DK A k l.val r.val) n
  · exact add_zero 0

variable (m : (ℓ : Loc nD τ sig) → Buf (Elt Ideal) ℓ) (c : Dev nD) {A : Args}

theorem ok_first (t : Fin cfg0.N) (acc : Tup) (ht : t.val = 0)
    (b : Blocks A t.val (grid0.coords t) (iblk m c 0 t) (iblk m c 1 t) (iblk m c 2 t) (iblk m c 3 t) (iblk m c 4 t) (iblk m c 5 t)) :
    Ok A t.val (stAt0 m c t.val t.isLt acc) := by
  have hz : (Scalar.ofBits (F := Ideal) .f32 0x00000000#32 : EReal) = 0 := Ideal.ofBits_zero_f32
  rw [stAt0_A m c t acc (by omega) (by omega)]
  constructor
  · intro y
    dsimp only
    rw [out0_A_6_eq]
    exact canon6 b y
  · intro y
    dsimp only
    rw [out0_A_7_eq]
    exact canon7 b y
  · intro y
    dsimp only
    rw [out0_A_8_eq]
    refine (canon8 b _ _ y).trans ?_
    show (Scalar.ofBits (F := Ideal) .f32 0x00000000#32 : EReal) + _ = _
    rw [hz, zero_add, ht, Finset.sum_range_one]
  · intro r l
    dsimp only
    rw [sout0_A_1_eq]
    refine (dsAll_apply b _ r l).trans ?_
    have z : k0_pay8 (F := Ideal) (ix2 r l) = 0 := by
      unfold k0_pay8
      rw [shapeCast_self]
      exact hz
    rw [z, zero_add, ht, Finset.sum_range_one]
  · intro h; omega

theorem ok_next (t : Fin cfg0.N) (acc : Tup) (n : ℕ) (ht : t.val = n + 1)
    (b : Blocks A t.val (grid0.coords t) (iblk m c 0 t) (iblk m c 1 t) (iblk m c 2 t) (iblk m c 3 t) (iblk m c 4 t) (iblk m c 5 t)) (h : Ok A n acc) :
    Ok A t.val (stAt0 m c t.val t.isLt acc) := by
  have hN : t.val < 32 := lt_of_lt_of_eq t.isLt N_0
  by_cases h1 : t.val % 32 = 31
  · rw [stAt0_C m c t acc (by omega) h1]
    constructor
    · intro y
      dsimp only
      rw [out0_C_6_eq]
      exact canon6 b y
    · intro y
      dsimp only
      rw [out0_C_7_eq]
      exact canon7 b y
    · intro y
      dsimp only
      rw [out0_C_8_eq]
      refine (canon8 b _ [] y).trans ?_
      unfold B8
      rw [h.db, ht]
      exact sum_next (fun k => DS A k (y 0).val (y 1).val (y 2)) n
    · intro r l
      dsimp only
      rw [sout0_C_1_eq]
      refine (dsAll_apply b _ r l).trans ?_
      rw [h.ds, ht]
      exact ds_next A n r l
    · intro _
      dsimp only
      rw [sout0_C_1_eq, out0_C_9_eq]
  · rw [stAt0_B m c t acc (by omega) h1]
    constructor
    · intro y
      dsimp only
      rw [out0_B_6_eq]
      exact canon6 b y
    · intro y
      dsimp only
      rw [out0_B_7_eq]
      exact canon7 b y
    · intro y
      dsimp only
      rw [out0_B_8_eq]
      refine (canon8 b _ [] y).trans ?_
      unfold B8
      rw [h.db, ht]
      exact sum_next (fun k => DS A k (y 0).val (y 1).val (y 2)) n
    · intro r l
      dsimp only
      rw [sout0_B_1_eq]
      refine (dsAll_apply b _ r l).trans ?_
      rw [h.ds, ht]
      exact ds_next A n r l
    · intro h31; omega

/-- Every point's blocks hold the arrays' rows. -/
def Inputs (A : Args) : Prop := ∀ t : Fin cfg0.N,
  Blocks A t.val (grid0.coords t) (iblk m c 0 t) (iblk m c 1 t) (iblk m c 2 t) (iblk m c 3 t) (iblk m c 4 t) (iblk m c 5 t)

variable (hb : Inputs m c A)
include hb

theorem ok_outs : ∀ (n : ℕ) (hn : n < cfg0.N), Ok A n (outsAt0 m c n hn)
  | 0, hn => by
    rw [outsAt0_zero]
    exact ok_first m c ⟨0, hn⟩ _ rfl (hb ⟨0, hn⟩)
  | n + 1, hn => by
    rw [outsAt0_succ]
    exact ok_next m c ⟨n + 1, hn⟩ _ n rfl (hb ⟨n + 1, hn⟩) (ok_outs n (Nat.lt_of_succ_lt hn))

theorem ok_acc (n : ℕ) (hn : n < cfg0.N) (h : 0 + n < cfg0.N) : Ok A n (Pipeline.accAt (fun n h => stAt0 m c n h junk0) (stAt0 m c) 0 n h) := by
  have := ok_outs m c hb n hn
  rwa [outsAt0_sweep] at this

theorem G6_apply (y : S4096x1024.Idx) :
    G6 m c y = (DQ A ((y 0).val / 128) ((y 1).val / 64) ((y 0).val % 128) ((y 1).val % 64) : EReal) := by
  have h0 : (y 0).val < 4096 := (y 0).isLt
  have h1 : (y 1).val < 1024 := (y 1).isLt
  have hp : pt6Of y = (y 0).val / 128 := by
    show 1 * ((y 0).val / 128 - 0) + 1 * ((y 1).val / 1024 - 0) = _
    omega
  have hlt : pt6Of y < cfg0.N := by rw [hp]; exact lt_of_lt_of_eq (by omega) N_0.symm
  unfold G6
  rw [dif_pos hlt, (ok_acc m c hb _ hlt _).dq, hp]
  unfold Q6
  rw [show (loc6Of y 0).val = (y 0).val % 128 from rfl, show (loc6Of y 1).val = (y 1).val % 1024 from rfl,
    Nat.mod_eq_of_lt h1]

theorem G7_apply (y : S32x256x512.Idx) :
    G7 m c y = if (y 2).val < 256 then (DKEY A (y 0).val ((y 2).val / 64) (y 1) ((y 2).val % 64) : EReal)
      else (DVAL A (y 0).val (((y 2).val - 256) / 64) (y 1) ((y 2).val % 64) : EReal) := by
  have h0 : (y 0).val < 32 := (y 0).isLt
  have h1 : (y 1).val < 256 := (y 1).isLt
  have h2 : (y 2).val < 512 := (y 2).isLt
  have hp : pt7Of y = (y 0).val := by
    show 1 * ((y 0).val / 1 - 0) + 1 * ((y 1).val / 256 - 0) + 1 * ((y 2).val / 512 - 0) = _
    omega
  have hlt : pt7Of y < cfg0.N := by rw [hp]; exact lt_of_lt_of_eq (by omega) N_0.symm
  have e1 : loc7Of y 1 = y 1 := Fin.ext (show (y 1).val % 256 = (y 1).val by omega)
  have e2 : (loc7Of y 2).val = (y 2).val := show (y 2).val % 512 = (y 2).val by omega
  unfold G7
  rw [dif_pos hlt, (ok_acc m c hb _ hlt _).dkv, hp]
  unfold KV7
  rw [e1, e2]

theorem G8_apply (y : S16x128x256.Idx) : G8 m c y = (DB A (y 0).val (y 1).val (y 2) : EReal) := by
  rw [G8_last, (ok_acc m c hb 31 (lt_of_lt_of_eq (by decide) N_0.symm) _).db]
  unfold DB
  rw [Finset.sum_range (fun k => DS A k (y 0).val (y 1).val (y 2))]

omit hb in
theorem colSum_apply (v : FVec Ideal S128x128 .f32) (l : Fin 128) : k0_pay3 v (ix2 0 l) = ∑ r : Fin 128, v (ix2 r l) := by
  have e : k0_pay3 v (ix2 0 l) = multiReduction .add [0] S128 v 0x00000000#32 reduces_S128x128_S128 (.inl rfl) rfl (ix1 l) := by
    refine shapeCast_apply (multiReduction .add [0] S128 v 0x00000000#32 reduces_S128x128_S128 (.inl rfl) rfl) shapeCasts_S128_S1x128 _ _ ?_
    rw [Shape.rowMajor_val_one, Shape.rowMajor_val_two]
    show l.val = 0 * 128 + l.val
    omega
  rw [e]
  refine (Ideal.multiReduction_add_single v _ reduces_S128x128_S128 (.inl rfl) rfl (ix1 l)).trans ?_
  refine Finset.sum_congr rfl fun j _ => congrArg v ?_
  funext a
  match a with
  | ⟨0, _⟩ => exact Fin.ext rfl
  | ⟨1, _⟩ => exact Fin.ext rfl

theorem G9_apply (l : Fin 128) : G9 m c (ix2 0 l) = if l.val < 16 then (DSINK A l.val : EReal) else 0 := by
  have h := ok_acc m c hb 31 (lt_of_lt_of_eq (by decide) N_0.symm) (lt_of_lt_of_eq (by decide) N_0.symm)
  rw [G9_last, h.out rfl]
  refine (colSum_apply _ l).trans ?_
  by_cases hl : l.val < 16
  · rw [if_pos hl, sum_coe _ _ (fun r : Fin 128 => ∑ k ∈ Finset.range (31 + 1), DK A k l.val r.val) (fun r => by rw [h.ds, if_pos hl])]
    unfold DSINK
    rw [Finset.sum_comm]
    congr 1
  · rw [if_neg hl]
    refine Finset.sum_eq_zero fun r _ => ?_
    rw [h.ds, if_neg hl]

end Cert.Attn.Kern

end
-- ==== Proof.Bias.lean ====
/- The bias the kernel is launched with: the bias of the head where the window lets the key in, `⊥` elsewhere. The bias of
   the head is read out of the table by the reference's own index words, which are never evaluated. -/
module

public import proofs.«01_k».proof.Proof.Gen.KernelIdeal.Value
public import proofs.«01_k».proof.Proof.Gen.ReferenceIdeal.Read
public import Idealize.ShloMosaic.Lib.StableHlo.RunRead

@[expose] public section

set_option maxRecDepth 16384

noncomputable section

namespace Cert.Attn.Kern

open Idealize.ShloMosaic Idealize.ShloMosaic.ValueIdx Idealize.ShloMosaic.TcCoe
open Idealize.SL Idealize.SL.Sem
open Cert.KernelIdeal Cert.KernelIdeal.Gen Cert.KernelIdeal.Value

/-- The bias of the heads, out of the table. -/
abbrev hb (x3 : Vec Ideal S32x16 .f32) : Vec Ideal S16x128x256 .f32 :=
  Cert.ReferenceIdeal.Read.val_main_v49 (F := Ideal) x3

/-- The distance of query row and key. -/
abbrev dist : IVec S128x256 32 := Cert.ReferenceIdeal.Read.val_main_v21 (F := Ideal)

/-- The window. -/
def kmask : IVec S128x256 1 :=
  andi (cmpi .sge dist (broadcastInDim S128x256 ![] bcast_S_S128x256 (constantI S_ 32 0#32)))
    (cmpi .slt dist (broadcastInDim S128x256 ![] bcast_S_S128x256 (constantI S_ 32 128#32)))

set_option maxHeartbeats 4000000 in
theorem V_bias (m : (ℓ : Loc nD τ sig) → Buf (Elt Ideal) ℓ) (c : Dev nD) :
    V m c main_v52 = select
      (broadcastInDim S16x128x256 ![0, 1, 2] bcast_S1x128x256_S16x128x256_0_1_2
        (broadcastInDim S1x128x256 ![1, 2] bcast_S128x256_S1x128x256_1_2 kmask))
      (hb (m ((c : Thread nD τ).loc main_arg3)))
      (broadcastInDim S16x128x256 ![] bcast_S_S16x128x256 (constant (F := Ideal) S_ .f32 0xFF800000#32 : Vec Ideal S_ .f32)) := by
  show StableHlo.after (List.flatten [hostOps0, hostOps0_1, hostOps0_2, hostOps0_3]) _ (Proc.devRef .tc main_v52) = _
  simp only [List.flatten_cons, List.flatten_nil, List.append_nil]
  after_reads_simp
  rfl

/-- Every bias of a head is an entry of the table. -/
theorem hb_mem (x3 : Vec Ideal S32x16 .f32) (i : S16x128x256.Idx) : ∃ k : S32x16.Idx, hb x3 i = x3 k := by
  unfold hb
  rw [Cert.ReferenceIdeal.Read.val_main_v49_apply]
  exact ⟨_, rfl⟩

end Cert.Attn.Kern

end
-- ==== Proof.Inputs.lean ====
/- The blocks a point reads are rows of the launched arrays, and the arrays are real. -/
module

public import proofs.«01_k».proof.Proof.Bias
public import proofs.«01_k».proof.Proof.Fold
public import Idealize.ShloMosaic.Lib.WordCmp

@[expose] public section

set_option maxRecDepth 16384

noncomputable section

namespace Cert.Attn.Kern

open Idealize.ShloMosaic Idealize.ShloMosaic.ValueIdx Idealize.ShloMosaic.TcCoe
open Idealize.SL Idealize.SL.Sem
open Cert.KernelIdeal Cert.KernelIdeal.Gen Cert.KernelIdeal.Value

/-- Whether a word of the distance lies in the window. -/
theorem word_win (i j : ℕ) (hi : i < 128) (hj : j < 256) :
    IntOp.andi (IntOp.cmpi .sge (BitVec.ofNat 32 i + 128#32 - BitVec.ofNat 32 j) 0#32)
      (IntOp.cmpi .slt (BitVec.ofNat 32 i + 128#32 - BitVec.ofNat 32 j) 128#32)
      = BitVec.ofBool (decide (i < j ∧ j ≤ i + 128)) := by
  have e : (BitVec.ofNat 32 i + 128#32 - BitVec.ofNat 32 j).toInt = (i : ℤ) + 128 - j := by
    have ei : (BitVec.ofNat 32 i).toInt = (i : ℤ) := by
      rw [BitVec.toInt_eq_toNat_of_lt (by rw [BitVec.toNat_ofNat]; omega), BitVec.toNat_ofNat]; omega
    have ej : (BitVec.ofNat 32 j).toInt = (j : ℤ) := by
      rw [BitVec.toInt_eq_toNat_of_lt (by rw [BitVec.toNat_ofNat]; omega), BitVec.toNat_ofNat]; omega
    have e8 : (128#32).toInt = 128 := by decide
    rw [BitVec.toInt_sub, BitVec.toInt_add, ei, ej, e8, Int.bmod, Int.bmod]
    omega
  have e0 : IntOp.cmpi .sge (BitVec.ofNat 32 i + 128#32 - BitVec.ofNat 32 j) 0#32 = BitVec.ofBool (decide (j ≤ i + 128)) := by
    show BitVec.ofBool (BitVec.sle 0#32 _) = _
    rw [BitVec.sle_eq_decide, e]
    congr 1
    simp
    omega
  have e1 : IntOp.cmpi .slt (BitVec.ofNat 32 i + 128#32 - BitVec.ofNat 32 j) 128#32 = BitVec.ofBool (decide (i < j)) := by
    show BitVec.ofBool (BitVec.slt _ 128#32) = _
    rw [BitVec.slt_eq_decide, e]
    congr 1
    have : (128#32).toInt = 128 := by decide
    rw [this]
    simp
    omega
  rw [e0, e1, WordCmp.andi_ofBool]
  congr 1
  by_cases h1 : i < j <;> by_cases h2 : j ≤ i + 128 <;> simp [h1, h2]

theorem kmask_word (i : Fin 128) (j : Fin 256) :
    kmask (ix2 i j) = IntOp.andi (IntOp.cmpi .sge (dist (ix2 i j)) 0#32) (IntOp.cmpi .slt (dist (ix2 i j)) 128#32) := rfl

theorem kmask_apply (i : Fin 128) (j : Fin 256) :
    kmask (ix2 i j) = BitVec.ofBool (decide (i.val < j.val ∧ j.val ≤ i.val + 128)) := by
  exact (kmask_word i j).trans (word_win i.val j.val i.isLt j.isLt)

/-- The launched bias, element by element. -/
theorem V_bias_apply (m : (ℓ : Loc nD τ sig) → Buf (Elt Ideal) ℓ) (c : Dev nD) (h : Fin 16) (i : Fin 128) (j : Fin 256) :
    (V m c main_v52 : Vec Ideal S16x128x256 .f32) (ix3 h i j)
      = if i.val < j.val ∧ j.val ≤ i.val + 128 then hb (m ((c : Thread nD τ).loc main_arg3)) (ix3 h i j) else ⊥ := by
  rw [V_bias]
  show Scalar.select (kmask _) _ _ = _
  refine (congrArg (fun w => Scalar.select w _ _) ((congrArg kmask (?_ : _ = ix2 i j)).trans (kmask_apply i j))).trans ?_
  · funext d
    match d with
    | ⟨0, _⟩ => rfl
    | ⟨1, _⟩ => rfl
  · rw [sel_ofBool]
    exact if_congr Iff.rfl rfl ofBits_bot

/-- The arrays as real functions. -/
def args (x0 : Vec Ideal S4096x1024 .bf16) (x1 : Vec Ideal S4096x512 .bf16) (x2 : Vec Ideal S4096x1024 .bf16)
    (x3 : Vec Ideal S32x16 .f32) (x4 : Vec Ideal S1x16 .f32) : Args where
  q := re2 x0
  kv := re2 x1
  dO := re2 x2
  b := fun h i j => if hh : h < 16 ∧ i < 128 ∧ j < 256 then
    EReal.toReal (hb x3 (ix3 ⟨h, hh.1⟩ ⟨i, hh.2.1⟩ ⟨j, hh.2.2⟩)) else 0
  sk := fun h => re2 x4 0 h

/-- Every entry is a real number. -/
def Fin' {S : Shape} (x : S.Idx → EReal) : Prop := ∀ i, x i ≠ ⊥ ∧ x i ≠ ⊤

theorem re2_coe {a b : ℕ} (x : (⟨2, ![a, b]⟩ : Shape).Idx → EReal) (hx : Fin' x) (r : Fin a) (c : Fin b) :
    x (ix2 r c) = (re2 x r.val c.val : EReal) := by
  unfold re2
  rw [dif_pos ⟨r.isLt, c.isLt⟩]
  refine Eq.trans (congrArg x ?_) (EReal.coe_toReal (hx _).2 (hx _).1).symm
  funext d
  match d with
  | ⟨0, _⟩ => rfl
  | ⟨1, _⟩ => rfl

theorem b_coe (x0 : Vec Ideal S4096x1024 .bf16) (x1 : Vec Ideal S4096x512 .bf16) (x2 : Vec Ideal S4096x1024 .bf16)
    (x3 : Vec Ideal S32x16 .f32) (x4 : Vec Ideal S1x16 .f32) (h3 : Fin' (S := S32x16) x3) (h : Fin 16) (i : Fin 128) (j : Fin 256) :
    hb x3 (ix3 h i j) = ((args x0 x1 x2 x3 x4).b h.val i.val j.val : EReal) := by
  obtain ⟨k, hk⟩ := hb_mem x3 (ix3 h i j)
  have h' := h3 k
  rw [← hk] at h'
  show _ = ((if hh : h.val < 16 ∧ i.val < 128 ∧ j.val < 256 then _ else 0 : ℝ) : EReal)
  rw [dif_pos ⟨h.isLt, i.isLt, j.isLt⟩]
  exact (EReal.coe_toReal h'.2 h'.1).symm

section
variable (m : (ℓ : Loc nD τ sig) → Buf (Elt Ideal) ℓ) (c : Dev nD)

abbrev a0 : Vec Ideal S4096x1024 .bf16 := m ((c : Thread nD τ).loc main_arg0)
abbrev a1 : Vec Ideal S4096x512 .bf16 := m ((c : Thread nD τ).loc main_arg1)
abbrev a2 : Vec Ideal S4096x1024 .bf16 := m ((c : Thread nD τ).loc main_arg2)
abbrev a3 : Vec Ideal S32x16 .f32 := m ((c : Thread nD τ).loc main_arg3)
abbrev a4 : Vec Ideal S1x16 .f32 := m ((c : Thread nD τ).loc main_arg4)

theorem i0 : ∀ t : Fin grid0.N, win0_0.index t (0 : Fin 2) = 0 ∧ win0_0.index t (1 : Fin 2) = 0 := by decide +kernel
theorem i1 : ∀ t : Fin grid0.N, win0_1.index t (0 : Fin 2) = t.val ∧ win0_1.index t (1 : Fin 2) = 0 := by decide +kernel
theorem i2 : ∀ t : Fin grid0.N, win0_2.index t (0 : Fin 2) = t.val ∧ win0_2.index t (1 : Fin 2) = 0 := by decide +kernel
theorem i3 : ∀ t : Fin grid0.N, win0_3.index t (0 : Fin 2) = t.val ∧ win0_3.index t (1 : Fin 2) = 0 := by decide +kernel
theorem i4 : ∀ t : Fin grid0.N, win0_4.index t (0 : Fin 2) = t.val - 1 ∧ win0_4.index t (1 : Fin 2) = 0 := by decide +kernel
theorem i5 : ∀ t : Fin grid0.N, win0_5.index t (0 : Fin 3) = 0 ∧ win0_5.index t (1 : Fin 3) = 0 ∧ win0_5.index t (2 : Fin 3) = 0 := by
  decide +kernel
theorem i6 : ∀ t : Fin grid0.N, (grid0.coords t 0).val = t.val := by decide +kernel

theorem blk0 (t : Fin cfg0.N) (h : Fin 16) : (iblk m c 0 t : Vec Ideal S1x16 .f32) (ix2 0 h) = a4 m c (ix2 0 h) := by
  show V m c main_arg4 _ = _
  rw [V_main_arg4]
  congr 1
  funext d
  match d with
  | ⟨0, _⟩ => rfl
  | ⟨1, _⟩ => exact Fin.ext (show win0_0.index t (1 : Fin 2) * 16 + 1 * h.val = _ by rw [(i0 t).2]; exact (by omega : 0 * 16 + 1 * h.val = h.val))

theorem blk1 (t : Fin cfg0.N) (r : Fin 128) (k : Fin 1024) (hr : 128 * t.val + r.val < 4096) :
    (iblk m c 1 t : Vec Ideal S128x1024 .bf16) (ix2 r k) = a0 m c (ix2 ⟨128 * t.val + r.val, hr⟩ k) := by
  show V m c main_arg0 _ = _
  rw [V_main_arg0]
  congr 1
  funext d
  match d with
  | ⟨0, _⟩ => exact Fin.ext (show win0_1.index t (0 : Fin 2) * 128 + 1 * r.val = _ by rw [(i1 t).1]; exact (by omega : t.val * 128 + 1 * r.val = 128 * t.val + r.val))
  | ⟨1, _⟩ => exact Fin.ext (show win0_1.index t (1 : Fin 2) * 1024 + 1 * k.val = _ by rw [(i1 t).2]; exact (by omega : 0 * 1024 + 1 * k.val = k.val))

theorem blk2 (t : Fin cfg0.N) (r : Fin 128) (k : Fin 1024) (hr : 128 * t.val + r.val < 4096) :
    (iblk m c 2 t : Vec Ideal S128x1024 .bf16) (ix2 r k) = a2 m c (ix2 ⟨128 * t.val + r.val, hr⟩ k) := by
  show V m c main_arg2 _ = _
  rw [V_main_arg2]
  congr 1
  funext d
  match d with
  | ⟨0, _⟩ => exact Fin.ext (show win0_2.index t (0 : Fin 2) * 128 + 1 * r.val = _ by rw [(i2 t).1]; exact (by omega : t.val * 128 + 1 * r.val = 128 * t.val + r.val))
  | ⟨1, _⟩ => exact Fin.ext (show win0_2.index t (1 : Fin 2) * 1024 + 1 * k.val = _ by rw [(i2 t).2]; exact (by omega : 0 * 1024 + 1 * k.val = k.val))

theorem blk3 (t : Fin cfg0.N) (r : Fin 128) (k : Fin 512) (hr : 128 * t.val + r.val < 4096) :
    (iblk m c 3 t : Vec Ideal S128x512 .bf16) (ix2 r k) = a1 m c (ix2 ⟨128 * t.val + r.val, hr⟩ k) := by
  show V m c main_arg1 _ = _
  rw [V_main_arg1]
  congr 1
  funext d
  match d with
  | ⟨0, _⟩ => exact Fin.ext (show win0_3.index t (0 : Fin 2) * 128 + 1 * r.val = _ by rw [(i3 t).1]; exact (by omega : t.val * 128 + 1 * r.val = 128 * t.val + r.val))
  | ⟨1, _⟩ => exact Fin.ext (show win0_3.index t (1 : Fin 2) * 512 + 1 * k.val = _ by rw [(i3 t).2]; exact (by omega : 0 * 512 + 1 * k.val = k.val))

theorem blk4 (t : Fin cfg0.N) (r : Fin 128) (k : Fin 512) (hr : 128 * (t.val - 1) + r.val < 4096) :
    (iblk m c 4 t : Vec Ideal S128x512 .bf16) (ix2 r k) = a1 m c (ix2 ⟨128 * (t.val - 1) + r.val, hr⟩ k) := by
  show V m c main_arg1 _ = _
  rw [V_main_arg1]
  congr 1
  funext d
  match d with
  | ⟨0, _⟩ => exact Fin.ext (show win0_4.index t (0 : Fin 2) * 128 + 1 * r.val = _ by rw [(i4 t).1]; exact (by omega : (t.val - 1) * 128 + 1 * r.val = 128 * (t.val - 1) + r.val))
  | ⟨1, _⟩ => exact Fin.ext (show win0_4.index t (1 : Fin 2) * 512 + 1 * k.val = _ by rw [(i4 t).2]; exact (by omega : 0 * 512 + 1 * k.val = k.val))

theorem blk5 (t : Fin cfg0.N) (h : Fin 16) (r : Fin 128) (j : Fin 256) :
    (iblk m c 5 t : Vec Ideal S16x128x256 .f32) (ix3 h r j) = (V m c main_v52 : Vec Ideal S16x128x256 .f32) (ix3 h r j) := by
  show V m c main_v52 _ = _
  congr 1
  funext d
  match d with
  | ⟨0, _⟩ => exact Fin.ext (show win0_5.index t (0 : Fin 3) * 16 + 1 * h.val = _ by rw [(i5 t).1]; exact (by omega : 0 * 16 + 1 * h.val = h.val))
  | ⟨1, _⟩ => exact Fin.ext (show win0_5.index t (1 : Fin 3) * 128 + 1 * r.val = _ by rw [(i5 t).2.1]; exact (by omega : 0 * 128 + 1 * r.val = r.val))
  | ⟨2, _⟩ => exact Fin.ext (show win0_5.index t (2 : Fin 3) * 256 + 1 * j.val = _ by rw [(i5 t).2.2]; exact (by omega : 0 * 256 + 1 * j.val = j.val))

/-- The launched arrays as real functions. -/
abbrev argsOf : Args := args (a0 m c) (a1 m c) (a2 m c) (a3 m c) (a4 m c)

theorem inputs (h0 : Fin' (S := S4096x1024) (a0 m c)) (h1 : Fin' (S := S4096x512) (a1 m c)) (h2 : Fin' (S := S4096x1024) (a2 m c))
    (h3 : Fin' (S := S32x16) (a3 m c)) (h4 : Fin' (S := S1x16) (a4 m c)) : Inputs m c (argsOf m c) := by
  intro t
  have ht : t.val < 32 := t.isLt
  refine ⟨ht, i6 t, fun h => ?_, fun r k => ?_, fun r k => ?_, fun r k => ?_, fun r k => ?_, fun h r j => ?_⟩
  · exact (blk0 m c t h).trans (re2_coe (a4 m c) h4 0 h)
  · exact (blk1 m c t r k (by omega)).trans (re2_coe (a0 m c) h0 _ k)
  · exact (blk2 m c t r k (by omega)).trans (re2_coe (a2 m c) h2 _ k)
  · exact (blk3 m c t r k (by omega)).trans (re2_coe (a1 m c) h1 _ k)
  · exact (blk4 m c t r k (by omega)).trans (re2_coe (a1 m c) h1 _ k)
  · refine (blk5 m c t h r j).trans ((V_bias_apply m c h r j).trans ?_)
    exact if_congr Iff.rfl (b_coe (a0 m c) (a1 m c) (a2 m c) (a3 m c) (a4 m c) h3 h r j) rfl
end

end Cert.Attn.Kern

end
-- ==== Proof.RefBand.lean ====
/- The reference's inputs of the scores: its padded bands of keys and values, its window, the scores themselves. -/
module

public import proofs.«01_k».proof.Proof.Inputs
public import Idealize.ShloMosaic.Lib.KernelVsHost
public import Idealize.ShloMosaic.Lib.TwoAxisContraction
public import Idealize.ShloMosaic.Lib.IdealHost

@[expose] public section

set_option maxRecDepth 16384

noncomputable section

namespace Cert.Attn.Ref

open Idealize.ShloMosaic Idealize.ShloMosaic.ValueIdx Idealize.ShloMosaic.TcCoe
open Idealize.SL Idealize.SL.Sem
open Cert.ReferenceIdeal Cert.ReferenceIdeal.Gen Cert.ReferenceIdeal.Read

/-- The arrays are the real ones of `A`. -/
structure Holds (A : Args) (x0 : Vec Ideal S4096x1024 .bf16) (x1 : Vec Ideal S4096x512 .bf16) (x2 : Vec Ideal S4096x1024 .bf16)
    (x3 : Vec Ideal S32x16 .f32) (x4 : Vec Ideal S1x16 .f32) : Prop where
  q : ∀ i : S4096x1024.Idx, x0 i = (A.q (i 0).val (i 1).val : EReal)
  kv : ∀ i : S4096x512.Idx, x1 i = (A.kv (i 0).val (i 1).val : EReal)
  dO : ∀ i : S4096x1024.Idx, x2 i = (A.dO (i 0).val (i 1).val : EReal)
  b : ∀ i : S16x128x256.Idx, val_main_v49 (F := Ideal) x3 i = (A.b (i 0).val (i 1).val (i 2).val : EReal)
  sk : ∀ i : S1x16.Idx, x4 i = (A.sk (i 1).val : EReal)

/-- The band of keys, zero before the first block. -/
def kbR (A : Args) (n j e d : ℕ) : ℝ := if n = 0 ∧ j < 128 then 0 else A.kv (krow n j) (64 * e + d)

/-- The band of values, zero before the first block. -/
def vbR (A : Args) (n j e d : ℕ) : ℝ := if n = 0 ∧ j < 128 then 0 else A.kv (krow n j) (256 + 64 * e + d)

theorem at2 (f : ℕ → ℕ → ℝ) {a a' b b' : ℕ} (ha : a = a') (hb : b = b') : ((f a b : ℝ) : EReal) = (f a' b' : EReal) := by
  rw [ha, hb]

variable {A : Args} {x0 : Vec Ideal S4096x1024 .bf16} {x1 : Vec Ideal S4096x512 .bf16} {x2 : Vec Ideal S4096x1024 .bf16}
  {x3 : Vec Ideal S32x16 .f32} {x4 : Vec Ideal S1x16 .f32}

section
variable (H : Holds A x0 x1 x2 x3 x4)
include H

theorem v4 (i : S32x128x4x64.Idx) :
    val_main_v4 (F := Ideal) x1 i = (A.kv (128 * (i 0).val + (i 1).val) (64 * (i 2).val + (i 3).val) : EReal) := by
  have h1 : (i 1).val < 128 := (i 1).isLt
  have h2 : (i 2).val < 4 := (i 2).isLt
  have h3 : (i 3).val < 64 := (i 3).isLt
  refine (val_main_v4_apply x1 i).trans ((val_main_v3_apply x1 _).trans ((H.kv _).trans (at2 A.kv ?_ ?_)))
  · show ((((i 0).val * 128 + (i 1).val) * 4 + (i 2).val) * 64 + (i 3).val) / 256 = _
    omega
  · show ((((i 0).val * 128 + (i 1).val) * 4 + (i 2).val) * 64 + (i 3).val) % 256 = _
    omega

theorem v6 (i : S32x128x4x64.Idx) :
    val_main_v6 (F := Ideal) x1 i = (A.kv (128 * (i 0).val + (i 1).val) (256 + 64 * (i 2).val + (i 3).val) : EReal) := by
  have h1 : (i 1).val < 128 := (i 1).isLt
  have h2 : (i 2).val < 4 := (i 2).isLt
  have h3 : (i 3).val < 64 := (i 3).isLt
  refine (val_main_v6_apply x1 i).trans ((val_main_v5_apply x1 _).trans ((H.kv _).trans (at2 A.kv ?_ ?_)))
  · show ((((i 0).val * 128 + (i 1).val) * 4 + (i 2).val) * 64 + (i 3).val) / 256 = _
    omega
  · show 256 + ((((i 0).val * 128 + (i 1).val) * 4 + (i 2).val) * 64 + (i 3).val) % 256 = _
    omega

theorem v8 (i : S32x128x4x64.Idx) :
    val_main_v8 (F := Ideal) x1 i = (kbR A (i 0).val (i 1).val (i 2).val (i 3).val : EReal) := by
  have h0 : (i 0).val < 32 := (i 0).isLt
  have h1 : (i 1).val < 128 := (i 1).isLt
  refine (val_main_v8_apply x1 i).trans ?_
  unfold val_main_v7 kbR
  by_cases h : (i 0).val = 0
  · rw [if_pos ⟨h, h1⟩]
    refine (pad_apply_of_not_inside _ _ _ _ _ _ h_S_ _ (0 : Fin 4) ?_).trans ?_
    · rintro ⟨k, -, -⟩
      have k' : 1 ≤ (i 0).val := k
      omega
    · exact sitofp_zero (φ := .f32)
  · rw [if_neg (fun k => h k.1)]
    let k : S32x128x4x64.Idx := fun a => match a with
      | ⟨0, _⟩ => ⟨(i 0).val - 1, by show _ < 32; omega⟩
      | ⟨1, _⟩ => i 1
      | ⟨2, _⟩ => i 2
      | ⟨3, _⟩ => i 3
    refine (pad_apply_of_inside _ _ _ _ _ _ h_S_ _ k ?_).trans ((v4 H k).trans (at2 A.kv ?_ rfl))
    · intro a
      match a with
      | ⟨0, _⟩ => show (i 0).val = 1 + ((i 0).val - 1) * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    · show 128 * ((i 0).val - 1) + (i 1).val = _
      unfold krow
      rw [if_pos h1]

theorem v11 (i : S32x128x4x64.Idx) :
    val_main_v11 (F := Ideal) x1 i = (vbR A (i 0).val (i 1).val (i 2).val (i 3).val : EReal) := by
  have h0 : (i 0).val < 32 := (i 0).isLt
  have h1 : (i 1).val < 128 := (i 1).isLt
  refine (val_main_v11_apply x1 i).trans ?_
  unfold val_main_v10 vbR
  by_cases h : (i 0).val = 0
  · rw [if_pos ⟨h, h1⟩]
    refine (pad_apply_of_not_inside _ _ _ _ _ _ h_S_ _ (0 : Fin 4) ?_).trans ?_
    · rintro ⟨k, -, -⟩
      have k' : 1 ≤ (i 0).val := k
      omega
    · exact sitofp_zero (φ := .f32)
  · rw [if_neg (fun k => h k.1)]
    let k : S32x128x4x64.Idx := fun a => match a with
      | ⟨0, _⟩ => ⟨(i 0).val - 1, by show _ < 32; omega⟩
      | ⟨1, _⟩ => i 1
      | ⟨2, _⟩ => i 2
      | ⟨3, _⟩ => i 3
    refine (pad_apply_of_inside _ _ _ _ _ _ h_S_ _ k ?_).trans ((v6 H k).trans (at2 A.kv ?_ rfl))
    · intro a
      match a with
      | ⟨0, _⟩ => show (i 0).val = 1 + ((i 0).val - 1) * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    · show 128 * ((i 0).val - 1) + (i 1).val = _
      unfold krow
      rw [if_pos h1]

theorem v9 (i : S32x256x4x64.Idx) :
    val_main_v9 (F := Ideal) x1 i = (kbR A (i 0).val (i 1).val (i 2).val (i 3).val : EReal) := by
  unfold val_main_v9
  have h1 : (i 1).val < 256 := (i 1).isLt
  by_cases h : (i 1).val < 128
  · let k : S32x128x4x64.Idx := fun a => match a with
      | ⟨0, _⟩ => i 0
      | ⟨1, _⟩ => ⟨(i 1).val, h⟩
      | ⟨2, _⟩ => i 2
      | ⟨3, _⟩ => i 3
    refine (concatenate_pair_apply_left (t := S32x256x4x64) (s₁ := S32x128x4x64) (s₂ := S32x128x4x64) 1 _ _ _ i rfl k ?_).trans (v8 H k)
    intro b
    match b with
    | ⟨0, _⟩ => rfl
    | ⟨1, _⟩ => rfl
    | ⟨2, _⟩ => rfl
    | ⟨3, _⟩ => rfl
  · let k : S32x128x4x64.Idx := fun a => match a with
      | ⟨0, _⟩ => i 0
      | ⟨1, _⟩ => ⟨(i 1).val - 128, by show _ < 128; omega⟩
      | ⟨2, _⟩ => i 2
      | ⟨3, _⟩ => i 3
    refine (concatenate_pair_apply_right (t := S32x256x4x64) (s₁ := S32x128x4x64) (s₂ := S32x128x4x64) 1 _ _ _ i rfl rfl k ?_ ?_).trans
      ((v4 H k).trans ?_)
    · intro b hb
      match b with
      | ⟨0, _⟩ => rfl
      | ⟨1, _⟩ => exact absurd rfl hb
      | ⟨2, _⟩ => rfl
      | ⟨3, _⟩ => rfl
    · show (i 1).val - 128 + 128 = (i 1).val
      omega
    · unfold kbR
      rw [if_neg (fun k => h k.2)]
      refine at2 A.kv ?_ rfl
      show 128 * (i 0).val + ((i 1).val - 128) = _
      unfold krow
      rw [if_neg h]

theorem v12 (i : S32x256x4x64.Idx) :
    val_main_v12 (F := Ideal) x1 i = (vbR A (i 0).val (i 1).val (i 2).val (i 3).val : EReal) := by
  unfold val_main_v12
  have h1 : (i 1).val < 256 := (i 1).isLt
  by_cases h : (i 1).val < 128
  · let k : S32x128x4x64.Idx := fun a => match a with
      | ⟨0, _⟩ => i 0
      | ⟨1, _⟩ => ⟨(i 1).val, h⟩
      | ⟨2, _⟩ => i 2
      | ⟨3, _⟩ => i 3
    refine (concatenate_pair_apply_left (t := S32x256x4x64) (s₁ := S32x128x4x64) (s₂ := S32x128x4x64) 1 _ _ _ i rfl k ?_).trans (v11 H k)
    intro b
    match b with
    | ⟨0, _⟩ => rfl
    | ⟨1, _⟩ => rfl
    | ⟨2, _⟩ => rfl
    | ⟨3, _⟩ => rfl
  · let k : S32x128x4x64.Idx := fun a => match a with
      | ⟨0, _⟩ => i 0
      | ⟨1, _⟩ => ⟨(i 1).val - 128, by show _ < 128; omega⟩
      | ⟨2, _⟩ => i 2
      | ⟨3, _⟩ => i 3
    refine (concatenate_pair_apply_right (t := S32x256x4x64) (s₁ := S32x128x4x64) (s₂ := S32x128x4x64) 1 _ _ _ i rfl rfl k ?_ ?_).trans
      ((v6 H k).trans ?_)
    · intro b hb
      match b with
      | ⟨0, _⟩ => rfl
      | ⟨1, _⟩ => exact absurd rfl hb
      | ⟨2, _⟩ => rfl
      | ⟨3, _⟩ => rfl
    · show (i 1).val - 128 + 128 = (i 1).val
      omega
    · unfold vbR
      rw [if_neg (fun k => h k.2)]
      refine at2 A.kv ?_ rfl
      show 128 * (i 0).val + ((i 1).val - 128) = _
      unfold krow
      rw [if_neg h]

theorem v50 (i : S32x128x4x4x64.Idx) :
    val_main_v50 (F := Ideal) x0 i = (A.q (128 * (i 0).val + (i 1).val) (64 * (4 * (i 2).val + (i 3).val) + (i 4).val) : EReal) := by
  have h1 : (i 1).val < 128 := (i 1).isLt
  have h2 : (i 2).val < 4 := (i 2).isLt
  have h3 : (i 3).val < 4 := (i 3).isLt
  have h4 : (i 4).val < 64 := (i 4).isLt
  refine (val_main_v50_apply x0 i).trans ((H.q _).trans (at2 A.q ?_ ?_))
  · show (((((i 0).val * 128 + (i 1).val) * 4 + (i 2).val) * 4 + (i 3).val) * 64 + (i 4).val) / 1024 = _
    omega
  · show (((((i 0).val * 128 + (i 1).val) * 4 + (i 2).val) * 4 + (i 3).val) * 64 + (i 4).val) % 1024 = _
    omega

theorem v140 (i : S32x128x4x4x64.Idx) :
    val_main_v140 (F := Ideal) x2 i = (A.dO (128 * (i 0).val + (i 1).val) (64 * (4 * (i 2).val + (i 3).val) + (i 4).val) : EReal) := by
  have h1 : (i 1).val < 128 := (i 1).isLt
  have h2 : (i 2).val < 4 := (i 2).isLt
  have h3 : (i 3).val < 4 := (i 3).isLt
  have h4 : (i 4).val < 64 := (i 4).isLt
  refine (val_main_v140_apply x2 i).trans ((H.dO _).trans (at2 A.dO ?_ ?_))
  · show (((((i 0).val * 128 + (i 1).val) * 4 + (i 2).val) * 4 + (i 3).val) * 64 + (i 4).val) / 1024 = _
    omega
  · show (((((i 0).val * 128 + (i 1).val) * 4 + (i 2).val) * 4 + (i 3).val) * 64 + (i 4).val) % 1024 = _
    omega

/-- The reference's score before its window. -/
def scR (A : Args) (n e g r j : ℕ) : ℝ :=
  (∑ d : Fin 64, kbR A n j e d.val * A.q (128 * n + r) (64 * (4 * e + g) + d.val)) * (1 / 8) + A.b (4 * e + g) r j

/-- The reference's cotangent of a weight. -/
def dpR (A : Args) (n e g r j : ℕ) : ℝ :=
  ∑ d : Fin 64, A.dO (128 * n + r) (64 * (4 * e + g) + d.val) * vbR A n j e d.val

theorem v51 (i : S32x4x256x128x4.Idx) : val_main_v51 (F := Ideal) x0 x1 i
    = ((∑ d : Fin 64, kbR A (i 0).val (i 2).val (i 1).val d.val * A.q (128 * (i 0).val + (i 3).val) (64 * (4 * (i 1).val + (i 4).val) + d.val) : ℝ) : EReal) := by
  refine (val_main_v51_apply x0 x1 i).trans (sum_coe _ _ _ fun d => ?_)
  rw [EReal.coe_mul]
  exact congrArg₂ _ (v9 H _) (v50 H _)

theorem v90 (i : S32x4x4x128x256.Idx) : val_main_v90 (F := Ideal) x3 i = (A.b (4 * (i 1).val + (i 2).val) (i 3).val (i 4).val : EReal) := by
  have h1 : (i 1).val < 4 := (i 1).isLt
  have h2 : (i 2).val < 4 := (i 2).isLt
  have h3 : (i 3).val < 128 := (i 3).isLt
  have h4 : (i 4).val < 256 := (i 4).isLt
  refine (val_main_v90_apply x3 i).trans ((val_main_v89_apply x3 _).trans ((val_main_v88_apply x3 _).trans ((H.b _).trans ?_)))
  have e0 : ((((i 1).val * 4 + (i 2).val) * 128 + (i 3).val) * 256 + (i 4).val) / 32768 = 4 * (i 1).val + (i 2).val := by omega
  have e1 : ((((i 1).val * 4 + (i 2).val) * 128 + (i 3).val) * 256 + (i 4).val) / 256 % 128 = (i 3).val := by omega
  have e2 : ((((i 1).val * 4 + (i 2).val) * 128 + (i 3).val) * 256 + (i 4).val) % 256 = (i 4).val := by omega
  show ((A.b (((((i 1).val * 4 + (i 2).val) * 128 + (i 3).val) * 256 + (i 4).val) / 32768)
    (((((i 1).val * 4 + (i 2).val) * 128 + (i 3).val) * 256 + (i 4).val) / 256 % 128)
    (((((i 1).val * 4 + (i 2).val) * 128 + (i 3).val) * 256 + (i 4).val) % 256) : ℝ) : EReal) = _
  rw [e0, e1, e2]

theorem v91 (i : S32x4x4x128x256.Idx) :
    val_main_v91 (F := Ideal) x0 x1 x3 i = (scR A (i 0).val (i 1).val (i 2).val (i 3).val (i 4).val : EReal) := by
  refine (val_main_v91_apply x0 x1 x3 i).trans ?_
  show val_main_v52 (F := Ideal) x0 x1 i * val_main_v53 (F := Ideal) i + val_main_v90 (F := Ideal) x3 i = _
  unfold scR
  rw [EReal.coe_add, EReal.coe_mul]
  refine congrArg₂ _ (congrArg₂ _ ?_ ?_) (v90 H i)
  · exact (val_main_v52_apply x0 x1 i).trans (v51 H _)
  · exact (val_main_v53_apply i).trans Kern.ofBits_eighth

theorem v142 (i : S32x4x4x128x256.Idx) :
    val_main_v142 (F := Ideal) x1 x2 i = (dpR A (i 0).val (i 1).val (i 2).val (i 3).val (i 4).val : EReal) := by
  refine (val_main_v142_apply x1 x2 i).trans (sum_coe _ _ _ fun d => ?_)
  rw [EReal.coe_mul]
  exact congrArg₂ _ ((val_main_v141_apply x2 _).trans (v140 H _)) (v12 H _)

theorem sinkv (i : S4x4x1x1.Idx) : val_main_v93 (F := Ideal) x4 i = (A.sk (4 * (i 0).val + (i 1).val) : EReal) := by
  have h0 : (i 0).val < 4 := (i 0).isLt
  have h1 : (i 1).val < 4 := (i 1).isLt
  have h2 : (i 2).val < 1 := (i 2).isLt
  have h3 : (i 3).val < 1 := (i 3).isLt
  refine (val_main_v93_apply x4 i).trans ((H.sk _).trans ?_)
  have e : ((((i 0).val * 4 + (i 1).val) * 1 + (i 2).val) * 1 + (i 3).val) % 16 = 4 * (i 0).val + (i 1).val := by omega
  show ((A.sk (((((i 0).val * 4 + (i 1).val) * 1 + (i 2).val) * 1 + (i 3).val) % 16) : ℝ) : EReal) = _
  rw [e]
end

/-- Inside the window the bands are the arrays' rows. -/
theorem scR_win (A : Args) (n e g r : ℕ) (hg : g < 4) (j : Fin 256) (h : win n r j = true) :
    scR A n e g r j.val = score A n (4 * e + g) r j := by
  unfold win at h
  have h' := of_decide_eq_true h
  unfold scR score
  rw [(by omega : (4 * e + g) / 4 = e)]
  congr 2
  refine Finset.sum_congr rfl fun d _ => ?_
  unfold kbR
  rw [if_neg (by omega), mul_comm]

theorem dpR_win (A : Args) (n e g r : ℕ) (hg : g < 4) (j : Fin 256) (h : win n r j = true) :
    dpR A n e g r j.val = dprob A n (4 * e + g) r j := by
  unfold win at h
  have h' := of_decide_eq_true h
  unfold dpR dprob
  rw [(by omega : (4 * e + g) / 4 = e)]
  refine Finset.sum_congr rfl fun d _ => ?_
  unfold vbR
  rw [if_neg (by omega)]

/-- The key's row is not before the first block. -/
theorem word_row (n j : ℕ) (hn : n < 32) (hj : j < 256) :
    IntOp.cmpi .sge ((BitVec.ofNat 32 n - 1#32) * 128#32 + BitVec.ofNat 32 j) 0#32 = BitVec.ofBool (decide (n = 0 → 128 ≤ j)) := by
  have en : (BitVec.ofNat 32 n).toInt = (n : ℤ) := by
    rw [BitVec.toInt_eq_toNat_of_lt (by rw [BitVec.toNat_ofNat]; omega), BitVec.toNat_ofNat]; omega
  have ej : (BitVec.ofNat 32 j).toInt = (j : ℤ) := by
    rw [BitVec.toInt_eq_toNat_of_lt (by rw [BitVec.toNat_ofNat]; omega), BitVec.toNat_ofNat]; omega
  have e1 : (1#32).toInt = 1 := by decide
  have e8 : (128#32).toInt = 128 := by decide
  have e : ((BitVec.ofNat 32 n - 1#32) * 128#32 + BitVec.ofNat 32 j).toInt = ((n : ℤ) - 1) * 128 + j := by
    rw [BitVec.toInt_add, BitVec.toInt_mul, BitVec.toInt_sub, en, ej, e1, e8]
    simp only [Int.bmod]
    omega
  show BitVec.ofBool (BitVec.sle 0#32 _) = _
  rw [BitVec.sle_eq_decide, e]
  have z : (0#32).toInt = 0 := by decide
  rw [z]
  refine congrArg BitVec.ofBool (decide_eq_decide.mpr ⟨fun h h0 => ?_, fun h => ?_⟩)
  · omega
  · by_cases h0 : n = 0
    · have := h h0
      omega
    · omega

/-- The reference's window. -/
theorem mask (i : S32x4x4x128x256.Idx) :
    val_main_v92_1 (F := Ideal) i = BitVec.ofBool (win (i 0).val (i 3).val (i 4)) := by
  have h0 : (i 0).val < 32 := (i 0).isLt
  have h3 : (i 3).val < 128 := (i 3).isLt
  have h4 : (i 4).val < 256 := (i 4).isLt
  refine (val_main_v92_1_apply i).trans ((val_main_v87_apply _).trans ((val_main_v86_apply _).trans ?_))
  have ea : val_main_v84 (F := Ideal) (idx_main_v87 (idx_main_v92_1 i)) = BitVec.ofBool (decide ((i 3).val < (i 4).val ∧ (i 4).val ≤ (i 3).val + 128)) := by
    refine Eq.trans ?_ (Kern.word_win (i 3).val (i 4).val h3 h4)
    exact ((val_main_v84_apply _).trans ((val_main_v80_apply _).trans rfl))
  have eb : val_main_v85 (F := Ideal) (idx_main_v87 (idx_main_v92_1 i)) = BitVec.ofBool (decide ((i 0).val = 0 → 128 ≤ (i 4).val)) := by
    refine Eq.trans ?_ (word_row (i 0).val (i 4).val h0 h4)
    exact ((val_main_v85_apply _).trans ((val_main_v83_apply _).trans rfl))
  rw [ea, eb, WordCmp.andi_ofBool]
  unfold win
  congr 1
  by_cases k1 : (i 3).val < (i 4).val <;> by_cases k2 : (i 4).val ≤ (i 3).val + 128 <;>
    by_cases k3 : ((i 0).val = 0 → 128 ≤ (i 4).val) <;> simp [k1, k2, k3]

/-- The reference's scores. -/
theorem scores (H : Holds A x0 x1 x2 x3 x4) (i : S32x4x4x128x256.Idx) : val_main_v92_0 (F := Ideal) x0 x1 x3 i
    = sc (win (i 0).val (i 3).val) (score A (i 0).val (4 * (i 1).val + (i 2).val) (i 3).val) (i 4) := by
  refine (val_main_v92_0_apply x0 x1 x3 i).trans ?_
  rw [mask, v91 H]
  unfold sc Scalar.select
  by_cases h : win (i 0).val (i 3).val (i 4) = true
  · have h2 : (i 2).val < 4 := (i 2).isLt
    rw [if_pos h, ← scR_win A _ _ _ _ h2 _ h, h]
    rfl
  · rw [if_neg h, Bool.not_eq_true _ |>.mp h]
    exact Kern.ofBits_bot

end Cert.Attn.Ref

end
-- ==== Proof.RefRow.lean ====
/- The reference's row: its weights and the cotangents of its scores. -/
module

public import proofs.«01_k».proof.Proof.RefBand

@[expose] public section

set_option maxRecDepth 16384

noncomputable section

namespace Cert.Attn.Ref

open Idealize.ShloMosaic Idealize.ShloMosaic.ValueIdx Idealize.ShloMosaic.TcCoe
open Idealize.SL Idealize.SL.Sem
open Cert.ReferenceIdeal Cert.ReferenceIdeal.Gen Cert.ReferenceIdeal.Read

/-! ## The row's functions, at block `n`, key head `e`, group `g`, row `r`. -/

section
variable (A : Args) (n e g r : ℕ)

abbrev rPE (j : Fin 256) : ℝ := pe (win n r) (score A n (4 * e + g) r) (A.sk (4 * e + g)) j
abbrev rES : ℝ := es (win n r) (score A n (4 * e + g) r) (A.sk (4 * e + g))
abbrev rDEN : ℝ := den (win n r) (score A n (4 * e + g) r) (A.sk (4 * e + g))
abbrev rMX : EReal := mx (win n r) (score A n (4 * e + g) r) (A.sk (4 * e + g))
abbrev rFM : EReal := (Finset.univ : Finset (Fin 256)).fold max ⊥ (sc (win n r) (score A n (4 * e + g) r))
/-- The sum the quotient's rule subtracts. -/
def rQ : ℝ := ∑ j : Fin 256, dprob A n (4 * e + g) r j * (1 / (rDEN A n e g r * rDEN A n e g r)) * rPE A n e g r j

theorem rDEN_ne : rDEN A n e g r ≠ 0 := den_ne _ _ _
end

theorem zero_word : (FloatOps.ofBits (F := Ideal) .f32 0x00000000#32 : EReal) = 0 := Ideal.ofBits_zero_f32
theorem one_word : (FloatOps.ofBits (F := Ideal) .f32 0x3F800000#32 : EReal) = ((1 : ℝ) : EReal) := by
  exact (Ideal.ofBits_one_f32 : Scalar.ofBits (F := Ideal) .f32 0x3F800000#32 = (1 : EReal))

/-- A cotangent of a weight meets the weight as if the bands were the arrays' rows. -/
theorem dp_pe (A : Args) (n e g r : ℕ) (hg : g < 4) (j : Fin 256) :
    dpR A n e g r j.val * rPE A n e g r j = dprob A n (4 * e + g) r j * rPE A n e g r j := by
  by_cases h : win n r j = true
  · rw [dpR_win A n e g r hg j h]
  · rw [show rPE A n e g r j = 0 from pe_masked _ _ _ _ (Bool.not_eq_true _ |>.mp h), mul_zero, mul_zero]

theorem dp_mul_pe (A : Args) (n e g r : ℕ) (hg : g < 4) (j : Fin 256) (z : ℝ) :
    dpR A n e g r j.val * z * rPE A n e g r j = dprob A n (4 * e + g) r j * z * rPE A n e g r j := by
  rw [mul_right_comm, dp_pe A n e g r hg j, mul_right_comm]

theorem dp_vjp (A : Args) (n e g r : ℕ) (hg : g < 4) (j : Fin 256) :
    (dpR A n e g r j.val * (1 / rDEN A n e g r) + -rQ A n e g r) * rPE A n e g r j = DS A n (4 * e + g) r j := by
  rw [add_mul, dp_mul_pe A n e g r hg j, ← add_mul]
  exact dsr_vjp _ _ _ _ _

/-- A value equals itself, read as a number. -/
theorem oeq_self (x : EReal) : FloatOps.uitofp (F := Ideal) .f32 (FloatOps.cmpf (F := Ideal) (φ := .f32) .oeq x x) = (1 : EReal) := by
  have h : FloatOps.cmpf (F := Ideal) (φ := .f32) .oeq x x = 1#1 := by
    show BitVec.ofBool (decide (x = x)) = 1#1
    rw [decide_eq_true rfl]; rfl
  rw [h]
  show (((1#1 : BitVec 1).toNat : ℝ) : EReal) = 1
  simp

variable {A : Args} {x0 : Vec Ideal S4096x1024 .bf16} {x1 : Vec Ideal S4096x512 .bf16} {x2 : Vec Ideal S4096x1024 .bf16}
  {x3 : Vec Ideal S32x16 .f32} {x4 : Vec Ideal S1x16 .f32} (H : Holds A x0 x1 x2 x3 x4)
include H

theorem r94 (i : S32x4x4x128.Idx) : val_main_v94 (F := Ideal) x0 x1 x3 i = rFM A (i 0).val (i 1).val (i 2).val (i 3).val := by
  have hr : S32x4x4x128x256.Reduces [4] S32x4x4x128 := by decide
  have h := congrFun (hostReduce_maximumf_eq_multiReduction (F := Ideal) (φ := .f32) (val_main_v92_0 (F := Ideal) x0 x1 x3) 0xFF800000#32
    reducesTo_S32x4x4x128x256_S32x4x4x128_d4 h_S_ hr (.inl rfl) rfl) i
  refine Eq.trans (show val_main_v94 (F := Ideal) x0 x1 x3 i = _ from h) ?_
  refine (Ideal.multiReduction_maximumf_single _ _ hr (.inl rfl) rfl i).trans ?_
  have e' : (FloatOps.ofBits (F := Ideal) .f32 0xFF800000#32 : EReal) = ⊥ := Kern.ofBits_bot
  refine congrArg₂ (fun b f => (Finset.univ : Finset (Fin 256)).fold max b f) e' (funext fun j => ?_)
  exact scores H _

theorem r100 (i : S32x4x4x128x1.Idx) : val_main_v100 (F := Ideal) x0 x1 x3 i = rFM A (i 0).val (i 1).val (i 2).val (i 3).val :=
  (val_main_v100_apply x0 x1 x3 i).trans (r94 H _)

theorem r103 (i : S32x4x4x128x1.Idx) : val_main_v103 (F := Ideal) x0 x1 x3 x4 i = rMX A (i 0).val (i 1).val (i 2).val (i 3).val := by
  refine (val_main_v103_apply x0 x1 x3 x4 i).trans ?_
  show max (val_main_v100 (F := Ideal) x0 x1 x3 i) (val_main_v102 (F := Ideal) x4 i) = _
  exact congrArg₂ max (r100 H i) ((val_main_v102_apply x4 i).trans ((val_main_v101_apply x4 _).trans (sinkv H _)))

theorem r124 (i : S32x4x4x128x256.Idx) :
    val_main_v124 (F := Ideal) x0 x1 x3 x4 i = (rPE A (i 0).val (i 1).val (i 2).val (i 3).val (i 4) : EReal) := by
  refine (val_main_v124_apply x0 x1 x3 x4 i).trans ?_
  show Ideal.exp (val_main_v92_0 (F := Ideal) x0 x1 x3 i - val_main_v122 (F := Ideal) x0 x1 x3 x4 i) = _
  refine (congrArg Ideal.exp (congrArg₂ (· - ·) (scores H i) ((val_main_v122_apply x0 x1 x3 x4 i).trans (r103 H _)))).trans ?_
  exact exp_sc _ _ _ _

theorem r130 (i : S32x4x4x128x1.Idx) :
    val_main_v130 (F := Ideal) x0 x1 x3 x4 i = (rES A (i 0).val (i 1).val (i 2).val (i 3).val : EReal) := by
  refine (val_main_v130_apply x0 x1 x3 x4 i).trans ?_
  show Ideal.exp (val_main_v128 (F := Ideal) x4 i - val_main_v103 (F := Ideal) x0 x1 x3 x4 i) = _
  refine (congrArg Ideal.exp (congrArg₂ (· - ·) ((val_main_v128_apply x4 i).trans ((val_main_v127_apply x4 _).trans (sinkv H _))) (r103 H i))).trans ?_
  exact exp_sink _ _ _

theorem r125 (i : S32x4x4x128.Idx) : val_main_v125 (F := Ideal) x0 x1 x3 x4 i
    = ((∑ j, rPE A (i 0).val (i 1).val (i 2).val (i 3).val j : ℝ) : EReal) := by
  refine (val_main_v125_apply x0 x1 x3 x4 i).trans ?_
  refine (congrArg₂ (· + ·) zero_word (sum_coe _ _ _ fun j => r124 H (idx_main_v125 i j))).trans (zero_add _)

theorem r131 (i : S32x4x4x128x1.Idx) :
    val_main_v131 (F := Ideal) x0 x1 x3 x4 i = (rDEN A (i 0).val (i 1).val (i 2).val (i 3).val : EReal) := by
  refine (val_main_v131_apply x0 x1 x3 x4 i).trans ?_
  show val_main_v126 (F := Ideal) x0 x1 x3 x4 i + val_main_v130 (F := Ideal) x0 x1 x3 x4 i = _
  refine (congrArg₂ (· + ·) ((val_main_v126_apply x0 x1 x3 x4 i).trans (r125 H _)) (r130 H i)).trans ?_
  exact (EReal.coe_add _ _).symm

theorem r133 (i : S32x4x4x128x256.Idx) : val_main_v133 (F := Ideal) x0 x1 x3 x4 i
    = (PR A (i 0).val (4 * (i 1).val + (i 2).val) (i 3).val (i 4) : EReal) := by
  refine (val_main_v133_apply x0 x1 x3 x4 i).trans ?_
  show Ideal.div (val_main_v124 (F := Ideal) x0 x1 x3 x4 i) (val_main_v132 (F := Ideal) x0 x1 x3 x4 i) = _
  refine (congrArg₂ Ideal.div (r124 H i) ((val_main_v132_apply x0 x1 x3 x4 i).trans (r131 H _))).trans ?_
  exact (Ideal.div_coe (rDEN_ne A _ _ _ _) _).trans (EReal.coe_mul _ _).symm

theorem r136 (i : S32x4x4x128x1.Idx) : val_main_v136 (F := Ideal) x0 x1 x3 x4 i
    = ((1 / (rDEN A (i 0).val (i 1).val (i 2).val (i 3).val * rDEN A (i 0).val (i 1).val (i 2).val (i 3).val) : ℝ) : EReal) := by
  refine (val_main_v136_apply x0 x1 x3 x4 i).trans ?_
  show Ideal.div (val_main_v135 (F := Ideal) i) (val_main_v131 (F := Ideal) x0 x1 x3 x4 i * val_main_v131 (F := Ideal) x0 x1 x3 x4 i) = _
  refine (congrArg₂ Ideal.div ((val_main_v135_apply i).trans one_word) ((congrArg₂ (· * ·) (r131 H i) (r131 H i)).trans (EReal.coe_mul _ _).symm)).trans ?_
  refine (Ideal.div_coe (mul_ne_zero (rDEN_ne A _ _ _ _) (rDEN_ne A _ _ _ _)) _).trans ?_
  rw [← EReal.coe_mul, one_mul]

theorem r147 (i : S32x4x4x128x256.Idx) : val_main_v147 (F := Ideal) x0 x1 x2 x3 x4 i
    = ((dprob A (i 0).val (4 * (i 1).val + (i 2).val) (i 3).val (i 4)
        * (1 / (rDEN A (i 0).val (i 1).val (i 2).val (i 3).val * rDEN A (i 0).val (i 1).val (i 2).val (i 3).val))
        * rPE A (i 0).val (i 1).val (i 2).val (i 3).val (i 4) : ℝ) : EReal) := by
  refine (val_main_v147_apply x0 x1 x2 x3 x4 i).trans ?_
  show val_main_v142 (F := Ideal) x1 x2 i * val_main_v145 (F := Ideal) x0 x1 x3 x4 i * val_main_v124 (F := Ideal) x0 x1 x3 x4 i = _
  refine (congrArg₂ (· * ·) (congrArg₂ (· * ·) (v142 H i) ((val_main_v145_apply x0 x1 x3 x4 i).trans (r136 H _))) (r124 H i)).trans ?_
  refine (congrArg (fun z : EReal => z * _) (EReal.coe_mul _ _).symm).trans ((EReal.coe_mul _ _).symm.trans ?_)
  exact congrArg (fun z : ℝ => (z : EReal)) (dp_mul_pe A _ _ _ _ (i 2).isLt (i 4) _)

theorem r150 (i : S32x4x4x128x1.Idx) : val_main_v150 (F := Ideal) x0 x1 x2 x3 x4 i
    = ((-rQ A (i 0).val (i 1).val (i 2).val (i 3).val : ℝ) : EReal) := by
  refine (val_main_v150_apply x0 x1 x2 x3 x4 i).trans ?_
  have h0 : (i 0).val < 32 := (i 0).isLt
  have h1 : (i 1).val < 4 := (i 1).isLt
  have h2 : (i 2).val < 4 := (i 2).isLt
  have h3 : (i 3).val < 128 := (i 3).isLt
  have h4 : (i 4).val < 1 := (i 4).isLt
  show -(val_main_v149 (F := Ideal) x0 x1 x2 x3 x4 i) = _
  rw [EReal.coe_neg]
  refine congrArg (fun z : EReal => -z) ((val_main_v149_apply x0 x1 x2 x3 x4 i).trans ((val_main_v148_apply x0 x1 x2 x3 x4 _).trans ?_))
  refine (congrArg₂ (· + ·) zero_word (sum_coe _ _ _ fun j => r147 H (idx_main_v148 (idx_main_v149 i) j))).trans ((zero_add _).trans ?_)
  have e0 : (((((i 0).val * 4 + (i 1).val) * 4 + (i 2).val) * 128 + (i 3).val) * 1 + (i 4).val) / 2048 = (i 0).val := by omega
  have e1 : (((((i 0).val * 4 + (i 1).val) * 4 + (i 2).val) * 128 + (i 3).val) * 1 + (i 4).val) / 512 % 4 = (i 1).val := by omega
  have e2 : (((((i 0).val * 4 + (i 1).val) * 4 + (i 2).val) * 128 + (i 3).val) * 1 + (i 4).val) / 128 % 4 = (i 2).val := by omega
  have e3 : (((((i 0).val * 4 + (i 1).val) * 4 + (i 2).val) * 128 + (i 3).val) * 1 + (i 4).val) % 128 = (i 3).val := by omega
  show ((rQ A ((((((i 0).val * 4 + (i 1).val) * 4 + (i 2).val) * 128 + (i 3).val) * 1 + (i 4).val) / 2048)
    ((((((i 0).val * 4 + (i 1).val) * 4 + (i 2).val) * 128 + (i 3).val) * 1 + (i 4).val) / 512 % 4)
    ((((((i 0).val * 4 + (i 1).val) * 4 + (i 2).val) * 128 + (i 3).val) * 1 + (i 4).val) / 128 % 4)
    ((((((i 0).val * 4 + (i 1).val) * 4 + (i 2).val) * 128 + (i 3).val) * 1 + (i 4).val) % 128) : ℝ) : EReal) = _
  rw [e0, e1, e2, e3]

theorem r153 (i : S32x4x4x128x1.Idx) : val_main_v153 (F := Ideal) x0 x1 x2 x3 x4 i
    = (DK A (i 0).val (4 * (i 1).val + (i 2).val) (i 3).val : EReal) := by
  refine (val_main_v153_apply x0 x1 x2 x3 x4 i).trans ?_
  show val_main_v150 (F := Ideal) x0 x1 x2 x3 x4 i * val_main_v130 (F := Ideal) x0 x1 x3 x4 i = _
  refine (congrArg₂ (· * ·) (r150 H i) (r130 H i)).trans ((EReal.coe_mul _ _).symm.trans ?_)
  exact congrArg (fun z : ℝ => (z : EReal)) (dsk_vjp _ _ _ _)

theorem r162 (i : S32x4x4x128x256.Idx) : val_main_v162 (F := Ideal) x0 x1 x2 x3 x4 i
    = (DS A (i 0).val (4 * (i 1).val + (i 2).val) (i 3).val (i 4) : EReal) := by
  refine (val_main_v162_apply x0 x1 x2 x3 x4 i).trans ?_
  show (val_main_v152 (F := Ideal) x0 x1 x2 x3 x4 i + val_main_v160 (F := Ideal) x0 x1 x2 x3 x4 i) * val_main_v124 (F := Ideal) x0 x1 x3 x4 i = _
  have e1 : val_main_v152 (F := Ideal) x0 x1 x2 x3 x4 i
      = ((dpR A (i 0).val (i 1).val (i 2).val (i 3).val (i 4).val * (1 / rDEN A (i 0).val (i 1).val (i 2).val (i 3).val) : ℝ) : EReal) := by
    refine (val_main_v152_apply x0 x1 x2 x3 x4 i).trans ?_
    show Ideal.div (val_main_v142 (F := Ideal) x1 x2 i) (val_main_v151 (F := Ideal) x0 x1 x3 x4 i) = _
    refine (congrArg₂ Ideal.div (v142 H i) ((val_main_v151_apply x0 x1 x3 x4 i).trans (r131 H _))).trans ?_
    exact (Ideal.div_coe (rDEN_ne A _ _ _ _) _).trans (EReal.coe_mul _ _).symm
  have e2 : val_main_v160 (F := Ideal) x0 x1 x2 x3 x4 i = ((-rQ A (i 0).val (i 1).val (i 2).val (i 3).val : ℝ) : EReal) := by
    refine (val_main_v160_apply x0 x1 x2 x3 x4 i).trans ((val_main_v159_apply x0 x1 x2 x3 x4 _).trans ?_)
    refine (congrArg₂ (· + ·) zero_word (Fin.sum_univ_one _)).trans ((zero_add _).trans (r150 H _))
  rw [e1, e2, r124 H i, ← EReal.coe_add, ← EReal.coe_mul]
  refine congrArg (fun z : ℝ => (z : EReal)) ?_
  exact dp_vjp A _ _ _ _ (i 2).isLt (i 4)

theorem r166 (i : S32x4x4x128x1.Idx) : val_main_v166 (F := Ideal) x0 x1 x2 x3 x4 i = 0 := by
  refine (val_main_v166_apply x0 x1 x2 x3 x4 i).trans ?_
  have h0 : (i 0).val < 32 := (i 0).isLt
  have h1 : (i 1).val < 4 := (i 1).isLt
  have h2 : (i 2).val < 4 := (i 2).isLt
  have h3 : (i 3).val < 128 := (i 3).isLt
  have h4 : (i 4).val < 1 := (i 4).isLt
  show -(val_main_v153 (F := Ideal) x0 x1 x2 x3 x4 i) + val_main_v165 (F := Ideal) x0 x1 x2 x3 x4 i = _
  have e1 : val_main_v165 (F := Ideal) x0 x1 x2 x3 x4 i
      = ((∑ j : Fin 256, -DS A (i 0).val (4 * (i 1).val + (i 2).val) (i 3).val j : ℝ) : EReal) := by
    refine (val_main_v165_apply x0 x1 x2 x3 x4 i).trans ((val_main_v164_apply x0 x1 x2 x3 x4 _).trans ?_)
    have e : ∀ j : Fin 256, val_main_v163 (F := Ideal) x0 x1 x2 x3 x4 (idx_main_v164 (idx_main_v165 i) j)
        = ((-DS A (i 0).val (4 * (i 1).val + (i 2).val) (i 3).val j : ℝ) : EReal) := fun j => by
      refine (val_main_v163_apply x0 x1 x2 x3 x4 _).trans ?_
      show -(val_main_v162 (F := Ideal) x0 x1 x2 x3 x4 _) = _
      rw [r162 H, ← EReal.coe_neg]
      have e0 : (((((i 0).val * 4 + (i 1).val) * 4 + (i 2).val) * 128 + (i 3).val) * 1 + (i 4).val) / 2048 = (i 0).val := by omega
      have e1 : (((((i 0).val * 4 + (i 1).val) * 4 + (i 2).val) * 128 + (i 3).val) * 1 + (i 4).val) / 512 % 4 = (i 1).val := by omega
      have e2 : (((((i 0).val * 4 + (i 1).val) * 4 + (i 2).val) * 128 + (i 3).val) * 1 + (i 4).val) / 128 % 4 = (i 2).val := by omega
      have e3 : (((((i 0).val * 4 + (i 1).val) * 4 + (i 2).val) * 128 + (i 3).val) * 1 + (i 4).val) % 128 = (i 3).val := by omega
      show ((-DS A ((((((i 0).val * 4 + (i 1).val) * 4 + (i 2).val) * 128 + (i 3).val) * 1 + (i 4).val) / 2048)
        (4 * ((((((i 0).val * 4 + (i 1).val) * 4 + (i 2).val) * 128 + (i 3).val) * 1 + (i 4).val) / 512 % 4)
          + ((((((i 0).val * 4 + (i 1).val) * 4 + (i 2).val) * 128 + (i 3).val) * 1 + (i 4).val) / 128 % 4))
        ((((((i 0).val * 4 + (i 1).val) * 4 + (i 2).val) * 128 + (i 3).val) * 1 + (i 4).val) % 128) j : ℝ) : EReal) = _
      rw [e0, e1, e2, e3]
    exact (congrArg₂ (· + ·) zero_word (sum_coe _ _ _ e)).trans (zero_add _)
  rw [e1, r153 H, ← EReal.coe_neg, ← EReal.coe_add]
  exact congrArg (fun z : ℝ => (z : EReal)) (shift_zero _ _ _ _)

/-- The number of largest scores in a row is not zero. -/
theorem r99 (i : S32x4x4x128.Idx) : val_main_v99 (F := Ideal) x0 x1 x3 i ≠ 0 := by
  have h0 : (i 0).val < 32 := (i 0).isLt
  have h1 : (i 1).val < 4 := (i 1).isLt
  have h2 : (i 2).val < 4 := (i 2).isLt
  have h3 : (i 3).val < 128 := (i 3).isLt
  obtain ⟨j, hj⟩ := fold_max_mem (sc (win (i 0).val (i 3).val) (score A (i 0).val (4 * (i 1).val + (i 2).val) (i 3).val))
  have hn : ∀ k : Fin 256, 0 ≤ val_main_v98 (F := Ideal) x0 x1 x3 (idx_main_v99 i k) := fun k => by
    rw [val_main_v98_apply]
    show (0 : EReal) ≤ (((_ : ℕ) : ℝ) : EReal)
    exact_mod_cast Nat.zero_le _
  have ho : val_main_v98 (F := Ideal) x0 x1 x3 (idx_main_v99 i j) = 1 := by
    rw [val_main_v98_apply, val_main_v97_apply]
    have e : val_main_v92_0 (F := Ideal) x0 x1 x3 (idx_main_v99 i j) = val_main_v96 (F := Ideal) x0 x1 x3 (idx_main_v99 i j) := by
      refine (scores H _).trans (hj.trans ?_)
      refine Eq.symm ((val_main_v96_apply x0 x1 x3 _).trans ((val_main_v95_apply x0 x1 x3 _).trans ((r94 H _).trans ?_)))
      have e0 : (((((i 0).val * 4 + (i 1).val) * 4 + (i 2).val) * 128 + (i 3).val) * 1 + 0) / 2048 = (i 0).val := by omega
      have e1 : (((((i 0).val * 4 + (i 1).val) * 4 + (i 2).val) * 128 + (i 3).val) * 1 + 0) / 512 % 4 = (i 1).val := by omega
      have e2 : (((((i 0).val * 4 + (i 1).val) * 4 + (i 2).val) * 128 + (i 3).val) * 1 + 0) / 128 % 4 = (i 2).val := by omega
      have e3 : (((((i 0).val * 4 + (i 1).val) * 4 + (i 2).val) * 128 + (i 3).val) * 1 + 0) % 128 = (i 3).val := by omega
      show rFM A ((((((i 0).val * 4 + (i 1).val) * 4 + (i 2).val) * 128 + (i 3).val) * 1 + 0) / 2048)
        ((((((i 0).val * 4 + (i 1).val) * 4 + (i 2).val) * 128 + (i 3).val) * 1 + 0) / 512 % 4)
        ((((((i 0).val * 4 + (i 1).val) * 4 + (i 2).val) * 128 + (i 3).val) * 1 + 0) / 128 % 4)
        ((((((i 0).val * 4 + (i 1).val) * 4 + (i 2).val) * 128 + (i 3).val) * 1 + 0) % 128) = _
      rw [e0, e1, e2, e3]
    rw [e]
    exact oeq_self _
  rw [val_main_v99_apply]
  have hs : (1 : EReal) ≤ ∑ k : Fin 256, val_main_v98 (F := Ideal) x0 x1 x3 (idx_main_v99 i k) :=
    ho.symm.le.trans <| Finset.single_le_sum (f := fun k : Fin 256 => val_main_v98 (F := Ideal) x0 x1 x3 (idx_main_v99 i k)) (fun k _ => hn k) (Finset.mem_univ j)
  have hz : val_main_cst_20 (F := Ideal) (Shape.Idx.first h_S_) = (0 : EReal) := zero_word
  rw [hz, zero_add]
  intro h
  rw [h] at hs
  exact absurd hs (by norm_num)

theorem r178 (i : S32x4x4x128x256.Idx) : val_main_v178 (F := Ideal) x0 x1 x2 x3 x4 i
    = (DS A (i 0).val (4 * (i 1).val + (i 2).val) (i 3).val (i 4) : EReal) := by
  refine (val_main_v178_apply x0 x1 x2 x3 x4 i).trans ?_
  show val_main_v162 (F := Ideal) x0 x1 x2 x3 x4 i + val_main_v176 (F := Ideal) x0 x1 x2 x3 x4 i * val_main_v98 (F := Ideal) x0 x1 x3 i = _
  have e : val_main_v176 (F := Ideal) x0 x1 x2 x3 x4 i = 0 := by
    refine (val_main_v176_apply x0 x1 x2 x3 x4 i).trans ((val_main_v175_apply x0 x1 x2 x3 x4 _).trans ?_)
    show Ideal.div (val_main_v174 (F := Ideal) x0 x1 x2 x3 x4 _) (val_main_v99 (F := Ideal) x0 x1 x3 _) = 0
    have z : ∀ k, val_main_v174 (F := Ideal) x0 x1 x2 x3 x4 k = (0 : EReal) := fun k => by
      refine (val_main_v174_apply x0 x1 x2 x3 x4 k).trans ?_
      refine (congrArg₂ (· + ·) zero_word (Fin.sum_univ_one _)).trans ((zero_add _).trans ?_)
      refine (val_main_v170_apply x0 x1 x2 x3 x4 _).trans ?_
      show val_main_v166 (F := Ideal) x0 x1 x2 x3 x4 _ * val_main_v112 (F := Ideal) x0 x1 x3 x4 _ = (0 : EReal)
      rw [r166 H, zero_mul]
    rw [z]
    exact Ideal.zero_div (r99 H _)
  rw [e, zero_mul, add_zero, r162 H i]

theorem r180 (i : S32x4x4x128x256.Idx) : val_main_v180 (F := Ideal) x0 x1 x2 x3 x4 i
    = (DS A (i 0).val (4 * (i 1).val + (i 2).val) (i 3).val (i 4) : EReal) := by
  refine (val_main_v180_apply x0 x1 x2 x3 x4 i).trans ?_
  rw [mask, r178 H]
  unfold Scalar.select
  by_cases h : win (i 0).val (i 3).val (i 4) = true
  · rw [h]; rfl
  · have h' := Bool.not_eq_true _ |>.mp h
    rw [show DS A (i 0).val (4 * (i 1).val + (i 2).val) (i 3).val (i 4) = 0 from dsr_masked _ _ _ _ _ h', h']
    exact (zero_word : _ = (0 : EReal))

end Cert.Attn.Ref

end
-- ==== Proof.RefOut.lean ====
/- The reference's results on the reals. -/
module

public import proofs.«01_k».proof.Proof.RefRow

@[expose] public section

set_option maxRecDepth 16384

noncomputable section

namespace Cert.Attn.Ref

open Idealize.ShloMosaic Idealize.ShloMosaic.ValueIdx Idealize.ShloMosaic.TcCoe
open Idealize.SL Idealize.SL.Sem
open Cert.ReferenceIdeal Cert.ReferenceIdeal.Gen Cert.ReferenceIdeal.Read

/-! ## Sums over two or three axes -/

theorem drop_block_row (n : Fin 32) (r : Fin 128) (j : S4x4x1.Idx) :
    reducesTo_S32x4x4x128x1_S4x4x1_d0_3.drop (ix5 n (j 0) (j 1) r (j 2)) = j := by
  funext a
  match a with
  | ⟨0, _⟩ => exact Fin.ext rfl
  | ⟨1, _⟩ => exact Fin.ext rfl
  | ⟨2, _⟩ => exact Fin.ext rfl

theorem sum_block_row (f : S32x4x4x128x1.Idx → EReal) (j : S4x4x1.Idx) :
    ∑ i ∈ Finset.univ.filter (fun i => reducesTo_S32x4x4x128x1_S4x4x1_d0_3.drop i = j), f i
      = ∑ n : Fin 32, ∑ r : Fin 128, f (ix5 n (j 0) (j 1) r (j 2)) := by
  rw [← Fintype.sum_prod_type' (f := fun (n : Fin 32) (r : Fin 128) => f (ix5 n (j 0) (j 1) r (j 2)))]
  symm
  refine Finset.sum_bij (fun (p : Fin 32 × Fin 128) _ => (ix5 p.1 (j 0) (j 1) p.2 (j 2) : S32x4x4x128x1.Idx))
    (fun p _ => Finset.mem_filter.mpr ⟨Finset.mem_univ _, drop_block_row p.1 p.2 j⟩) ?_ ?_ (fun _ _ => rfl)
  · intro p _ p' _ h
    exact Prod.ext (congrFun h 0) (congrFun h 3)
  · intro i hi
    have h := (Finset.mem_filter.mp hi).2
    refine ⟨(i 0, i 3), Finset.mem_univ _, ?_⟩
    subst h
    funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl

theorem sum_units (f : S1x4x4x1x1.Idx → EReal) (j : S4x4.Idx) :
    ∑ i ∈ Finset.univ.filter (fun i => reducesTo_S1x4x4x1x1_S4x4_d0_3_4.drop i = j), f i = f (ix5 0 (j 0) (j 1) 0 0) := by
  have e : Finset.univ.filter (fun i => reducesTo_S1x4x4x1x1_S4x4_d0_3_4.drop i = j) = {(ix5 0 (j 0) (j 1) 0 0 : S1x4x4x1x1.Idx)} := by
    ext i
    rw [Finset.mem_filter, Finset.mem_singleton]
    constructor
    · rintro ⟨-, h⟩
      subst h
      funext a
      match a with
      | ⟨0, _⟩ => exact Subsingleton.elim (α := Fin 1) _ _
      | ⟨1, _⟩ => exact Fin.ext rfl
      | ⟨2, _⟩ => exact Fin.ext rfl
      | ⟨3, _⟩ => exact Subsingleton.elim (α := Fin 1) _ _
      | ⟨4, _⟩ => exact Subsingleton.elim (α := Fin 1) _ _
    · rintro rfl
      refine ⟨Finset.mem_univ _, ?_⟩
      funext a
      match a with
      | ⟨0, _⟩ => exact Fin.ext rfl
      | ⟨1, _⟩ => exact Fin.ext rfl
  rw [e, Finset.sum_singleton]

/-! ## The contractions of the values' and the keys' gradients -/

theorem dot_values (a : FVec Ideal S32x4x64x4x128 .f32) (b : FVec Ideal S32x4x4x128x256 .f32) (i : S32x4x64x256.Idx) :
    Host.dotGeneral dot_S32x4x64x4x128_S32x4x4x128x256_S32x4x64x256_34_23_2_4_01_01 none a b i
      = ∑ g : Fin 4, ∑ r : Fin 128, a (ix5 (i 0) (i 1) (i 2) g r) * b (ix5 (i 0) (i 1) g r (i 3)) := by
  simp only [Host.dotGeneral]
  rw [Ideal.dotGeneral_apply]
  rw [sum_contr2 dot_S32x4x64x4x128_S32x4x4x128x256_S32x4x64x256_34_23_2_4_01_01 4 128 rfl rfl rfl]
  refine Finset.sum_congr rfl fun g _ => Finset.sum_congr rfl fun r _ => ?_
  have h0 := contrEquiv2_symm_val0 dot_S32x4x64x4x128_S32x4x4x128x256_S32x4x64x256_34_23_2_4_01_01 4 128 rfl rfl rfl (g, r)
  have h1 := contrEquiv2_symm_val1 dot_S32x4x64x4x128_S32x4x4x128x256_S32x4x64x256_34_23_2_4_01_01 4 128 rfl rfl rfl (g, r)
  generalize (contrEquiv2 dot_S32x4x64x4x128_S32x4x4x128x256_S32x4x64x256_34_23_2_4_01_01 4 128 rfl rfl rfl).symm (g, r) = q at h0 h1 ⊢
  refine congrArg₂ (· * ·) (congrArg a (funext fun c => Fin.ext ?_)) (congrArg b (funext fun c => Fin.ext ?_))
  · match c with
    | ⟨0, _⟩ => rfl
    | ⟨1, _⟩ => rfl
    | ⟨2, _⟩ => rfl
    | ⟨3, _⟩ => exact h0
    | ⟨4, _⟩ => exact h1
  · match c with
    | ⟨0, _⟩ => rfl
    | ⟨1, _⟩ => rfl
    | ⟨2, _⟩ => exact h0
    | ⟨3, _⟩ => exact h1
    | ⟨4, _⟩ => rfl

theorem dot_keys (a : FVec Ideal S32x4x256x128x4 .f32) (b : FVec Ideal S32x128x4x4x64 .f32) (i : S32x4x256x64.Idx) :
    Host.dotGeneral dot_S32x4x256x128x4_S32x128x4x4x64_S32x4x256x64_34_13_2_4_01_02 none a b i
      = ∑ r : Fin 128, ∑ g : Fin 4, a (ix5 (i 0) (i 1) (i 2) r g) * b (ix5 (i 0) r (i 1) g (i 3)) := by
  simp only [Host.dotGeneral]
  rw [Ideal.dotGeneral_apply]
  rw [sum_contr2 dot_S32x4x256x128x4_S32x128x4x4x64_S32x4x256x64_34_13_2_4_01_02 128 4 rfl rfl rfl]
  refine Finset.sum_congr rfl fun r _ => Finset.sum_congr rfl fun g _ => ?_
  have h0 := contrEquiv2_symm_val0 dot_S32x4x256x128x4_S32x128x4x4x64_S32x4x256x64_34_13_2_4_01_02 128 4 rfl rfl rfl (r, g)
  have h1 := contrEquiv2_symm_val1 dot_S32x4x256x128x4_S32x128x4x4x64_S32x4x256x64_34_13_2_4_01_02 128 4 rfl rfl rfl (r, g)
  generalize (contrEquiv2 dot_S32x4x256x128x4_S32x128x4x4x64_S32x4x256x64_34_13_2_4_01_02 128 4 rfl rfl rfl).symm (r, g) = q at h0 h1 ⊢
  refine congrArg₂ (· * ·) (congrArg a (funext fun c => Fin.ext ?_)) (congrArg b (funext fun c => Fin.ext ?_))
  · match c with
    | ⟨0, _⟩ => rfl
    | ⟨1, _⟩ => rfl
    | ⟨2, _⟩ => rfl
    | ⟨3, _⟩ => exact h0
    | ⟨4, _⟩ => exact h1
  · match c with
    | ⟨0, _⟩ => rfl
    | ⟨1, _⟩ => exact h0
    | ⟨2, _⟩ => rfl
    | ⟨3, _⟩ => exact h1
    | ⟨4, _⟩ => rfl

/-! ## The real sums -/

theorem dq_sum (A : Args) (n e g r d : ℕ) (hg : g < 4) :
    ∑ j : Fin 256, DS A n (4 * e + g) r j * (1 / 8) * kbR A n j.val e d = DQ A n (4 * e + g) r d := by
  unfold DQ
  rw [Finset.sum_mul, (by omega : (4 * e + g) / 4 = e)]
  refine Finset.sum_congr rfl fun j _ => ?_
  by_cases h : win n r j = true
  · unfold win at h
    have h' := of_decide_eq_true h
    unfold kbR
    rw [if_neg (by omega), mul_right_comm]
  · rw [show DS A n (4 * e + g) r j = 0 from dsr_masked _ _ _ _ _ (Bool.not_eq_true _ |>.mp h)]
    simp

theorem dkey_sum (A : Args) (n e d : ℕ) (j : Fin 256) :
    ∑ r : Fin 128, ∑ g : Fin 4, DS A n (4 * e + g.val) r.val j * (1 / 8) * A.q (128 * n + r.val) (64 * (4 * e + g.val) + d) = DKEY A n e j d := by
  unfold DKEY
  rw [Finset.sum_comm, Finset.sum_mul]
  refine Finset.sum_congr rfl fun g _ => ?_
  rw [Finset.sum_mul]
  exact Finset.sum_congr rfl fun r _ => mul_right_comm _ _ _

variable {A : Args} {x0 : Vec Ideal S4096x1024 .bf16} {x1 : Vec Ideal S4096x512 .bf16} {x2 : Vec Ideal S4096x1024 .bf16}
  {x3 : Vec Ideal S32x16 .f32} {x4 : Vec Ideal S1x16 .f32} (H : Holds A x0 x1 x2 x3 x4)
include H

/-! ## The queries' gradient -/

theorem r186 (i : S32x4x4x128x256.Idx) : val_main_v186 (F := Ideal) x0 x1 x2 x3 x4 i
    = ((DS A (i 0).val (4 * (i 1).val + (i 2).val) (i 3).val (i 4) * (1 / 8) : ℝ) : EReal) := by
  refine (val_main_v186_apply x0 x1 x2 x3 x4 i).trans ?_
  show val_main_v180 (F := Ideal) x0 x1 x2 x3 x4 i * val_main_v185 (F := Ideal) i = _
  exact (congrArg₂ (· * ·) (r180 H i) ((val_main_v185_apply i).trans
    (show val_main_cst_39 (F := Ideal) _ = ((1 / 8 : ℝ) : EReal) from Kern.ofBits_eighth))).trans (EReal.coe_mul _ _).symm

theorem r187 (i : S32x4x256x128x4.Idx) : val_main_v187 (F := Ideal) x0 x1 x2 x3 x4 i
    = ((DS A (i 0).val (4 * (i 1).val + (i 4).val) (i 3).val (i 2) * (1 / 8) : ℝ) : EReal) :=
  (val_main_v187_apply x0 x1 x2 x3 x4 i).trans (r186 H _)

theorem r188 (i : S32x4x128x4x64.Idx) : val_main_v188 (F := Ideal) x0 x1 x2 x3 x4 i
    = (DQ A (i 0).val (4 * (i 1).val + (i 3).val) (i 2).val (i 4).val : EReal) := by
  refine (val_main_v188_apply x0 x1 x2 x3 x4 i).trans ((sum_coe _ _ _ fun j => ?_).trans
    (congrArg (fun z : ℝ => (z : EReal)) (dq_sum A (i 0).val (i 1).val (i 3).val (i 2).val (i 4).val (i 3).isLt)))
  rw [EReal.coe_mul]
  exact congrArg₂ (· * ·) (r187 H _) (v9 H _)

theorem r196 (i : S4096x1024.Idx) : val_main_v196 (F := Ideal) x0 x1 x2 x3 x4 i
    = (DQ A ((i 0).val / 128) ((i 1).val / 64) ((i 0).val % 128) ((i 1).val % 64) : EReal) := by
  have h0 : (i 0).val < 4096 := (i 0).isLt
  have h1 : (i 1).val < 1024 := (i 1).isLt
  refine Eq.trans (show val_main_v196 (F := Ideal) x0 x1 x2 x3 x4 i = val_main_v192 (F := Ideal) x0 x1 x2 x3 x4 i from rfl) ?_
  refine (val_main_v192_apply x0 x1 x2 x3 x4 i).trans ((val_main_v189_apply x0 x1 x2 x3 x4 _).trans ((r188 H _).trans ?_))
  show ((DQ A (((i 0).val * 1024 + (i 1).val) / 131072)
    (4 * (((i 0).val * 1024 + (i 1).val) / 256 % 4) + ((i 0).val * 1024 + (i 1).val) / 64 % 4)
    (((i 0).val * 1024 + (i 1).val) / 1024 % 128) (((i 0).val * 1024 + (i 1).val) % 64) : ℝ) : EReal) = _
  rw [(by omega : ((i 0).val * 1024 + (i 1).val) / 131072 = (i 0).val / 128),
    (by omega : 4 * (((i 0).val * 1024 + (i 1).val) / 256 % 4) + ((i 0).val * 1024 + (i 1).val) / 64 % 4 = (i 1).val / 64),
    (by omega : ((i 0).val * 1024 + (i 1).val) / 1024 % 128 = (i 0).val % 128),
    (by omega : ((i 0).val * 1024 + (i 1).val) % 64 = (i 1).val % 64)]

/-! ## The bands' gradients -/

theorem r143 (i : S32x4x64x256.Idx) : val_main_v143 (F := Ideal) x0 x1 x2 x3 x4 i
    = (DVAL A (i 0).val (i 1).val (i 3) (i 2).val : EReal) := by
  refine (dot_values (val_main_v141 (F := Ideal) x2) (val_main_v133 (F := Ideal) x0 x1 x3 x4) i).trans ?_
  unfold DVAL
  refine sum_coe _ _ _ fun g => sum_coe _ _ _ fun r => ?_
  rw [EReal.coe_mul, mul_comm]
  exact congrArg₂ (· * ·) (r133 H _) ((val_main_v141_apply x2 _).trans (v140 H _))

theorem r190 (i : S32x4x256x64.Idx) : val_main_v190 (F := Ideal) x0 x1 x2 x3 x4 i
    = (DKEY A (i 0).val (i 1).val (i 2) (i 3).val : EReal) := by
  refine (dot_keys (val_main_v187 (F := Ideal) x0 x1 x2 x3 x4) (val_main_v50 (F := Ideal) x0) i).trans ?_
  refine Eq.trans ?_ (congrArg (fun z : ℝ => (z : EReal)) (dkey_sum A (i 0).val (i 1).val (i 3).val (i 2)))
  refine sum_coe _ _ _ fun r => sum_coe _ _ _ fun g => ?_
  rw [EReal.coe_mul]
  exact congrArg₂ (· * ·) (r187 H _) (v50 H _)

theorem dband (f : ℕ → ℕ → Fin 256 → ℕ → ℝ) {n n' e e' d d' : ℕ} {j j' : Fin 256} (hn : n = n') (he : e = e') (hj : j = j') (hd : d = d') :
    ((f n e j d : ℝ) : EReal) = (f n' e' j' d' : EReal) := by rw [hn, he, hj, hd]

theorem r193 (i : S32x256x256.Idx) : val_main_v193 (F := Ideal) x0 x1 x2 x3 x4 i
    = (DKEY A (i 0).val ((i 2).val / 64) (i 1) ((i 2).val % 64) : EReal) := by
  have h0 : (i 0).val < 32 := (i 0).isLt
  have h1 : (i 1).val < 256 := (i 1).isLt
  have h2 : (i 2).val < 256 := (i 2).isLt
  refine (val_main_v193_apply x0 x1 x2 x3 x4 i).trans ((val_main_v191_apply x0 x1 x2 x3 x4 _).trans ((r190 H _).trans (dband H (DKEY A) ?_ ?_ (Fin.ext ?_) ?_)))
  · show (((i 0).val * 256 + (i 1).val) * 256 + (i 2).val) / 65536 = (i 0).val; omega
  · show (((i 0).val * 256 + (i 1).val) * 256 + (i 2).val) / 64 % 4 = (i 2).val / 64; omega
  · show (((i 0).val * 256 + (i 1).val) * 256 + (i 2).val) / 256 % 256 = (i 1).val; omega
  · show (((i 0).val * 256 + (i 1).val) * 256 + (i 2).val) % 64 = (i 2).val % 64; omega

theorem r194 (i : S32x256x256.Idx) : val_main_v194 (F := Ideal) x0 x1 x2 x3 x4 i
    = (DVAL A (i 0).val ((i 2).val / 64) (i 1) ((i 2).val % 64) : EReal) := by
  have h0 : (i 0).val < 32 := (i 0).isLt
  have h1 : (i 1).val < 256 := (i 1).isLt
  have h2 : (i 2).val < 256 := (i 2).isLt
  refine (val_main_v194_apply x0 x1 x2 x3 x4 i).trans ((val_main_v144_apply x0 x1 x2 x3 x4 _).trans ((r143 H _).trans (dband H (DVAL A) ?_ ?_ (Fin.ext ?_) ?_)))
  · show (((i 0).val * 256 + (i 1).val) * 256 + (i 2).val) / 65536 = (i 0).val; omega
  · show (((i 0).val * 256 + (i 1).val) * 256 + (i 2).val) / 64 % 4 = (i 2).val / 64; omega
  · show (((i 0).val * 256 + (i 1).val) * 256 + (i 2).val) / 256 % 256 = (i 1).val; omega
  · show (((i 0).val * 256 + (i 1).val) * 256 + (i 2).val) % 64 = (i 2).val % 64; omega

theorem r197 (i : S32x256x512.Idx) : val_main_v197 (F := Ideal) x0 x1 x2 x3 x4 i
    = if (i 2).val < 256 then (DKEY A (i 0).val ((i 2).val / 64) (i 1) ((i 2).val % 64) : EReal)
      else (DVAL A (i 0).val (((i 2).val - 256) / 64) (i 1) ((i 2).val % 64) : EReal) := by
  have h2 : (i 2).val < 512 := (i 2).isLt
  refine Eq.trans (show val_main_v197 (F := Ideal) x0 x1 x2 x3 x4 i = val_main_v195 (F := Ideal) x0 x1 x2 x3 x4 i from rfl) ?_
  unfold val_main_v195
  by_cases h : (i 2).val < 256
  · rw [if_pos h]
    let k : S32x256x256.Idx := fun a => match a with
      | ⟨0, _⟩ => i 0
      | ⟨1, _⟩ => i 1
      | ⟨2, _⟩ => ⟨(i 2).val, h⟩
    refine (concatenate_pair_apply_left (t := S32x256x512) (s₁ := S32x256x256) (s₂ := S32x256x256) 2 _ _ _ i rfl k ?_).trans (r193 H k)
    intro b
    match b with
    | ⟨0, _⟩ => rfl
    | ⟨1, _⟩ => rfl
    | ⟨2, _⟩ => rfl
  · rw [if_neg h]
    let k : S32x256x256.Idx := fun a => match a with
      | ⟨0, _⟩ => i 0
      | ⟨1, _⟩ => i 1
      | ⟨2, _⟩ => ⟨(i 2).val - 256, by show (i 2).val - 256 < 256; omega⟩
    refine (concatenate_pair_apply_right (t := S32x256x512) (s₁ := S32x256x256) (s₂ := S32x256x256) 2 _ _ _ i rfl rfl k ?_ ?_).trans
      ((r194 H k).trans (dband H (DVAL A) rfl rfl rfl ?_))
    · intro b hb
      match b with
      | ⟨0, _⟩ => rfl
      | ⟨1, _⟩ => rfl
      | ⟨2, _⟩ => exact absurd rfl hb
    · show ((i 2).val - 256) + 256 = (i 2).val; omega
    · show ((i 2).val - 256) % 64 = (i 2).val % 64; omega

/-! ## The bias's gradient -/

theorem r181 (i : S4x4x128x256.Idx) : val_main_v181 (F := Ideal) x0 x1 x2 x3 x4 i
    = (DB A (4 * (i 0).val + (i 1).val) (i 2).val (i 3) : EReal) := by
  refine (val_main_v181_apply x0 x1 x2 x3 x4 i).trans ?_
  exact (congrArg₂ (· + ·) zero_word (sum_coe _ _ _ fun n => r180 H (idx_main_v181 i n))).trans (zero_add _)

theorem db_at {h h' r r' : ℕ} {j j' : Fin 256} (hh : h = h') (hr : r = r') (hj : j = j') :
    (DB A h r j : EReal) = (DB A h' r' j' : EReal) := by rw [hh, hr, hj]

theorem r183 (i : S4x4x128x256.Idx) : val_main_v183 (F := Ideal) x0 x1 x2 x3 x4 i
    = (DB A (4 * (i 0).val + (i 1).val) (i 2).val (i 3) : EReal) := by
  have h0 : (i 0).val < 4 := (i 0).isLt
  have h1 : (i 1).val < 4 := (i 1).isLt
  have h2 : (i 2).val < 128 := (i 2).isLt
  have h3 : (i 3).val < 256 := (i 3).isLt
  refine (val_main_v183_apply x0 x1 x2 x3 x4 i).trans ?_
  refine (congrArg₂ (· + ·) zero_word (Fin.sum_univ_one _)).trans ((zero_add _).trans ?_)
  refine (val_main_v182_apply x0 x1 x2 x3 x4 _).trans ((r181 H _).trans (db_at H ?_ ?_ (Fin.ext ?_)))
  · show 4 * (((((0 * 4 + (i 0).val) * 4 + (i 1).val) * 128 + (i 2).val) * 256 + (i 3).val) / 131072)
      + ((((0 * 4 + (i 0).val) * 4 + (i 1).val) * 128 + (i 2).val) * 256 + (i 3).val) / 32768 % 4 = _
    omega
  · show ((((0 * 4 + (i 0).val) * 4 + (i 1).val) * 128 + (i 2).val) * 256 + (i 3).val) / 256 % 128 = _
    omega
  · show ((((0 * 4 + (i 0).val) * 4 + (i 1).val) * 128 + (i 2).val) * 256 + (i 3).val) % 256 = (i 3).val
    omega

theorem r184 (i : S16x128x256.Idx) : val_main_v184 (F := Ideal) x0 x1 x2 x3 x4 i
    = (DB A (i 0).val (i 1).val (i 2) : EReal) := by
  have h0 : (i 0).val < 16 := (i 0).isLt
  have h1 : (i 1).val < 128 := (i 1).isLt
  have h2 : (i 2).val < 256 := (i 2).isLt
  refine (val_main_v184_apply x0 x1 x2 x3 x4 i).trans ((r183 H _).trans (db_at H ?_ ?_ (Fin.ext ?_)))
  · show 4 * ((((i 0).val * 128 + (i 1).val) * 256 + (i 2).val) / 131072)
      + (((i 0).val * 128 + (i 1).val) * 256 + (i 2).val) / 32768 % 4 = _
    omega
  · show (((i 0).val * 128 + (i 1).val) * 256 + (i 2).val) / 256 % 128 = _
    omega
  · show (((i 0).val * 128 + (i 1).val) * 256 + (i 2).val) % 256 = (i 2).val
    omega

/-! ## The sinks' gradient -/

theorem r154 (i : S4x4x1.Idx) : val_main_v154 (F := Ideal) x0 x1 x2 x3 x4 i
    = (DSINK A (4 * (i 0).val + (i 1).val) : EReal) := by
  unfold val_main_v154
  simp only [Host.reduceAdd, Ideal.hostReduceAdd_def]
  refine (congrArg₂ (· + ·) zero_word (sum_block_row _ i)).trans ((zero_add _).trans ?_)
  unfold DSINK
  exact sum_coe _ _ _ fun n => sum_coe _ _ _ fun r => r153 H _

theorem r157 (i : S4x4.Idx) : val_main_v157 (F := Ideal) x0 x1 x2 x3 x4 i
    = (DSINK A (4 * (i 0).val + (i 1).val) : EReal) := by
  have h0 : (i 0).val < 4 := (i 0).isLt
  have h1 : (i 1).val < 4 := (i 1).isLt
  unfold val_main_v157
  simp only [Host.reduceAdd, Ideal.hostReduceAdd_def]
  refine (congrArg₂ (· + ·) zero_word (sum_units _ i)).trans ((zero_add _).trans ?_)
  refine (val_main_v155_apply x0 x1 x2 x3 x4 _).trans ((r154 H _).trans (congrArg (fun h : ℕ => (DSINK A h : EReal)) ?_))
  show 4 * (((((0 * 4 + (i 0).val) * 4 + (i 1).val) * 1 + 0) * 1 + 0) / 4) + ((((0 * 4 + (i 0).val) * 4 + (i 1).val) * 1 + 0) * 1 + 0) / 1 % 4 = _
  omega

theorem r171 (i : S4x4.Idx) : val_main_v171 (F := Ideal) x0 x1 x2 x3 x4 i = 0 := by
  unfold val_main_v171
  simp only [Host.reduceAdd, Ideal.hostReduceAdd_def]
  refine (congrArg₂ (· + ·) zero_word (sum_units _ i)).trans ((zero_add _).trans ?_)
  refine (val_main_v169_apply x0 x1 x2 x3 x4 _).trans ?_
  unfold val_main_v168
  simp only [Host.reduceAdd, Ideal.hostReduceAdd_def]
  refine (congrArg₂ (· + ·) zero_word (Finset.sum_eq_zero fun k _ => ?_)).trans (zero_add _)
  refine (val_main_v167_apply x0 x1 x2 x3 x4 k).trans ?_
  show val_main_v166 (F := Ideal) x0 x1 x2 x3 x4 k * val_main_v121 (F := Ideal) x0 x1 x3 x4 k = (0 : EReal)
  rw [r166 H, zero_mul]

theorem r179 (i : S1x16.Idx) : val_main_v179 (F := Ideal) x0 x1 x2 x3 x4 i = (DSINK A (i 1).val : EReal) := by
  have h0 : (i 0).val < 1 := (i 0).isLt
  have h1 : (i 1).val < 16 := (i 1).isLt
  refine (val_main_v179_apply x0 x1 x2 x3 x4 i).trans ((val_main_v173_apply x0 x1 x2 x3 x4 _).trans ?_)
  show val_main_v158 (F := Ideal) x0 x1 x2 x3 x4 (idx_main_v179 i) + val_main_v172 (F := Ideal) x0 x1 x2 x3 x4 (idx_main_v179 i) = _
  refine (congrArg₂ (· + ·) ((val_main_v158_apply x0 x1 x2 x3 x4 _).trans (r157 H _)) ((val_main_v172_apply x0 x1 x2 x3 x4 _).trans (r171 H _))).trans
    ((add_zero _).trans (congrArg (fun h : ℕ => (DSINK A h : EReal)) ?_))
  show 4 * (((i 0).val * 16 + (i 1).val) / 4) + ((i 0).val * 16 + (i 1).val) / 1 % 4 = _
  omega

theorem r198 (i : S1x128.Idx) : val_main_v198 (F := Ideal) x0 x1 x2 x3 x4 i
    = if (i 1).val < 16 then (DSINK A (i 1).val : EReal) else 0 := by
  have h0 : (i 0).val < 1 := (i 0).isLt
  unfold val_main_v198
  by_cases h : (i 1).val < 16
  · rw [if_pos h]
    let k : S1x16.Idx := fun a => match a with
      | ⟨0, _⟩ => i 0
      | ⟨1, _⟩ => ⟨(i 1).val, h⟩
    refine (pad_apply_of_inside _ _ _ _ _ _ h_S_ _ k ?_).trans (r179 H k)
    intro a
    match a with
    | ⟨0, _⟩ => show (i 0).val = 0 + (i 0).val * (0 + 1); omega
    | ⟨1, _⟩ => show (i 1).val = 0 + (i 1).val * (0 + 1); omega
  · rw [if_neg h]
    refine (pad_apply_of_not_inside _ _ _ _ _ _ h_S_ _ (1 : Fin 2) ?_).trans ?_
    · rintro ⟨-, -, k⟩
      have k' : ((i 1).val - 0) / (0 + 1) < 16 := k
      omega
    · exact sitofp_zero (φ := .f32)

end Cert.Attn.Ref

end
-- ==== Proof.Agree.lean ====
/- The kernel's four results and the reference's, from the same real arguments, are the same. -/
module

public import proofs.«01_k».proof.Proof.Fold
public import proofs.«01_k».proof.Proof.RefOut

@[expose] public section

set_option maxRecDepth 16384

noncomputable section

namespace Cert.Attn.Kern

open Idealize.ShloMosaic Idealize.ShloMosaic.ValueIdx Idealize.ShloMosaic.TcCoe
open Idealize.SL Idealize.SL.Sem
open Cert.KernelIdeal Cert.KernelIdeal.Gen Cert.KernelIdeal.Value

variable (m : (ℓ : Loc nD τ sig) → Buf (Elt Ideal) ℓ) (c : Dev nD)
  (h0 : Fin' (S := S4096x1024) (a0 m c)) (h1 : Fin' (S := S4096x512) (a1 m c)) (h2 : Fin' (S := S4096x1024) (a2 m c))
  (h3 : Fin' (S := S32x16) (a3 m c)) (h4 : Fin' (S := S1x16) (a4 m c))
include h0 h1 h2 h3 h4

theorem holds : Ref.Holds (argsOf m c) (a0 m c) (a1 m c) (a2 m c) (a3 m c) (a4 m c) where
  q i := (congrArg (a0 m c) (eq_ix2 i)).trans (re2_coe (a := 4096) (b := 1024) _ h0 (i 0) (i 1))
  kv i := (congrArg (a1 m c) (eq_ix2 i)).trans (re2_coe (a := 4096) (b := 512) _ h1 (i 0) (i 1))
  dO i := (congrArg (a2 m c) (eq_ix2 i)).trans (re2_coe (a := 4096) (b := 1024) _ h2 (i 0) (i 1))
  b i := (congrArg (hb (a3 m c)) (eq_ix3 i)).trans (b_coe _ _ _ _ _ h3 (i 0) (i 1) (i 2))
  sk i := by
    have e : i = ix2 0 (i 1) := by
      rw [show (0 : Fin 1) = i 0 from Subsingleton.elim (α := Fin 1) _ _]
      exact eq_ix2 i
    exact (congrArg (a4 m c) e).trans (re2_coe (a := 1) (b := 16) _ h4 0 (i 1))

theorem out0 : Cert.ReferenceIdeal.Read.val_main_v196 (F := Ideal) (a0 m c) (a1 m c) (a2 m c) (a3 m c) (a4 m c) = G6 m c :=
  funext fun i => (Ref.r196 (holds m c h0 h1 h2 h3 h4) i).trans (G6_apply m c (inputs m c h0 h1 h2 h3 h4) i).symm

theorem out1 : Cert.ReferenceIdeal.Read.val_main_v197 (F := Ideal) (a0 m c) (a1 m c) (a2 m c) (a3 m c) (a4 m c) = G7 m c :=
  funext fun i => (Ref.r197 (holds m c h0 h1 h2 h3 h4) i).trans (G7_apply m c (inputs m c h0 h1 h2 h3 h4) i).symm

theorem out2 : Cert.ReferenceIdeal.Read.val_main_v184 (F := Ideal) (a0 m c) (a1 m c) (a2 m c) (a3 m c) (a4 m c) = G8 m c :=
  funext fun i => (Ref.r184 (holds m c h0 h1 h2 h3 h4) i).trans (G8_apply m c (inputs m c h0 h1 h2 h3 h4) i).symm

theorem out3 : Cert.ReferenceIdeal.Read.val_main_v198 (F := Ideal) (a0 m c) (a1 m c) (a2 m c) (a3 m c) (a4 m c) = G9 m c :=
  funext fun i => by
    have e : i = ix2 0 (i 1) := by
      rw [show (0 : Fin 1) = i 0 from Subsingleton.elim (α := Fin 1) _ _]
      exact eq_ix2 i
    exact (Ref.r198 (holds m c h0 h1 h2 h3 h4) i).trans
      ((G9_apply m c (inputs m c h0 h1 h2 h3 h4) (i 1)).symm.trans (congrArg (G9 m c) e.symm))

end Cert.Attn.Kern

end
-- ==== Proof.Pre.lean ====
/- What the precondition says of the arguments: every element is a real number. -/
module

public import proofs.«01_k».proof.Defs
public import proofs.«01_k».proof.Proof.Inputs
public import Idealize.ShloMosaic.Lib.ReduceAll

@[expose] public section

set_option maxRecDepth 16384

noncomputable section

namespace Cert.Attn.Pre

open Idealize.ShloMosaic Idealize.ShloMosaic.ValueIdx
open Idealize.SL Idealize.SL.Sem
open Cert.Pre_finite

theorem facts : Cert.Pre_finite.Facts where
  bitsLt_bf16_f32 := by decide
  bcast_S_S4096x1024 := by decide
  reducesTo_S4096x1024_S_d0_1 := by decide
  h_S_ := by decide
  bcast_S_S4096x512 := by decide
  reducesTo_S4096x512_S_d0_1 := by decide
  bcast_S_S32x16 := by decide
  reducesTo_S32x16_S_d0_1 := by decide
  bcast_S_S1x16 := by decide
  reducesTo_S1x16_S_d0_1 := by decide

/-- A value whose magnitude is below infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : x ≠ ⊥ ∧ x ≠ ⊤ := by
  have ht : Ideal.ofBits .f32 0x7F800000#32 = ⊤ := by simp [Ideal.ofBits, Ideal.ieee]
  have h' : BitVec.ofBool (decide (max x (-x) < Ideal.ofBits .f32 0x7F800000#32)) = 1#1 := h
  rw [ht] at h'
  by_cases hl : max x (-x) < ⊤
  · refine ⟨fun e => ?_, fun e => ?_⟩
    · rw [e] at hl; simp at hl
    · rw [e] at hl; simp at hl
  · rw [decide_eq_false hl] at h'
    exact absurd h' (by decide)

theorem and_one {a b : BitVec 1} (h : IntOp.andi a b = 1#1) : a = 1#1 ∧ b = 1#1 := by
  revert h; revert a b; decide

instance : Subsingleton S_.Idx := ⟨fun a b => funext fun x => x.elim0⟩

variable (x0 : FVec Ideal S4096x1024 .bf16) (x1 : FVec Ideal S4096x512 .bf16) (x2 : FVec Ideal S4096x1024 .bf16)
  (x3 : FVec Ideal S32x16 .f32) (x4 : FVec Ideal S1x16 .f32)

theorem finite (h : @Cert.Pre_finite.fn facts Ideal _ x0 x1 x2 x3 x4 = fun _ => 1#1) :
    Kern.Fin' (S := S4096x1024) x0 ∧ Kern.Fin' (S := S4096x512) x1 ∧ Kern.Fin' (S := S4096x1024) x2
      ∧ Kern.Fin' (S := S32x16) x3 ∧ Kern.Fin' (S := S1x16) x4 := by
  have hz := congrFun h (fun a => Fin.elim0 a)
  obtain ⟨h25, h22⟩ := and_one hz
  obtain ⟨h24, h18⟩ := and_one h25
  obtain ⟨h23, h14⟩ := and_one h24
  obtain ⟨h4, h9⟩ := and_one h23
  refine ⟨fun i => ?_, fun i => ?_, fun i => ?_, fun i => ?_, fun i => ?_⟩
  · exact real_of_lt (x0 i) (Host.reduce_andi_all _ _ _ _ _ h4 i)
  · exact real_of_lt (x1 i) (Host.reduce_andi_all _ _ _ _ _ h9 i)
  · exact real_of_lt (x2 i) (Host.reduce_andi_all _ _ _ _ _ h14 i)
  · exact real_of_lt (x3 i) (Host.reduce_andi_all _ _ _ _ _ h18 i)
  · exact real_of_lt (x4 i) (Host.reduce_andi_all _ _ _ _ _ h22 i)

end Cert.Attn.Pre

end
-- ==== Proof.Ffn.Body.lean ====
/- What one grid point of the feed-forward layer's backward call computes from the blocks it reads, and what it leaves in
   its buffers, for the four kinds of points: the first (case A: both accumulators start from zero), the first of a row
   block (case D: the accumulator of the norm's cotangents starts from zero), the last of a row block (case C: the
   norm's derivative is taken and stored), and the others (case B). A point works on its 512 rows in two halves. -/
module

public import proofs.«01_k».proof.Proof.Gen.Kernel2Ideal.Value
public import Idealize.ShloMosaic.Lib.ValueIdx
public import Idealize.ShloMosaic.Lib.Pipeline.ReadBack
public import Idealize.ShloMosaic.Lib.Pipeline.ValueKit.Acc

@[expose] public section

set_option maxRecDepth 16384

noncomputable section

namespace Cert.Ffn

open Idealize.ShloMosaic Idealize.ShloMosaic.ValueIdx Idealize.ShloMosaic.TcCoe Idealize.ShloMosaic.Tactic
open Idealize.SL Idealize.SL.Sem
open Cert.Kernel2Ideal Cert.Kernel2Ideal.Gen

theorem inbR (e : Fin 2) : ∀ a, (![256 * e.val, 0] : Fin 2 → ℕ) a + S256x1024.size a ≤ S512x1024.size a := by
  intro a
  match a with
  | ⟨0, _⟩ => show 256 * e.val + 256 ≤ 512; omega
  | ⟨1, _⟩ => exact Nat.le_refl 1024

theorem inbA (e : Fin 2) : ∀ a, (![0, 256 * e.val, 0] : Fin 3 → ℕ) a + S1x256x704.size a ≤ S1x512x704.size a := by
  intro a
  match a with
  | ⟨0, _⟩ => exact Nat.le_refl 1
  | ⟨1, _⟩ => show 256 * e.val + 256 ≤ 512; omega
  | ⟨2, _⟩ => exact Nat.le_refl 704

theorem inbG (s e : Fin 2) : ∀ a, (![s.val, 0, 256 * e.val, 0] : Fin 4 → ℕ) a + S1x1x256x704.size a ≤ S2x1x512x704.size a := by
  intro a
  match a with
  | ⟨0, _⟩ => show s.val + 1 ≤ 2; omega
  | ⟨1, _⟩ => exact Nat.le_refl 1
  | ⟨2, _⟩ => show 256 * e.val + 256 ≤ 512; omega
  | ⟨3, _⟩ => exact Nat.le_refl 704

theorem inbU (s : Fin 2) : ∀ a, (![0, s.val, 0, 0, 0] : Fin 5 → ℕ) a + S1x1x1x704x1024.size a ≤ S1x2x1x704x1024.size a := by
  intro a
  match a with
  | ⟨0, _⟩ => exact Nat.le_refl 1
  | ⟨1, _⟩ => show s.val + 1 ≤ 2; omega
  | ⟨2, _⟩ => exact Nat.le_refl 1
  | ⟨3, _⟩ => exact Nat.le_refl 704
  | ⟨4, _⟩ => exact Nat.le_refl 1024

section Terms

variable {F : FTy → Type} [FloatOps F]

/-- Half `e` of 512 rows. -/
def half (x : Vec F S512x1024 .f32) (e : Fin 2) : Vec F S256x1024 .f32 := View.ld x (Rect.unit ![256 * e.val, 0] S256x1024.size (inbR e))

/-- Half `e` of the gates (`s = 0`) or of the ups (`s = 1`). -/
def ldG (x : Vec F S2x1x512x704 .bf16) (s e : Fin 2) : Vec F S1x1x256x704 .bf16 :=
  View.ld x (Rect.unit ![s.val, 0, 256 * e.val, 0] S1x1x256x704.size (inbG s e))

/-- The rows of the first weight that make the gates or the ups. -/
def ldU (x : Vec F S1x2x1x704x1024 .bf16) (s : Fin 2) : Vec F S1x1x1x704x1024 .bf16 :=
  View.ld x (Rect.unit ![0, s.val, 0, 0, 0] S1x1x1x704x1024.size (inbU s))

variable (x0 : Vec F S512x1024 .f32) (x1 : Vec F S2x1x512x704 .bf16) (x2 : Vec F S1x2x1x704x1024 .bf16)
  (x3 : Vec F S1x1x704x1024 .bf16) (x4 : Vec F S512x1024 .f32) (x5 : Vec F S1x1024 .f32)

/-- The gates' cotangents. -/
def pDG (e : Fin 2) : FVec F S256x704 .bf16 :=
  k0_pay21 (k0_pay13 (ldG x1 0 e)) (k0_pay15 (ldG x1 0 e)) (k0_pay19 (half x0 e) x3 (ldG x1 1 e)) (k0_pay20 (ldG x1 0 e))

/-- The ups' cotangents. -/
def pDP (e : Fin 2) : FVec F S256x704 .bf16 := k0_pay18 (half x0 e) x3 (ldG x1 0 e)

/-- The gated values. -/
def pACT (e : Fin 2) : FVec F S1x256x704 .bf16 := k0_pay17 (ldG x1 0 e) (ldG x1 1 e)

/-- The norm's output's cotangents, added to what is there. -/
def pDU (acc : Vec F S512x1024 .f32) (e : Fin 2) : FVec F S256x1024 .f32 :=
  k0_pay1 (pDP x0 x1 x3 e) (pDG x0 x1 x3 e) (half acc e) (ldU x2 0) (ldU x2 1)

def piecesDU (acc : Vec F S512x1024 .f32) : List (View.Piece (Elt F) S512x1024 .f32) :=
  [⟨Rect.unit ![256 * (1 : Fin 2).val, 0] S256x1024.size (inbR 1), pDU x0 x1 x2 x3 acc 1⟩,
    ⟨Rect.unit ![256 * (0 : Fin 2).val, 0] S256x1024.size (inbR 0), pDU x0 x1 x2 x3 acc 0⟩]

def pieces8 : List (View.Piece (Elt F) S1x512x704 .bf16) :=
  [⟨Rect.unit ![0, 256 * (1 : Fin 2).val, 0] S1x256x704.size (inbA 1), pACT x1 1⟩,
    ⟨Rect.unit ![0, 256 * (0 : Fin 2).val, 0] S1x256x704.size (inbA 0), pACT x1 0⟩]

def piece9 (s e : Fin 2) (v : FVec F S256x704 .bf16) : View.Piece (Elt F) S2x1x512x704 .bf16 :=
  ⟨Rect.unit ![s.val, 0, 256 * e.val, 0] S1x1x256x704.size (inbG s e), shapeCast S1x1x256x704 v shapeCasts_S256x704_S1x1x256x704⟩

def pieces9 : List (View.Piece (Elt F) S2x1x512x704 .bf16) :=
  [piece9 1 1 (pDP x0 x1 x3 1), piece9 0 1 (pDG x0 x1 x3 1), piece9 1 0 (pDP x0 x1 x3 0), piece9 0 0 (pDG x0 x1 x3 0)]

/-- The stores of the residual stream's gradient, from the rows' norm cotangents `d`. -/
def pieces6 (d : Fin 2 → Vec F S256x1024 .f32) : List (View.Piece (Elt F) S512x1024 .f32) :=
  [⟨Rect.unit ![256 * (1 : Fin 2).val, 0] S256x1024.size (inbR 1), k0_pay8 (half x4 1) x5 (d 1) (half x0 1)⟩,
    ⟨Rect.unit ![256 * (0 : Fin 2).val, 0] S256x1024.size (inbR 0), k0_pay8 (half x4 0) x5 (d 0) (half x0 0)⟩]

/-- The gain's gradient with the two halves' sums added. -/
def gainUp (d : Fin 2 → Vec F S256x1024 .f32) (acc : Vec F S1x1024 .f32) : FVec F S1x1024 .f32 :=
  k0_pay9 (half x4 1) (d 1) (k0_pay9 (half x4 0) (d 0) acc)

end Terms

section Outs

variable {F : FTy → Type} [FloatOps F]
variable (c : Dev nD) (i : grid0.Coords) (arg2 : Memref sig .tc .vmem S512x1024 .f32) (harg2 : arg2.IsWhole) (arg3 : Memref sig .tc .vmem S2x1x512x704 .bf16) (harg3 : arg3.IsWhole) (arg4 : Memref sig .tc .vmem S1x2x1x704x1024 .bf16) (harg4 : arg4.IsWhole) (arg5 : Memref sig .tc .vmem S1x1x704x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x512x704 .bf16) (harg10 : arg10.IsWhole) (arg11 : Memref sig .tc .vmem S2x1x512x704 .bf16) (harg11 : arg11.IsWhole) (arg12 : Memref sig .tc .vmem S512x1024 .f32) (harg12 : arg12.IsWhole)
variable (x0 : Vec F S512x1024 .f32) (x1 : Vec F S2x1x512x704 .bf16) (x2 : Vec F S1x2x1x704x1024 .bf16)
  (x3 : Vec F S1x1x704x1024 .bf16) (x4 : Vec F S512x1024 .f32) (x5 : Vec F S1x1024 .f32)

section A

variable (hc0 : cond0_0 i) (hc1 : cond0_1 i) (hc2 : ¬cond0_2 i)

theorem out0_A_7_eq : out0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5 = k0_pay11 := by
  frame_out [↓View.readCov_skip, ↓View.readCov_fill, View.readCov_eq_canon']

theorem out0_A_8_eq : out0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (pieces8 x1) := by
  frame_out [↓View.readCov_skip, ↓View.readCov_fill, View.readCov_eq_canon']
  rfl

theorem out0_A_9_eq : out0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (pieces9 x0 x1 x3) := by
  frame_out [↓View.readCov_skip, ↓View.readCov_fill, View.readCov_eq_canon']
  rfl

theorem sout0_A_0_eq : sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (piecesDU x0 x1 x2 x3 k0_pay10 ++ [⟨Rect.unit ![0, 0] S512x1024.size (by decide), k0_pay10⟩]) := by
  frame_out [↓View.readCov_skip, ↓View.readCov_fill, View.readCov_eq_canon']
  rfl

end A

section B

variable (hc0 : ¬cond0_0 i) (hc1 : ¬cond0_1 i) (hc2 : ¬cond0_2 i) (xs0 : Vec F S512x1024 .f32)

theorem out0_B_8_eq : out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 = View.canon (pieces8 x1) := by
  frame_out [↓View.readCov_skip, ↓View.readCov_fill, View.readCov_eq_canon']
  rfl

theorem out0_B_9_eq : out0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 = View.canon (pieces9 x0 x1 x3) := by
  frame_out [↓View.readCov_skip, ↓View.readCov_fill, View.readCov_eq_canon']
  rfl

theorem sout0_B_0_eq : sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0 = View.canon (piecesDU x0 x1 x2 x3 xs0) := by
  frame_out [↓View.readCov_skip, ↓View.readCov_fill, View.readCov_eq_canon']
  rfl

end B

/-- Reading back a last store gives what was stored. -/
theorem canon_self {s : Shape} {e : EltTy} (r : Rect s) (w : r.shape.Idx → Elt F e) (L : List (View.Piece (Elt F) s e)) :
    (fun j => View.canon (⟨r, w⟩ :: L) (r.idx j)) = w :=
  funext fun j => View.canon_cons_emb r w L j

section C

variable (hc0 : ¬cond0_0 i) (hc1 : ¬cond0_1 i) (hc2 : cond0_2 i) (xo7 : Vec F S1x1024 .f32) (xs0 : Vec F S512x1024 .f32)

set_option maxHeartbeats 1600000 in
theorem out0_C_6_eq : out0_C_6 c i arg2 harg2 arg3 harg3 arg4 harg4 arg5 harg5 arg6 harg6 arg7 harg7 arg8 harg8 arg9 harg9 arg10 harg10 arg11 harg11 arg12 harg12 hc0 hc1 hc2 x0 x1 x2 x3 x4 x5 xo7 xs0
    = View.canon (pieces6 x0 x4 x5 (pDU x0 x1 x2 x3 xs0)) := by
  frame_out [↓View.readCov_skip, ↓View.readCov_fill, View.readCov_eq_canon']
  simp only [canon_self]
  rfl

set_option maxHeartbeats 1600000 in
theorem out0_C_7_eq : out0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 xo7 xs0
    = gainUp x4 (pDU x0 x1 x2 x3 xs0) xo7 := by
  frame_out [↓View.readCov_skip, ↓View.readCov_fill, View.readCov_eq_canon']
  simp only [canon_self]
  rfl

theorem out0_C_8_eq : out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 xo7 xs0 = View.canon (pieces8 x1) := by
  frame_out [↓View.readCov_skip, ↓View.readCov_fill, View.readCov_eq_canon']
  rfl

theorem out0_C_9_eq : out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 xo7 xs0 = View.canon (pieces9 x0 x1 x3) := by
  frame_out [↓View.readCov_skip, ↓View.readCov_fill, View.readCov_eq_canon']
  rfl

end C

section D

variable (hc0 : cond0_0 i) (hc1 : ¬cond0_1 i) (hc2 : ¬cond0_2 i)

theorem out0_D_8_eq : out0_D_8 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (pieces8 x1) := by
  frame_out [↓View.readCov_skip, ↓View.readCov_fill, View.readCov_eq_canon']
  rfl

theorem out0_D_9_eq : out0_D_9 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (pieces9 x0 x1 x3) := by
  frame_out [↓View.readCov_skip, ↓View.readCov_fill, View.readCov_eq_canon']
  rfl

theorem sout0_D_0_eq : sout0_D_0 c i arg2 harg2 arg3 harg3 arg4 harg4 arg5 harg5 arg6 harg6 arg7 harg7 arg8 harg8 arg9 harg9 arg10 harg10 arg11 harg11 arg12 harg12 hc0 hc1 hc2 x0 x1 x2 x3 x4 x5 = View.canon (piecesDU x0 x1 x2 x3 k0_pay10 ++ [⟨Rect.unit ![0, 0] S512x1024.size (by decide), k0_pay10⟩]) := by
  frame_out [↓View.readCov_skip, ↓View.readCov_fill, View.readCov_eq_canon']
  rfl

end D

end Outs

end Cert.Ffn

end
-- ==== Proof.Ffn.Spec.lean ====
/- The gradient of the feed-forward layer (norm, gate and up projections, SwiGLU, down projection, residual) as functions
   of real arrays, and the facts about single numbers that both programs' readings use. Nothing here names a program. -/
module

public import proofs.«01_k».proof.Proof.Spec

@[expose] public section

noncomputable section

namespace Cert.Ffn

open Idealize.ShloMosaic
open Cert.Attn (sum_coe)

/-- The arrays: the residual stream's cotangents, the residual stream before the layer, the norm's gain, the two weights. -/
structure Args where
  dh : ℕ → ℕ → ℝ
  h : ℕ → ℕ → ℝ
  g : ℕ → ℝ
  wu : ℕ → ℕ → ℝ
  wd : ℕ → ℕ → ℝ

/-- What the norm adds to a row's mean square. -/
def eps : ℝ := 8796093 / 8796093022208

theorem eps_pos : 0 < eps := by unfold eps; norm_num

variable (A : Args)

/-- A row's mean square. -/
def ms (i : ℕ) : ℝ := (∑ c : Fin 1024, A.h i c * A.h i c) / 1024 + eps

/-- One over a row's root mean square. -/
def rr (i : ℕ) : ℝ := (Real.sqrt (ms A i))⁻¹

/-- Gates (columns below 2816) and ups. -/
def GU (i c : ℕ) : ℝ := ∑ k : Fin 1024, A.h i k * rr A i * A.g k * A.wu k c

def sg (x : ℝ) : ℝ := (1 + Real.exp (-x))⁻¹

/-- The gated values. -/
def ACT (i k : ℕ) : ℝ := GU A i k * sg (GU A i k) * GU A i (2816 + k)

/-- Their cotangents. -/
def DA (i k : ℕ) : ℝ := ∑ c : Fin 1024, A.dh i c * A.wd k c

/-- The ups' cotangents. -/
def DP (i k : ℕ) : ℝ := DA A i k * (GU A i k * sg (GU A i k))

/-- The gates' cotangents. -/
def DG (i k : ℕ) : ℝ := DA A i k * GU A i (2816 + k) * (sg (GU A i k) * (1 + GU A i k * (1 - sg (GU A i k))))

/-- What 704 gates and their ups add to the cotangents of the norm's output. -/
def PT (i j c : ℕ) : ℝ := ∑ f : Fin 704, DG A i (704 * j + f) * A.wu c (704 * j + f) + ∑ f : Fin 704, DP A i (704 * j + f) * A.wu c (2816 + (704 * j + f))

/-- The cotangents of the norm's output. -/
def DU (i c : ℕ) : ℝ := ∑ j ∈ Finset.range 4, PT A i j c

/-- The mean along a row that the norm's derivative takes away. -/
def MU (i : ℕ) : ℝ := (∑ c : Fin 1024, DU A i c * A.g c * (A.h i c * rr A i)) / 1024

/-- The residual stream's gradient. -/
def DX (i c : ℕ) : ℝ := A.dh i c + rr A i * (DU A i c * A.g c - A.h i c * rr A i * MU A i)

/-- What row `i` adds to the gain's gradient. -/
def GN (i c : ℕ) : ℝ := DU A i c * (A.h i c * rr A i)

/-- The gain's gradient. -/
def DGAIN (c : ℕ) : ℝ := ∑ i ∈ Finset.range 4096, GN A i c

theorem ms_pos (i : ℕ) : 0 < ms A i := by
  unfold ms
  have : 0 ≤ ∑ c : Fin 1024, A.h i c * A.h i c := Finset.sum_nonneg fun c _ => mul_self_nonneg _
  have := eps_pos
  positivity

theorem sg_den_pos (x : ℝ) : 0 < 1 + Real.exp (-x) := by positivity

/-! ## Single numbers -/

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = (eps : EReal) := by
  unfold eps
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.mpr h.le), if_neg h.ne']

end Cert.Ffn

end
-- ==== Proof.Ffn.Point.lean ====
/- What one point computes when its blocks hold the arrays' rows as reals: each value it stores is the gradient's
   (`Spec.lean`) at the place it is stored at. Point `n` works on rows `512 * (n / 4)` and on, and on the gates and ups
   `704 * (n % 4)` and on. -/
module

public import proofs.«01_k».proof.Proof.Ffn.Body
public import proofs.«01_k».proof.Proof.Ffn.Spec
public import Idealize.ShloMosaic.Lib.ValueLayout
public import Idealize.ShloMosaic.Lib.ValueLayoutCasts
public import Idealize.ShloMosaic.Lib.MatmulPlain

@[expose] public section

set_option maxRecDepth 16384

noncomputable section

namespace Cert.Ffn

open Idealize.ShloMosaic Idealize.ShloMosaic.ValueIdx Idealize.ShloMosaic.TcCoe
open Cert.Kernel2Ideal Cert.Kernel2Ideal.Gen
open Cert.Attn (sum_coe)

/-- The blocks of point `n`. -/
structure Blocks (A : Args) (n : ℕ) (x0 : Vec Ideal S512x1024 .f32) (x1 : Vec Ideal S2x1x512x704 .bf16)
    (x2 : Vec Ideal S1x2x1x704x1024 .bf16) (x3 : Vec Ideal S1x1x704x1024 .bf16) (x4 : Vec Ideal S512x1024 .f32)
    (x5 : Vec Ideal S1x1024 .f32) : Prop where
  h0 : ∀ (r : Fin 512) (c : Fin 1024), x0 (ix2 r c) = (A.dh (512 * (n / 4) + r.val) c.val : EReal)
  h1 : ∀ (s : Fin 2) (r : Fin 512) (f : Fin 704),
    x1 (ix4 s 0 r f) = (GU A (512 * (n / 4) + r.val) (2816 * s.val + (704 * (n % 4) + f.val)) : EReal)
  h2 : ∀ (s : Fin 2) (f : Fin 704) (c : Fin 1024),
    x2 (ix5 0 s 0 f c) = (A.wu c.val (2816 * s.val + (704 * (n % 4) + f.val)) : EReal)
  h3 : ∀ (f : Fin 704) (c : Fin 1024), x3 (ix4 0 0 f c) = (A.wd (704 * (n % 4) + f.val) c.val : EReal)
  h4 : ∀ (r : Fin 512) (c : Fin 1024), x4 (ix2 r c) = (A.h (512 * (n / 4) + r.val) c.val : EReal)
  h5 : ∀ c : Fin 1024, x5 (ix2 0 c) = (A.g c.val : EReal)

/-! ## Loads and layouts -/

theorem half_apply (x : Vec Ideal S512x1024 .f32) (e : Fin 2) (r : Fin 256) (c : Fin 1024) :
    half x e (ix2 r c) = x (ix2 ⟨256 * e.val + r.val, by omega⟩ c) := by
  refine congrArg x ?_
  funext a
  match a with
  | ⟨0, _⟩ => exact Fin.ext (show 256 * e.val + 1 * r.val = 256 * e.val + r.val by omega)
  | ⟨1, _⟩ => exact Fin.ext (show 0 + 1 * c.val = c.val by omega)

theorem ldG_apply (x : Vec Ideal S2x1x512x704 .bf16) (s e : Fin 2) (r : Fin 256) (f : Fin 704) :
    ldG x s e (ix4 0 0 r f) = x (ix4 s 0 ⟨256 * e.val + r.val, by omega⟩ f) := by
  refine congrArg x ?_
  funext a
  match a with
  | ⟨0, _⟩ => exact Fin.ext (show s.val + 1 * 0 = s.val by omega)
  | ⟨1, _⟩ => exact Fin.ext rfl
  | ⟨2, _⟩ => exact Fin.ext (show 256 * e.val + 1 * r.val = 256 * e.val + r.val by omega)
  | ⟨3, _⟩ => exact Fin.ext (show 0 + 1 * f.val = f.val by omega)

theorem ldU_apply (x : Vec Ideal S1x2x1x704x1024 .bf16) (s : Fin 2) (f : Fin 704) (c : Fin 1024) :
    ldU x s (ix5 0 0 0 f c) = x (ix5 0 s 0 f c) := by
  refine congrArg x ?_
  funext a
  match a with
  | ⟨0, _⟩ => exact Fin.ext rfl
  | ⟨1, _⟩ => exact Fin.ext (show s.val + 1 * 0 = s.val by omega)
  | ⟨2, _⟩ => exact Fin.ext rfl
  | ⟨3, _⟩ => exact Fin.ext (show 0 + 1 * f.val = f.val by omega)
  | ⟨4, _⟩ => exact Fin.ext (show 0 + 1 * c.val = c.val by omega)

theorem cast_gu {α : Type} (x : S1x1x256x704.Idx → α) (r : Fin 256) (f : Fin 704) :
    shapeCast S256x704 x shapeCasts_S1x1x256x704_S256x704 (ix2 r f) = x (ix4 0 0 r f) := by
  refine shapeCast_apply x _ _ _ ?_
  rw [Shape.rowMajor_val_four, Shape.rowMajor_val_two]
  show ((0 * 1 + 0) * 256 + r.val) * 704 + f.val = r.val * 704 + f.val
  omega

theorem cast_dgu {α : Type} (x : S256x704.Idx → α) (r : Fin 256) (f : Fin 704) :
    shapeCast S1x1x256x704 x shapeCasts_S256x704_S1x1x256x704 (ix4 0 0 r f) = x (ix2 r f) := by
  refine shapeCast_apply x _ _ _ ?_
  rw [Shape.rowMajor_val_four, Shape.rowMajor_val_two]
  show r.val * 704 + f.val = ((0 * 1 + 0) * 256 + r.val) * 704 + f.val
  omega

theorem cast_wd {α : Type} (x : S1x1x704x1024.Idx → α) (f : Fin 704) (c : Fin 1024) :
    shapeCast S704x1024 x shapeCasts_S1x1x704x1024_S704x1024 (ix2 f c) = x (ix4 0 0 f c) := by
  refine shapeCast_apply x _ _ _ ?_
  rw [Shape.rowMajor_val_four, Shape.rowMajor_val_two]
  show ((0 * 1 + 0) * 704 + f.val) * 1024 + c.val = f.val * 1024 + c.val
  omega

theorem cast_wu {α : Type} (x : S1x1x1x704x1024.Idx → α) (f : Fin 704) (c : Fin 1024) :
    shapeCast S704x1024 x shapeCasts_S1x1x1x704x1024_S704x1024 (ix2 f c) = x (ix5 0 0 0 f c) := by
  refine shapeCast_apply x _ _ _ ?_
  rw [Shape.rowMajor_val_five, Shape.rowMajor_val_two]
  show (((0 * 1 + 0) * 1 + 0) * 704 + f.val) * 1024 + c.val = f.val * 1024 + c.val
  omega

theorem dot_nt (L : FVec Ideal S256x1024 .bf16) (R : FVec Ideal S704x1024 .bf16) (r : Fin 256) (f : Fin 704) :
    matmul dot_S256x1024_S704x1024_S256x704_1_1_0_0_n_n none L R (constant S256x704 .f32 0x00000000#32) (ix2 r f)
      = ∑ c : Fin 1024, L (ix2 r c) * R (ix2 f c) := by
  refine (Ideal.matmul_transposedRhs_apply (M := 256) (K := 1024) (N := 704) none L R _ r f).trans ?_
  rw [constant_apply, Ideal.ofBits_zero_f32, zero_add]

theorem dot_nn (L : FVec Ideal S256x704 .bf16) (R : FVec Ideal S704x1024 .bf16) (r : Fin 256) (c : Fin 1024) :
    matmul dot_S256x704_S704x1024_S256x1024_1_0_0_1_n_n none L R (constant S256x1024 .f32 0x00000000#32) (ix2 r c)
      = ∑ f : Fin 704, L (ix2 r f) * R (ix2 f c) := by
  refine (Ideal.matmul_plain_apply (M := 256) (K := 704) (N := 1024) none L R _ r c).trans ?_
  rw [constant_apply, Ideal.ofBits_zero_f32, zero_add]

theorem bc_col (v : FVec Ideal S256x1 .f32) (r : Fin 256) (c : Fin 1024) :
    broadcastTo S256x1024 v broadcasts_S256x1_S256x1024 (ix2 r c) = v (ix2 r 0) :=
  broadcastTo_apply v broadcasts_S256x1_S256x1024 _ _ fun a => by
    match a with
    | ⟨0, _⟩ => rfl
    | ⟨1, _⟩ => rfl

theorem bc_row (v : FVec Ideal S1x1024 .f32) (r : Fin 256) (c : Fin 1024) :
    broadcastTo S256x1024 v broadcasts_S1x1024_S256x1024 (ix2 r c) = v (ix2 0 c) :=
  broadcastTo_1b_ab_apply v broadcasts_S1x1024_S256x1024 r c

theorem rowSum (x : FVec Ideal S256x1024 .f32) (r : Fin 256) :
    shapeCast S256x1 (multiReduction .add [1] S256 x 0x00000000#32 reduces_S256x1024_S256 (.inl rfl) rfl) shapeCasts_S256_S256x1 (ix2 r 0)
      = ∑ c : Fin 1024, x (ix2 r c) := by
  rw [shapeCast_a_a1_apply]
  refine (Ideal.multiReduction_add_single x _ reduces_S256x1024_S256 (.inl rfl) rfl (ix1 r)).trans ?_
  refine Finset.sum_congr rfl fun c _ => congrArg x ?_
  funext a
  match a with
  | ⟨0, _⟩ => exact Fin.ext rfl
  | ⟨1, _⟩ => exact Fin.ext rfl

theorem colSum (x : FVec Ideal S256x1024 .f32) (c : Fin 1024) :
    shapeCast S1x1024 (multiReduction .add [0] S1024 x 0x00000000#32 reduces_S256x1024_S1024 (.inl rfl) rfl) shapeCasts_S1024_S1x1024 (ix2 0 c)
      = ∑ r : Fin 256, x (ix2 r c) := by
  rw [shapeCast_a_1a_apply]
  refine (Ideal.multiReduction_add_single x _ reduces_S256x1024_S1024 (.inl rfl) rfl (ix1 c)).trans ?_
  refine Finset.sum_congr rfl fun r _ => congrArg x ?_
  funext a
  match a with
  | ⟨0, _⟩ => exact Fin.ext rfl
  | ⟨1, _⟩ => exact Fin.ext rfl

/-! ## The layer's gradients -/

section

variable {A : Args} {n : ℕ} {x0 : Vec Ideal S512x1024 .f32} {x1 : Vec Ideal S2x1x512x704 .bf16}
  {x2 : Vec Ideal S1x2x1x704x1024 .bf16} {x3 : Vec Ideal S1x1x704x1024 .bf16} {x4 : Vec Ideal S512x1024 .f32}
  {x5 : Vec Ideal S1x1024 .f32} (b : Blocks A n x0 x1 x2 x3 x4 x5)

/-- Row `r` of half `e` of point `n`'s rows. -/
abbrev rowOf (n : ℕ) (e : Fin 2) (r : Fin 256) : ℕ := 512 * (n / 4) + (256 * e.val + r.val)

/-- Gate `f` of point `n`. -/
abbrev colOf (n : ℕ) (f : Fin 704) : ℕ := 704 * (n % 4) + f.val

include b

theorem gate_apply (e : Fin 2) (r : Fin 256) (f : Fin 704) :
    k0_pay13 (ldG x1 0 e) (ix2 r f) = (GU A (rowOf n e r) (colOf n f) : EReal) := by
  show shapeCast S256x704 (ldG x1 0 e) shapeCasts_S1x1x256x704_S256x704 (ix2 r f) = _
  rw [cast_gu, ldG_apply, b.h1]
  show ((GU A _ (2816 * 0 + colOf n f) : ℝ) : EReal) = _
  rw [Nat.mul_zero, Nat.zero_add]

theorem up_apply (e : Fin 2) (r : Fin 256) (f : Fin 704) :
    k0_pay14 (ldG x1 1 e) (ix2 r f) = (GU A (rowOf n e r) (2816 + colOf n f) : EReal) := by
  show shapeCast S256x704 (ldG x1 1 e) shapeCasts_S1x1x256x704_S256x704 (ix2 r f) = _
  rw [cast_gu, ldG_apply, b.h1]
  rfl

theorem sig_apply (e : Fin 2) (r : Fin 256) (f : Fin 704) :
    k0_pay15 (ldG x1 0 e) (ix2 r f) = (sg (GU A (rowOf n e r) (colOf n f)) : EReal) := by
  show Ideal.logistic (k0_pay13 (ldG x1 0 e) (ix2 r f)) = _
  rw [gate_apply b, Ideal.logistic_coe]
  rfl

theorem silu_apply (e : Fin 2) (r : Fin 256) (f : Fin 704) :
    k0_pay16 (ldG x1 0 e) (ix2 r f) = ((GU A (rowOf n e r) (colOf n f) * sg (GU A (rowOf n e r) (colOf n f)) : ℝ) : EReal) := by
  show k0_pay13 (ldG x1 0 e) (ix2 r f) * k0_pay15 (ldG x1 0 e) (ix2 r f) = _
  rw [gate_apply b, sig_apply b, EReal.coe_mul]

theorem act_apply (e : Fin 2) (r : Fin 256) (f : Fin 704) :
    pACT x1 e (ix3 0 r f) = (ACT A (rowOf n e r) (colOf n f) : EReal) := by
  unfold pACT
  show shapeCast S1x256x704 (truncf .bf16 (mulf (k0_pay16 (ldG x1 0 e)) (k0_pay14 (ldG x1 1 e))) bitsLt_bf16_f32) shapeCasts_S256x704_S1x256x704 (ix3 0 r f) = _
  rw [shapeCast_ab_1ab_apply, truncf_apply, mulf_apply, silu_apply b, up_apply b, ← EReal.coe_mul]
  rfl

theorem da_apply (e : Fin 2) (r : Fin 256) (f : Fin 704) :
    k0_pay12 (half x0 e) x3 (ix2 r f) = (DA A (rowOf n e r) (colOf n f) : EReal) := by
  show matmul dot_S256x1024_S704x1024_S256x704_1_1_0_0_n_n none (truncf .bf16 (half x0 e) bitsLt_bf16_f32)
    (shapeCast S704x1024 x3 shapeCasts_S1x1x704x1024_S704x1024) (constant S256x704 .f32 0x00000000#32) (ix2 r f) = _
  rw [dot_nt]
  refine sum_coe _ _ _ fun c => ?_
  rw [truncf_apply, half_apply, cast_wd, b.h0, b.h3, EReal.coe_mul]

theorem dp_apply (e : Fin 2) (r : Fin 256) (f : Fin 704) :
    pDP x0 x1 x3 e (ix2 r f) = (DP A (rowOf n e r) (colOf n f) : EReal) := by
  unfold pDP
  show k0_pay12 (half x0 e) x3 (ix2 r f) * k0_pay16 (ldG x1 0 e) (ix2 r f) = _
  rw [da_apply b, silu_apply b, ← EReal.coe_mul]
  rfl

theorem dg_apply (e : Fin 2) (r : Fin 256) (f : Fin 704) :
    pDG x0 x1 x3 e (ix2 r f) = (DG A (rowOf n e r) (colOf n f) : EReal) := by
  unfold pDG
  show k0_pay12 (half x0 e) x3 (ix2 r f) * k0_pay14 (ldG x1 1 e) (ix2 r f)
    * (k0_pay15 (ldG x1 0 e) (ix2 r f) * (Ideal.ofBits .f32 0x3F800000#32
      + k0_pay13 (ldG x1 0 e) (ix2 r f) * (Ideal.ofBits .f32 0x3F800000#32 - k0_pay15 (ldG x1 0 e) (ix2 r f)))) = _
  rw [da_apply b, up_apply b, sig_apply b, gate_apply b, ofBits_one, ← EReal.coe_mul, ← EReal.coe_sub, ← EReal.coe_mul, ← EReal.coe_add,
    ← EReal.coe_mul, ← EReal.coe_mul]
  rfl

theorem du_apply (acc : Vec Ideal S512x1024 .f32) (e : Fin 2) (r : Fin 256) (c : Fin 1024) :
    pDU x0 x1 x2 x3 acc e (ix2 r c) = acc (ix2 ⟨256 * e.val + r.val, by omega⟩ c) + (PT A (rowOf n e r) (n % 4) c.val : EReal) := by
  unfold pDU k0_pay1
  rw [shapeCast_self, addf_apply, addf_apply, dot_nn, dot_nn, half_apply]
  congr 1
  unfold PT
  rw [EReal.coe_add]
  congr 1
  · refine sum_coe _ _ _ fun f => ?_
    rw [cast_wu, ldU_apply, dg_apply b, b.h2, ← EReal.coe_mul]
    show ((DG A _ _ * A.wu c.val (2816 * 0 + colOf n f) : ℝ) : EReal) = _
    rw [Nat.mul_zero, Nat.zero_add]
  · refine sum_coe _ _ _ fun f => ?_
    rw [cast_wu, ldU_apply, dp_apply b, b.h2, ← EReal.coe_mul]
    rfl

theorem r_apply (e : Fin 2) (r : Fin 256) : k0_pay6 (half x4 e) (ix2 r 0) = (rr A (rowOf n e r) : EReal) := by
  have hs : ∑ c : Fin 1024, (mulf (half x4 e) (half x4 e)) (ix2 r c) = ((∑ c : Fin 1024, A.h (rowOf n e r) c * A.h (rowOf n e r) c : ℝ) : EReal) :=
    sum_coe _ _ _ fun c => by rw [mulf_apply, half_apply, b.h4, EReal.coe_mul]
  show Ideal.rsqrt (Ideal.div (shapeCast S256x1 (multiReduction .add [1] S256 (mulf (half x4 e) (half x4 e)) 0x00000000#32 reduces_S256x1024_S256 (.inl rfl) rfl)
    shapeCasts_S256_S256x1 (ix2 r 0)) (Ideal.ofBits .f32 0x44800000#32) + Ideal.ofBits .f32 0x358637BD#32) = _
  rw [rowSum, hs, ofBits_1024, ofBits_eps, div_real _ _ (by norm_num), ← EReal.coe_add]
  exact rsqrt_real _ (ms_pos A (rowOf n e r))

theorem xh_apply (e : Fin 2) (r : Fin 256) (c : Fin 1024) :
    k0_pay7 (half x4 e) (ix2 r c) = ((A.h (rowOf n e r) c * rr A (rowOf n e r) : ℝ) : EReal) := by
  unfold k0_pay7
  rw [mulf_apply, bc_col, half_apply, b.h4, r_apply b, ← EReal.coe_mul]

theorem dx_apply (d : Vec Ideal S256x1024 .f32) (e : Fin 2) (r : Fin 256) (c : Fin 1024)
    (hd : ∀ c : Fin 1024, d (ix2 r c) = (DU A (rowOf n e r) c.val : EReal)) :
    k0_pay8 (half x4 e) x5 d (half x0 e) (ix2 r c) = (DX A (rowOf n e r) c.val : EReal) := by
  unfold k0_pay8
  rw [addf_apply, mulf_apply, bc_col, subf_apply, mulf_apply, mulf_apply, bc_row, bc_col, divf_apply, rowSum, broadcast_apply,
    sum_coe _ _ (fun c : Fin 1024 => DU A (rowOf n e r) c * A.g c * (A.h (rowOf n e r) c * rr A (rowOf n e r)))
      (fun c => by rw [mulf_apply, mulf_apply, bc_row, xh_apply b, hd, b.h5, ← EReal.coe_mul, ← EReal.coe_mul])]
  have e' : (Scalar.ofBits (F := Ideal) .f32 0x44800000#32 : EReal) = ((1024 : ℝ) : EReal) := ofBits_1024
  rw [e', div_real _ _ (by norm_num), xh_apply b, r_apply b, hd, b.h5, half_apply, b.h0]
  simp only [← EReal.coe_mul, ← EReal.coe_sub, ← EReal.coe_add]
  rfl

theorem gain_apply (d : Vec Ideal S256x1024 .f32) (e : Fin 2) (acc : Vec Ideal S1x1024 .f32) (c : Fin 1024)
    (hd : ∀ r : Fin 256, d (ix2 r c) = (DU A (rowOf n e r) c.val : EReal)) :
    k0_pay9 (half x4 e) d acc (ix2 0 c) = acc (ix2 0 c) + ((∑ r : Fin 256, GN A (rowOf n e r) c.val : ℝ) : EReal) := by
  unfold k0_pay9
  rw [addf_apply, shapeCast_self, colSum,
    sum_coe _ _ (fun r : Fin 256 => GN A (rowOf n e r) c.val) (fun r => by rw [mulf_apply, xh_apply b, hd, ← EReal.coe_mul]; rfl)]

end

end Cert.Ffn

end
-- ==== Proof.Ffn.Store.lean ====
/- The buffers one point leaves, when its blocks hold the arrays' rows as reals. -/
module

public import proofs.«01_k».proof.Proof.Ffn.Point

@[expose] public section

set_option maxRecDepth 16384

noncomputable section

namespace Cert.Ffn

open Idealize.ShloMosaic Idealize.ShloMosaic.ValueIdx Idealize.ShloMosaic.TcCoe
open Idealize.SL Idealize.SL.Sem
open Cert.Kernel2Ideal Cert.Kernel2Ideal.Gen

/-- The residual stream's gradient on point `n`'s rows. -/
def O6 (A : Args) (n : ℕ) (y : S512x1024.Idx) : EReal := (DX A (512 * (n / 4) + (y 0).val) (y 1).val : EReal)

/-- Point `n`'s gated values. -/
def O8 (A : Args) (n : ℕ) (y : S1x512x704.Idx) : EReal := (ACT A (512 * (n / 4) + (y 1).val) (704 * (n % 4) + (y 2).val) : EReal)

/-- Point `n`'s cotangents of gates and ups. -/
def O9 (A : Args) (n : ℕ) (y : S2x1x512x704.Idx) : EReal :=
  if (y 0).val = 0 then (DG A (512 * (n / 4) + (y 2).val) (704 * (n % 4) + (y 3).val) : EReal)
  else (DP A (512 * (n / 4) + (y 2).val) (704 * (n % 4) + (y 3).val) : EReal)

/-- What point `n` makes of the sum of the norm output's cotangents. -/
def US (A : Args) (n : ℕ) (acc : Vec Ideal S512x1024 .f32) (y : S512x1024.Idx) : EReal :=
  acc y + (PT A (512 * (n / 4) + (y 0).val) (n % 4) (y 1).val : EReal)

theorem ix_row (x : S256x1024.Idx) : x = ix2 (n0 := 256) (n1 := 1024) (x 0) (x 1) := by
  funext a
  match a with
  | ⟨0, _⟩ => rfl
  | ⟨1, _⟩ => rfl

theorem ix_act (x : S1x256x704.Idx) : x = ix3 (n0 := 1) (n1 := 256) (n2 := 704) 0 (x 1) (x 2) := by
  funext a
  match a with
  | ⟨0, _⟩ => exact Subsingleton.elim (α := Fin 1) _ _
  | ⟨1, _⟩ => rfl
  | ⟨2, _⟩ => rfl

theorem ix_dgu (x : S1x1x256x704.Idx) : x = ix4 (n0 := 1) (n1 := 1) (n2 := 256) (n3 := 704) 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- Half `e` of the rows at an index of its own. -/
theorem emb_row (e : Fin 2) (x : S256x1024.Idx) :
    (Rect.unit ![256 * e.val, 0] S256x1024.size (inbR e) : Rect S512x1024).emb x
      = ix2 (n0 := 512) (n1 := 1024) ⟨256 * e.val + (x 0).val, by have : (x 0).val < 256 := (x 0).isLt; omega⟩ (x 1) := by
  funext a
  match a with
  | ⟨0, _⟩ => exact Fin.ext (show 256 * e.val + 1 * (x 0).val = 256 * e.val + (x 0).val by omega)
  | ⟨1, _⟩ => exact Fin.ext (show 0 + 1 * (x 1).val = (x 1).val by omega)

theorem emb_act (e : Fin 2) (x : S1x256x704.Idx) :
    (Rect.unit ![0, 256 * e.val, 0] S1x256x704.size (inbA e) : Rect S1x512x704).emb x
      = ix3 (n0 := 1) (n1 := 512) (n2 := 704) 0 ⟨256 * e.val + (x 1).val, by have : (x 1).val < 256 := (x 1).isLt; omega⟩ (x 2) := by
  funext a
  match a with
  | ⟨0, _⟩ => exact Subsingleton.elim (α := Fin 1) _ _
  | ⟨1, _⟩ => exact Fin.ext (show 256 * e.val + 1 * (x 1).val = 256 * e.val + (x 1).val by omega)
  | ⟨2, _⟩ => exact Fin.ext (show 0 + 1 * (x 2).val = (x 2).val by omega)

theorem emb_dgu (s e : Fin 2) (x : S1x1x256x704.Idx) :
    (Rect.unit ![s.val, 0, 256 * e.val, 0] S1x1x256x704.size (inbG s e) : Rect S2x1x512x704).emb x
      = ix4 (n0 := 2) (n1 := 1) (n2 := 512) (n3 := 704) s 0 ⟨256 * e.val + (x 2).val, by have : (x 2).val < 256 := (x 2).isLt; omega⟩ (x 3) := by
  funext a
  match a with
  | ⟨0, _⟩ => exact Fin.ext (show s.val + 1 * (x 0).val = s.val by have : (x 0).val < 1 := (x 0).isLt; omega)
  | ⟨1, _⟩ => exact Subsingleton.elim (α := Fin 1) _ _
  | ⟨2, _⟩ => exact Fin.ext (show 256 * e.val + 1 * (x 2).val = 256 * e.val + (x 2).val by omega)
  | ⟨3, _⟩ => exact Fin.ext (show 0 + 1 * (x 3).val = (x 3).val by omega)

theorem mem_row (y : S512x1024.Idx) (e : Fin 2) (h : (y 0).val / 256 = e.val) :
    y ∈ (Rect.unit ![256 * e.val, 0] S256x1024.size (inbR e) : Rect S512x1024).set := by
  refine Rect.mem_set_unit.mpr fun a => ?_
  match a with
  | ⟨0, _⟩ => exact ⟨show 256 * e.val ≤ (y 0).val by omega, show (y 0).val < 256 * e.val + 256 by omega⟩
  | ⟨1, _⟩ => exact ⟨Nat.zero_le _, by show (y 1).val < 0 + 1024; have : (y 1).val < 1024 := (y 1).isLt; omega⟩

theorem mem_act (y : S1x512x704.Idx) (e : Fin 2) (h : (y 1).val / 256 = e.val) :
    y ∈ (Rect.unit ![0, 256 * e.val, 0] S1x256x704.size (inbA e) : Rect S1x512x704).set := by
  refine Rect.mem_set_unit.mpr fun a => ?_
  match a with
  | ⟨0, _⟩ => exact ⟨Nat.zero_le _, by show (y 0).val < 0 + 1; have : (y 0).val < 1 := (y 0).isLt; omega⟩
  | ⟨1, _⟩ => exact ⟨show 256 * e.val ≤ (y 1).val by omega, show (y 1).val < 256 * e.val + 256 by omega⟩
  | ⟨2, _⟩ => exact ⟨Nat.zero_le _, by show (y 2).val < 0 + 704; have : (y 2).val < 704 := (y 2).isLt; omega⟩

theorem mem_dgu (y : S2x1x512x704.Idx) (s e : Fin 2) (hs : (y 0).val = s.val) (h : (y 2).val / 256 = e.val) :
    y ∈ (Rect.unit ![s.val, 0, 256 * e.val, 0] S1x1x256x704.size (inbG s e) : Rect S2x1x512x704).set := by
  refine Rect.mem_set_unit.mpr fun a => ?_
  match a with
  | ⟨0, _⟩ => exact ⟨show s.val ≤ (y 0).val by omega, show (y 0).val < s.val + 1 by omega⟩
  | ⟨1, _⟩ => exact ⟨Nat.zero_le _, by show (y 1).val < 0 + 1; have : (y 1).val < 1 := (y 1).isLt; omega⟩
  | ⟨2, _⟩ => exact ⟨show 256 * e.val ≤ (y 2).val by omega, show (y 2).val < 256 * e.val + 256 by omega⟩
  | ⟨3, _⟩ => exact ⟨Nat.zero_le _, by show (y 3).val < 0 + 704; have : (y 3).val < 704 := (y 3).isLt; omega⟩

theorem two (k : ℕ) (h : k < 512) : k / 256 = (0 : Fin 2).val ∨ k / 256 = (1 : Fin 2).val := by
  show k / 256 = 0 ∨ k / 256 = 1
  omega

variable {A : Args} {n : ℕ} {x0 : Vec Ideal S512x1024 .f32} {x1 : Vec Ideal S2x1x512x704 .bf16}
  {x2 : Vec Ideal S1x2x1x704x1024 .bf16} {x3 : Vec Ideal S1x1x704x1024 .bf16} {x4 : Vec Ideal S512x1024 .f32}
  {x5 : Vec Ideal S1x1024 .f32} (b : Blocks A n x0 x1 x2 x3 x4 x5)

include b

theorem act_piece (e : Fin 2) (x : S1x256x704.Idx) :
    pACT x1 e x = O8 A n ((Rect.unit ![0, 256 * e.val, 0] S1x256x704.size (inbA e) : Rect S1x512x704).emb x) := by
  rw [emb_act]
  exact (congrArg (pACT x1 e) (ix_act x)).trans (act_apply b e (x 1) (x 2))

theorem canon8 (y : S1x512x704.Idx) : View.canon (pieces8 x1) y = O8 A n y := by
  have hp : View.PiecesOf (Val := Elt Ideal) (e := .bf16) (O8 A n) (pieces8 x1) :=
    ⟨act_piece b 1, act_piece b 0, trivial⟩
  refine View.canon_apply_of_pieces (Val := Elt Ideal) (S := S1x512x704) (e := .bf16) (O8 A n) _ (View.PiecesOf.mem hp) y ?_
  rcases two (y 1).val (y 1).isLt with k | k
  · exact ⟨_, List.mem_cons_of_mem _ List.mem_cons_self, mem_act y 0 k⟩
  · exact ⟨_, List.mem_cons_self, mem_act y 1 k⟩

theorem dg_piece (e : Fin 2) (x : S1x1x256x704.Idx) :
    shapeCast S1x1x256x704 (pDG x0 x1 x3 e) shapeCasts_S256x704_S1x1x256x704 x
      = O9 A n ((Rect.unit ![(0 : Fin 2).val, 0, 256 * e.val, 0] S1x1x256x704.size (inbG 0 e) : Rect S2x1x512x704).emb x) := by
  rw [emb_dgu]
  refine ((congrArg _ (ix_dgu x)).trans ((cast_dgu (pDG x0 x1 x3 e) (x 2) (x 3)).trans (dg_apply b e (x 2) (x 3)))).trans ?_
  exact (if_pos rfl).symm

theorem dp_piece (e : Fin 2) (x : S1x1x256x704.Idx) :
    shapeCast S1x1x256x704 (pDP x0 x1 x3 e) shapeCasts_S256x704_S1x1x256x704 x
      = O9 A n ((Rect.unit ![(1 : Fin 2).val, 0, 256 * e.val, 0] S1x1x256x704.size (inbG 1 e) : Rect S2x1x512x704).emb x) := by
  rw [emb_dgu]
  refine ((congrArg _ (ix_dgu x)).trans ((cast_dgu (pDP x0 x1 x3 e) (x 2) (x 3)).trans (dp_apply b e (x 2) (x 3)))).trans ?_
  exact (if_neg Nat.one_ne_zero).symm

theorem canon9 (y : S2x1x512x704.Idx) : View.canon (pieces9 x0 x1 x3) y = O9 A n y := by
  have hp : View.PiecesOf (Val := Elt Ideal) (e := .bf16) (O9 A n) (pieces9 x0 x1 x3) :=
    ⟨dp_piece b 1, dg_piece b 1, dp_piece b 0, dg_piece b 0, trivial⟩
  refine View.canon_apply_of_pieces (Val := Elt Ideal) (S := S2x1x512x704) (e := .bf16) (O9 A n) _ (View.PiecesOf.mem hp) y ?_
  have hs : (y 0).val = (0 : Fin 2).val ∨ (y 0).val = (1 : Fin 2).val := by
    have : (y 0).val < 2 := (y 0).isLt
    show (y 0).val = 0 ∨ (y 0).val = 1
    omega
  rcases two (y 2).val (y 2).isLt with k | k <;> rcases hs with s | s
  · exact ⟨_, List.mem_cons_of_mem _ (List.mem_cons_of_mem _ (List.mem_cons_of_mem _ List.mem_cons_self)), mem_dgu y 0 0 s k⟩
  · exact ⟨_, List.mem_cons_of_mem _ (List.mem_cons_of_mem _ List.mem_cons_self), mem_dgu y 1 0 s k⟩
  · exact ⟨_, List.mem_cons_of_mem _ List.mem_cons_self, mem_dgu y 0 1 s k⟩
  · exact ⟨_, List.mem_cons_self, mem_dgu y 1 1 s k⟩

theorem du_piece (acc : Vec Ideal S512x1024 .f32) (e : Fin 2) (x : S256x1024.Idx) :
    pDU x0 x1 x2 x3 acc e x = US A n acc ((Rect.unit ![256 * e.val, 0] S256x1024.size (inbR e) : Rect S512x1024).emb x) := by
  rw [emb_row]
  exact (congrArg (pDU x0 x1 x2 x3 acc e) (ix_row x)).trans (du_apply b acc e (x 0) (x 1))

theorem canonDU (acc : Vec Ideal S512x1024 .f32) (L : List (View.Piece (Elt Ideal) S512x1024 .f32)) (y : S512x1024.Idx) :
    View.canon (piecesDU x0 x1 x2 x3 acc ++ L) y = US A n acc y := by
  have hp : View.PiecesOf (Val := Elt Ideal) (e := .f32) (US A n acc) (piecesDU x0 x1 x2 x3 acc) :=
    ⟨du_piece b acc 1, du_piece b acc 0, trivial⟩
  refine View.canon_append_of_piecesOf (Val := Elt Ideal) (s := S512x1024) (e := .f32) (US A n acc) L _ hp y ?_
  rcases two (y 0).val (y 0).isLt with k | k
  · exact ⟨_, List.mem_cons_of_mem _ List.mem_cons_self, mem_row y 0 k⟩
  · exact ⟨_, List.mem_cons_self, mem_row y 1 k⟩

theorem canonDU' (acc : Vec Ideal S512x1024 .f32) (y : S512x1024.Idx) :
    View.canon (piecesDU x0 x1 x2 x3 acc) y = US A n acc y :=
  (congrArg (View.canon · y) (List.append_nil _).symm).trans (canonDU b acc [] y)

theorem dx_piece (d : Fin 2 → Vec Ideal S256x1024 .f32)
    (hd : ∀ (e : Fin 2) (r : Fin 256) (c : Fin 1024), d e (ix2 r c) = (DU A (rowOf n e r) c.val : EReal)) (e : Fin 2) (x : S256x1024.Idx) :
    k0_pay8 (half x4 e) x5 (d e) (half x0 e) x = O6 A n ((Rect.unit ![256 * e.val, 0] S256x1024.size (inbR e) : Rect S512x1024).emb x) := by
  rw [emb_row]
  exact (congrArg (k0_pay8 (half x4 e) x5 (d e) (half x0 e)) (ix_row x)).trans (dx_apply b (d e) e (x 0) (x 1) (hd e (x 0)))

theorem canon6 (d : Fin 2 → Vec Ideal S256x1024 .f32)
    (hd : ∀ (e : Fin 2) (r : Fin 256) (c : Fin 1024), d e (ix2 r c) = (DU A (rowOf n e r) c.val : EReal)) (y : S512x1024.Idx) :
    View.canon (pieces6 x0 x4 x5 d) y = O6 A n y := by
  have hp : View.PiecesOf (Val := Elt Ideal) (e := .f32) (O6 A n) (pieces6 x0 x4 x5 d) :=
    ⟨dx_piece b d hd 1, dx_piece b d hd 0, trivial⟩
  refine View.canon_apply_of_pieces (Val := Elt Ideal) (S := S512x1024) (e := .f32) (O6 A n) _ (View.PiecesOf.mem hp) y ?_
  rcases two (y 0).val (y 0).isLt with k | k
  · exact ⟨_, List.mem_cons_of_mem _ List.mem_cons_self, mem_row y 0 k⟩
  · exact ⟨_, List.mem_cons_self, mem_row y 1 k⟩

/-- The gain's gradient over rows up to the end of point `n`'s. -/
theorem gainUp_apply (d : Fin 2 → Vec Ideal S256x1024 .f32)
    (hd : ∀ (e : Fin 2) (r : Fin 256) (c : Fin 1024), d e (ix2 r c) = (DU A (rowOf n e r) c.val : EReal)) (acc : Vec Ideal S1x1024 .f32) (c : Fin 1024)
    (ha : acc (ix2 0 c) = ((∑ k ∈ Finset.range (512 * (n / 4)), GN A k c.val : ℝ) : EReal)) :
    gainUp x4 d acc (ix2 0 c) = ((∑ k ∈ Finset.range (512 * (n / 4 + 1)), GN A k c.val : ℝ) : EReal) := by
  unfold gainUp
  rw [gain_apply b (d 1) 1 _ c (fun r => hd 1 r c), gain_apply b (d 0) 0 _ c (fun r => hd 0 r c), ha, ← EReal.coe_add, ← EReal.coe_add,
    show 512 * (n / 4 + 1) = 512 * (n / 4) + 256 + 256 by omega, Finset.sum_range_add, Finset.sum_range_add,
    Finset.sum_range (fun x => GN A (512 * (n / 4) + x) c.val), Finset.sum_range (fun x => GN A (512 * (n / 4) + 256 + x) c.val)]
  have e0 : ∀ r : Fin 256, rowOf n 0 r = 512 * (n / 4) + r.val := fun r => show 512 * (n / 4) + (256 * 0 + r.val) = _ by omega
  have e1 : ∀ r : Fin 256, rowOf n 1 r = 512 * (n / 4) + 256 + r.val := fun r => show 512 * (n / 4) + (256 * 1 + r.val) = _ by omega
  simp only [e0, e1]

end Cert.Ffn

end
-- ==== Proof.Ffn.Fold.lean ====
/- What the buffers hold after each of the 32 points, and the four arrays the kernel leaves: the residual stream's
   gradient at each row block's last point, the gain's gradient summed over the row blocks, and each point's own blocks of
   the gated values and of the cotangents of gates and ups. -/
module

public import proofs.«01_k».proof.Proof.Ffn.Store

@[expose] public section

set_option maxRecDepth 16384

noncomputable section

namespace Cert.Ffn

open Idealize.ShloMosaic Idealize.ShloMosaic.ValueIdx Idealize.ShloMosaic.TcCoe
open Idealize.SL Idealize.SL.Sem
open Cert.Kernel2Ideal Cert.Kernel2Ideal.Gen Cert.Kernel2Ideal.Value

/-- The five buffers the points hand on. -/
abbrev Tup := Vec Ideal S512x1024 .f32 × Vec Ideal S1x1024 .f32 × Vec Ideal S1x512x704 .bf16 × Vec Ideal S2x1x512x704 .bf16 × Vec Ideal S512x1024 .f32

/-- The buffers after point `n`. -/
structure Ok (A : Args) (n : ℕ) (u : Tup) : Prop where
  act : ∀ y, u.2.2.1 y = O8 A n y
  dgu : ∀ y, u.2.2.2.1 y = O9 A n y
  du : ¬n % 4 = 3 → ∀ y : S512x1024.Idx,
    u.2.2.2.2 y = ((∑ j ∈ Finset.range (n % 4 + 1), PT A (512 * (n / 4) + (y 0).val) j (y 1).val : ℝ) : EReal)
  gain : ∀ c : Fin 1024, u.2.1 (ix2 0 c) = ((∑ k ∈ Finset.range (512 * ((n + 1) / 4)), GN A k c.val : ℝ) : EReal)
  dx : n % 4 = 3 → ∀ y, u.1 y = O6 A n y

theorem pay10_zero (y : S512x1024.Idx) : k0_pay10 (F := Ideal) y = 0 := by
  unfold k0_pay10
  rw [shapeCast_self]
  exact Ideal.ofBits_zero_f32

theorem pay11_zero (c : Fin 1024) : k0_pay11 (F := Ideal) (ix2 0 c) = 0 := by
  unfold k0_pay11
  exact Ideal.ofBits_zero_f32

theorem us_zero (A : Args) (n : ℕ) (hn : n % 4 = 0) (y : S512x1024.Idx) :
    US A n (k0_pay10 (F := Ideal)) y = ((∑ j ∈ Finset.range (n % 4 + 1), PT A (512 * (n / 4) + (y 0).val) j (y 1).val : ℝ) : EReal) := by
  unfold US
  rw [pay10_zero, zero_add, hn, Finset.sum_range_one]

theorem us_next (A : Args) (n : ℕ) (hn : ¬(n + 1) % 4 = 0) (acc : Vec Ideal S512x1024 .f32) (y : S512x1024.Idx)
    (ha : acc y = ((∑ j ∈ Finset.range (n % 4 + 1), PT A (512 * (n / 4) + (y 0).val) j (y 1).val : ℝ) : EReal)) :
    US A (n + 1) acc y = ((∑ j ∈ Finset.range ((n + 1) % 4 + 1), PT A (512 * ((n + 1) / 4) + (y 0).val) j (y 1).val : ℝ) : EReal) := by
  unfold US
  rw [ha, ← EReal.coe_add, show (n + 1) / 4 = n / 4 by omega, show (n + 1) % 4 = n % 4 + 1 by omega, Finset.sum_range_succ _ (n % 4 + 1)]

variable (m : (ℓ : Loc nD τ sig) → Buf (Elt Ideal) ℓ) (c : Dev nD) {A : Args}

theorem ok_first (t : Fin cfg0.N) (acc : Tup) (ht : t.val = 0)
    (b : Blocks A t.val (iblk m c 0 t) (iblk m c 1 t) (iblk m c 2 t) (iblk m c 3 t) (iblk m c 4 t) (iblk m c 5 t)) :
    Ok A t.val (stAt0 m c t.val t.isLt acc) := by
  rw [stAt0_A m c t acc (by omega) (by omega) (by omega)]
  constructor
  · intro y
    dsimp only
    rw [out0_A_8_eq]
    exact canon8 b y
  · intro y
    dsimp only
    rw [out0_A_9_eq]
    exact canon9 b y
  · intro _ y
    dsimp only
    rw [sout0_A_0_eq]
    exact (canonDU b _ _ y).trans (us_zero A t.val (by omega) y)
  · intro k
    dsimp only
    rw [out0_A_7_eq, pay11_zero, show 512 * ((t.val + 1) / 4) = 0 by omega, Finset.sum_range_zero, EReal.coe_zero]
  · intro h; omega

theorem ok_next (t : Fin cfg0.N) (acc : Tup) (n : ℕ) (ht : t.val = n + 1)
    (b : Blocks A t.val (iblk m c 0 t) (iblk m c 1 t) (iblk m c 2 t) (iblk m c 3 t) (iblk m c 4 t) (iblk m c 5 t)) (h : Ok A n acc) :
    Ok A t.val (stAt0 m c t.val t.isLt acc) := by
  have hN : t.val < 32 := lt_of_lt_of_eq t.isLt N_0
  by_cases h0 : t.val % 4 = 0
  · rw [stAt0_D m c t acc h0 (by omega) (by omega)]
    constructor
    · intro y
      dsimp only
      rw [out0_D_8_eq]
      exact canon8 b y
    · intro y
      dsimp only
      rw [out0_D_9_eq]
      exact canon9 b y
    · intro _ y
      dsimp only
      rw [sout0_D_0_eq]
      exact (canonDU b _ _ y).trans (us_zero A t.val h0 y)
    · intro k
      refine (h.gain k).trans ?_
      rw [show (t.val + 1) / 4 = (n + 1) / 4 by omega]
    · intro h; omega
  · by_cases h2 : t.val % 4 = 3
    · have hd : ∀ (e : Fin 2) (r : Fin 256) (k : Fin 1024),
          pDU (iblk m c 0 t) (iblk m c 1 t) (iblk m c 2 t) (iblk m c 3 t) acc.2.2.2.2 e (ix2 r k) = (DU A (rowOf t.val e r) k.val : EReal) := by
        intro e r k
        have hu := us_next A n (by omega) acc.2.2.2.2 (ix2 ⟨256 * e.val + r.val, by omega⟩ k) (h.du (by omega) _)
        rw [← ht] at hu
        refine (du_apply b acc.2.2.2.2 e r k).trans (hu.trans ?_)
        rw [h2]
        rfl
      rw [stAt0_C m c t acc h0 (by omega) h2]
      constructor
      · intro y
        dsimp only
        rw [out0_C_8_eq]
        exact canon8 b y
      · intro y
        dsimp only
        rw [out0_C_9_eq]
        exact canon9 b y
      · intro h'; omega
      · intro k
        dsimp only
        rw [out0_C_7_eq]
        refine (gainUp_apply b _ hd acc.2.1 k ?_).trans ?_
        · rw [h.gain, show (n + 1) / 4 = t.val / 4 by omega]
        · rw [show (t.val + 1) / 4 = t.val / 4 + 1 by omega]
      · intro _ y
        dsimp only
        rw [out0_C_6_eq]
        exact canon6 b _ hd y
    · rw [stAt0_B m c t acc h0 (by omega) h2]
      constructor
      · intro y
        dsimp only
        rw [out0_B_8_eq]
        exact canon8 b y
      · intro y
        dsimp only
        rw [out0_B_9_eq]
        exact canon9 b y
      · intro _ y
        dsimp only
        rw [sout0_B_0_eq]
        refine (canonDU' b _ y).trans ?_
        rw [ht]
        exact us_next A n (by omega) _ y (h.du (by omega) y)
      · intro k
        refine (h.gain k).trans ?_
        rw [show (t.val + 1) / 4 = (n + 1) / 4 by omega]
      · intro h'; omega

/-- Every point's blocks hold the arrays' rows. -/
def Inputs (A : Args) : Prop := ∀ t : Fin cfg0.N,
  Blocks A t.val (iblk m c 0 t) (iblk m c 1 t) (iblk m c 2 t) (iblk m c 3 t) (iblk m c 4 t) (iblk m c 5 t)

variable (hb : Inputs m c A)
include hb

theorem ok_outs : ∀ (n : ℕ) (hn : n < cfg0.N), Ok A n (outsAt0 m c n hn)
  | 0, hn => by
    rw [outsAt0_zero]
    exact ok_first m c ⟨0, hn⟩ _ rfl (hb ⟨0, hn⟩)
  | n + 1, hn => by
    rw [outsAt0_succ]
    exact ok_next m c ⟨n + 1, hn⟩ _ n rfl (hb ⟨n + 1, hn⟩) (ok_outs n (Nat.lt_of_succ_lt hn))

theorem ok_acc (n : ℕ) (hn : n < cfg0.N) (h : 0 + n < cfg0.N) : Ok A n (Pipeline.accAt (fun n h => stAt0 m c n h junk0) (stAt0 m c) 0 n h) := by
  have := ok_outs m c hb n hn
  rwa [outsAt0_sweep] at this

theorem G6_apply (y : S4096x1024.Idx) : G6 m c y = (DX A (y 0).val (y 1).val : EReal) := by
  have h0 : (y 0).val < 4096 := (y 0).isLt
  have h1 : (y 1).val < 1024 := (y 1).isLt
  have hp : pt6Of y = 4 * ((y 0).val / 512) + 3 := by
    show 4 * (1 * ((y 0).val / 512 - 0) + 1 * ((y 1).val / 1024 - 0)) + 3 = _
    omega
  have hlt : pt6Of y < cfg0.N := by rw [hp]; exact lt_of_lt_of_eq (by omega) N_0.symm
  unfold G6
  rw [dif_pos hlt, (ok_acc m c hb _ hlt _).dx (by omega), hp]
  unfold O6
  rw [show (loc6Of y 0).val = (y 0).val % 512 from rfl, show (loc6Of y 1).val = (y 1).val % 1024 from rfl,
    Nat.mod_eq_of_lt h1, show 512 * ((4 * ((y 0).val / 512) + 3) / 4) + (y 0).val % 512 = (y 0).val by omega]

theorem G7_apply (k : Fin 1024) : G7 m c (ix2 0 k) = (DGAIN A k.val : EReal) := by
  rw [G7_last, (ok_acc m c hb 31 (lt_of_lt_of_eq (by decide) N_0.symm) _).gain]
  rfl

theorem G8_apply (y : S4x4096x704.Idx) : G8 m c y = (ACT A (y 1).val (704 * (y 0).val + (y 2).val) : EReal) := by
  have h0 : (y 0).val < 4 := (y 0).isLt
  have h1 : (y 1).val < 4096 := (y 1).isLt
  have h2 : (y 2).val < 704 := (y 2).isLt
  have hp : pt8Of y = (y 0).val + 4 * ((y 1).val / 512) := by
    show 1 * ((y 0).val / 1 - 0) + 4 * ((y 1).val / 512 - 0) + 32 * ((y 2).val / 704 - 0) = _
    omega
  have hlt : pt8Of y < cfg0.N := by rw [hp]; exact lt_of_lt_of_eq (by omega) N_0.symm
  unfold G8
  rw [dif_pos hlt, (ok_acc m c hb _ hlt _).act, hp]
  unfold O8
  rw [show (loc8Of y 1).val = (y 1).val % 512 from rfl, show (loc8Of y 2).val = (y 2).val % 704 from rfl,
    Nat.mod_eq_of_lt h2, show 512 * (((y 0).val + 4 * ((y 1).val / 512)) / 4) + (y 1).val % 512 = (y 1).val by omega,
    show ((y 0).val + 4 * ((y 1).val / 512)) % 4 = (y 0).val by omega]

theorem G9_apply (y : S2x4x4096x704.Idx) :
    G9 m c y = if (y 0).val = 0 then (DG A (y 2).val (704 * (y 1).val + (y 3).val) : EReal) else (DP A (y 2).val (704 * (y 1).val + (y 3).val) : EReal) := by
  have h0 : (y 0).val < 2 := (y 0).isLt
  have h1 : (y 1).val < 4 := (y 1).isLt
  have h2 : (y 2).val < 4096 := (y 2).isLt
  have h3 : (y 3).val < 704 := (y 3).isLt
  have hp : pt9Of y = (y 1).val + 4 * ((y 2).val / 512) := by
    show 1 * ((y 0).val / 2 - 0) + 1 * ((y 1).val / 1 - 0) + 4 * ((y 2).val / 512 - 0) + 32 * ((y 3).val / 704 - 0) = _
    omega
  have hlt : pt9Of y < cfg0.N := by rw [hp]; exact lt_of_lt_of_eq (by omega) N_0.symm
  unfold G9
  rw [dif_pos hlt, (ok_acc m c hb _ hlt _).dgu, hp]
  unfold O9
  rw [show (loc9Of y 0).val = (y 0).val % 2 from rfl, show (loc9Of y 2).val = (y 2).val % 512 from rfl, show (loc9Of y 3).val = (y 3).val % 704 from rfl,
    Nat.mod_eq_of_lt h0, Nat.mod_eq_of_lt h3, show 512 * (((y 1).val + 4 * ((y 2).val / 512)) / 4) + (y 2).val % 512 = (y 2).val by omega,
    show ((y 1).val + 4 * ((y 2).val / 512)) % 4 = (y 1).val by omega]

end Cert.Ffn

end
-- ==== Proof.Ffn.Ref.lean ====
/- The reference of the feed-forward layer's gradient: its arrays, step by step, as real numbers. -/
module

public import proofs.«01_k».proof.Proof.RefRow
public import proofs.«01_k».proof.Proof.Ffn.Spec
public import proofs.«01_k».proof.Proof.Gen.Reference2Ideal.Read

@[expose] public section

set_option maxRecDepth 16384

noncomputable section

namespace Cert.Ffn.Ref

open Idealize.ShloMosaic Idealize.ShloMosaic.ValueIdx Idealize.ShloMosaic.TcCoe
open Idealize.SL Idealize.SL.Sem
open Cert.Reference2Ideal Cert.Reference2Ideal.Gen Cert.Reference2Ideal.Read
open Cert.Attn (sum_coe)
open Cert.Attn.Ref (zero_word one_word at2)

/-! ## The sums -/

section
variable (A : Args)

/-- The cotangents of gates and ups, side by side. -/
def CAT (i c : ℕ) : ℝ := if c < 2816 then DG A i c else DP A i (c - 2816)

/-- A sum over the 2816 columns, 704 at a time. -/
theorem sum_four (f : ℕ → ℝ) : ∑ k ∈ Finset.range 2816, f k = ∑ j ∈ Finset.range 4, ∑ k ∈ Finset.range 704, f (704 * j + k) := by
  rw [show (2816 : ℕ) = 704 + (704 + (704 + 704)) from rfl, Finset.sum_range_add, Finset.sum_range_add, Finset.sum_range_add]
  simp only [Finset.sum_range_succ _ 3, Finset.sum_range_succ _ 2, Finset.sum_range_succ _ 1, Finset.sum_range_succ _ 0, Finset.sum_range_zero, zero_add]
  simp only [← add_assoc]
  norm_num

theorem sum_cat (i c : ℕ) : ∑ k : Fin 5632, CAT A i k.val * A.wu c k.val = DU A i c := by
  rw [Fin.sum_univ_eq_sum_range (fun k => CAT A i k * A.wu c k) 5632, show (5632 : ℕ) = 2816 + 2816 from rfl, Finset.sum_range_add]
  have e1 : ∑ k ∈ Finset.range 2816, CAT A i k * A.wu c k = ∑ k ∈ Finset.range 2816, DG A i k * A.wu c k :=
    Finset.sum_congr rfl fun k hk => by rw [CAT, if_pos (Finset.mem_range.mp hk)]
  have e2 : ∑ k ∈ Finset.range 2816, CAT A i (2816 + k) * A.wu c (2816 + k) = ∑ k ∈ Finset.range 2816, DP A i k * A.wu c (2816 + k) :=
    Finset.sum_congr rfl fun k _ => by rw [CAT, if_neg (by omega), Nat.add_sub_cancel_left]
  rw [e1, e2, sum_four fun k => DG A i k * A.wu c k, sum_four fun k => DP A i k * A.wu c (2816 + k), ← Finset.sum_add_distrib]
  unfold DU
  refine Finset.sum_congr rfl fun j _ => ?_
  unfold PT
  rw [Fin.sum_univ_eq_sum_range (fun k => DG A i (704 * j + k) * A.wu c (704 * j + k)) 704,
    Fin.sum_univ_eq_sum_range (fun k => DP A i (704 * j + k) * A.wu c (2816 + (704 * j + k))) 704]

/-- The sum along a row in the norm's derivative. -/
def SUMR (i : ℕ) : ℝ := ∑ c : Fin 1024, A.h i c.val * (DU A i c.val * A.g c.val)

/-- What the reference's mean square passes to each entry of its row. -/
def XR (i : ℕ) : ℝ := SUMR A i * (-(1 / 2) * (rr A i / ms A i)) / 1024

theorem rr_div (i : ℕ) : rr A i / ms A i = rr A i * rr A i * rr A i := by
  have h := ms_pos A i
  have hs := Real.sqrt_pos.mpr h
  unfold rr
  have e : (Real.sqrt (ms A i))⁻¹ * (Real.sqrt (ms A i))⁻¹ = (ms A i)⁻¹ := by rw [← mul_inv, Real.mul_self_sqrt h.le]
  rw [e, div_eq_mul_inv, mul_comm]

theorem MU_eq (i : ℕ) : MU A i = SUMR A i * rr A i / 1024 := by
  unfold MU SUMR
  rw [Finset.sum_mul]
  congr 1
  exact Finset.sum_congr rfl fun c _ => by ring

theorem dx_eq (i c : ℕ) :
    A.dh i c + (DU A i c * A.g c * rr A i + A.h i c * XR A i + XR A i * A.h i c) = DX A i c := by
  unfold DX XR
  rw [MU_eq, rr_div]
  ring

theorem dg_eq (i k : ℕ) :
    DA A i k * GU A i (2816 + k) * sg (GU A i k) + GU A i k * (DA A i k * GU A i (2816 + k)) * (sg (GU A i k) * (1 - sg (GU A i k)))
      = DG A i k := by
  unfold DG; ring

theorem dp_eq (i k : ℕ) : GU A i k * sg (GU A i k) * DA A i k = DP A i k := by
  unfold DP; ring
end

theorem ofBits_mhalf : (FloatOps.ofBits (F := Ideal) .f32 0xBF000000#32 : EReal) = ((-(1 / 2) : ℝ) : EReal) := by
  show Ideal.ofBits .f32 0xBF000000#32 = _
  simp [Ideal.ofBits, Ideal.ieee, -EReal.coe_mul]; norm_num

/-- The reference's inputs, as real numbers. -/
structure Holds (A : Args) (x0 x1 : Vec Ideal S4096x1024 .f32) (x2 : Vec Ideal S1x1024 .f32) (x3 : Vec Ideal S1024x5632 .f32)
    (x4 : Vec Ideal S2816x1024 .f32) : Prop where
  dh : ∀ i : S4096x1024.Idx, x0 i = (A.dh (i 0).val (i 1).val : EReal)
  h : ∀ i : S4096x1024.Idx, x1 i = (A.h (i 0).val (i 1).val : EReal)
  g : ∀ i : S1x1024.Idx, x2 i = (A.g (i 1).val : EReal)
  wu : ∀ i : S1024x5632.Idx, x3 i = (A.wu (i 0).val (i 1).val : EReal)
  wd : ∀ i : S2816x1024.Idx, x4 i = (A.wd (i 0).val (i 1).val : EReal)

/-- The two arrays the reference sets side by side. -/
abbrev CL (x0 x1 : Vec Ideal S4096x1024 .f32) (x2 : Vec Ideal S1x1024 .f32) (x3 : Vec Ideal S1024x5632 .f32) (x4 : Vec Ideal S2816x1024 .f32) :
    List (Σ s : Shape, s.Idx → EReal) :=
  [⟨S4096x2816, val_main_v24 (F := Ideal) x0 x1 x2 x3 x4⟩, ⟨S4096x2816, val_main_v22 (F := Ideal) x0 x1 x2 x3 x4⟩]

variable {A : Args} {x0 x1 : Vec Ideal S4096x1024 .f32} {x2 : Vec Ideal S1x1024 .f32} {x3 : Vec Ideal S1024x5632 .f32}
  {x4 : Vec Ideal S2816x1024 .f32} (H : Holds A x0 x1 x2 x3 x4)
include H

/-! ## The norm and the projections -/

theorem r1 (i : S4096.Idx) : val_main_v1 (F := Ideal) x1 i = ((∑ c : Fin 1024, A.h (i 0).val c.val * A.h (i 0).val c.val : ℝ) : EReal) := by
  refine (val_main_v1_apply x1 i).trans ?_
  refine (congrArg₂ (· + ·) zero_word (sum_coe _ _ (fun c : Fin 1024 => A.h (i 0).val c.val * A.h (i 0).val c.val) fun k => ?_)).trans (zero_add _)
  show x1 _ * x1 _ = _
  exact (congrArg₂ (· * ·) (H.h _) (H.h _)).trans (EReal.coe_mul _ _).symm

theorem r6 (i : S4096x1.Idx) : val_main_v6 (F := Ideal) x1 i = (ms A (i 0).val : EReal) := by
  show Ideal.div (val_main_v2 (F := Ideal) x1 i) (Ideal.ofBits .f32 0x44800000#32) + Ideal.ofBits .f32 0x358637BD#32 = _
  rw [ofBits_1024, ofBits_eps, (val_main_v2_apply x1 i).trans (r1 H _), div_real _ _ (by norm_num), ← EReal.coe_add]
  rfl

theorem r7 (i : S4096x1.Idx) : val_main_v7 (F := Ideal) x1 i = (rr A (i 0).val : EReal) := by
  show Ideal.rsqrt (val_main_v6 (F := Ideal) x1 i) = _
  rw [r6 H]
  exact rsqrt_real _ (ms_pos A _)

theorem r10 (i : S4096x1.Idx) : val_main_v10 (F := Ideal) x1 i = ((-(1 / 2) * (rr A (i 0).val / ms A (i 0).val) : ℝ) : EReal) := by
  show FloatOps.ofBits (F := Ideal) .f32 0xBF000000#32 * Ideal.div (val_main_v7 (F := Ideal) x1 i) (val_main_v6 (F := Ideal) x1 i) = _
  rw [r6 H, r7 H, ofBits_mhalf, div_real _ _ (ms_pos A _).ne', ← EReal.coe_mul]

theorem r12 (i : S4096x1024.Idx) : val_main_v12 (F := Ideal) x1 i = ((A.h (i 0).val (i 1).val * rr A (i 0).val : ℝ) : EReal) := by
  show x1 i * val_main_v11 (F := Ideal) x1 i = _
  rw [H.h, (val_main_v11_apply x1 i).trans (r7 H _), ← EReal.coe_mul]

theorem r14 (i : S4096x1024.Idx) :
    val_main_v14 (F := Ideal) x1 x2 i = ((A.h (i 0).val (i 1).val * rr A (i 0).val * A.g (i 1).val : ℝ) : EReal) := by
  show val_main_v12 (F := Ideal) x1 i * val_main_v13 (F := Ideal) x2 i = _
  rw [r12 H, (val_main_v13_apply x2 i).trans (H.g _), ← EReal.coe_mul]

theorem r15 (i : S4096x5632.Idx) : val_main_v15 (F := Ideal) x1 x2 x3 i = (GU A (i 0).val (i 1).val : EReal) := by
  refine (val_main_v15_apply x1 x2 x3 i).trans ?_
  exact sum_coe _ _ (fun k : Fin 1024 => A.h (i 0).val k.val * rr A (i 0).val * A.g k.val * A.wu k.val (i 1).val)
    fun k => (congrArg₂ (· * ·) (r14 H (lidx_main_v15 i k)) (H.wu (ridx_main_v15 i k))).trans (EReal.coe_mul _ _).symm

theorem r16 (i : S4096x2816.Idx) : val_main_v16 (F := Ideal) x1 x2 x3 i = (GU A (i 0).val (i 1).val : EReal) :=
  (val_main_v16_apply x1 x2 x3 i).trans (r15 H _)

theorem r17 (i : S4096x2816.Idx) : val_main_v17 (F := Ideal) x1 x2 x3 i = (GU A (i 0).val (2816 + (i 1).val) : EReal) :=
  (val_main_v17_apply x1 x2 x3 i).trans (r15 H _)

/-! ## The gate -/

theorem r18_2 (i : S4096x2816.Idx) : val_main_v18_2 (F := Ideal) x1 x2 x3 i = (sg (GU A (i 0).val (i 1).val) : EReal) := by
  show Ideal.div (FloatOps.ofBits (F := Ideal) .f32 0x3F800000#32)
    (FloatOps.ofBits (F := Ideal) .f32 0x3F800000#32 + Ideal.exp (-(val_main_v16 (F := Ideal) x1 x2 x3 i))) = _
  rw [one_word, r16 H, ← EReal.coe_neg, Ideal.exp_coe, ← EReal.coe_add, div_real _ _ (sg_den_pos _).ne', one_div]
  rfl

theorem r18_1 (i : S4096x2816.Idx) :
    val_main_v18_1 (F := Ideal) x1 x2 x3 i = ((sg (GU A (i 0).val (i 1).val) * (1 - sg (GU A (i 0).val (i 1).val)) : ℝ) : EReal) := by
  show val_main_v18_2 (F := Ideal) x1 x2 x3 i * (FloatOps.ofBits (F := Ideal) .f32 0x3F800000#32 - val_main_v18_2 (F := Ideal) x1 x2 x3 i) = _
  rw [one_word, r18_2 H, ← EReal.coe_sub, ← EReal.coe_mul]

theorem r18_0 (i : S4096x2816.Idx) :
    val_main_v18_0 (F := Ideal) x1 x2 x3 i = ((GU A (i 0).val (i 1).val * sg (GU A (i 0).val (i 1).val) : ℝ) : EReal) := by
  show val_main_v16 (F := Ideal) x1 x2 x3 i * val_main_v18_2 (F := Ideal) x1 x2 x3 i = _
  rw [r16 H, r18_2 H, ← EReal.coe_mul]

theorem r19 (i : S4096x2816.Idx) : val_main_v19 (F := Ideal) x1 x2 x3 i = (ACT A (i 0).val (i 1).val : EReal) := by
  show val_main_v18_0 (F := Ideal) x1 x2 x3 i * val_main_v17 (F := Ideal) x1 x2 x3 i = _
  rw [r18_0 H, r17 H, ← EReal.coe_mul]
  rfl

/-! ## The cotangents of gates and ups -/

theorem r21 (i : S4096x2816.Idx) : val_main_v21 (F := Ideal) x0 x4 i = (DA A (i 0).val (i 1).val : EReal) := by
  refine (val_main_v21_apply x0 x4 i).trans ?_
  exact sum_coe _ _ (fun c : Fin 1024 => A.dh (i 0).val c.val * A.wd (i 1).val c.val)
    fun k => (congrArg₂ (· * ·) (H.dh (lidx_main_v21 i k)) (H.wd (ridx_main_v21 i k))).trans (EReal.coe_mul _ _).symm

theorem r22 (i : S4096x2816.Idx) : val_main_v22 (F := Ideal) x0 x1 x2 x3 x4 i = (DP A (i 0).val (i 1).val : EReal) := by
  show val_main_v18_0 (F := Ideal) x1 x2 x3 i * val_main_v21 (F := Ideal) x0 x4 i = _
  rw [r18_0 H, r21 H, ← EReal.coe_mul, dp_eq]

theorem r23 (i : S4096x2816.Idx) :
    val_main_v23 (F := Ideal) x0 x1 x2 x3 x4 i = ((DA A (i 0).val (i 1).val * GU A (i 0).val (2816 + (i 1).val) : ℝ) : EReal) := by
  show val_main_v21 (F := Ideal) x0 x4 i * val_main_v17 (F := Ideal) x1 x2 x3 i = _
  rw [r21 H, r17 H, ← EReal.coe_mul]

theorem r24 (i : S4096x2816.Idx) : val_main_v24 (F := Ideal) x0 x1 x2 x3 x4 i = (DG A (i 0).val (i 1).val : EReal) := by
  show val_main_v23 (F := Ideal) x0 x1 x2 x3 x4 i * val_main_v18_2 (F := Ideal) x1 x2 x3 i
    + val_main_v16 (F := Ideal) x1 x2 x3 i * val_main_v23 (F := Ideal) x0 x1 x2 x3 x4 i * val_main_v18_1 (F := Ideal) x1 x2 x3 i = _
  rw [r23 H, r18_2 H, r16 H, r18_1 H, ← EReal.coe_mul, ← EReal.coe_mul, ← EReal.coe_mul, ← EReal.coe_add, dg_eq]

theorem r25 (i : S4096x5632.Idx) : val_main_v25 (F := Ideal) x0 x1 x2 x3 x4 i = (CAT A (i 0).val (i 1).val : EReal) := by
  have hi : (i 1).val < 5632 := (i 1).isLt
  unfold val_main_v25
  by_cases h : (i 1).val < 2816
  · refine (concatenate_apply_piece 1 (CL x0 x1 x2 x3 x4) concatenates_S4096x2816_S4096x2816_S4096x5632_d1 i 0 (by show 0 < 2; omega) S4096x2816
      (val_main_v24 (F := Ideal) x0 x1 x2 x3 x4) rfl rfl 0 rfl (ix2 ⟨(i 0).val, (i 0).isLt⟩ ⟨(i 1).val, h⟩) ?_ ?_).trans ((r24 H _).trans ?_)
    · intro b hb
      match b with
      | ⟨0, _⟩ => rfl
      | ⟨1, _⟩ => exact absurd rfl hb
    · show 0 + (i 1).val = (i 1).val
      omega
    · show ((DG A (i 0).val (i 1).val : ℝ) : EReal) = _
      rw [CAT, if_pos h]
  · refine (concatenate_apply_piece 1 (CL x0 x1 x2 x3 x4) concatenates_S4096x2816_S4096x2816_S4096x5632_d1 i 1 (by show 1 < 2; omega) S4096x2816
      (val_main_v22 (F := Ideal) x0 x1 x2 x3 x4) rfl rfl 2816 rfl (ix2 ⟨(i 0).val, (i 0).isLt⟩ ⟨(i 1).val - 2816, by omega⟩) ?_ ?_).trans ((r22 H _).trans ?_)
    · intro b hb
      match b with
      | ⟨0, _⟩ => rfl
      | ⟨1, _⟩ => exact absurd rfl hb
    · show 2816 + ((i 1).val - 2816) = (i 1).val
      omega
    · show ((DP A (i 0).val ((i 1).val - 2816) : ℝ) : EReal) = _
      rw [CAT, if_neg h]

/-! ## The gradients -/

theorem r26 (i : S4096x1024.Idx) : val_main_v26 (F := Ideal) x0 x1 x2 x3 x4 i = (DU A (i 0).val (i 1).val : EReal) := by
  rw [← sum_cat A (i 0).val (i 1).val]
  refine (val_main_v26_apply x0 x1 x2 x3 x4 i).trans ?_
  exact sum_coe _ _ (fun k : Fin 5632 => CAT A (i 0).val k.val * A.wu (i 1).val k.val)
    fun k => (congrArg₂ (· * ·) (r25 H (lidx_main_v26 i k)) (H.wu (ridx_main_v26 i k))).trans (EReal.coe_mul _ _).symm

theorem r29 (i : S1x1024.Idx) : val_main_v29 (F := Ideal) x0 x1 x2 x3 x4 i = (DGAIN A (i 1).val : EReal) := by
  have h0 : (i 0).val = 0 := by have := (i 0).isLt; exact Nat.lt_one_iff.mp this
  refine (val_main_v29_apply x0 x1 x2 x3 x4 i).trans ((val_main_v28_apply x0 x1 x2 x3 x4 _).trans ?_)
  unfold DGAIN GN
  rw [← Fin.sum_univ_eq_sum_range (fun k => DU A k (i 1).val * (A.h k (i 1).val * rr A k)) 4096]
  refine (congrArg₂ (· + ·) zero_word (sum_coe _ _ (fun k : Fin 4096 => DU A k.val (i 1).val * (A.h k.val (i 1).val * rr A k.val)) fun k => ?_)).trans (zero_add _)
  show val_main_v12 (F := Ideal) x1 _ * val_main_v26 (F := Ideal) x0 x1 x2 x3 x4 _ = _
  rw [r12 H, r26 H, mul_comm]
  have e : (i 0).val * 1024 + (i 1).val = (i 1).val := by omega
  show ((DU A k.val ((i 0).val * 1024 + (i 1).val) : ℝ) : EReal) * ((A.h k.val ((i 0).val * 1024 + (i 1).val) * rr A k.val : ℝ) : EReal) = _
  rw [e, ← EReal.coe_mul]

theorem r31 (i : S4096x1024.Idx) :
    val_main_v31 (F := Ideal) x0 x1 x2 x3 x4 i = ((DU A (i 0).val (i 1).val * A.g (i 1).val : ℝ) : EReal) := by
  show val_main_v26 (F := Ideal) x0 x1 x2 x3 x4 i * val_main_v30 (F := Ideal) x2 i = _
  rw [r26 H, (val_main_v30_apply x2 i).trans (H.g _), ← EReal.coe_mul]

theorem r33 (i : S4096.Idx) : val_main_v33 (F := Ideal) x0 x1 x2 x3 x4 i = (SUMR A (i 0).val : EReal) := by
  refine (val_main_v33_apply x0 x1 x2 x3 x4 i).trans ?_
  refine (congrArg₂ (· + ·) zero_word (sum_coe _ _ (fun c : Fin 1024 => A.h (i 0).val c.val * (DU A (i 0).val c.val * A.g c.val)) fun k => ?_)).trans (zero_add _)
  show x1 _ * val_main_v31 (F := Ideal) x0 x1 x2 x3 x4 _ = _
  exact (congrArg₂ (· * ·) (H.h _) (r31 H _)).trans (EReal.coe_mul _ _).symm

theorem r34 (i : S4096x1.Idx) : val_main_v34 (F := Ideal) x0 x1 x2 x3 x4 i = (SUMR A (i 0).val : EReal) := by
  have h1 : (i 1).val = 0 := by have := (i 1).isLt; exact Nat.lt_one_iff.mp this
  refine (val_main_v34_apply x0 x1 x2 x3 x4 i).trans ((r33 H _).trans ?_)
  show ((SUMR A ((i 0).val * 1 + (i 1).val) : ℝ) : EReal) = _
  rw [h1, Nat.mul_one, Nat.add_zero]

theorem r39 (i : S4096x1.Idx) : val_main_v39 (F := Ideal) x0 x1 x2 x3 x4 i = (XR A (i 0).val : EReal) := by
  show Ideal.div (val_main_v34 (F := Ideal) x0 x1 x2 x3 x4 i * val_main_v10 (F := Ideal) x1 i) (Ideal.ofBits .f32 0x44800000#32) = _
  rw [r34 H, r10 H, ofBits_1024, ← EReal.coe_mul, div_real _ _ (by norm_num)]
  rfl

theorem r41 (i : S4096x1024.Idx) : val_main_v41 (F := Ideal) x0 x1 x2 x3 x4 i = (XR A (i 0).val : EReal) := by
  refine (val_main_v41_apply x0 x1 x2 x3 x4 i).trans ((val_main_v40_apply x0 x1 x2 x3 x4 _).trans ?_)
  refine (congrArg₂ (· + ·) zero_word ((Fin.sum_univ_one _).trans (r39 H _))).trans (zero_add _)

theorem r50 (i : S4096x1024.Idx) : val_main_v50 (F := Ideal) x0 x1 x2 x3 x4 i = (DX A (i 0).val (i 1).val : EReal) := by
  show x0 i + (val_main_v31 (F := Ideal) x0 x1 x2 x3 x4 i * val_main_v35 (F := Ideal) x1 i + x1 i * val_main_v41 (F := Ideal) x0 x1 x2 x3 x4 i
    + val_main_v41 (F := Ideal) x0 x1 x2 x3 x4 i * x1 i) = _
  rw [r31 H, r41 H, H.dh, H.h, (val_main_v35_apply x1 i).trans (r7 H _), ← EReal.coe_mul, ← EReal.coe_mul, ← EReal.coe_mul, ← EReal.coe_add,
    ← EReal.coe_add, ← EReal.coe_add, ← dx_eq]

theorem r51 (i : S4x4096x704.Idx) :
    val_main_v51 (F := Ideal) x1 x2 x3 i = (ACT A (i 1).val (704 * (i 0).val + (i 2).val) : EReal) := by
  have h0 : (i 0).val < 4 := (i 0).isLt
  have h1 : (i 1).val < 4096 := (i 1).isLt
  have h2 : (i 2).val < 704 := (i 2).isLt
  show val_main_v47 (F := Ideal) x1 x2 x3 i = _
  refine (val_main_v47_apply x1 x2 x3 i).trans ((val_main_v46_apply x1 x2 x3 _).trans ((r19 H _).trans ?_))
  exact at2 (ACT A) (show (((i 1).val * 4 + (i 0).val) * 704 + (i 2).val) / 2816 = _ by omega)
    (show (((i 1).val * 4 + (i 0).val) * 704 + (i 2).val) % 2816 = _ by omega)

theorem r52 (i : S2x4x4096x704.Idx) :
    val_main_v52 (F := Ideal) x0 x1 x2 x3 x4 i = (CAT A (i 2).val (2816 * (i 0).val + (704 * (i 1).val + (i 3).val)) : EReal) := by
  have h0 : (i 0).val < 2 := (i 0).isLt
  have h1 : (i 1).val < 4 := (i 1).isLt
  have h2 : (i 2).val < 4096 := (i 2).isLt
  have h3 : (i 3).val < 704 := (i 3).isLt
  show val_main_v49 (F := Ideal) x0 x1 x2 x3 x4 i = _
  refine (val_main_v49_apply x0 x1 x2 x3 x4 i).trans ((val_main_v48_apply x0 x1 x2 x3 x4 _).trans ((r25 H _).trans ?_))
  exact at2 (CAT A) (show ((((i 2).val * 2 + (i 0).val) * 4 + (i 1).val) * 704 + (i 3).val) / 5632 = _ by omega)
    (show ((((i 2).val * 2 + (i 0).val) * 4 + (i 1).val) * 704 + (i 3).val) % 5632 = _ by omega)

end Cert.Ffn.Ref

end
-- ==== Proof.Ffn.Inputs.lean ====
/- The blocks a point reads are parts of the arguments and of the saved forward arrays, and the arrays are real. The saved
   projections are the reference's own stage, rounded to a format that keeps every number, and laid out by column block. -/
module

public import proofs.«01_k».proof.Proof.Inputs
public import proofs.«01_k».proof.Proof.Ffn.Fold
public import proofs.«01_k».proof.Proof.Ffn.Ref
public import Idealize.ShloMosaic.Lib.StableHlo.RunRead

@[expose] public section

set_option maxRecDepth 16384

noncomputable section

namespace Cert.Ffn.Kern

open Idealize.ShloMosaic Idealize.ShloMosaic.ValueIdx Idealize.ShloMosaic.TcCoe
open Idealize.SL Idealize.SL.Sem
open Cert.Kernel2Ideal Cert.Kernel2Ideal.Gen Cert.Kernel2Ideal.Value
open Cert.Attn (re2)
open Cert.Attn.Kern (Fin' re2_coe)
open Cert.Attn.Ref (at2)

/-- The projections as the kernel is handed them. -/
def guArr (x : Vec Ideal S4096x5632 .f32) : Vec Ideal S2x4x4096x704 .bf16 :=
  transpose S2x4x4096x704 [1, 2, 0, 3] (shapeCast S4096x2x4x704 (truncf (F := Ideal) .bf16 x bitsLt_bf16_f32) shapeCasts_S4096x5632_S4096x2x4x704)
    transposes_S4096x2x4x704_S2x4x4096x704_1_2_0_3

/-- The gate and up projections' weights as the kernel is handed them. -/
def wuArr (x : Vec Ideal S1024x5632 .f32) : Vec Ideal S1x2x4x704x1024 .bf16 :=
  shapeCast S1x2x4x704x1024 (truncf (F := Ideal) .bf16 (transpose S5632x1024 [1, 0] x transposes_S1024x5632_S5632x1024_1_0) bitsLt_bf16_f32)
    shapeCasts_S5632x1024_S1x2x4x704x1024

/-- The down projection's weights as the kernel is handed them. -/
def wdArr (x : Vec Ideal S2816x1024 .f32) : Vec Ideal S1x4x704x1024 .bf16 :=
  shapeCast S1x4x704x1024 (truncf (F := Ideal) .bf16 x bitsLt_bf16_f32) shapeCasts_S2816x1024_S1x4x704x1024

theorem guArr_apply (x : Vec Ideal S4096x5632 .f32) (s : Fin 2) (j : Fin 4) (r : Fin 4096) (f : Fin 704) :
    guArr x (ix4 s j r f) = x (ix2 r ⟨2816 * s.val + (704 * j.val + f.val), by omega⟩) := by
  unfold guArr
  refine (transpose_apply _ _ _ _ (ix4 r s j f) fun b => match b with
    | ⟨0, _⟩ => rfl
    | ⟨1, _⟩ => rfl
    | ⟨2, _⟩ => rfl
    | ⟨3, _⟩ => rfl).trans ?_
  refine shapeCast_apply _ _ _ _ ?_
  rw [Shape.rowMajor_val_two, Shape.rowMajor_val_four]
  show r.val * 5632 + (2816 * s.val + (704 * j.val + f.val)) = ((r.val * 2 + s.val) * 4 + j.val) * 704 + f.val
  omega

theorem wuArr_apply (x : Vec Ideal S1024x5632 .f32) (s : Fin 2) (j : Fin 4) (f : Fin 704) (c : Fin 1024) :
    wuArr x (ix5 0 s j f c) = x (ix2 c ⟨2816 * s.val + (704 * j.val + f.val), by omega⟩) := by
  unfold wuArr
  refine (shapeCast_apply _ _ _ (ix2 ⟨2816 * s.val + (704 * j.val + f.val), by omega⟩ c) ?_).trans ?_
  · rw [Shape.rowMajor_val_two, Shape.rowMajor_val_five]
    show (2816 * s.val + (704 * j.val + f.val)) * 1024 + c.val = (((0 * 2 + s.val) * 4 + j.val) * 704 + f.val) * 1024 + c.val
    omega
  · refine (transpose_apply [1, 0] x transposes_S1024x5632_S5632x1024_1_0 _ (ix2 c ⟨2816 * s.val + (704 * j.val + f.val), by omega⟩) fun b => match b with
      | ⟨0, _⟩ => rfl
      | ⟨1, _⟩ => rfl)

theorem wdArr_apply (x : Vec Ideal S2816x1024 .f32) (j : Fin 4) (f : Fin 704) (c : Fin 1024) :
    wdArr x (ix4 0 j f c) = x (ix2 ⟨704 * j.val + f.val, by omega⟩ c) := by
  unfold wdArr
  refine shapeCast_apply _ _ _ _ ?_
  rw [Shape.rowMajor_val_two, Shape.rowMajor_val_four]
  show (704 * j.val + f.val) * 1024 + c.val = ((0 * 4 + j.val) * 704 + f.val) * 1024 + c.val
  omega

variable (m : (ℓ : Loc nD τ sig) → Buf (Elt Ideal) ℓ) (c : Dev nD)

abbrev a0 : Vec Ideal S4096x1024 .f32 := m ((c : Thread nD τ).loc main_arg0)
abbrev a1 : Vec Ideal S4096x1024 .f32 := m ((c : Thread nD τ).loc main_arg1)
abbrev a2 : Vec Ideal S1x1024 .f32 := m ((c : Thread nD τ).loc main_arg2)
abbrev a3 : Vec Ideal S1024x5632 .f32 := m ((c : Thread nD τ).loc main_arg3)
abbrev a4 : Vec Ideal S2816x1024 .f32 := m ((c : Thread nD τ).loc main_arg4)

/-! ## What the kernel is launched with -/

set_option maxHeartbeats 4000000 in
theorem V_gu : V m c main_v15 = guArr (Cert.Reference2Ideal.Read.val_main_v15 (F := Ideal) (a1 m c) (a2 m c) (a3 m c)) := by
  show StableHlo.after (List.flatten [hostOps0]) _ (Proc.devRef .tc main_v15) = _
  simp only [List.flatten_cons, List.flatten_nil, List.append_nil]
  after_reads_simp
  rfl

set_option maxHeartbeats 4000000 in
theorem V_wu : V m c main_v18 = wuArr (a3 m c) := by
  show StableHlo.after (List.flatten [hostOps0]) _ (Proc.devRef .tc main_v18) = _
  simp only [List.flatten_cons, List.flatten_nil, List.append_nil]
  after_reads_simp
  rfl

set_option maxHeartbeats 4000000 in
theorem V_wd : V m c main_v20 = wdArr (a4 m c) := by
  show StableHlo.after (List.flatten [hostOps0]) _ (Proc.devRef .tc main_v20) = _
  simp only [List.flatten_cons, List.flatten_nil, List.append_nil]
  after_reads_simp
  rfl

/-! ## The blocks -/

theorem i0 : ∀ t : Fin grid0.N, win0_0.index t (0 : Fin 2) = t.val / 4 ∧ win0_0.index t (1 : Fin 2) = 0 := by decide +kernel
theorem i1 : ∀ t : Fin grid0.N, win0_1.index t (0 : Fin 4) = 0 ∧ win0_1.index t (1 : Fin 4) = t.val % 4 ∧ win0_1.index t (2 : Fin 4) = t.val / 4
    ∧ win0_1.index t (3 : Fin 4) = 0 := by decide +kernel
theorem i2 : ∀ t : Fin grid0.N, win0_2.index t (0 : Fin 5) = 0 ∧ win0_2.index t (1 : Fin 5) = 0 ∧ win0_2.index t (2 : Fin 5) = t.val % 4
    ∧ win0_2.index t (3 : Fin 5) = 0 ∧ win0_2.index t (4 : Fin 5) = 0 := by decide +kernel
theorem i3 : ∀ t : Fin grid0.N, win0_3.index t (0 : Fin 4) = 0 ∧ win0_3.index t (1 : Fin 4) = t.val % 4 ∧ win0_3.index t (2 : Fin 4) = 0
    ∧ win0_3.index t (3 : Fin 4) = 0 := by decide +kernel
theorem i4 : ∀ t : Fin grid0.N, win0_4.index t (0 : Fin 2) = t.val / 4 ∧ win0_4.index t (1 : Fin 2) = 0 := by decide +kernel
theorem i5 : ∀ t : Fin grid0.N, win0_5.index t (0 : Fin 2) = 0 ∧ win0_5.index t (1 : Fin 2) = 0 := by decide +kernel

theorem blk0 (t : Fin cfg0.N) (r : Fin 512) (k : Fin 1024) (hr : 512 * (t.val / 4) + r.val < 4096) :
    (iblk m c 0 t : Vec Ideal S512x1024 .f32) (ix2 r k) = a0 m c (ix2 ⟨512 * (t.val / 4) + r.val, hr⟩ k) := by
  show V m c main_arg0 _ = _
  rw [V_main_arg0]
  congr 1
  funext d
  match d with
  | ⟨0, _⟩ => exact Fin.ext (show win0_0.index t (0 : Fin 2) * 512 + 1 * r.val = _ by rw [(i0 t).1]; exact (by omega : t.val / 4 * 512 + 1 * r.val = 512 * (t.val / 4) + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (s : Fin 2) (r : Fin 512) (f : Fin 704) (hr : 512 * (t.val / 4) + r.val < 4096) :
    (iblk m c 1 t : Vec Ideal S2x1x512x704 .bf16) (ix4 s 0 r f)
      = (V m c main_v15 : Vec Ideal S2x4x4096x704 .bf16) (ix4 s ⟨t.val % 4, by omega⟩ ⟨512 * (t.val / 4) + r.val, hr⟩ f) := by
  show V m c main_v15 _ = _
  congr 1
  funext d
  match d with
  | ⟨0, _⟩ => exact Fin.ext (show win0_1.index t (0 : Fin 4) * 2 + 1 * s.val = _ by rw [(i1 t).1]; exact (by omega : 0 * 2 + 1 * s.val = s.val))
  | ⟨1, _⟩ => exact Fin.ext (show win0_1.index t (1 : Fin 4) * 1 + 1 * 0 = _ by rw [(i1 t).2.1]; exact (by omega : t.val % 4 * 1 + 1 * 0 = t.val % 4))
  | ⟨2, _⟩ => exact Fin.ext (show win0_1.index t (2 : Fin 4) * 512 + 1 * r.val = _ by rw [(i1 t).2.2.1]; exact (by omega : t.val / 4 * 512 + 1 * r.val = 512 * (t.val / 4) + r.val))
  | ⟨3, _⟩ => exact Fin.ext (show win0_1.index t (3 : Fin 4) * 704 + 1 * f.val = _ by rw [(i1 t).2.2.2]; exact (by omega : 0 * 704 + 1 * f.val = f.val))

theorem blk2 (t : Fin cfg0.N) (s : Fin 2) (f : Fin 704) (k : Fin 1024) :
    (iblk m c 2 t : Vec Ideal S1x2x1x704x1024 .bf16) (ix5 0 s 0 f k)
      = (V m c main_v18 : Vec Ideal S1x2x4x704x1024 .bf16) (ix5 0 s ⟨t.val % 4, by omega⟩ f k) := by
  show V m c main_v18 _ = _
  congr 1
  funext d
  match d with
  | ⟨0, _⟩ => exact Fin.ext (show win0_2.index t (0 : Fin 5) * 1 + 1 * 0 = _ by rw [(i2 t).1]; rfl)
  | ⟨1, _⟩ => exact Fin.ext (show win0_2.index t (1 : Fin 5) * 2 + 1 * s.val = _ by rw [(i2 t).2.1]; exact (by omega : 0 * 2 + 1 * s.val = s.val))
  | ⟨2, _⟩ => exact Fin.ext (show win0_2.index t (2 : Fin 5) * 1 + 1 * 0 = _ by rw [(i2 t).2.2.1]; exact (by omega : t.val % 4 * 1 + 1 * 0 = t.val % 4))
  | ⟨3, _⟩ => exact Fin.ext (show win0_2.index t (3 : Fin 5) * 704 + 1 * f.val = _ by rw [(i2 t).2.2.2.1]; exact (by omega : 0 * 704 + 1 * f.val = f.val))
  | ⟨4, _⟩ => exact Fin.ext (show win0_2.index t (4 : Fin 5) * 1024 + 1 * k.val = _ by rw [(i2 t).2.2.2.2]; exact (by omega : 0 * 1024 + 1 * k.val = k.val))

theorem blk3 (t : Fin cfg0.N) (f : Fin 704) (k : Fin 1024) :
    (iblk m c 3 t : Vec Ideal S1x1x704x1024 .bf16) (ix4 0 0 f k)
      = (V m c main_v20 : Vec Ideal S1x4x704x1024 .bf16) (ix4 0 ⟨t.val % 4, by omega⟩ f k) := by
  show V m c main_v20 _ = _
  congr 1
  funext d
  match d with
  | ⟨0, _⟩ => exact Fin.ext (show win0_3.index t (0 : Fin 4) * 1 + 1 * 0 = _ by rw [(i3 t).1]; rfl)
  | ⟨1, _⟩ => exact Fin.ext (show win0_3.index t (1 : Fin 4) * 1 + 1 * 0 = _ by rw [(i3 t).2.1]; exact (by omega : t.val % 4 * 1 + 1 * 0 = t.val % 4))
  | ⟨2, _⟩ => exact Fin.ext (show win0_3.index t (2 : Fin 4) * 704 + 1 * f.val = _ by rw [(i3 t).2.2.1]; exact (by omega : 0 * 704 + 1 * f.val = f.val))
  | ⟨3, _⟩ => exact Fin.ext (show win0_3.index t (3 : Fin 4) * 1024 + 1 * k.val = _ by rw [(i3 t).2.2.2]; exact (by omega : 0 * 1024 + 1 * k.val = k.val))

theorem blk4 (t : Fin cfg0.N) (r : Fin 512) (k : Fin 1024) (hr : 512 * (t.val / 4) + r.val < 4096) :
    (iblk m c 4 t : Vec Ideal S512x1024 .f32) (ix2 r k) = a1 m c (ix2 ⟨512 * (t.val / 4) + r.val, hr⟩ k) := by
  show V m c main_arg1 _ = _
  rw [V_main_arg1]
  congr 1
  funext d
  match d with
  | ⟨0, _⟩ => exact Fin.ext (show win0_4.index t (0 : Fin 2) * 512 + 1 * r.val = _ by rw [(i4 t).1]; exact (by omega : t.val / 4 * 512 + 1 * r.val = 512 * (t.val / 4) + r.val))
  | ⟨1, _⟩ => exact Fin.ext (show win0_4.index t (1 : Fin 2) * 1024 + 1 * k.val = _ by rw [(i4 t).2]; exact (by omega : 0 * 1024 + 1 * k.val = k.val))

theorem blk5 (t : Fin cfg0.N) (k : Fin 1024) : (iblk m c 5 t : Vec Ideal S1x1024 .f32) (ix2 0 k) = a2 m c (ix2 0 k) := by
  show V m c main_arg2 _ = _
  rw [V_main_arg2]
  congr 1
  funext d
  match d with
  | ⟨0, _⟩ => exact Fin.ext (show win0_5.index t (0 : Fin 2) * 1 + 1 * 0 = _ by rw [(i5 t).1]; rfl)
  | ⟨1, _⟩ => exact Fin.ext (show win0_5.index t (1 : Fin 2) * 1024 + 1 * k.val = _ by rw [(i5 t).2]; exact (by omega : 0 * 1024 + 1 * k.val = k.val))

/-! ## The arrays as real functions -/

def argsOf : Args where
  dh := re2 (a0 m c)
  h := re2 (a1 m c)
  g := fun k => re2 (a2 m c) 0 k
  wu := re2 (a3 m c)
  wd := re2 (a4 m c)

variable (h0 : Fin' (S := S4096x1024) (a0 m c)) (h1 : Fin' (S := S4096x1024) (a1 m c)) (h2 : Fin' (S := S1x1024) (a2 m c))
  (h3 : Fin' (S := S1024x5632) (a3 m c)) (h4 : Fin' (S := S2816x1024) (a4 m c))
include h0 h1 h2 h3 h4

theorem holds : Ref.Holds (argsOf m c) (a0 m c) (a1 m c) (a2 m c) (a3 m c) (a4 m c) where
  dh i := (congrArg (a0 m c) (eq_ix2 i)).trans (re2_coe (a := 4096) (b := 1024) _ h0 (i 0) (i 1))
  h i := (congrArg (a1 m c) (eq_ix2 i)).trans (re2_coe (a := 4096) (b := 1024) _ h1 (i 0) (i 1))
  g i := by
    have e : i = ix2 0 (i 1) := by
      rw [show (0 : Fin 1) = i 0 from Subsingleton.elim (α := Fin 1) _ _]
      exact eq_ix2 i
    exact (congrArg (a2 m c) e).trans (re2_coe (a := 1) (b := 1024) _ h2 0 (i 1))
  wu i := (congrArg (a3 m c) (eq_ix2 i)).trans (re2_coe (a := 1024) (b := 5632) _ h3 (i 0) (i 1))
  wd i := (congrArg (a4 m c) (eq_ix2 i)).trans (re2_coe (a := 2816) (b := 1024) _ h4 (i 0) (i 1))

theorem inputs : Inputs m c (argsOf m c) := by
  intro t
  have ht : t.val < 32 := t.isLt
  refine ⟨fun r k => ?_, fun s r f => ?_, fun s f k => ?_, fun f k => ?_, fun r k => ?_, fun k => ?_⟩
  · exact (blk0 m c t r k (by omega)).trans (re2_coe (a0 m c) h0 _ k)
  · refine (blk1 m c t s r f (by omega)).trans ?_
    rw [V_gu, guArr_apply]
    exact Ref.r15 (holds m c h0 h1 h2 h3 h4) _
  · refine (blk2 m c t s f k).trans ?_
    rw [V_wu, wuArr_apply]
    exact re2_coe (a3 m c) h3 k _
  · refine (blk3 m c t f k).trans ?_
    rw [V_wd, wdArr_apply]
    exact re2_coe (a4 m c) h4 _ k
  · exact (blk4 m c t r k (by omega)).trans (re2_coe (a1 m c) h1 _ k)
  · exact (blk5 m c t k).trans (re2_coe (a2 m c) h2 0 k)

end Cert.Ffn.Kern

end
-- ==== Proof.Ffn.Agree.lean ====
/- The feed-forward kernel's four results and the reference's, from the same real arguments, are the same. -/
module

public import proofs.«01_k».proof.Proof.Ffn.Inputs

@[expose] public section

set_option maxRecDepth 16384

noncomputable section

namespace Cert.Ffn.Kern

open Idealize.ShloMosaic Idealize.ShloMosaic.ValueIdx Idealize.ShloMosaic.TcCoe
open Idealize.SL Idealize.SL.Sem
open Cert.Kernel2Ideal Cert.Kernel2Ideal.Gen Cert.Kernel2Ideal.Value
open Cert.Attn.Kern (Fin')

variable (m : (ℓ : Loc nD τ sig) → Buf (Elt Ideal) ℓ) (c : Dev nD)
  (h0 : Fin' (S := S4096x1024) (a0 m c)) (h1 : Fin' (S := S4096x1024) (a1 m c)) (h2 : Fin' (S := S1x1024) (a2 m c))
  (h3 : Fin' (S := S1024x5632) (a3 m c)) (h4 : Fin' (S := S2816x1024) (a4 m c))
include h0 h1 h2 h3 h4

theorem out0 : Cert.Reference2Ideal.Read.val_main_v50 (F := Ideal) (a0 m c) (a1 m c) (a2 m c) (a3 m c) (a4 m c) = G6 m c :=
  funext fun i => (Ref.r50 (holds m c h0 h1 h2 h3 h4) i).trans (G6_apply m c (inputs m c h0 h1 h2 h3 h4) i).symm

theorem out1 : Cert.Reference2Ideal.Read.val_main_v29 (F := Ideal) (a0 m c) (a1 m c) (a2 m c) (a3 m c) (a4 m c) = G7 m c :=
  funext fun i => by
    have e : i = ix2 0 (i 1) := by
      rw [show (0 : Fin 1) = i 0 from Subsingleton.elim (α := Fin 1) _ _]
      exact eq_ix2 i
    exact (Ref.r29 (holds m c h0 h1 h2 h3 h4) i).trans
      ((G7_apply m c (inputs m c h0 h1 h2 h3 h4) (i 1)).symm.trans (congrArg (G7 m c) e.symm))

theorem out2 : Cert.Reference2Ideal.Read.val_main_v51 (F := Ideal) (a1 m c) (a2 m c) (a3 m c) = G8 m c :=
  funext fun i => (Ref.r51 (holds m c h0 h1 h2 h3 h4) i).trans (G8_apply m c (inputs m c h0 h1 h2 h3 h4) i).symm

theorem out3 : Cert.Reference2Ideal.Read.val_main_v52 (F := Ideal) (a0 m c) (a1 m c) (a2 m c) (a3 m c) (a4 m c) = G9 m c :=
  funext fun i => by
    have b0 : (i 0).val < 2 := (i 0).isLt
    have b1 : (i 1).val < 4 := (i 1).isLt
    have b3 : (i 3).val < 704 := (i 3).isLt
    refine (Ref.r52 (holds m c h0 h1 h2 h3 h4) i).trans (Eq.trans ?_ (G9_apply m c (inputs m c h0 h1 h2 h3 h4) i).symm)
    by_cases h : (i 0).val = 0
    · rw [if_pos h, Ref.CAT, if_pos (by omega), h, Nat.mul_zero, Nat.zero_add]
    · have h' : (i 0).val = 1 := by omega
      rw [if_neg h, Ref.CAT, if_neg (by omega), h', Nat.mul_one, Nat.add_sub_cancel_left]

end Cert.Ffn.Kern

end
-- ==== Proof.Grad.Product.lean ====
/- The product one point makes of its two blocks, read at an index. Both gradients of weights are made of it. -/
module

public import proofs.«01_k».proof.Proof.Gen.Kernel3Ideal
public import Idealize.ShloMosaic.Lib.ValueLayout
public import Idealize.ShloMosaic.Lib.ValueLayoutCasts
public import Idealize.ShloMosaic.Lib.MatmulPlain

@[expose] public section

set_option maxRecDepth 16384

noncomputable section

namespace Cert.Grad

open Idealize.ShloMosaic Idealize.ShloMosaic.ValueIdx
open Cert.Kernel3Ideal Cert.Kernel3Ideal.Gen

theorem dot_tn (L : FVec Ideal S4096x704 .bf16) (R : FVec Ideal S4096x1024 .bf16) (f : Fin 704) (k : Fin 1024) :
    matmul dot_S4096x704_S4096x1024_S704x1024_0_0_1_1_n_n none L R (constant S704x1024 .f32 0x00000000#32) (ix2 f k)
      = ∑ r : Fin 4096, L (ix2 r f) * R (ix2 r k) := by
  refine (Ideal.matmul_constant_zero_apply _ none L R (ix2 f k)).trans ?_
  rw [← (contrEquiv1 dot_S4096x704_S4096x1024_S704x1024_0_0_1_1_n_n 4096 rfl rfl).symm.sum_comp]
  refine Finset.sum_congr rfl fun r _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- What a point makes of the block of its group's columns and the whole right factor: the product over all rows. -/
theorem product_apply (x0 : FVec Ideal S1x4096x704 .bf16) (x1 : FVec Ideal S4096x1024 .bf16) (f : Fin 704) (k : Fin 1024) :
    shapeCast S1x704x1024 (matmul dot_S4096x704_S4096x1024_S704x1024_0_0_1_1_n_n none
      (shapeCast S4096x704 x0 shapeCasts_S1x4096x704_S4096x704) x1 (constant S704x1024 .f32 0x00000000#32))
      shapeCasts_S704x1024_S1x704x1024 (ix3 0 f k)
      = ∑ r : Fin 4096, x0 (ix3 0 r f) * x1 (ix2 r k) := by
  refine (shapeCast_apply _ _ _ (ix2 f k) ?_).trans ((dot_tn _ _ f k).trans (Finset.sum_congr rfl fun r _ => ?_))
  · rw [Shape.rowMajor_val_two, Shape.rowMajor_val_three]
    show f.val * 1024 + k.val = (0 * 704 + f.val) * 1024 + k.val
    omega
  · refine congrArg (· * _) (shapeCast_apply _ _ _ (ix3 0 r f) ?_)
    rw [Shape.rowMajor_val_two, Shape.rowMajor_val_three]
    show (0 * 4096 + r.val) * 704 + f.val = r.val * 704 + f.val
    omega

end Cert.Grad

end
-- ==== Proof.Grad.Up.lean ====
/- The gradient of the gate and up projections' weights: each of the 8 points stores one group of 704 rows, the product of
   that group's cotangents and the norm's output over all 4096 rows, and the reference's result is the same sum. -/
module

public import proofs.«01_k».proof.Proof.Gen.Kernel3Ideal.Value
public import proofs.«01_k».proof.Proof.Gen.Reference3Ideal.Read
public import proofs.«01_k».proof.Proof.Grad.Product
public import Idealize.ShloMosaic.Lib.Pipeline.ValueKit.Basic
public import Idealize.ShloMosaic.Lib.StableHlo.RunRead

@[expose] public section

set_option maxRecDepth 16384

noncomputable section

namespace Cert.Grad.Up

open Idealize.ShloMosaic Idealize.ShloMosaic.ValueIdx Idealize.ShloMosaic.TcCoe
open Idealize.SL Idealize.SL.Sem
open Cert.Kernel3Ideal Cert.Kernel3Ideal.Gen Cert.Kernel3Ideal.Value

/-! ## One point -/

/-- What a point leaves in the buffer it stores, from the blocks it reads: the product over all rows. -/
theorem out_apply (x0 : Vec Ideal S1x4096x704 .bf16) (x1 : Vec Ideal S4096x1024 .bf16) (f : Fin 704) (k : Fin 1024) :
    out0_2 x0 x1 (ix3 0 f k) = ∑ r : Fin 4096, x0 (ix3 0 r f) * x1 (ix2 r k) := by
  unfold out0_2
  rw [View.canon_cons_unit_lit _ _ _ fun a => by match a with | ⟨0, _⟩ => rfl | ⟨1, _⟩ => rfl | ⟨2, _⟩ => rfl]
  rw [View.ld_unit_lit _ x0 fun a => by match a with | ⟨0, _⟩ => rfl | ⟨1, _⟩ => rfl | ⟨2, _⟩ => rfl]
  rw [View.ld_unit_lit _ x1 fun a => by match a with | ⟨0, _⟩ => rfl | ⟨1, _⟩ => rfl]
  exact product_apply x0 x1 f k

/-! ## The blocks -/

variable (m : (ℓ : Loc nD τ sig) → Buf (Elt Ideal) ℓ) (c : Dev nD)

/-- The left factor as the call is handed it: 8 groups of 704 columns. -/
def arr (x : Vec Ideal S4096x5632 .bf16) : Vec Ideal S8x4096x704 .bf16 :=
  transpose S8x4096x704 [1, 0, 2] (shapeCast S4096x8x704 x shapeCasts_S4096x5632_S4096x8x704) transposes_S4096x8x704_S8x4096x704_1_0_2

theorem arr_apply (x : Vec Ideal S4096x5632 .bf16) (j : Fin 8) (r : Fin 4096) (f : Fin 704) :
    arr x (ix3 j r f) = x (ix2 r ⟨704 * j.val + f.val, by omega⟩) := by
  unfold arr
  refine (transpose_apply _ _ _ _ (ix3 r j f) fun b => match b with
    | ⟨0, _⟩ => rfl
    | ⟨1, _⟩ => rfl
    | ⟨2, _⟩ => rfl).trans ?_
  refine shapeCast_apply _ _ _ _ ?_
  rw [Shape.rowMajor_val_two, Shape.rowMajor_val_three]
  show r.val * 5632 + (704 * j.val + f.val) = (r.val * 8 + j.val) * 704 + f.val
  omega

abbrev lhs : Vec Ideal S4096x5632 .bf16 := m ((c : Thread nD τ).loc main_arg1)
abbrev rhs : Vec Ideal S4096x1024 .bf16 := m ((c : Thread nD τ).loc main_arg0)

set_option maxHeartbeats 4000000 in
theorem V_lhs : V m c main_v1 = arr (lhs m c) := by
  show StableHlo.after (List.flatten [hostOps0]) _ (Proc.devRef .tc main_v1) = _
  simp only [List.flatten_cons, List.flatten_nil, List.append_nil]
  after_reads_simp
  rfl

theorem i0 : ∀ t : Fin grid0.N, win0_0.index t (0 : Fin 3) = t.val ∧ win0_0.index t (1 : Fin 3) = 0 ∧ win0_0.index t (2 : Fin 3) = 0 := by decide +kernel
theorem i1 : ∀ t : Fin grid0.N, win0_1.index t (0 : Fin 2) = 0 ∧ win0_1.index t (1 : Fin 2) = 0 := by decide +kernel
theorem i2 : ∀ t : Fin grid0.N, win0_2.index t (0 : Fin 3) = t.val ∧ win0_2.index t (1 : Fin 3) = 0 ∧ win0_2.index t (2 : Fin 3) = 0 := by decide +kernel
theorem stores : ∀ t : Fin grid0.N, win0_2.flush t = true := by decide +kernel

theorem blk0 (t : Fin cfg0.N) (ht : t.val < 8) (r : Fin 4096) (f : Fin 704) :
    (iblk m c 0 t : Vec Ideal S1x4096x704 .bf16) (ix3 0 r f) = lhs m c (ix2 r ⟨704 * t.val + f.val, by omega⟩) := by
  refine Eq.trans ?_ (arr_apply (lhs m c) ⟨t.val, ht⟩ r f)
  rw [← V_lhs]
  show V m c main_v1 _ = _
  congr 1
  funext d
  match d with
  | ⟨0, _⟩ => exact Fin.ext (show win0_0.index t (0 : Fin 3) * 1 + 1 * 0 = _ by rw [(i0 t).1]; exact (by omega : t.val * 1 + 1 * 0 = t.val))
  | ⟨1, _⟩ => exact Fin.ext (show win0_0.index t (1 : Fin 3) * 4096 + 1 * r.val = _ by rw [(i0 t).2.1]; exact (by omega : 0 * 4096 + 1 * r.val = r.val))
  | ⟨2, _⟩ => exact Fin.ext (show win0_0.index t (2 : Fin 3) * 704 + 1 * f.val = _ by rw [(i0 t).2.2]; exact (by omega : 0 * 704 + 1 * f.val = f.val))

theorem blk1 (t : Fin cfg0.N) (r : Fin 4096) (k : Fin 1024) :
    (iblk m c 1 t : Vec Ideal S4096x1024 .bf16) (ix2 r k) = rhs m c (ix2 r k) := by
  show V m c main_arg0 _ = _
  rw [V_main_arg0]
  congr 1
  funext d
  match d with
  | ⟨0, _⟩ => exact Fin.ext (show win0_1.index t (0 : Fin 2) * 4096 + 1 * r.val = _ by rw [(i1 t).1]; exact (by omega : 0 * 4096 + 1 * r.val = r.val))
  | ⟨1, _⟩ => exact Fin.ext (show win0_1.index t (1 : Fin 2) * 1024 + 1 * k.val = _ by rw [(i1 t).2]; exact (by omega : 0 * 1024 + 1 * k.val = k.val))

/-! ## The array -/

/-- Group `j` of the weights' gradient is what point `j` stores. -/
theorem array_apply (j : Fin 8) (f : Fin 704) (k : Fin 1024) :
    ((dats m 0 c).arrAt 2 cfg0.N : Vec Ideal S8x704x1024 .bf16) (ix3 j f k)
      = ∑ r : Fin 4096, lhs m c (ix2 r ⟨704 * j.val + f.val, by omega⟩) * rhs m c (ix2 r k) := by
  let t : Fin cfg0.N := ⟨j.val, lt_of_lt_of_eq j.isLt N_0.symm⟩
  have h := congrFun (blocks2 m c t (stores t)) (ix3 (n0 := 1) (n1 := 704) (n2 := 1024) 0 f k)
  rw [flushed2] at h
  refine Eq.trans ?_ (h.trans ((out_apply _ _ f k).trans (Finset.sum_congr rfl fun r _ => congrArg₂ (· * ·) (blk0 m c t j.isLt r f) (blk1 m c t r k))))
  show (dats m 0 c).arrAt 2 cfg0.N _ = (dats m 0 c).arrAt 2 cfg0.N _
  congr 1
  funext d
  match d with
  | ⟨0, _⟩ => exact Fin.ext (show _ = win0_2.index t (0 : Fin 3) * 1 + 1 * 0 by rw [(i2 t).1]; exact (by omega : j.val = j.val * 1 + 1 * 0))
  | ⟨1, _⟩ => exact Fin.ext (show _ = win0_2.index t (1 : Fin 3) * 704 + 1 * f.val by rw [(i2 t).2.1]; exact (by omega : f.val = 0 * 704 + 1 * f.val))
  | ⟨2, _⟩ => exact Fin.ext (show _ = win0_2.index t (2 : Fin 3) * 1024 + 1 * k.val by rw [(i2 t).2.2]; exact (by omega : k.val = 0 * 1024 + 1 * k.val))

/-! ## The reference -/

open Cert.Reference3Ideal.Read in
theorem ref_apply (x : Vec Ideal S4096x1024 .bf16) (g : Vec Ideal S4096x5632 .bf16) (j : Fin 8) (f : Fin 704) (k : Fin 1024) :
    (val_main_v8 (F := Ideal) x g : Vec Ideal S8x704x1024 .bf16) (ix3 j f k)
      = ∑ r : Fin 4096, g (ix2 r ⟨704 * j.val + f.val, by omega⟩) * x (ix2 r k) := by
  show val_main_v7 (F := Ideal) x g (ix3 j f k) = _
  rw [val_main_v7_apply, val_main_v6_apply, val_main_v5_apply, val_main_v4_apply]
  refine Finset.sum_congr rfl fun r _ => congrArg₂ (· * ·) (congrArg g ?_) (congrArg x ?_)
  · funext d
    match d with
    | ⟨0, _⟩ => rfl
    | ⟨1, _⟩ => exact Fin.ext (show ((j.val * 704 + f.val) * 1024 + k.val) / 1024 = 704 * j.val + f.val by omega)
  · funext d
    match d with
    | ⟨0, _⟩ => rfl
    | ⟨1, _⟩ => exact Fin.ext (show ((j.val * 704 + f.val) * 1024 + k.val) % 1024 = k.val by omega)

/-- The reference's result is the array the run leaves. -/
theorem agree : Cert.Reference3Ideal.Read.val_main_v8 (F := Ideal) (rhs m c) (lhs m c) = (dats m 0 c).arrAt 2 cfg0.N :=
  funext fun (i : S8x704x1024.Idx) => by
    obtain ⟨j, f, k, rfl⟩ : ∃ (j : Fin 8) (f : Fin 704) (k : Fin 1024), i = ix3 j f k := ⟨i 0, i 1, i 2, eq_ix3 i⟩
    exact (ref_apply _ _ j f k).trans (array_apply m c j f k).symm

end Cert.Grad.Up

end
-- ==== Proof.Fwd.Body.lean ====
/- What one grid point of the feed-forward layer's forward call computes from the blocks it reads, and what it leaves in
   its buffers, for the three kinds of points: the first of a row block (case A: the residual stream is copied before the
   first column block's product is added to it), the last (case C: the norms of the finished rows are stored), and the
   others (case B). A point works on its 1024 rows in four quarters. -/
module

public import proofs.«01_k».proof.Proof.Gen.Kernel5Ideal.Value
public import Idealize.ShloMosaic.Lib.ValueIdx
public import Idealize.ShloMosaic.Lib.Pipeline.ReadBack
public import Idealize.ShloMosaic.Lib.Pipeline.ValueKit.Acc

@[expose] public section

set_option maxRecDepth 16384

noncomputable section

namespace Cert.Fwd

open Idealize.ShloMosaic Idealize.ShloMosaic.ValueIdx Idealize.ShloMosaic.TcCoe Idealize.ShloMosaic.Tactic
open Idealize.SL Idealize.SL.Sem
open Cert.Kernel5Ideal Cert.Kernel5Ideal.Gen

theorem inbR (e : Fin 4) : ∀ a, (![256 * e.val, 0] : Fin 2 → ℕ) a + S256x1024.size a ≤ S1024x1024.size a := by
  intro a
  match a with
  | ⟨0, _⟩ => show 256 * e.val + 256 ≤ 1024; omega
  | ⟨1, _⟩ => exact Nat.le_refl 1024

theorem inbG (s : Fin 2) (e : Fin 4) : ∀ a, (![s.val, 0, 256 * e.val, 0] : Fin 4 → ℕ) a + S1x1x256x704.size a ≤ S2x1x1024x704.size a := by
  intro a
  match a with
  | ⟨0, _⟩ => show s.val + 1 ≤ 2; omega
  | ⟨1, _⟩ => exact Nat.le_refl 1
  | ⟨2, _⟩ => show 256 * e.val + 256 ≤ 1024; omega
  | ⟨3, _⟩ => exact Nat.le_refl 704

theorem inbU (s : Fin 2) : ∀ a, (![0, s.val, 0, 0, 0] : Fin 5 → ℕ) a + S1x1x1x704x1024.size a ≤ S1x2x1x704x1024.size a := by
  intro a
  match a with
  | ⟨0, _⟩ => exact Nat.le_refl 1
  | ⟨1, _⟩ => show s.val + 1 ≤ 2; omega
  | ⟨2, _⟩ => exact Nat.le_refl 1
  | ⟨3, _⟩ => exact Nat.le_refl 704
  | ⟨4, _⟩ => exact Nat.le_refl 1024

section Terms

variable {F : FTy → Type} [FloatOps F]

/-- Quarter `e` of 1024 rows. -/
def quarter {t : EltTy} (x : Vec F S1024x1024 t) (e : Fin 4) : Vec F S256x1024 t := View.ld x (Rect.unit ![256 * e.val, 0] S256x1024.size (inbR e))

/-- The rows of the first weight that make the gates (`s = 0`) or the ups (`s = 1`). -/
def ldU (x : Vec F S1x2x1x704x1024 .bf16) (s : Fin 2) : Vec F S1x1x1x704x1024 .bf16 :=
  View.ld x (Rect.unit ![0, s.val, 0, 0, 0] S1x1x1x704x1024.size (inbU s))

variable (x0 : Vec F S1024x1024 .bf16) (x2 : Vec F S1x2x1x704x1024 .bf16) (x3 : Vec F S1x1x704x1024 .bf16)

/-- The gates or the ups. -/
def pGU (s : Fin 2) (e : Fin 4) : FVec F S1x1x256x704 .bf16 := k0_pay17 (quarter x0 e) (ldU x2 s)

/-- The gated values. -/
def pACT (e : Fin 4) : FVec F S256x704 .bf16 := k0_pay19 (quarter x0 e) (ldU x2 0) (ldU x2 1)

/-- The gated values' product with the second weight, added to what is there. -/
def pHN (acc : Vec F S1024x1024 .f32) (e : Fin 4) : FVec F S256x1024 .f32 := k0_pay21 (pACT x0 x2 e) (k0_pay20 (quarter acc e)) x3

def pieceR {t : EltTy} (e : Fin 4) (v : Vec F S256x1024 t) : View.Piece (Elt F) S1024x1024 t :=
  ⟨Rect.unit ![256 * e.val, 0] S256x1024.size (inbR e), v⟩

def pieces6 (acc : Vec F S1024x1024 .f32) : List (View.Piece (Elt F) S1024x1024 .f32) :=
  [pieceR 3 (pHN x0 x2 x3 acc 3), pieceR 2 (pHN x0 x2 x3 acc 2), pieceR 1 (pHN x0 x2 x3 acc 1), pieceR 0 (pHN x0 x2 x3 acc 0)]

def piece7 (s : Fin 2) (e : Fin 4) : View.Piece (Elt F) S2x1x1024x704 .bf16 :=
  ⟨Rect.unit ![s.val, 0, 256 * e.val, 0] S1x1x256x704.size (inbG s e), pGU x0 x2 s e⟩

def pieces7 : List (View.Piece (Elt F) S2x1x1024x704 .bf16) :=
  [piece7 x0 x2 1 3, piece7 x0 x2 0 3, piece7 x0 x2 1 2, piece7 x0 x2 0 2, piece7 x0 x2 1 1, piece7 x0 x2 0 1, piece7 x0 x2 1 0, piece7 x0 x2 0 0]

/-- The stores of a norm of the finished rows. -/
def piecesN (acc : Vec F S1024x1024 .f32) (g : Vec F S1x1024 .f32) : List (View.Piece (Elt F) S1024x1024 .bf16) :=
  [pieceR 3 (k0_pay4 (pHN x0 x2 x3 acc 3) g), pieceR 2 (k0_pay4 (pHN x0 x2 x3 acc 2) g), pieceR 1 (k0_pay4 (pHN x0 x2 x3 acc 1) g),
    pieceR 0 (k0_pay4 (pHN x0 x2 x3 acc 0) g)]

end Terms

section Outs

variable {F : FTy → Type} [FloatOps F]
variable (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1x2x1x704x1024 .bf16) (harg4 : arg4.IsWhole) (arg5 : Memref sig .tc .vmem S1x1x704x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S2x1x1024x704 .bf16) (harg9 : arg9.IsWhole) (arg10 : Memref sig .tc .vmem S1024x1024 .bf16) (harg10 : arg10.IsWhole) (arg11 : Memref sig .tc .vmem S1024x1024 .bf16) (harg11 : arg11.IsWhole)
variable (x0 : Vec F S1024x1024 .bf16) (x1 : Vec F S1024x1024 .f32) (x2 : Vec F S1x2x1x704x1024 .bf16)
  (x3 : Vec F S1x1x704x1024 .bf16) (x4 : Vec F S1x1024 .f32) (x5 : Vec F S1x1024 .f32)

/-- Reading back a last store gives what was stored. -/
theorem canon_self {s : Shape} {e : EltTy} (r : Rect s) (w : r.shape.Idx → Elt F e) (L : List (View.Piece (Elt F) s e)) :
    (fun j => View.canon (⟨r, w⟩ :: L) (r.idx j)) = w :=
  funext fun j => View.canon_cons_emb r w L j

section A

variable (hc0 : cond0_0 i) (hc1 : ¬cond0_1 i)

set_option maxHeartbeats 1600000 in
theorem out0_A_6_eq : out0_A_6 c i arg2 harg2 arg3 harg3 arg4 harg4 arg5 harg5 arg6 harg6 arg7 harg7 arg8 harg8 arg9 harg9 arg10 harg10 arg11 harg11 hc0 hc1 x0 x1 x2 x3 x4 x5
    = View.canon (pieces6 x0 x2 x3 x1 ++ [⟨Rect.unit ![0, 0] S1024x1024.size (by decide), x1⟩]) := by
  frame_out [↓View.readCov_skip, ↓View.readCov_fill, View.readCov_eq_canon']
  rfl

set_option maxHeartbeats 1600000 in
theorem out0_A_7_eq : out0_A_7 c i arg2 harg2 arg3 harg3 arg4 harg4 arg5 harg5 arg6 harg6 arg7 harg7 arg8 harg8 arg9 harg9 arg10 harg10 arg11 harg11 hc0 hc1 x0 x1 x2 x3 x4 x5
    = View.canon (pieces7 x0 x2) := by
  frame_out [↓View.readCov_skip, ↓View.readCov_fill, View.readCov_eq_canon']
  rfl

end A

section B

variable (hc0 : ¬cond0_0 i) (hc1 : ¬cond0_1 i) (xo6 : Vec F S1024x1024 .f32)

set_option maxHeartbeats 1600000 in
theorem out0_B_6_eq : out0_B_6 c i arg2 harg2 arg3 harg3 arg4 harg4 arg5 harg5 arg6 harg6 arg7 harg7 arg8 harg8 arg9 harg9 arg10 harg10 arg11 harg11 hc0 hc1 x0 x1 x2 x3 x4 x5 xo6
    = View.canon (pieces6 x0 x2 x3 xo6) := by
  frame_out [↓View.readCov_skip, ↓View.readCov_fill, View.readCov_eq_canon']
  rfl

set_option maxHeartbeats 1600000 in
theorem out0_B_7_eq : out0_B_7 c i arg2 harg2 arg3 harg3 arg4 harg4 arg5 harg5 arg6 harg6 arg7 harg7 arg8 harg8 arg9 harg9 arg10 harg10 arg11 harg11 hc0 hc1 x0 x1 x2 x3 x4 x5 xo6
    = View.canon (pieces7 x0 x2) := by
  frame_out [↓View.readCov_skip, ↓View.readCov_fill, View.readCov_eq_canon']
  rfl

end B

section C

variable (hc0 : ¬cond0_0 i) (hc1 : cond0_1 i) (xo6 : Vec F S1024x1024 .f32)

set_option maxHeartbeats 1600000 in
theorem out0_C_6_eq : out0_C_6 c i arg2 harg2 arg3 harg3 arg4 harg4 arg5 harg5 arg6 harg6 arg7 harg7 arg8 harg8 arg9 harg9 arg10 harg10 arg11 harg11 hc0 hc1 x0 x1 x2 x3 x4 x5 xo6
    = View.canon (pieces6 x0 x2 x3 xo6) := by
  frame_out [↓View.readCov_skip, ↓View.readCov_fill, View.readCov_eq_canon']
  rfl

set_option maxHeartbeats 1600000 in
theorem out0_C_7_eq : out0_C_7 c i arg2 harg2 arg3 harg3 arg4 harg4 arg5 harg5 arg6 harg6 arg7 harg7 arg8 harg8 arg9 harg9 arg10 harg10 arg11 harg11 hc0 hc1 x0 x1 x2 x3 x4 x5 xo6
    = View.canon (pieces7 x0 x2) := by
  frame_out [↓View.readCov_skip, ↓View.readCov_fill, View.readCov_eq_canon']
  rfl

set_option maxHeartbeats 1600000 in
theorem out0_C_8_eq : out0_C_8 c i arg2 harg2 arg3 harg3 arg4 harg4 arg5 harg5 arg6 harg6 arg7 harg7 arg8 harg8 arg9 harg9 arg10 harg10 arg11 harg11 hc0 hc1 x0 x1 x2 x3 x4 x5 xo6
    = View.canon (piecesN x0 x2 x3 xo6 x4) := by
  frame_out [↓View.readCov_skip, ↓View.readCov_fill, View.readCov_eq_canon']
  simp only [canon_self]
  rfl

set_option maxHeartbeats 1600000 in
theorem out0_C_9_eq : out0_C_9 c i arg2 harg2 arg3 harg3 arg4 harg4 arg5 harg5 arg6 harg6 arg7 harg7 arg8 harg8 arg9 harg9 arg10 harg10 arg11 harg11 hc0 hc1 x0 x1 x2 x3 x4 x5 xo6
    = View.canon (piecesN x0 x2 x3 xo6 x5) := by
  frame_out [↓View.readCov_skip, ↓View.readCov_fill, View.readCov_eq_canon']
  simp only [canon_self]
  rfl

end C

end Outs

end Cert.Fwd

end
-- ==== Proof.Fwd.Spec.lean ====
/- The feed-forward layer over the extended reals, from arrays read at natural numbers: the gates and ups, the residual
   stream after the layer, and a norm of it. -/
module

public import Idealize.ShloMosaic.PureOps.Ideal

@[expose] public section

noncomputable section

namespace Cert.Fwd

open Idealize.ShloMosaic

/-- The layer's arguments: the norm's output, the residual stream, the two norms' gains, and the weights. -/
structure Args where
  u : ℕ → ℕ → EReal
  h : ℕ → ℕ → EReal
  g0 : ℕ → EReal
  g1 : ℕ → EReal
  wu : ℕ → ℕ → EReal
  wd : ℕ → ℕ → EReal

variable (A : Args)

/-- Gate `c` of row `r` (an up, from 2816 on). -/
def GU (r c : ℕ) : EReal := ∑ k : Fin 1024, A.u r k.val * A.wu k.val c

/-- The gated value. -/
def ACT (r f : ℕ) : EReal := GU A r f * Ideal.logistic (GU A r f) * GU A r (2816 + f)

/-- What column block `j` adds to the residual stream. -/
def PT (r j c : ℕ) : EReal := ∑ f : Fin 704, ACT A r (704 * j + f.val) * A.wd (704 * j + f.val) c

/-- The residual stream after the layer. -/
def HN (r c : ℕ) : EReal := A.h r c + ∑ f : Fin 2816, ACT A r f.val * A.wd f.val c

/-- A norm of it, with the gain `g`. -/
def UN (g : ℕ → EReal) (r c : ℕ) : EReal :=
  HN A r c * Ideal.rsqrt (Ideal.div (∑ k : Fin 1024, HN A r k.val * HN A r k.val) (Ideal.ofBits .f32 0x44800000#32)
    + Ideal.ofBits .f32 0x358637BD#32) * g c

theorem PT_range (r j c : ℕ) : PT A r j c = ∑ k ∈ Finset.range 704, ACT A r (704 * j + k) * A.wd (704 * j + k) c :=
  (Finset.sum_range fun k => ACT A r (704 * j + k) * A.wd (704 * j + k) c).symm

/-- The column blocks together make the whole product. -/
theorem hn_blocks (r c : ℕ) : A.h r c + ∑ j ∈ Finset.range 4, PT A r j c = HN A r c := by
  unfold HN
  congr 1
  rw [← Finset.sum_range fun f => ACT A r f * A.wd f c, show (2816 : ℕ) = 704 + 704 + 704 + 704 from rfl,
    Finset.sum_range_add, Finset.sum_range_add, Finset.sum_range_add, Finset.sum_range_succ, Finset.sum_range_succ,
    Finset.sum_range_succ, Finset.sum_range_one, PT_range, PT_range, PT_range, PT_range]
  congr 3

end Cert.Fwd

end
-- ==== Proof.Fwd.Point.lean ====
/- What one point computes from its blocks of the arrays: each value it stores is the layer's (`Spec.lean`) at the place it
   is stored at. Point `n` works on rows `1024 * (n / 4)` and on, and on the gates and ups `704 * (n % 4)` and on. -/
module

public import proofs.«01_k».proof.Proof.Fwd.Body
public import proofs.«01_k».proof.Proof.Fwd.Spec
public import proofs.«01_k».proof.Proof.Ffn.Point

@[expose] public section

set_option maxRecDepth 16384

noncomputable section

namespace Cert.Fwd

open Idealize.ShloMosaic Idealize.ShloMosaic.ValueIdx Idealize.ShloMosaic.TcCoe
open Cert.Kernel5Ideal Cert.Kernel5Ideal.Gen

/-- The blocks of point `n`. -/
structure Blocks (A : Args) (n : ℕ) (x0 : Vec Ideal S1024x1024 .bf16) (x1 : Vec Ideal S1024x1024 .f32)
    (x2 : Vec Ideal S1x2x1x704x1024 .bf16) (x3 : Vec Ideal S1x1x704x1024 .bf16) (x4 x5 : Vec Ideal S1x1024 .f32) : Prop where
  h0 : ∀ r c : Fin 1024, x0 (ix2 r c) = A.u (1024 * (n / 4) + r.val) c.val
  h1 : ∀ r c : Fin 1024, x1 (ix2 r c) = A.h (1024 * (n / 4) + r.val) c.val
  h2 : ∀ (s : Fin 2) (f : Fin 704) (c : Fin 1024), x2 (ix5 0 s 0 f c) = A.wu c.val (2816 * s.val + (704 * (n % 4) + f.val))
  h3 : ∀ (f : Fin 704) (c : Fin 1024), x3 (ix4 0 0 f c) = A.wd (704 * (n % 4) + f.val) c.val
  h4 : ∀ c : Fin 1024, x4 (ix2 0 c) = A.g0 c.val
  h5 : ∀ c : Fin 1024, x5 (ix2 0 c) = A.g1 c.val

theorem quarter_apply {t : EltTy} (x : Vec Ideal S1024x1024 t) (e : Fin 4) (r : Fin 256) (c : Fin 1024) :
    quarter x e (ix2 r c) = x (ix2 ⟨256 * e.val + r.val, by omega⟩ c) := by
  refine congrArg x ?_
  funext a
  match a with
  | ⟨0, _⟩ => exact Fin.ext (show 256 * e.val + 1 * r.val = 256 * e.val + r.val by omega)
  | ⟨1, _⟩ => exact Fin.ext (show 0 + 1 * c.val = c.val by omega)

/-- Row `r` of quarter `e` of point `n`'s rows. -/
abbrev rowOf (n : ℕ) (e : Fin 4) (r : Fin 256) : ℕ := 1024 * (n / 4) + (256 * e.val + r.val)

/-- Gate `f` of point `n`. -/
abbrev colOf (n : ℕ) (f : Fin 704) : ℕ := 704 * (n % 4) + f.val

/-- The norm of rows of the finished residual stream. -/
theorem norm_apply (A : Args) (v : Vec Ideal S256x1024 .f32) (x : Vec Ideal S1x1024 .f32) (g : ℕ → EReal) (k : ℕ) (r : Fin 256)
    (hv : ∀ c : Fin 1024, v (ix2 r c) = HN A k c.val) (hg : ∀ c : Fin 1024, x (ix2 0 c) = g c.val) (c : Fin 1024) :
    k0_pay4 v x (ix2 r c) = UN A g k c.val := by
  unfold k0_pay4
  rw [shapeCast_self, truncf_apply, mulf_apply, mulf_apply, Cert.Ffn.bc_row, Cert.Ffn.bc_col, hv, hg]
  have e : ∑ c : Fin 1024, (mulf v v : FVec Ideal S256x1024 .f32) (ix2 r c) = ∑ c : Fin 1024, HN A k c.val * HN A k c.val :=
    Finset.sum_congr rfl fun c _ => by rw [mulf_apply, hv]
  have e' := (Cert.Ffn.rowSum (mulf v v : FVec Ideal S256x1024 .f32) r).trans e
  unfold UN
  rw [← e']
  rfl

section

variable {A : Args} {n : ℕ} {x0 : Vec Ideal S1024x1024 .bf16} {x1 : Vec Ideal S1024x1024 .f32}
  {x2 : Vec Ideal S1x2x1x704x1024 .bf16} {x3 : Vec Ideal S1x1x704x1024 .bf16} {x4 x5 : Vec Ideal S1x1024 .f32}
  (b : Blocks A n x0 x1 x2 x3 x4 x5)

include b

theorem proj_apply (s : Fin 2) (e : Fin 4) (r : Fin 256) (f : Fin 704) :
    k0_pay15 (quarter x0 e) (ldU x2 s) (ix2 r f) = GU A (rowOf n e r) (2816 * s.val + colOf n f) :=
  (Cert.Ffn.dot_nt _ _ r f).trans (Finset.sum_congr rfl fun k _ => congrArg₂ (· * ·)
    ((quarter_apply x0 e r k).trans (b.h0 _ k))
    ((Cert.Ffn.cast_wu _ f k).trans ((Cert.Ffn.ldU_apply x2 s f k).trans (b.h2 s f k))))

theorem gu_apply (s : Fin 2) (e : Fin 4) (r : Fin 256) (f : Fin 704) :
    pGU x0 x2 s e (ix4 0 0 r f) = GU A (rowOf n e r) (2816 * s.val + colOf n f) :=
  (Cert.Ffn.cast_dgu _ r f).trans (proj_apply b s e r f)

theorem act_apply (e : Fin 4) (r : Fin 256) (f : Fin 704) : pACT x0 x2 e (ix2 r f) = ACT A (rowOf n e r) (colOf n f) := by
  show k0_pay15 (quarter x0 e) (ldU x2 0) (ix2 r f) * Ideal.logistic (k0_pay15 (quarter x0 e) (ldU x2 0) (ix2 r f))
    * k0_pay15 (quarter x0 e) (ldU x2 1) (ix2 r f) = _
  rw [proj_apply b, proj_apply b]
  show GU A (rowOf n e r) (2816 * 0 + colOf n f) * Ideal.logistic (GU A (rowOf n e r) (2816 * 0 + colOf n f)) * _ = _
  rw [Nat.mul_zero, Nat.zero_add]
  rfl

theorem hn_apply (acc : Vec Ideal S1024x1024 .f32) (e : Fin 4) (r : Fin 256) (c : Fin 1024) :
    pHN x0 x2 x3 acc e (ix2 r c) = acc (ix2 ⟨256 * e.val + r.val, by omega⟩ c) + PT A (rowOf n e r) (n % 4) c.val := by
  unfold pHN k0_pay21 k0_pay20
  rw [shapeCast_self, addf_apply, quarter_apply]
  refine congrArg _ ((Cert.Ffn.dot_nn _ _ r c).trans (Finset.sum_congr rfl fun f _ => congrArg₂ (· * ·) (act_apply b e r f)
    ((Cert.Ffn.cast_wd _ f c).trans (b.h3 f c))))

end

end Cert.Fwd

end
-- ==== Proof.Fwd.Store.lean ====
/- The buffers one point leaves, when its blocks hold the arrays' rows. -/
module

public import proofs.«01_k».proof.Proof.Fwd.Point
public import proofs.«01_k».proof.Proof.Ffn.Store

@[expose] public section

set_option maxRecDepth 16384

noncomputable section

namespace Cert.Fwd

open Idealize.ShloMosaic Idealize.ShloMosaic.ValueIdx Idealize.ShloMosaic.TcCoe
open Idealize.SL Idealize.SL.Sem
open Cert.Kernel5Ideal Cert.Kernel5Ideal.Gen
open Cert.Ffn (ix_row ix_dgu)

/-- What point `n` makes of the residual stream. -/
def HS (A : Args) (n : ℕ) (acc : Vec Ideal S1024x1024 .f32) (y : S1024x1024.Idx) : EReal :=
  acc y + PT A (1024 * (n / 4) + (y 0).val) (n % 4) (y 1).val

/-- Point `n`'s gates and ups. -/
def O7 (A : Args) (n : ℕ) (y : S2x1x1024x704.Idx) : EReal :=
  GU A (1024 * (n / 4) + (y 2).val) (2816 * (y 0).val + (704 * (n % 4) + (y 3).val))

/-- A norm of point `n`'s rows. -/
def O8 (A : Args) (g : ℕ → EReal) (n : ℕ) (y : S1024x1024.Idx) : EReal := UN A g (1024 * (n / 4) + (y 0).val) (y 1).val

/-- Quarter `e` of the rows at an index of its own. -/
theorem emb_row (e : Fin 4) (x : S256x1024.Idx) :
    (Rect.unit ![256 * e.val, 0] S256x1024.size (inbR e) : Rect S1024x1024).emb x
      = ix2 (n0 := 1024) (n1 := 1024) ⟨256 * e.val + (x 0).val, by have : (x 0).val < 256 := (x 0).isLt; omega⟩ (x 1) := by
  funext a
  match a with
  | ⟨0, _⟩ => exact Fin.ext (show 256 * e.val + 1 * (x 0).val = 256 * e.val + (x 0).val by omega)
  | ⟨1, _⟩ => exact Fin.ext (show 0 + 1 * (x 1).val = (x 1).val by omega)

theorem emb_gu (s : Fin 2) (e : Fin 4) (x : S1x1x256x704.Idx) :
    (Rect.unit ![s.val, 0, 256 * e.val, 0] S1x1x256x704.size (inbG s e) : Rect S2x1x1024x704).emb x
      = ix4 (n0 := 2) (n1 := 1) (n2 := 1024) (n3 := 704) s 0 ⟨256 * e.val + (x 2).val, by have : (x 2).val < 256 := (x 2).isLt; omega⟩ (x 3) := by
  funext a
  match a with
  | ⟨0, _⟩ => exact Fin.ext (show s.val + 1 * (x 0).val = s.val by have : (x 0).val < 1 := (x 0).isLt; omega)
  | ⟨1, _⟩ => exact Subsingleton.elim (α := Fin 1) _ _
  | ⟨2, _⟩ => exact Fin.ext (show 256 * e.val + 1 * (x 2).val = 256 * e.val + (x 2).val by omega)
  | ⟨3, _⟩ => exact Fin.ext (show 0 + 1 * (x 3).val = (x 3).val by omega)

theorem mem_row (y : S1024x1024.Idx) (e : Fin 4) (h : (y 0).val / 256 = e.val) :
    y ∈ (Rect.unit ![256 * e.val, 0] S256x1024.size (inbR e) : Rect S1024x1024).set := by
  refine Rect.mem_set_unit.mpr fun a => ?_
  match a with
  | ⟨0, _⟩ => exact ⟨show 256 * e.val ≤ (y 0).val by omega, show (y 0).val < 256 * e.val + 256 by omega⟩
  | ⟨1, _⟩ => exact ⟨Nat.zero_le _, by show (y 1).val < 0 + 1024; have : (y 1).val < 1024 := (y 1).isLt; omega⟩

theorem mem_gu (y : S2x1x1024x704.Idx) (s : Fin 2) (e : Fin 4) (hs : (y 0).val = s.val) (h : (y 2).val / 256 = e.val) :
    y ∈ (Rect.unit ![s.val, 0, 256 * e.val, 0] S1x1x256x704.size (inbG s e) : Rect S2x1x1024x704).set := by
  refine Rect.mem_set_unit.mpr fun a => ?_
  match a with
  | ⟨0, _⟩ => exact ⟨show s.val ≤ (y 0).val by omega, show (y 0).val < s.val + 1 by omega⟩
  | ⟨1, _⟩ => exact ⟨Nat.zero_le _, by show (y 1).val < 0 + 1; have : (y 1).val < 1 := (y 1).isLt; omega⟩
  | ⟨2, _⟩ => exact ⟨show 256 * e.val ≤ (y 2).val by omega, show (y 2).val < 256 * e.val + 256 by omega⟩
  | ⟨3, _⟩ => exact ⟨Nat.zero_le _, by show (y 3).val < 0 + 704; have : (y 3).val < 704 := (y 3).isLt; omega⟩

theorem four (k : ℕ) (h : k < 1024) : ∃ e : Fin 4, k / 256 = e.val := ⟨⟨k / 256, by omega⟩, rfl⟩

/-- Four stores of quarters that hold parts of one array leave that array. -/
theorem canon_rows {t : EltTy} (G : S1024x1024.Idx → Elt Ideal t) (v : Fin 4 → Vec Ideal S256x1024 t)
    (hv : ∀ (e : Fin 4) (x : S256x1024.Idx), v e x = G ((Rect.unit ![256 * e.val, 0] S256x1024.size (inbR e) : Rect S1024x1024).emb x))
    (L : List (View.Piece (Elt Ideal) S1024x1024 t)) (y : S1024x1024.Idx) :
    View.canon ([pieceR 3 (v 3), pieceR 2 (v 2), pieceR 1 (v 1), pieceR 0 (v 0)] ++ L) y = G y := by
  have hp : View.PiecesOf (Val := Elt Ideal) (e := t) G [pieceR 3 (v 3), pieceR 2 (v 2), pieceR 1 (v 1), pieceR 0 (v 0)] :=
    ⟨hv 3, hv 2, hv 1, hv 0, trivial⟩
  refine View.canon_append_of_piecesOf (Val := Elt Ideal) (s := S1024x1024) (e := t) G L _ hp y ?_
  obtain ⟨e, he⟩ := four (y 0).val (y 0).isLt
  refine ⟨pieceR e (v e), ?_, mem_row y e he⟩
  match e with
  | 0 => simp only [List.mem_cons, true_or, or_true]
  | 1 => simp only [List.mem_cons, true_or, or_true]
  | 2 => simp only [List.mem_cons, true_or, or_true]
  | 3 => simp only [List.mem_cons, true_or, or_true]

variable {A : Args} {n : ℕ} {x0 : Vec Ideal S1024x1024 .bf16} {x1 : Vec Ideal S1024x1024 .f32}
  {x2 : Vec Ideal S1x2x1x704x1024 .bf16} {x3 : Vec Ideal S1x1x704x1024 .bf16} {x4 x5 : Vec Ideal S1x1024 .f32}
  (b : Blocks A n x0 x1 x2 x3 x4 x5)

include b

theorem gu_piece (s : Fin 2) (e : Fin 4) (x : S1x1x256x704.Idx) :
    pGU x0 x2 s e x = O7 A n ((Rect.unit ![s.val, 0, 256 * e.val, 0] S1x1x256x704.size (inbG s e) : Rect S2x1x1024x704).emb x) := by
  rw [emb_gu]
  exact (congrArg (pGU x0 x2 s e) (ix_dgu x)).trans (gu_apply b s e (x 2) (x 3))

theorem canon7 (y : S2x1x1024x704.Idx) : View.canon (pieces7 x0 x2) y = O7 A n y := by
  have hp : View.PiecesOf (Val := Elt Ideal) (e := .bf16) (O7 A n) (pieces7 x0 x2) :=
    ⟨gu_piece b 1 3, gu_piece b 0 3, gu_piece b 1 2, gu_piece b 0 2, gu_piece b 1 1, gu_piece b 0 1, gu_piece b 1 0, gu_piece b 0 0, trivial⟩
  refine View.canon_apply_of_pieces (Val := Elt Ideal) (S := S2x1x1024x704) (e := .bf16) (O7 A n) _ (View.PiecesOf.mem hp) y ?_
  obtain ⟨e, he⟩ := four (y 2).val (y 2).isLt
  have hs : (y 0).val < 2 := (y 0).isLt
  refine ⟨piece7 x0 x2 ⟨(y 0).val, hs⟩ e, ?_, mem_gu y ⟨(y 0).val, hs⟩ e rfl he⟩
  generalize (⟨(y 0).val, hs⟩ : Fin 2) = s
  unfold pieces7
  match s, e with
  | 0, 0 => simp only [List.mem_cons, true_or, or_true]
  | 0, 1 => simp only [List.mem_cons, true_or, or_true]
  | 0, 2 => simp only [List.mem_cons, true_or, or_true]
  | 0, 3 => simp only [List.mem_cons, true_or, or_true]
  | 1, 0 => simp only [List.mem_cons, true_or, or_true]
  | 1, 1 => simp only [List.mem_cons, true_or, or_true]
  | 1, 2 => simp only [List.mem_cons, true_or, or_true]
  | 1, 3 => simp only [List.mem_cons, true_or, or_true]

theorem canon6 (acc : Vec Ideal S1024x1024 .f32) (L : List (View.Piece (Elt Ideal) S1024x1024 .f32)) (y : S1024x1024.Idx) :
    View.canon (pieces6 x0 x2 x3 acc ++ L) y = HS A n acc y :=
  canon_rows (t := .f32) (HS A n acc) (pHN x0 x2 x3 acc) (fun e x => by
    rw [emb_row]
    exact (congrArg (pHN x0 x2 x3 acc e) (ix_row x)).trans (hn_apply b acc e (x 0) (x 1))) L y

theorem canon6' (acc : Vec Ideal S1024x1024 .f32) (y : S1024x1024.Idx) : View.canon (pieces6 x0 x2 x3 acc) y = HS A n acc y :=
  (congrArg (View.canon · y) (List.append_nil _).symm).trans (canon6 b acc [] y)

theorem canonN (acc : Vec Ideal S1024x1024 .f32) (x : Vec Ideal S1x1024 .f32) (g : ℕ → EReal) (hg : ∀ c : Fin 1024, x (ix2 0 c) = g c.val)
    (ha : ∀ y : S1024x1024.Idx, HS A n acc y = HN A (1024 * (n / 4) + (y 0).val) (y 1).val) (y : S1024x1024.Idx) :
    View.canon (piecesN x0 x2 x3 acc x) y = O8 A g n y :=
  (congrArg (View.canon · y) (List.append_nil _).symm).trans
    (canon_rows (t := .bf16) (O8 A g n) (fun e => k0_pay4 (pHN x0 x2 x3 acc e) x) (fun e z => by
      rw [emb_row]
      exact (congrArg (k0_pay4 (pHN x0 x2 x3 acc e) x) (ix_row z)).trans
        (norm_apply A _ x g (rowOf n e (z 0)) (z 0) (fun c => (hn_apply b acc e (z 0) c).trans (ha (ix2 ⟨256 * e.val + (z 0).val, by
          have : (z 0).val < 256 := (z 0).isLt
          omega⟩ c))) hg (z 1))) [] y)

end Cert.Fwd

end
-- ==== Proof.Fwd.Fold.lean ====
/- What the buffers hold after each of the 16 points. -/
module

public import proofs.«01_k».proof.Proof.Fwd.Store

@[expose] public section

set_option maxRecDepth 16384

noncomputable section

namespace Cert.Fwd

open Idealize.ShloMosaic Idealize.ShloMosaic.ValueIdx Idealize.ShloMosaic.TcCoe
open Idealize.SL Idealize.SL.Sem
open Cert.Kernel5Ideal Cert.Kernel5Ideal.Gen Cert.Kernel5Ideal.Value

/-- The four buffers the points hand on. -/
abbrev Tup := Vec Ideal S1024x1024 .f32 × Vec Ideal S2x1x1024x704 .bf16 × Vec Ideal S1024x1024 .bf16 × Vec Ideal S1024x1024 .bf16

/-- The residual stream on point `n`'s rows, with the products of the column blocks up to the point's added. -/
def ACC (A : Args) (n : ℕ) (y : S1024x1024.Idx) : EReal :=
  A.h (1024 * (n / 4) + (y 0).val) (y 1).val + ∑ j ∈ Finset.range (n % 4 + 1), PT A (1024 * (n / 4) + (y 0).val) j (y 1).val

/-- The buffers after point `n`. -/
structure Ok (A : Args) (n : ℕ) (u : Tup) : Prop where
  hn : ∀ y, u.1 y = ACC A n y
  gu : ∀ y, u.2.1 y = O7 A n y
  n0 : n % 4 = 3 → ∀ y, u.2.2.1 y = O8 A A.g0 n y
  n1 : n % 4 = 3 → ∀ y, u.2.2.2 y = O8 A A.g1 n y

theorem acc_first (A : Args) (n : ℕ) (hn : n % 4 = 0) (acc : Vec Ideal S1024x1024 .f32) (y : S1024x1024.Idx)
    (ha : acc y = A.h (1024 * (n / 4) + (y 0).val) (y 1).val) : HS A n acc y = ACC A n y := by
  unfold HS ACC
  rw [ha, hn, Finset.sum_range_one]

theorem acc_next (A : Args) (n k : ℕ) (hk : k = n + 1) (hn : ¬k % 4 = 0) (acc : Vec Ideal S1024x1024 .f32) (y : S1024x1024.Idx)
    (ha : acc y = ACC A n y) : HS A k acc y = ACC A k y := by
  unfold HS
  rw [ha]
  unfold ACC
  rw [show k / 4 = n / 4 by omega, show k % 4 = n % 4 + 1 by omega, Finset.sum_range_succ _ (n % 4 + 1), add_assoc]

theorem acc_last (A : Args) (n : ℕ) (hn : n % 4 = 3) (y : S1024x1024.Idx) : ACC A n y = HN A (1024 * (n / 4) + (y 0).val) (y 1).val := by
  unfold ACC
  rw [hn]
  exact hn_blocks A _ _

variable (m : (ℓ : Loc nD τ sig) → Buf (Elt Ideal) ℓ) (c : Dev nD) {A : Args}

/-- Every point's blocks hold the arrays' rows. -/
def Inputs (A : Args) : Prop := ∀ t : Fin cfg0.N,
  Blocks A t.val (iblk m c 0 t) (iblk m c 1 t) (iblk m c 2 t) (iblk m c 3 t) (iblk m c 4 t) (iblk m c 5 t)

variable (hb : Inputs m c A)
include hb

theorem ok_first (t : Fin cfg0.N) (h0 : t.val % 4 = 0) : Ok A t.val (outsAt0 m c t.val t.isLt) := by
  have b := hb t
  rw [outsAt0_A m c t h0 (by omega)]
  constructor
  · intro y
    dsimp only
    rw [out0_A_6_eq]
    refine (canon6 b _ _ y).trans (acc_first A t.val h0 _ y ?_)
    exact (congrArg _ (eq_ix2 y)).trans (b.h1 (y 0) (y 1))
  · intro y
    dsimp only
    rw [out0_A_7_eq]
    exact canon7 b y
  · intro h; omega
  · intro h; omega

theorem ok_next (t : Fin cfg0.N) (h0 : ¬t.val % 4 = 0)
    (h : Ok A (t.val - 1) (outsAt0 m c (t.val - 1) (Nat.lt_of_le_of_lt (Nat.sub_le _ _) t.isLt))) : Ok A t.val (outsAt0 m c t.val t.isLt) := by
  have b := hb t
  have ha := fun y => acc_next A (t.val - 1) t.val (by omega) h0 _ y (h.hn y)
  by_cases h1 : t.val % 4 = 3
  · rw [outsAt0_C m c t h0 h1]
    constructor
    · intro y
      dsimp only
      rw [out0_C_6_eq]
      exact (canon6' b _ y).trans (ha y)
    · intro y
      dsimp only
      rw [out0_C_7_eq]
      exact canon7 b y
    · intro _ y
      dsimp only
      rw [out0_C_8_eq]
      exact canonN b _ _ A.g0 b.h4 (fun y => (ha y).trans (acc_last A t.val h1 y)) y
    · intro _ y
      dsimp only
      rw [out0_C_9_eq]
      exact canonN b _ _ A.g1 b.h5 (fun y => (ha y).trans (acc_last A t.val h1 y)) y
  · rw [outsAt0_B m c t h0 h1]
    constructor
    · intro y
      dsimp only
      rw [out0_B_6_eq]
      exact (canon6' b _ y).trans (ha y)
    · intro y
      dsimp only
      rw [out0_B_7_eq]
      exact canon7 b y
    · intro h'; omega
    · intro h'; omega

theorem ok_outs : ∀ (n : ℕ) (hn : n < cfg0.N), Ok A n (outsAt0 m c n hn)
  | 0, hn => ok_first m c hb ⟨0, hn⟩ rfl
  | n + 1, hn => by
    by_cases h0 : (n + 1) % 4 = 0
    · exact ok_first m c hb ⟨n + 1, hn⟩ h0
    · exact ok_next m c hb ⟨n + 1, hn⟩ h0 (ok_outs n (Nat.lt_of_succ_lt hn))

end Cert.Fwd

end
-- ==== Proof.Fwd.Ref.lean ====
/- The reference of the feed-forward layer: its arrays, step by step. -/
module

public import proofs.«01_k».proof.Proof.Fwd.Spec
public import proofs.«01_k».proof.Proof.RefRow
public import proofs.«01_k».proof.Proof.Gen.Reference5Ideal.Read

@[expose] public section

set_option maxRecDepth 16384

noncomputable section

namespace Cert.Fwd.Ref

open Idealize.ShloMosaic Idealize.ShloMosaic.ValueIdx Idealize.ShloMosaic.TcCoe
open Cert.Reference5Ideal Cert.Reference5Ideal.Gen Cert.Reference5Ideal.Read
open Cert.Attn.Ref (zero_word)

/-- The arrays of the reference's arguments. -/
structure Holds (A : Args) (x0 : Vec Ideal S4096x1024 .bf16) (x1 : Vec Ideal S4096x1024 .f32) (x2 x3 : Vec Ideal S1x1024 .f32)
    (x4 : Vec Ideal S1024x5632 .f32) (x5 : Vec Ideal S2816x1024 .f32) : Prop where
  u : ∀ i : S4096x1024.Idx, x0 i = A.u (i 0).val (i 1).val
  h : ∀ i : S4096x1024.Idx, x1 i = A.h (i 0).val (i 1).val
  g0 : ∀ i : S1x1024.Idx, x2 i = A.g0 (i 1).val
  g1 : ∀ i : S1x1024.Idx, x3 i = A.g1 (i 1).val
  wu : ∀ i : S1024x5632.Idx, x4 i = A.wu (i 0).val (i 1).val
  wd : ∀ i : S2816x1024.Idx, x5 i = A.wd (i 0).val (i 1).val

variable {A : Args} {x0 : Vec Ideal S4096x1024 .bf16} {x1 : Vec Ideal S4096x1024 .f32} {x2 x3 : Vec Ideal S1x1024 .f32}
  {x4 : Vec Ideal S1024x5632 .f32} {x5 : Vec Ideal S2816x1024 .f32} (H : Holds A x0 x1 x2 x3 x4 x5)
include H

theorem r1 (i : S4096x5632.Idx) : val_main_v1 (F := Ideal) x0 x4 i = GU A (i 0).val (i 1).val :=
  (val_main_v1_apply x0 x4 i).trans (Finset.sum_congr rfl fun k _ => congrArg₂ (· * ·) (H.u (lidx_main_v1 i k)) (H.wu (ridx_main_v1 i k)))

theorem r2 (i : S4096x2816.Idx) : val_main_v2 (F := Ideal) x0 x4 i = GU A (i 0).val (i 1).val :=
  (val_main_v2_apply x0 x4 i).trans (r1 H (idx_main_v2 i))

theorem r3 (i : S4096x2816.Idx) : val_main_v3 (F := Ideal) x0 x4 i = GU A (i 0).val (2816 + (i 1).val) :=
  (val_main_v3_apply x0 x4 i).trans (r1 H (idx_main_v3 i))

/-- The reference's quotient is the logistic function. -/
theorem rsig (i : S4096x2816.Idx) : val_main_call0_v5 (F := Ideal) x0 x4 i = Ideal.logistic (GU A (i 0).val (i 1).val) := by
  show Ideal.div (val_main_call0_v4 (F := Ideal) i) (val_main_call0_v2 (F := Ideal) i + Ideal.exp (-(val_main_v2 (F := Ideal) x0 x4 i))) = _
  have one : (FloatOps.ofBits (F := Ideal) .f32 0x3F800000#32 : EReal) = 1 := Ideal.ofBits_one_f32
  rw [val_main_call0_v4_apply, val_main_call0_v2_apply, val_main_call0_cst_apply, val_main_call0_cst_0_apply, one, r2 H]
  rfl

theorem r5 (i : S4096x2816.Idx) : val_main_v5 (F := Ideal) x0 x4 i = ACT A (i 0).val (i 1).val :=
  congrArg₂ (· * ·) (congrArg₂ (· * ·) (r2 H i) (rsig H i)) (r3 H i)

theorem r7 (i : S4096x1024.Idx) : val_main_v7 (F := Ideal) x0 x1 x4 x5 i = HN A (i 0).val (i 1).val :=
  congrArg₂ (· + ·) (H.h i) ((val_main_v6_apply x0 x4 x5 i).trans
    (Finset.sum_congr rfl fun k _ => congrArg₂ (· * ·) (r5 H (lidx_main_v6 i k)) (H.wd (ridx_main_v6 i k))))

theorem r10 (i : S2x4x4096x704.Idx) :
    val_main_v10 (F := Ideal) x0 x4 i = GU A (i 2).val (2816 * (i 0).val + (704 * (i 1).val + (i 3).val)) := by
  show val_main_v9 (F := Ideal) x0 x4 i = _
  rw [val_main_v9_apply, val_main_v8_apply]
  refine (r1 H _).trans ?_
  have h0 : (i 0).val < 2 := (i 0).isLt
  have h1 : (i 1).val < 4 := (i 1).isLt
  have h3 : (i 3).val < 704 := (i 3).isLt
  show GU A (((((i 2).val * 2 + (i 0).val) * 4 + (i 1).val) * 704 + (i 3).val) / 5632) (((((i 2).val * 2 + (i 0).val) * 4 + (i 1).val) * 704 + (i 3).val) % 5632) = _
  congr 1 <;> omega

theorem r12 (i : S4096.Idx) : val_main_v12 (F := Ideal) x0 x1 x4 x5 i = ∑ k : Fin 1024, HN A (i 0).val k.val * HN A (i 0).val k.val := by
  refine (val_main_v12_apply x0 x1 x4 x5 i).trans ?_
  refine (congrArg₂ (· + ·) zero_word (Finset.sum_congr rfl fun k _ => congrArg₂ (· * ·) (r7 H (idx_main_v12 i k)) (r7 H (idx_main_v12 i k)))).trans ?_
  exact zero_add _

theorem r18 (i : S4096x1.Idx) : val_main_v18 (F := Ideal) x0 x1 x4 x5 i
    = Ideal.rsqrt (Ideal.div (∑ k : Fin 1024, HN A (i 0).val k.val * HN A (i 0).val k.val) (Ideal.ofBits .f32 0x44800000#32) + Ideal.ofBits .f32 0x358637BD#32) := by
  show Ideal.rsqrt (Ideal.div (val_main_v13 (F := Ideal) x0 x1 x4 x5 i) (val_main_v14 (F := Ideal) i) + val_main_v16 (F := Ideal) i) = _
  rw [val_main_v13_apply, val_main_v14_apply, val_main_v16_apply]
  exact congrArg (fun z => Ideal.rsqrt (Ideal.div z _ + _)) (r12 H (idx_main_v13 i))

theorem r23 (i : S4096x1024.Idx) : val_main_v23 (F := Ideal) x0 x1 x2 x4 x5 i = UN A A.g0 (i 0).val (i 1).val := by
  show val_main_v7 (F := Ideal) x0 x1 x4 x5 i * val_main_v19 (F := Ideal) x0 x1 x4 x5 i * val_main_v21 (F := Ideal) x2 i = _
  rw [val_main_v19_apply, val_main_v21_apply]
  exact congrArg₂ (· * ·) (congrArg₂ (· * ·) (r7 H i) (r18 H (idx_main_v19 i))) (H.g0 (idx_main_v21 i))

theorem r25 (i : S4096.Idx) : val_main_v25 (F := Ideal) x0 x1 x4 x5 i = ∑ k : Fin 1024, HN A (i 0).val k.val * HN A (i 0).val k.val := by
  refine (val_main_v25_apply x0 x1 x4 x5 i).trans ?_
  refine (congrArg₂ (· + ·) zero_word (Finset.sum_congr rfl fun k _ => congrArg₂ (· * ·) (r7 H (idx_main_v25 i k)) (r7 H (idx_main_v25 i k)))).trans ?_
  exact zero_add _

theorem r31 (i : S4096x1.Idx) : val_main_v31 (F := Ideal) x0 x1 x4 x5 i
    = Ideal.rsqrt (Ideal.div (∑ k : Fin 1024, HN A (i 0).val k.val * HN A (i 0).val k.val) (Ideal.ofBits .f32 0x44800000#32) + Ideal.ofBits .f32 0x358637BD#32) := by
  show Ideal.rsqrt (Ideal.div (val_main_v26 (F := Ideal) x0 x1 x4 x5 i) (val_main_v27 (F := Ideal) i) + val_main_v29 (F := Ideal) i) = _
  rw [val_main_v26_apply, val_main_v27_apply, val_main_v29_apply]
  exact congrArg (fun z => Ideal.rsqrt (Ideal.div z _ + _)) (r25 H (idx_main_v26 i))

theorem r36 (i : S4096x1024.Idx) : val_main_v36 (F := Ideal) x0 x1 x3 x4 x5 i = UN A A.g1 (i 0).val (i 1).val := by
  show val_main_v7 (F := Ideal) x0 x1 x4 x5 i * val_main_v32 (F := Ideal) x0 x1 x4 x5 i * val_main_v34 (F := Ideal) x3 i = _
  rw [val_main_v32_apply, val_main_v34_apply]
  exact congrArg₂ (· * ·) (congrArg₂ (· * ·) (r7 H i) (r31 H (idx_main_v32 i))) (H.g1 (idx_main_v34 i))

end Cert.Fwd.Ref

end
-- ==== Proof.Fwd.Inputs.lean ====
/- The blocks a point reads are parts of the arguments: the weights' layouts move no entry's value. -/
module

public import proofs.«01_k».proof.Proof.Ffn.Inputs
public import proofs.«01_k».proof.Proof.Fwd.Fold
public import proofs.«01_k».proof.Proof.Fwd.Ref
public import Idealize.ShloMosaic.Lib.StableHlo.RunRead

@[expose] public section

set_option maxRecDepth 16384

noncomputable section

namespace Cert.Fwd.Kern

open Idealize.ShloMosaic Idealize.ShloMosaic.ValueIdx Idealize.ShloMosaic.TcCoe
open Idealize.SL Idealize.SL.Sem
open Cert.Kernel5Ideal Cert.Kernel5Ideal.Gen Cert.Kernel5Ideal.Value
open Cert.Ffn.Kern (wuArr wdArr wuArr_apply wdArr_apply)

/-- An array read at natural numbers. -/
def rd {a b : ℕ} (x : (⟨2, ![a, b]⟩ : Shape).Idx → EReal) (r k : ℕ) : EReal := if h : r < a ∧ k < b then x (ix2 ⟨r, h.1⟩ ⟨k, h.2⟩) else 0

theorem rd_apply {a b : ℕ} (x : (⟨2, ![a, b]⟩ : Shape).Idx → EReal) (r : Fin a) (k : Fin b) : x (ix2 r k) = rd x r.val k.val := by
  unfold rd
  rw [dif_pos (⟨r.isLt, k.isLt⟩ : r.val < a ∧ k.val < b)]

variable (m : (ℓ : Loc nD τ sig) → Buf (Elt Ideal) ℓ) (c : Dev nD)

abbrev a0 : Vec Ideal S4096x1024 .bf16 := m ((c : Thread nD τ).loc main_arg0)
abbrev a1 : Vec Ideal S4096x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1024x5632 .f32 := m ((c : Thread nD τ).loc main_arg4)
abbrev a5 : Vec Ideal S2816x1024 .f32 := m ((c : Thread nD τ).loc main_arg5)

/-! ## What the kernel is launched with -/

set_option maxHeartbeats 4000000 in
theorem V_wu : V m c main_v2 = wuArr (a4 m c) := by
  show StableHlo.after (List.flatten [hostOps0]) _ (Proc.devRef .tc main_v2) = _
  simp only [List.flatten_cons, List.flatten_nil, List.append_nil]
  after_reads_simp
  rfl

set_option maxHeartbeats 4000000 in
theorem V_wd : V m c main_v4 = wdArr (a5 m c) := by
  show StableHlo.after (List.flatten [hostOps0]) _ (Proc.devRef .tc main_v4) = _
  simp only [List.flatten_cons, List.flatten_nil, List.append_nil]
  after_reads_simp
  rfl

/-! ## The blocks -/

theorem i0 : ∀ t : Fin grid0.N, win0_0.index t (0 : Fin 2) = t.val / 4 ∧ win0_0.index t (1 : Fin 2) = 0 := by decide +kernel
theorem i1 : ∀ t : Fin grid0.N, win0_1.index t (0 : Fin 2) = t.val / 4 ∧ win0_1.index t (1 : Fin 2) = 0 := by decide +kernel
theorem i2 : ∀ t : Fin grid0.N, win0_2.index t (0 : Fin 5) = 0 ∧ win0_2.index t (1 : Fin 5) = 0 ∧ win0_2.index t (2 : Fin 5) = t.val % 4
    ∧ win0_2.index t (3 : Fin 5) = 0 ∧ win0_2.index t (4 : Fin 5) = 0 := by decide +kernel
theorem i3 : ∀ t : Fin grid0.N, win0_3.index t (0 : Fin 4) = 0 ∧ win0_3.index t (1 : Fin 4) = t.val % 4 ∧ win0_3.index t (2 : Fin 4) = 0
    ∧ win0_3.index t (3 : Fin 4) = 0 := by decide +kernel
theorem i4 : ∀ t : Fin grid0.N, win0_4.index t (0 : Fin 2) = 0 ∧ win0_4.index t (1 : Fin 2) = 0 := by decide +kernel
theorem i5 : ∀ t : Fin grid0.N, win0_5.index t (0 : Fin 2) = 0 ∧ win0_5.index t (1 : Fin 2) = 0 := by decide +kernel

theorem blk0 (t : Fin cfg0.N) (r k : Fin 1024) (hr : 1024 * (t.val / 4) + r.val < 4096) :
    (iblk m c 0 t : Vec Ideal S1024x1024 .bf16) (ix2 r k) = a0 m c (ix2 ⟨1024 * (t.val / 4) + r.val, hr⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val / 4 * 1024 + 1 * r.val = 1024 * (t.val / 4) + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (r k : Fin 1024) (hr : 1024 * (t.val / 4) + r.val < 4096) :
    (iblk m c 1 t : Vec Ideal S1024x1024 .f32) (ix2 r k) = a1 m c (ix2 ⟨1024 * (t.val / 4) + r.val, hr⟩ k) := by
  show V m c main_arg1 _ = _
  rw [V_main_arg1]
  congr 1
  funext d
  match d with
  | ⟨0, _⟩ => exact Fin.ext (show win0_1.index t (0 : Fin 2) * 1024 + 1 * r.val = _ by rw [(i1 t).1]; exact (by omega : t.val / 4 * 1024 + 1 * r.val = 1024 * (t.val / 4) + r.val))
  | ⟨1, _⟩ => exact Fin.ext (show win0_1.index t (1 : Fin 2) * 1024 + 1 * k.val = _ by rw [(i1 t).2]; exact (by omega : 0 * 1024 + 1 * k.val = k.val))

theorem blk2 (t : Fin cfg0.N) (s : Fin 2) (f : Fin 704) (k : Fin 1024) :
    (iblk m c 2 t : Vec Ideal S1x2x1x704x1024 .bf16) (ix5 0 s 0 f k)
      = (V m c main_v2 : Vec Ideal S1x2x4x704x1024 .bf16) (ix5 0 s ⟨t.val % 4, by omega⟩ f k) := by
  show V m c main_v2 _ = _
  congr 1
  funext d
  match d with
  | ⟨0, _⟩ => exact Fin.ext (show win0_2.index t (0 : Fin 5) * 1 + 1 * 0 = _ by rw [(i2 t).1]; rfl)
  | ⟨1, _⟩ => exact Fin.ext (show win0_2.index t (1 : Fin 5) * 2 + 1 * s.val = _ by rw [(i2 t).2.1]; exact (by omega : 0 * 2 + 1 * s.val = s.val))
  | ⟨2, _⟩ => exact Fin.ext (show win0_2.index t (2 : Fin 5) * 1 + 1 * 0 = _ by rw [(i2 t).2.2.1]; exact (by omega : t.val % 4 * 1 + 1 * 0 = t.val % 4))
  | ⟨3, _⟩ => exact Fin.ext (show win0_2.index t (3 : Fin 5) * 704 + 1 * f.val = _ by rw [(i2 t).2.2.2.1]; exact (by omega : 0 * 704 + 1 * f.val = f.val))
  | ⟨4, _⟩ => exact Fin.ext (show win0_2.index t (4 : Fin 5) * 1024 + 1 * k.val = _ by rw [(i2 t).2.2.2.2]; exact (by omega : 0 * 1024 + 1 * k.val = k.val))

theorem blk3 (t : Fin cfg0.N) (f : Fin 704) (k : Fin 1024) :
    (iblk m c 3 t : Vec Ideal S1x1x704x1024 .bf16) (ix4 0 0 f k)
      = (V m c main_v4 : Vec Ideal S1x4x704x1024 .bf16) (ix4 0 ⟨t.val % 4, by omega⟩ f k) := by
  show V m c main_v4 _ = _
  congr 1
  funext d
  match d with
  | ⟨0, _⟩ => exact Fin.ext (show win0_3.index t (0 : Fin 4) * 1 + 1 * 0 = _ by rw [(i3 t).1]; rfl)
  | ⟨1, _⟩ => exact Fin.ext (show win0_3.index t (1 : Fin 4) * 1 + 1 * 0 = _ by rw [(i3 t).2.1]; exact (by omega : t.val % 4 * 1 + 1 * 0 = t.val % 4))
  | ⟨2, _⟩ => exact Fin.ext (show win0_3.index t (2 : Fin 4) * 704 + 1 * f.val = _ by rw [(i3 t).2.2.1]; exact (by omega : 0 * 704 + 1 * f.val = f.val))
  | ⟨3, _⟩ => exact Fin.ext (show win0_3.index t (3 : Fin 4) * 1024 + 1 * k.val = _ by rw [(i3 t).2.2.2]; exact (by omega : 0 * 1024 + 1 * k.val = k.val))

theorem blk4 (t : Fin cfg0.N) (k : Fin 1024) : (iblk m c 4 t : Vec Ideal S1x1024 .f32) (ix2 0 k) = a2 m c (ix2 0 k) := by
  show V m c main_arg2 _ = _
  rw [V_main_arg2]
  congr 1
  funext d
  match d with
  | ⟨0, _⟩ => exact Fin.ext (show win0_4.index t (0 : Fin 2) * 1 + 1 * 0 = _ by rw [(i4 t).1]; rfl)
  | ⟨1, _⟩ => exact Fin.ext (show win0_4.index t (1 : Fin 2) * 1024 + 1 * k.val = _ by rw [(i4 t).2]; exact (by omega : 0 * 1024 + 1 * k.val = k.val))

theorem blk5 (t : Fin cfg0.N) (k : Fin 1024) : (iblk m c 5 t : Vec Ideal S1x1024 .f32) (ix2 0 k) = a3 m c (ix2 0 k) := by
  show V m c main_arg3 _ = _
  rw [V_main_arg3]
  congr 1
  funext d
  match d with
  | ⟨0, _⟩ => exact Fin.ext (show win0_5.index t (0 : Fin 2) * 1 + 1 * 0 = _ by rw [(i5 t).1]; rfl)
  | ⟨1, _⟩ => exact Fin.ext (show win0_5.index t (1 : Fin 2) * 1024 + 1 * k.val = _ by rw [(i5 t).2]; exact (by omega : 0 * 1024 + 1 * k.val = k.val))

/-! ## The arrays -/

def argsOf : Args where
  u := rd (a0 m c)
  h := rd (a1 m c)
  g0 := fun k => rd (a2 m c) 0 k
  g1 := fun k => rd (a3 m c) 0 k
  wu := rd (a4 m c)
  wd := rd (a5 m c)

theorem row_ix (i : S1x1024.Idx) : i = ix2 0 (i 1) := by
  rw [show (0 : Fin 1) = i 0 from Subsingleton.elim (α := Fin 1) _ _]
  exact eq_ix2 i

theorem holds : Ref.Holds (argsOf m c) (a0 m c) (a1 m c) (a2 m c) (a3 m c) (a4 m c) (a5 m c) where
  u i := (congrArg (a0 m c) (eq_ix2 i)).trans (rd_apply (a := 4096) (b := 1024) _ (i 0) (i 1))
  h i := (congrArg (a1 m c) (eq_ix2 i)).trans (rd_apply (a := 4096) (b := 1024) _ (i 0) (i 1))
  g0 i := (congrArg (a2 m c) (row_ix i)).trans (rd_apply (a := 1) (b := 1024) _ 0 (i 1))
  g1 i := (congrArg (a3 m c) (row_ix i)).trans (rd_apply (a := 1) (b := 1024) _ 0 (i 1))
  wu i := (congrArg (a4 m c) (eq_ix2 i)).trans (rd_apply (a := 1024) (b := 5632) _ (i 0) (i 1))
  wd i := (congrArg (a5 m c) (eq_ix2 i)).trans (rd_apply (a := 2816) (b := 1024) _ (i 0) (i 1))

theorem inputs : Inputs m c (argsOf m c) := by
  intro t
  have ht : t.val < 16 := lt_of_lt_of_eq t.isLt N_0
  refine ⟨fun r k => ?_, fun r k => ?_, fun s f k => ?_, fun f k => ?_, fun k => ?_, fun k => ?_⟩
  · exact (blk0 m c t r k (by omega)).trans (rd_apply (a := 4096) (b := 1024) (a0 m c) _ k)
  · exact (blk1 m c t r k (by omega)).trans (rd_apply (a := 4096) (b := 1024) (a1 m c) _ k)
  · refine (blk2 m c t s f k).trans ?_
    rw [V_wu]
    exact (wuArr_apply (a4 m c) s _ f k).trans (rd_apply (a := 1024) (b := 5632) (a4 m c) k _)
  · refine (blk3 m c t f k).trans ?_
    rw [V_wd]
    exact (wdArr_apply (a5 m c) _ f k).trans (rd_apply (a := 2816) (b := 1024) (a5 m c) _ k)
  · exact (blk4 m c t k).trans (rd_apply (a := 1) (b := 1024) (a2 m c) 0 k)
  · exact (blk5 m c t k).trans (rd_apply (a := 1) (b := 1024) (a3 m c) 0 k)

end Cert.Fwd.Kern

end
-- ==== Proof.Fwd.Agree.lean ====
/- The kernel's four arrays are the reference's. -/
module

public import proofs.«01_k».proof.Proof.Fwd.Inputs

@[expose] public section

set_option maxRecDepth 16384

noncomputable section

namespace Cert.Fwd.Kern

open Idealize.ShloMosaic Idealize.ShloMosaic.ValueIdx Idealize.ShloMosaic.TcCoe
open Idealize.SL Idealize.SL.Sem
open Cert.Kernel5Ideal Cert.Kernel5Ideal.Gen Cert.Kernel5Ideal.Value

/-! ## Which block a point stores, and when -/

theorem i6 : ∀ t : Fin grid0.N, win0_6.index t (0 : Fin 2) = t.val / 4 ∧ win0_6.index t (1 : Fin 2) = 0 := by decide +kernel
theorem last6 : ∀ t : Fin grid0.N, t.val % 4 = 3 → win0_6.flush t = true := by decide +kernel
theorem one6 : ∀ t t' : Fin grid0.N, win0_6.flush t = true → win0_6.flush t' = true → win0_6.index t = win0_6.index t' → t = t' := by decide +kernel
theorem disj6 : ∀ t t' : Fin cfg0.N, (cfg0.win 6).flush t = true → (cfg0.win 6).flush t' = true → t ≠ t' →
    Disjoint ((cfg0.win 6).blk t).view.set ((cfg0.win 6).blk t').view.set :=
  fun t t' f f' hne => (cfg0.win 6).disjoint_blk fun h => hne (one6 t t' f f' h)
theorem i8 : ∀ t : Fin grid0.N, win0_8.index t (0 : Fin 2) = t.val / 4 ∧ win0_8.index t (1 : Fin 2) = 0 := by decide +kernel
theorem last8 : ∀ t : Fin grid0.N, t.val % 4 = 3 → win0_8.flush t = true := by decide +kernel
theorem one8 : ∀ t t' : Fin grid0.N, win0_8.flush t = true → win0_8.flush t' = true → win0_8.index t = win0_8.index t' → t = t' := by decide +kernel
theorem disj8 : ∀ t t' : Fin cfg0.N, (cfg0.win 8).flush t = true → (cfg0.win 8).flush t' = true → t ≠ t' →
    Disjoint ((cfg0.win 8).blk t).view.set ((cfg0.win 8).blk t').view.set :=
  fun t t' f f' hne => (cfg0.win 8).disjoint_blk fun h => hne (one8 t t' f f' h)
theorem i9 : ∀ t : Fin grid0.N, win0_9.index t (0 : Fin 2) = t.val / 4 ∧ win0_9.index t (1 : Fin 2) = 0 := by decide +kernel
theorem last9 : ∀ t : Fin grid0.N, t.val % 4 = 3 → win0_9.flush t = true := by decide +kernel
theorem one9 : ∀ t t' : Fin grid0.N, win0_9.flush t = true → win0_9.flush t' = true → win0_9.index t = win0_9.index t' → t = t' := by decide +kernel
theorem disj9 : ∀ t t' : Fin cfg0.N, (cfg0.win 9).flush t = true → (cfg0.win 9).flush t' = true → t ≠ t' →
    Disjoint ((cfg0.win 9).blk t).view.set ((cfg0.win 9).blk t').view.set :=
  fun t t' f f' hne => (cfg0.win 9).disjoint_blk fun h => hne (one9 t t' f f' h)
theorem i7 : ∀ t : Fin grid0.N, win0_7.index t (0 : Fin 4) = 0 ∧ win0_7.index t (1 : Fin 4) = t.val % 4 ∧ win0_7.index t (2 : Fin 4) = t.val / 4
    ∧ win0_7.index t (3 : Fin 4) = 0 := by decide +kernel
theorem every7 : ∀ t : Fin grid0.N, win0_7.flush t = true := by decide +kernel

/-! ## The arrays -/

section

variable (m : (ℓ : Loc nD τ sig) → Buf (Elt Ideal) ℓ) (c : Dev nD) {A : Args} (hb : Inputs m c A)
include hb

/-- The residual stream: row block `q` is what its last point stores. -/
theorem array6 (y : S4096x1024.Idx) : ((dats m 0 c).arrAt 6 cfg0.N : Vec Ideal S4096x1024 .f32) y = HN A (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 6 disj6 cfg0.N t t.isLt (last6 t e3)) z
  rw [flushed6] at h
  have hz : (outsAt0 m c t.val t.isLt).1 z = HN A (1024 * (t.val / 4) + (z 0).val) (z 1).val := ((ok_outs m c hb t.val t.isLt).hn z).trans (acc_last A t.val e3 z)
  refine Eq.trans ?_ (h.trans (Eq.trans hz ?_))
  · show (dats m 0 c).arrAt 6 cfg0.N _ = (dats m 0 c).arrAt 6 cfg0.N _
    congr 1
    funext d
    match d with
    | ⟨0, _⟩ => exact Fin.ext (show (y 0).val = win0_6.index t (0 : Fin 2) * 1024 + 1 * ((y 0).val % 1024) by rw [(i6 t).1, e4]; omega)
    | ⟨1, _⟩ => exact Fin.ext (show (y 1).val = win0_6.index t (1 : Fin 2) * 1024 + 1 * (y 1).val by rw [(i6 t).2]; omega)
  · show HN A (1024 * (t.val / 4) + (y 0).val % 1024) (y 1).val = _
    rw [e4, show 1024 * ((y 0).val / 1024) + (y 0).val % 1024 = (y 0).val by omega]

/-- The first norm: row block `q` is what its last point stores. -/
theorem array8 (y : S4096x1024.Idx) : ((dats m 0 c).arrAt 8 cfg0.N : Vec Ideal S4096x1024 .bf16) y = UN A A.g0 (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 8 disj8 cfg0.N t t.isLt (last8 t e3)) z
  rw [flushed8] at h
  have hz : (outsAt0 m c t.val t.isLt).2.2.1 z = O8 A A.g0 t.val z := (ok_outs m c hb t.val t.isLt).n0 e3 z
  refine Eq.trans ?_ (h.trans (Eq.trans hz ?_))
  · show (dats m 0 c).arrAt 8 cfg0.N _ = (dats m 0 c).arrAt 8 cfg0.N _
    congr 1
    funext d
    match d with
    | ⟨0, _⟩ => exact Fin.ext (show (y 0).val = win0_8.index t (0 : Fin 2) * 1024 + 1 * ((y 0).val % 1024) by rw [(i8 t).1, e4]; omega)
    | ⟨1, _⟩ => exact Fin.ext (show (y 1).val = win0_8.index t (1 : Fin 2) * 1024 + 1 * (y 1).val by rw [(i8 t).2]; omega)
  · show UN A A.g0 (1024 * (t.val / 4) + (y 0).val % 1024) (y 1).val = _
    rw [e4, show 1024 * ((y 0).val / 1024) + (y 0).val % 1024 = (y 0).val by omega]

/-- The second norm: row block `q` is what its last point stores. -/
theorem array9 (y : S4096x1024.Idx) : ((dats m 0 c).arrAt 9 cfg0.N : Vec Ideal S4096x1024 .bf16) y = UN A A.g1 (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 9 disj9 cfg0.N t t.isLt (last9 t e3)) z
  rw [flushed9] at h
  have hz : (outsAt0 m c t.val t.isLt).2.2.2 z = O8 A A.g1 t.val z := (ok_outs m c hb t.val t.isLt).n1 e3 z
  refine Eq.trans ?_ (h.trans (Eq.trans hz ?_))
  · show (dats m 0 c).arrAt 9 cfg0.N _ = (dats m 0 c).arrAt 9 cfg0.N _
    congr 1
    funext d
    match d with
    | ⟨0, _⟩ => exact Fin.ext (show (y 0).val = win0_9.index t (0 : Fin 2) * 1024 + 1 * ((y 0).val % 1024) by rw [(i9 t).1, e4]; omega)
    | ⟨1, _⟩ => exact Fin.ext (show (y 1).val = win0_9.index t (1 : Fin 2) * 1024 + 1 * (y 1).val by rw [(i9 t).2]; omega)
  · show UN A A.g1 (1024 * (t.val / 4) + (y 0).val % 1024) (y 1).val = _
    rw [e4, show 1024 * ((y 0).val / 1024) + (y 0).val % 1024 = (y 0).val by omega]

/-- The gates and ups: each point stores its own block. -/
theorem array7 (y : S2x4x4096x704.Idx) : ((dats m 0 c).arrAt 7 cfg0.N : Vec Ideal S2x4x4096x704 .bf16) y
    = GU A (y 2).val (2816 * (y 0).val + (704 * (y 1).val + (y 3).val)) := by
  have h1 : (y 1).val < 4 := (y 1).isLt
  have h2 : (y 2).val < 4096 := (y 2).isLt
  let t : Fin cfg0.N := ⟨4 * ((y 2).val / 1024) + (y 1).val, lt_of_lt_of_eq (by omega) N_0.symm⟩
  have e3 : t.val % 4 = (y 1).val := by show (4 * ((y 2).val / 1024) + (y 1).val) % 4 = _; omega
  have e4 : t.val / 4 = (y 2).val / 1024 := by show (4 * ((y 2).val / 1024) + (y 1).val) / 4 = _; omega
  let z : S2x1x1024x704.Idx := ix4 (n0 := 2) (n1 := 1) (n2 := 1024) (n3 := 704) (y 0) 0 ⟨(y 2).val % 1024, by omega⟩ (y 3)
  have h := congrFun (blocks7 m c t (every7 t)) z
  rw [flushed7] at h
  have hz : (outsAt0 m c t.val t.isLt).2.1 z = O7 A t.val z := (ok_outs m c hb t.val t.isLt).gu z
  refine Eq.trans ?_ (h.trans (Eq.trans hz ?_))
  · show (dats m 0 c).arrAt 7 cfg0.N _ = (dats m 0 c).arrAt 7 cfg0.N _
    congr 1
    funext d
    match d with
    | ⟨0, _⟩ => exact Fin.ext (show (y 0).val = win0_7.index t (0 : Fin 4) * 2 + 1 * (y 0).val by rw [(i7 t).1]; omega)
    | ⟨1, _⟩ => exact Fin.ext (show (y 1).val = win0_7.index t (1 : Fin 4) * 1 + 1 * 0 by rw [(i7 t).2.1, e3]; omega)
    | ⟨2, _⟩ => exact Fin.ext (show (y 2).val = win0_7.index t (2 : Fin 4) * 1024 + 1 * ((y 2).val % 1024) by rw [(i7 t).2.2.1, e4]; omega)
    | ⟨3, _⟩ => exact Fin.ext (show (y 3).val = win0_7.index t (3 : Fin 4) * 704 + 1 * (y 3).val by rw [(i7 t).2.2.2]; omega)
  · show GU A (1024 * (t.val / 4) + (y 2).val % 1024) (2816 * (y 0).val + (704 * (t.val % 4) + (y 3).val)) = _
    rw [e3, e4, show 1024 * ((y 2).val / 1024) + (y 2).val % 1024 = (y 2).val by omega]

end

/-! ## The reference's arrays -/

variable (m : (ℓ : Loc nD τ sig) → Buf (Elt Ideal) ℓ) (c : Dev nD)

theorem out0 : Cert.Reference5Ideal.Read.val_main_v7 (F := Ideal) (a0 m c) (a1 m c) (a4 m c) (a5 m c) = (dats m 0 c).arrAt 6 cfg0.N :=
  funext fun i => (Ref.r7 (holds m c) i).trans (array6 m c (inputs m c) i).symm

theorem out1 : Cert.Reference5Ideal.Read.val_main_v10 (F := Ideal) (a0 m c) (a4 m c) = (dats m 0 c).arrAt 7 cfg0.N :=
  funext fun i => (Ref.r10 (holds m c) i).trans (array7 m c (inputs m c) i).symm

theorem out2 : Cert.Reference5Ideal.Read.val_main_v23 (F := Ideal) (a0 m c) (a1 m c) (a2 m c) (a4 m c) (a5 m c) = (dats m 0 c).arrAt 8 cfg0.N :=
  funext fun i => (Ref.r23 (holds m c) i).trans (array8 m c (inputs m c) i).symm

theorem out3 : Cert.Reference5Ideal.Read.val_main_v36 (F := Ideal) (a0 m c) (a1 m c) (a3 m c) (a4 m c) (a5 m c) = (dats m 0 c).arrAt 9 cfg0.N :=
  funext fun i => (Ref.r36 (holds m c) i).trans (array9 m c (inputs m c) i).symm

end Cert.Fwd.Kern

end
-- ==== Proof.Fwd.One.Body.lean ====
/- What one grid point leaves in its buffers in the call of the layer that one norm follows: the stores are those of Proof/Fwd/Body.lean. -/
module

public import proofs.«01_k».proof.Proof.Gen.Kernel6Ideal.Value
public import proofs.«01_k».proof.Proof.Fwd.Fold

@[expose] public section

set_option maxRecDepth 16384

noncomputable section

namespace Cert.Fwd.One

open Idealize.ShloMosaic Idealize.ShloMosaic.ValueIdx Idealize.ShloMosaic.TcCoe Idealize.ShloMosaic.Tactic
open Idealize.SL Idealize.SL.Sem
open Cert.Kernel6Ideal Cert.Kernel6Ideal.Gen

variable {F : FTy → Type} [FloatOps F]
variable (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1x2x1x704x1024 .bf16) (harg4 : arg4.IsWhole) (arg5 : Memref sig .tc .vmem S1x1x704x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S2x1x1024x704 .bf16) (harg8 : arg8.IsWhole) (arg9 : Memref sig .tc .vmem S1024x1024 .bf16) (harg9 : arg9.IsWhole)
variable (x0 : Vec F S1024x1024 .bf16) (x1 : Vec F S1024x1024 .f32) (x2 : Vec F S1x2x1x704x1024 .bf16)
  (x3 : Vec F S1x1x704x1024 .bf16) (x4 : Vec F S1x1024 .f32)

section A

variable (hc0 : cond0_0 i) (hc1 : ¬cond0_1 i)

set_option maxHeartbeats 1600000 in
theorem out0_A_5_eq : out0_A_5 c i arg2 harg2 arg3 harg3 arg4 harg4 arg5 harg5 arg6 harg6 arg7 harg7 arg8 harg8 arg9 harg9 hc0 hc1 x0 x1 x2 x3 x4
    = View.canon (pieces6 x0 x2 x3 x1 ++ [⟨Rect.unit ![0, 0] S1024x1024.size (by decide), x1⟩]) := by
  frame_out [↓View.readCov_skip, ↓View.readCov_fill, View.readCov_eq_canon']
  rfl

set_option maxHeartbeats 1600000 in
theorem out0_A_6_eq : out0_A_6 c i arg2 harg2 arg3 harg3 arg4 harg4 arg5 harg5 arg6 harg6 arg7 harg7 arg8 harg8 arg9 harg9 hc0 hc1 x0 x1 x2 x3 x4
    = View.canon (pieces7 x0 x2) := by
  frame_out [↓View.readCov_skip, ↓View.readCov_fill, View.readCov_eq_canon']
  rfl

end A

section B

variable (hc0 : ¬cond0_0 i) (hc1 : ¬cond0_1 i) (xo5 : Vec F S1024x1024 .f32)

set_option maxHeartbeats 1600000 in
theorem out0_B_5_eq : out0_B_5 c i arg2 harg2 arg3 harg3 arg4 harg4 arg5 harg5 arg6 harg6 arg7 harg7 arg8 harg8 arg9 harg9 hc0 hc1 x0 x1 x2 x3 x4 xo5
    = View.canon (pieces6 x0 x2 x3 xo5) := by
  frame_out [↓View.readCov_skip, ↓View.readCov_fill, View.readCov_eq_canon']
  rfl

set_option maxHeartbeats 1600000 in
theorem out0_B_6_eq : out0_B_6 c i arg2 harg2 arg3 harg3 arg4 harg4 arg5 harg5 arg6 harg6 arg7 harg7 arg8 harg8 arg9 harg9 hc0 hc1 x0 x1 x2 x3 x4 xo5
    = View.canon (pieces7 x0 x2) := by
  frame_out [↓View.readCov_skip, ↓View.readCov_fill, View.readCov_eq_canon']
  rfl

end B

section C

variable (hc0 : ¬cond0_0 i) (hc1 : cond0_1 i) (xo5 : Vec F S1024x1024 .f32)

set_option maxHeartbeats 1600000 in
theorem out0_C_5_eq : out0_C_5 c i arg2 harg2 arg3 harg3 arg4 harg4 arg5 harg5 arg6 harg6 arg7 harg7 arg8 harg8 arg9 harg9 hc0 hc1 x0 x1 x2 x3 x4 xo5
    = View.canon (pieces6 x0 x2 x3 xo5) := by
  frame_out [↓View.readCov_skip, ↓View.readCov_fill, View.readCov_eq_canon']
  rfl

set_option maxHeartbeats 1600000 in
theorem out0_C_6_eq : out0_C_6 c i arg2 harg2 arg3 harg3 arg4 harg4 arg5 harg5 arg6 harg6 arg7 harg7 arg8 harg8 arg9 harg9 hc0 hc1 x0 x1 x2 x3 x4 xo5
    = View.canon (pieces7 x0 x2) := by
  frame_out [↓View.readCov_skip, ↓View.readCov_fill, View.readCov_eq_canon']
  rfl

set_option maxHeartbeats 1600000 in
theorem out0_C_7_eq : out0_C_7 c i arg2 harg2 arg3 harg3 arg4 harg4 arg5 harg5 arg6 harg6 arg7 harg7 arg8 harg8 arg9 harg9 hc0 hc1 x0 x1 x2 x3 x4 xo5
    = View.canon (piecesN x0 x2 x3 xo5 x4) := by
  frame_out [↓View.readCov_skip, ↓View.readCov_fill, View.readCov_eq_canon']
  simp only [canon_self]
  rfl

end C

end Cert.Fwd.One

end
-- ==== Proof.Fwd.One.Fold.lean ====
/- What the buffers hold after each of the 16 points. -/
module

public import proofs.«01_k».proof.Proof.Fwd.One.Body

@[expose] public section

set_option maxRecDepth 16384

noncomputable section

namespace Cert.Fwd.One

open Idealize.ShloMosaic Idealize.ShloMosaic.ValueIdx Idealize.ShloMosaic.TcCoe
open Idealize.SL Idealize.SL.Sem
open Cert.Kernel6Ideal Cert.Kernel6Ideal.Gen Cert.Kernel6Ideal.Value

/-- The buffers after point `n`. -/
structure Ok (A : Args) (n : ℕ) (u : Vec Ideal S1024x1024 .f32 × Vec Ideal S2x1x1024x704 .bf16 × Vec Ideal S1024x1024 .bf16) : Prop where
  hn : ∀ y, u.1 y = ACC A n y
  gu : ∀ y, u.2.1 y = O7 A n y
  n0 : n % 4 = 3 → ∀ y, u.2.2 y = O8 A A.g0 n y

variable (m : (ℓ : Loc nD τ sig) → Buf (Elt Ideal) ℓ) (c : Dev nD) {A : Args}

/-- Every point's blocks hold the arrays' rows. -/
def Inputs (A : Args) : Prop := ∀ t : Fin cfg0.N,
  Blocks A t.val (iblk m c 0 t) (iblk m c 1 t) (iblk m c 2 t) (iblk m c 3 t) (iblk m c 4 t) (iblk m c 4 t)

variable (hb : Inputs m c A)
include hb

theorem ok_first (t : Fin cfg0.N) (h0 : t.val % 4 = 0) : Ok A t.val (outsAt0 m c t.val t.isLt) := by
  have b := hb t
  rw [outsAt0_A m c t h0 (by omega)]
  constructor
  · intro y
    dsimp only
    rw [out0_A_5_eq]
    refine (canon6 b _ _ y).trans (acc_first A t.val h0 _ y ?_)
    exact (congrArg _ (eq_ix2 y)).trans (b.h1 (y 0) (y 1))
  · intro y
    dsimp only
    rw [out0_A_6_eq]
    exact canon7 b y
  · intro h; omega

theorem ok_next (t : Fin cfg0.N) (h0 : ¬t.val % 4 = 0)
    (h : Ok A (t.val - 1) (outsAt0 m c (t.val - 1) (Nat.lt_of_le_of_lt (Nat.sub_le _ _) t.isLt))) : Ok A t.val (outsAt0 m c t.val t.isLt) := by
  have b := hb t
  have ha := fun y => acc_next A (t.val - 1) t.val (by omega) h0 _ y (h.hn y)
  by_cases h1 : t.val % 4 = 3
  · rw [outsAt0_C m c t h0 h1]
    constructor
    · intro y
      dsimp only
      rw [out0_C_5_eq]
      exact (canon6' b _ y).trans (ha y)
    · intro y
      dsimp only
      rw [out0_C_6_eq]
      exact canon7 b y
    · intro _ y
      dsimp only
      rw [out0_C_7_eq]
      exact canonN b _ _ A.g0 b.h4 (fun y => (ha y).trans (acc_last A t.val h1 y)) y
  · rw [outsAt0_B m c t h0 h1]
    constructor
    · intro y
      dsimp only
      rw [out0_B_5_eq]
      exact (canon6' b _ y).trans (ha y)
    · intro y
      dsimp only
      rw [out0_B_6_eq]
      exact canon7 b y
    · intro h'; omega

theorem ok_outs : ∀ (n : ℕ) (hn : n < cfg0.N), Ok A n (outsAt0 m c n hn)
  | 0, hn => ok_first m c hb ⟨0, hn⟩ rfl
  | n + 1, hn => by
    by_cases h0 : (n + 1) % 4 = 0
    · exact ok_first m c hb ⟨n + 1, hn⟩ h0
    · exact ok_next m c hb ⟨n + 1, hn⟩ h0 (ok_outs n (Nat.lt_of_succ_lt hn))

end Cert.Fwd.One

end
-- ==== Proof.Fwd.One.Inputs.lean ====
/- The blocks a point reads are parts of the arguments: the weights' layouts move no entry's value. -/
module

public import proofs.«01_k».proof.Proof.Fwd.Inputs
public import proofs.«01_k».proof.Proof.Fwd.One.Fold
public import Idealize.ShloMosaic.Lib.StableHlo.RunRead

@[expose] public section

set_option maxRecDepth 16384

noncomputable section

namespace Cert.Fwd.One

open Idealize.ShloMosaic Idealize.ShloMosaic.ValueIdx Idealize.ShloMosaic.TcCoe
open Idealize.SL Idealize.SL.Sem
open Cert.Kernel6Ideal Cert.Kernel6Ideal.Gen Cert.Kernel6Ideal.Value
open Cert.Ffn.Kern (wuArr wdArr wuArr_apply wdArr_apply)
open Cert.Fwd.Kern (rd rd_apply row_ix)

variable (m : (ℓ : Loc nD τ sig) → Buf (Elt Ideal) ℓ) (c : Dev nD)

abbrev a0 : Vec Ideal S4096x1024 .bf16 := m ((c : Thread nD τ).loc main_arg0)
abbrev a1 : Vec Ideal S4096x1024 .f32 := m ((c : Thread nD τ).loc main_arg1)
abbrev a2 : Vec Ideal S1x1024 .f32 := m ((c : Thread nD τ).loc main_arg2)
abbrev a3 : Vec Ideal S1024x5632 .f32 := m ((c : Thread nD τ).loc main_arg3)
abbrev a4 : Vec Ideal S2816x1024 .f32 := m ((c : Thread nD τ).loc main_arg4)

/-! ## What the kernel is launched with -/

set_option maxHeartbeats 4000000 in
theorem V_wu : V m c main_v2 = wuArr (a3 m c) := by
  show StableHlo.after (List.flatten [hostOps0]) _ (Proc.devRef .tc main_v2) = _
  simp only [List.flatten_cons, List.flatten_nil, List.append_nil]
  after_reads_simp
  rfl

set_option maxHeartbeats 4000000 in
theorem V_wd : V m c main_v4 = wdArr (a4 m c) := by
  show StableHlo.after (List.flatten [hostOps0]) _ (Proc.devRef .tc main_v4) = _
  simp only [List.flatten_cons, List.flatten_nil, List.append_nil]
  after_reads_simp
  rfl

/-! ## The blocks -/

theorem i0 : ∀ t : Fin grid0.N, win0_0.index t (0 : Fin 2) = t.val / 4 ∧ win0_0.index t (1 : Fin 2) = 0 := by decide +kernel
theorem i1 : ∀ t : Fin grid0.N, win0_1.index t (0 : Fin 2) = t.val / 4 ∧ win0_1.index t (1 : Fin 2) = 0 := by decide +kernel
theorem i2 : ∀ t : Fin grid0.N, win0_2.index t (0 : Fin 5) = 0 ∧ win0_2.index t (1 : Fin 5) = 0 ∧ win0_2.index t (2 : Fin 5) = t.val % 4
    ∧ win0_2.index t (3 : Fin 5) = 0 ∧ win0_2.index t (4 : Fin 5) = 0 := by decide +kernel
theorem i3 : ∀ t : Fin grid0.N, win0_3.index t (0 : Fin 4) = 0 ∧ win0_3.index t (1 : Fin 4) = t.val % 4 ∧ win0_3.index t (2 : Fin 4) = 0
    ∧ win0_3.index t (3 : Fin 4) = 0 := by decide +kernel
theorem i4 : ∀ t : Fin grid0.N, win0_4.index t (0 : Fin 2) = 0 ∧ win0_4.index t (1 : Fin 2) = 0 := by decide +kernel

theorem blk0 (t : Fin cfg0.N) (r k : Fin 1024) (hr : 1024 * (t.val / 4) + r.val < 4096) :
    (iblk m c 0 t : Vec Ideal S1024x1024 .bf16) (ix2 r k) = a0 m c (ix2 ⟨1024 * (t.val / 4) + r.val, hr⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val / 4 * 1024 + 1 * r.val = 1024 * (t.val / 4) + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (r k : Fin 1024) (hr : 1024 * (t.val / 4) + r.val < 4096) :
    (iblk m c 1 t : Vec Ideal S1024x1024 .f32) (ix2 r k) = a1 m c (ix2 ⟨1024 * (t.val / 4) + r.val, hr⟩ k) := by
  show V m c main_arg1 _ = _
  rw [V_main_arg1]
  congr 1
  funext d
  match d with
  | ⟨0, _⟩ => exact Fin.ext (show win0_1.index t (0 : Fin 2) * 1024 + 1 * r.val = _ by rw [(i1 t).1]; exact (by omega : t.val / 4 * 1024 + 1 * r.val = 1024 * (t.val / 4) + r.val))
  | ⟨1, _⟩ => exact Fin.ext (show win0_1.index t (1 : Fin 2) * 1024 + 1 * k.val = _ by rw [(i1 t).2]; exact (by omega : 0 * 1024 + 1 * k.val = k.val))

theorem blk2 (t : Fin cfg0.N) (s : Fin 2) (f : Fin 704) (k : Fin 1024) :
    (iblk m c 2 t : Vec Ideal S1x2x1x704x1024 .bf16) (ix5 0 s 0 f k)
      = (V m c main_v2 : Vec Ideal S1x2x4x704x1024 .bf16) (ix5 0 s ⟨t.val % 4, by omega⟩ f k) := by
  show V m c main_v2 _ = _
  congr 1
  funext d
  match d with
  | ⟨0, _⟩ => exact Fin.ext (show win0_2.index t (0 : Fin 5) * 1 + 1 * 0 = _ by rw [(i2 t).1]; rfl)
  | ⟨1, _⟩ => exact Fin.ext (show win0_2.index t (1 : Fin 5) * 2 + 1 * s.val = _ by rw [(i2 t).2.1]; exact (by omega : 0 * 2 + 1 * s.val = s.val))
  | ⟨2, _⟩ => exact Fin.ext (show win0_2.index t (2 : Fin 5) * 1 + 1 * 0 = _ by rw [(i2 t).2.2.1]; exact (by omega : t.val % 4 * 1 + 1 * 0 = t.val % 4))
  | ⟨3, _⟩ => exact Fin.ext (show win0_2.index t (3 : Fin 5) * 704 + 1 * f.val = _ by rw [(i2 t).2.2.2.1]; exact (by omega : 0 * 704 + 1 * f.val = f.val))
  | ⟨4, _⟩ => exact Fin.ext (show win0_2.index t (4 : Fin 5) * 1024 + 1 * k.val = _ by rw [(i2 t).2.2.2.2]; exact (by omega : 0 * 1024 + 1 * k.val = k.val))

theorem blk3 (t : Fin cfg0.N) (f : Fin 704) (k : Fin 1024) :
    (iblk m c 3 t : Vec Ideal S1x1x704x1024 .bf16) (ix4 0 0 f k)
      = (V m c main_v4 : Vec Ideal S1x4x704x1024 .bf16) (ix4 0 ⟨t.val % 4, by omega⟩ f k) := by
  show V m c main_v4 _ = _
  congr 1
  funext d
  match d with
  | ⟨0, _⟩ => exact Fin.ext (show win0_3.index t (0 : Fin 4) * 1 + 1 * 0 = _ by rw [(i3 t).1]; rfl)
  | ⟨1, _⟩ => exact Fin.ext (show win0_3.index t (1 : Fin 4) * 1 + 1 * 0 = _ by rw [(i3 t).2.1]; exact (by omega : t.val % 4 * 1 + 1 * 0 = t.val % 4))
  | ⟨2, _⟩ => exact Fin.ext (show win0_3.index t (2 : Fin 4) * 704 + 1 * f.val = _ by rw [(i3 t).2.2.1]; exact (by omega : 0 * 704 + 1 * f.val = f.val))
  | ⟨3, _⟩ => exact Fin.ext (show win0_3.index t (3 : Fin 4) * 1024 + 1 * k.val = _ by rw [(i3 t).2.2.2]; exact (by omega : 0 * 1024 + 1 * k.val = k.val))

theorem blk4 (t : Fin cfg0.N) (k : Fin 1024) : (iblk m c 4 t : Vec Ideal S1x1024 .f32) (ix2 0 k) = a2 m c (ix2 0 k) := by
  show V m c main_arg2 _ = _
  rw [V_main_arg2]
  congr 1
  funext d
  match d with
  | ⟨0, _⟩ => exact Fin.ext (show win0_4.index t (0 : Fin 2) * 1 + 1 * 0 = _ by rw [(i4 t).1]; rfl)
  | ⟨1, _⟩ => exact Fin.ext (show win0_4.index t (1 : Fin 2) * 1024 + 1 * k.val = _ by rw [(i4 t).2]; exact (by omega : 0 * 1024 + 1 * k.val = k.val))

/-! ## The arrays -/

def argsOf : Args where
  u := rd (a0 m c)
  h := rd (a1 m c)
  g0 := fun k => rd (a2 m c) 0 k
  g1 := fun k => rd (a2 m c) 0 k
  wu := rd (a3 m c)
  wd := rd (a4 m c)

/-- The reference's arrays. -/
theorem holds : Ref.Holds (argsOf m c) (a0 m c) (a1 m c) (a2 m c) (a2 m c) (a3 m c) (a4 m c) where
  u i := (congrArg (a0 m c) (eq_ix2 i)).trans (rd_apply (a := 4096) (b := 1024) _ (i 0) (i 1))
  h i := (congrArg (a1 m c) (eq_ix2 i)).trans (rd_apply (a := 4096) (b := 1024) _ (i 0) (i 1))
  g0 i := (congrArg (a2 m c) (row_ix i)).trans (rd_apply (a := 1) (b := 1024) _ 0 (i 1))
  g1 i := (congrArg (a2 m c) (row_ix i)).trans (rd_apply (a := 1) (b := 1024) _ 0 (i 1))
  wu i := (congrArg (a3 m c) (eq_ix2 i)).trans (rd_apply (a := 1024) (b := 5632) _ (i 0) (i 1))
  wd i := (congrArg (a4 m c) (eq_ix2 i)).trans (rd_apply (a := 2816) (b := 1024) _ (i 0) (i 1))

theorem inputs : Inputs m c (argsOf m c) := by
  intro t
  have ht : t.val < 16 := lt_of_lt_of_eq t.isLt N_0
  refine ⟨fun r k => ?_, fun r k => ?_, fun s f k => ?_, fun f k => ?_, fun k => ?_, fun k => ?_⟩
  · exact (blk0 m c t r k (by omega)).trans (rd_apply (a := 4096) (b := 1024) (a0 m c) _ k)
  · exact (blk1 m c t r k (by omega)).trans (rd_apply (a := 4096) (b := 1024) (a1 m c) _ k)
  · refine (blk2 m c t s f k).trans ?_
    rw [V_wu]
    exact (wuArr_apply (a3 m c) s _ f k).trans (rd_apply (a := 1024) (b := 5632) (a3 m c) k _)
  · refine (blk3 m c t f k).trans ?_
    rw [V_wd]
    exact (wdArr_apply (a4 m c) _ f k).trans (rd_apply (a := 2816) (b := 1024) (a4 m c) _ k)
  · exact (blk4 m c t k).trans (rd_apply (a := 1) (b := 1024) (a2 m c) 0 k)
  · exact (blk4 m c t k).trans (rd_apply (a := 1) (b := 1024) (a2 m c) 0 k)

end Cert.Fwd.One

end
-- ==== Proof.Fwd.One.Agree.lean ====
/- The kernel's three arrays are the reference's. -/
module

public import proofs.«01_k».proof.Proof.Fwd.One.Inputs
public import proofs.«01_k».proof.Proof.Gen.Reference6Ideal.Read

@[expose] public section

set_option maxRecDepth 16384

noncomputable section

namespace Cert.Fwd.One

open Idealize.ShloMosaic Idealize.ShloMosaic.ValueIdx Idealize.ShloMosaic.TcCoe
open Idealize.SL Idealize.SL.Sem
open Cert.Kernel6Ideal Cert.Kernel6Ideal.Gen Cert.Kernel6Ideal.Value

/-! ## Which block a point stores, and when -/

theorem i5 : ∀ t : Fin grid0.N, win0_5.index t (0 : Fin 2) = t.val / 4 ∧ win0_5.index t (1 : Fin 2) = 0 := by decide +kernel
theorem last5 : ∀ t : Fin grid0.N, t.val % 4 = 3 → win0_5.flush t = true := by decide +kernel
theorem one5 : ∀ t t' : Fin grid0.N, win0_5.flush t = true → win0_5.flush t' = true → win0_5.index t = win0_5.index t' → t = t' := by decide +kernel
theorem disj5 : ∀ t t' : Fin cfg0.N, (cfg0.win 5).flush t = true → (cfg0.win 5).flush t' = true → t ≠ t' →
    Disjoint ((cfg0.win 5).blk t).view.set ((cfg0.win 5).blk t').view.set :=
  fun t t' f f' hne => (cfg0.win 5).disjoint_blk fun h => hne (one5 t t' f f' h)
theorem i7 : ∀ t : Fin grid0.N, win0_7.index t (0 : Fin 2) = t.val / 4 ∧ win0_7.index t (1 : Fin 2) = 0 := by decide +kernel
theorem last7 : ∀ t : Fin grid0.N, t.val % 4 = 3 → win0_7.flush t = true := by decide +kernel
theorem one7 : ∀ t t' : Fin grid0.N, win0_7.flush t = true → win0_7.flush t' = true → win0_7.index t = win0_7.index t' → t = t' := by decide +kernel
theorem disj7 : ∀ t t' : Fin cfg0.N, (cfg0.win 7).flush t = true → (cfg0.win 7).flush t' = true → t ≠ t' →
    Disjoint ((cfg0.win 7).blk t).view.set ((cfg0.win 7).blk t').view.set :=
  fun t t' f f' hne => (cfg0.win 7).disjoint_blk fun h => hne (one7 t t' f f' h)
theorem i6 : ∀ t : Fin grid0.N, win0_6.index t (0 : Fin 4) = 0 ∧ win0_6.index t (1 : Fin 4) = t.val % 4 ∧ win0_6.index t (2 : Fin 4) = t.val / 4
    ∧ win0_6.index t (3 : Fin 4) = 0 := by decide +kernel
theorem every6 : ∀ t : Fin grid0.N, win0_6.flush t = true := by decide +kernel

/-! ## The arrays -/

section

variable (m : (ℓ : Loc nD τ sig) → Buf (Elt Ideal) ℓ) (c : Dev nD) {A : Args} (hb : Inputs m c A)
include hb

/-- The residual stream: row block `q` is what its last point stores. -/
theorem array5 (y : S4096x1024.Idx) : ((dats m 0 c).arrAt 5 cfg0.N : Vec Ideal S4096x1024 .f32) y = HN A (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 5 disj5 cfg0.N t t.isLt (last5 t e3)) z
  rw [flushed5] at h
  have hz : (outsAt0 m c t.val t.isLt).1 z = HN A (1024 * (t.val / 4) + (z 0).val) (z 1).val := ((ok_outs m c hb t.val t.isLt).hn z).trans (acc_last A t.val e3 z)
  refine Eq.trans ?_ (h.trans (Eq.trans hz ?_))
  · show (dats m 0 c).arrAt 5 cfg0.N _ = (dats m 0 c).arrAt 5 cfg0.N _
    congr 1
    funext d
    match d with
    | ⟨0, _⟩ => exact Fin.ext (show (y 0).val = win0_5.index t (0 : Fin 2) * 1024 + 1 * ((y 0).val % 1024) by rw [(i5 t).1, e4]; omega)
    | ⟨1, _⟩ => exact Fin.ext (show (y 1).val = win0_5.index t (1 : Fin 2) * 1024 + 1 * (y 1).val by rw [(i5 t).2]; omega)
  · show HN A (1024 * (t.val / 4) + (y 0).val % 1024) (y 1).val = _
    rw [e4, show 1024 * ((y 0).val / 1024) + (y 0).val % 1024 = (y 0).val by omega]

/-- The first norm: row block `q` is what its last point stores. -/
theorem array7 (y : S4096x1024.Idx) : ((dats m 0 c).arrAt 7 cfg0.N : Vec Ideal S4096x1024 .bf16) y = UN A A.g0 (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 7 disj7 cfg0.N t t.isLt (last7 t e3)) z
  rw [flushed7] at h
  have hz : (outsAt0 m c t.val t.isLt).2.2 z = O8 A A.g0 t.val z := (ok_outs m c hb t.val t.isLt).n0 e3 z
  refine Eq.trans ?_ (h.trans (Eq.trans hz ?_))
  · show (dats m 0 c).arrAt 7 cfg0.N _ = (dats m 0 c).arrAt 7 cfg0.N _
    congr 1
    funext d
    match d with
    | ⟨0, _⟩ => exact Fin.ext (show (y 0).val = win0_7.index t (0 : Fin 2) * 1024 + 1 * ((y 0).val % 1024) by rw [(i7 t).1, e4]; omega)
    | ⟨1, _⟩ => exact Fin.ext (show (y 1).val = win0_7.index t (1 : Fin 2) * 1024 + 1 * (y 1).val by rw [(i7 t).2]; omega)
  · show UN A A.g0 (1024 * (t.val / 4) + (y 0).val % 1024) (y 1).val = _
    rw [e4, show 1024 * ((y 0).val / 1024) + (y 0).val % 1024 = (y 0).val by omega]

/-- The gates and ups: each point stores its own block. -/
theorem array6 (y : S2x4x4096x704.Idx) : ((dats m 0 c).arrAt 6 cfg0.N : Vec Ideal S2x4x4096x704 .bf16) y
    = GU A (y 2).val (2816 * (y 0).val + (704 * (y 1).val + (y 3).val)) := by
  have h1 : (y 1).val < 4 := (y 1).isLt
  have h2 : (y 2).val < 4096 := (y 2).isLt
  let t : Fin cfg0.N := ⟨4 * ((y 2).val / 1024) + (y 1).val, lt_of_lt_of_eq (by omega) N_0.symm⟩
  have e3 : t.val % 4 = (y 1).val := by show (4 * ((y 2).val / 1024) + (y 1).val) % 4 = _; omega
  have e4 : t.val / 4 = (y 2).val / 1024 := by show (4 * ((y 2).val / 1024) + (y 1).val) / 4 = _; omega
  let z : S2x1x1024x704.Idx := ix4 (n0 := 2) (n1 := 1) (n2 := 1024) (n3 := 704) (y 0) 0 ⟨(y 2).val % 1024, by omega⟩ (y 3)
  have h := congrFun (blocks6 m c t (every6 t)) z
  rw [flushed6] at h
  have hz : (outsAt0 m c t.val t.isLt).2.1 z = O7 A t.val z := (ok_outs m c hb t.val t.isLt).gu z
  refine Eq.trans ?_ (h.trans (Eq.trans hz ?_))
  · show (dats m 0 c).arrAt 6 cfg0.N _ = (dats m 0 c).arrAt 6 cfg0.N _
    congr 1
    funext d
    match d with
    | ⟨0, _⟩ => exact Fin.ext (show (y 0).val = win0_6.index t (0 : Fin 4) * 2 + 1 * (y 0).val by rw [(i6 t).1]; omega)
    | ⟨1, _⟩ => exact Fin.ext (show (y 1).val = win0_6.index t (1 : Fin 4) * 1 + 1 * 0 by rw [(i6 t).2.1, e3]; omega)
    | ⟨2, _⟩ => exact Fin.ext (show (y 2).val = win0_6.index t (2 : Fin 4) * 1024 + 1 * ((y 2).val % 1024) by rw [(i6 t).2.2.1, e4]; omega)
    | ⟨3, _⟩ => exact Fin.ext (show (y 3).val = win0_6.index t (3 : Fin 4) * 704 + 1 * (y 3).val by rw [(i6 t).2.2.2]; omega)
  · show GU A (1024 * (t.val / 4) + (y 2).val % 1024) (2816 * (y 0).val + (704 * (t.val % 4) + (y 3).val)) = _
    rw [e3, e4, show 1024 * ((y 2).val / 1024) + (y 2).val % 1024 = (y 2).val by omega]

end

/-! ## The reference's arrays -/

variable (m : (ℓ : Loc nD τ sig) → Buf (Elt Ideal) ℓ) (c : Dev nD)

theorem out0 : Cert.Reference6Ideal.Read.val_main_v7 (F := Ideal) (a0 m c) (a1 m c) (a3 m c) (a4 m c) = (dats m 0 c).arrAt 5 cfg0.N :=
  (rfl : Cert.Reference6Ideal.Read.val_main_v7 (F := Ideal) (a0 m c) (a1 m c) (a3 m c) (a4 m c) = Cert.Reference5Ideal.Read.val_main_v7 (F := Ideal) (a0 m c) (a1 m c) (a3 m c) (a4 m c)).trans
    (funext fun i => (Ref.r7 (holds m c) i).trans (array5 m c (inputs m c) i).symm)

theorem out1 : Cert.Reference6Ideal.Read.val_main_v10 (F := Ideal) (a0 m c) (a3 m c) = (dats m 0 c).arrAt 6 cfg0.N :=
  (rfl : Cert.Reference6Ideal.Read.val_main_v10 (F := Ideal) (a0 m c) (a3 m c) = Cert.Reference5Ideal.Read.val_main_v10 (F := Ideal) (a0 m c) (a3 m c)).trans
    (funext fun i => (Ref.r10 (holds m c) i).trans (array6 m c (inputs m c) i).symm)

theorem out2 : Cert.Reference6Ideal.Read.val_main_v23 (F := Ideal) (a0 m c) (a1 m c) (a2 m c) (a3 m c) (a4 m c) = (dats m 0 c).arrAt 7 cfg0.N :=
  (rfl : Cert.Reference6Ideal.Read.val_main_v23 (F := Ideal) (a0 m c) (a1 m c) (a2 m c) (a3 m c) (a4 m c) = Cert.Reference5Ideal.Read.val_main_v23 (F := Ideal) (a0 m c) (a1 m c) (a2 m c) (a3 m c) (a4 m c)).trans
    (funext fun i => (Ref.r23 (holds m c) i).trans (array7 m c (inputs m c) i).symm)

end Cert.Fwd.One

end
-- ==== Proof.Fwd.Plain.Body.lean ====
/- What one grid point leaves in its buffers in the call of the layer that no norm follows: the stores are those of Proof/Fwd/Body.lean. -/
module

public import proofs.«01_k».proof.Proof.Gen.Kernel7Ideal.Value
public import proofs.«01_k».proof.Proof.Fwd.Fold

@[expose] public section

set_option maxRecDepth 16384

noncomputable section

namespace Cert.Fwd.Plain

open Idealize.ShloMosaic Idealize.ShloMosaic.ValueIdx Idealize.ShloMosaic.TcCoe Idealize.ShloMosaic.Tactic
open Idealize.SL Idealize.SL.Sem
open Cert.Kernel7Ideal Cert.Kernel7Ideal.Gen

variable {F : FTy → Type} [FloatOps F]
variable (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1x2x1x704x1024 .bf16) (harg4 : arg4.IsWhole) (arg5 : Memref sig .tc .vmem S1x1x704x1024 .bf16) (harg5 : arg5.IsWhole) (arg6 : Memref sig .tc .vmem S1024x1024 .f32) (harg6 : arg6.IsWhole) (arg7 : Memref sig .tc .vmem S2x1x1024x704 .bf16) (harg7 : arg7.IsWhole)
variable (x0 : Vec F S1024x1024 .bf16) (x1 : Vec F S1024x1024 .f32) (x2 : Vec F S1x2x1x704x1024 .bf16)
  (x3 : Vec F S1x1x704x1024 .bf16)

section A

variable (hc0 : cond0_0 i)

set_option maxHeartbeats 1600000 in
theorem out0_A_4_eq : out0_A_4 c i arg2 harg2 arg3 harg3 arg4 harg4 arg5 harg5 arg6 harg6 arg7 harg7 hc0 x0 x1 x2 x3
    = View.canon (pieces6 x0 x2 x3 x1 ++ [⟨Rect.unit ![0, 0] S1024x1024.size (by decide), x1⟩]) := by
  frame_out [↓View.readCov_skip, ↓View.readCov_fill, View.readCov_eq_canon']
  rfl

set_option maxHeartbeats 1600000 in
theorem out0_A_5_eq : out0_A_5 c i arg2 harg2 arg3 harg3 arg4 harg4 arg5 harg5 arg6 harg6 arg7 harg7 hc0 x0 x1 x2 x3
    = View.canon (pieces7 x0 x2) := by
  frame_out [↓View.readCov_skip, ↓View.readCov_fill, View.readCov_eq_canon']
  rfl

end A

section B

variable (hc0 : ¬cond0_0 i) (xo4 : Vec F S1024x1024 .f32)

set_option maxHeartbeats 1600000 in
theorem out0_B_4_eq : out0_B_4 c i arg2 harg2 arg3 harg3 arg4 harg4 arg5 harg5 arg6 harg6 arg7 harg7 hc0 x0 x1 x2 x3 xo4
    = View.canon (pieces6 x0 x2 x3 xo4) := by
  frame_out [↓View.readCov_skip, ↓View.readCov_fill, View.readCov_eq_canon']
  rfl

set_option maxHeartbeats 1600000 in
theorem out0_B_5_eq : out0_B_5 c i arg2 harg2 arg3 harg3 arg4 harg4 arg5 harg5 arg6 harg6 arg7 harg7 hc0 x0 x1 x2 x3 xo4
    = View.canon (pieces7 x0 x2) := by
  frame_out [↓View.readCov_skip, ↓View.readCov_fill, View.readCov_eq_canon']
  rfl

end B

end Cert.Fwd.Plain

end
-- ==== Proof.Fwd.Plain.Fold.lean ====
/- What the buffers hold after each of the 16 points. -/
module

public import proofs.«01_k».proof.Proof.Fwd.Plain.Body

@[expose] public section

set_option maxRecDepth 16384

noncomputable section

namespace Cert.Fwd.Plain

open Idealize.ShloMosaic Idealize.ShloMosaic.ValueIdx Idealize.ShloMosaic.TcCoe
open Idealize.SL Idealize.SL.Sem
open Cert.Kernel7Ideal Cert.Kernel7Ideal.Gen Cert.Kernel7Ideal.Value

/-- The buffers after point `n`. -/
structure Ok (A : Args) (n : ℕ) (u : Vec Ideal S1024x1024 .f32 × Vec Ideal S2x1x1024x704 .bf16) : Prop where
  hn : ∀ y, u.1 y = ACC A n y
  gu : ∀ y, u.2 y = O7 A n y

variable (m : (ℓ : Loc nD τ sig) → Buf (Elt Ideal) ℓ) (c : Dev nD) {A : Args}

/-- Every point's blocks hold the arrays' rows. -/
def Inputs (A : Args) : Prop := ∀ t : Fin cfg0.N,
  Blocks A t.val (iblk m c 0 t) (iblk m c 1 t) (iblk m c 2 t) (iblk m c 3 t) (fun _ => 0) (fun _ => 0)

variable (hb : Inputs m c A)
include hb

theorem ok_first (t : Fin cfg0.N) (h0 : t.val % 4 = 0) : Ok A t.val (outsAt0 m c t.val t.isLt) := by
  have b := hb t
  rw [outsAt0_A m c t h0]
  constructor
  · intro y
    dsimp only
    rw [out0_A_4_eq]
    refine (canon6 b _ _ y).trans (acc_first A t.val h0 _ y ?_)
    exact (congrArg _ (eq_ix2 y)).trans (b.h1 (y 0) (y 1))
  · intro y
    dsimp only
    rw [out0_A_5_eq]
    exact canon7 b y

theorem ok_next (t : Fin cfg0.N) (h0 : ¬t.val % 4 = 0)
    (h : Ok A (t.val - 1) (outsAt0 m c (t.val - 1) (Nat.lt_of_le_of_lt (Nat.sub_le _ _) t.isLt))) : Ok A t.val (outsAt0 m c t.val t.isLt) := by
  have b := hb t
  have ha := fun y => acc_next A (t.val - 1) t.val (by omega) h0 _ y (h.hn y)
  rw [outsAt0_B m c t h0]
  constructor
  · intro y
    dsimp only
    rw [out0_B_4_eq]
    exact (canon6' b _ y).trans (ha y)
  · intro y
    dsimp only
    rw [out0_B_5_eq]
    exact canon7 b y

theorem ok_outs : ∀ (n : ℕ) (hn : n < cfg0.N), Ok A n (outsAt0 m c n hn)
  | 0, hn => ok_first m c hb ⟨0, hn⟩ rfl
  | n + 1, hn => by
    by_cases h0 : (n + 1) % 4 = 0
    · exact ok_first m c hb ⟨n + 1, hn⟩ h0
    · exact ok_next m c hb ⟨n + 1, hn⟩ h0 (ok_outs n (Nat.lt_of_succ_lt hn))

end Cert.Fwd.Plain

end
-- ==== Proof.Fwd.Plain.Inputs.lean ====
/- The blocks a point reads are parts of the arguments: the weights' layouts move no entry's value. -/
module

public import proofs.«01_k».proof.Proof.Fwd.Inputs
public import proofs.«01_k».proof.Proof.Fwd.Plain.Fold
public import Idealize.ShloMosaic.Lib.StableHlo.RunRead

@[expose] public section

set_option maxRecDepth 16384

noncomputable section

namespace Cert.Fwd.Plain

open Idealize.ShloMosaic Idealize.ShloMosaic.ValueIdx Idealize.ShloMosaic.TcCoe
open Idealize.SL Idealize.SL.Sem
open Cert.Kernel7Ideal Cert.Kernel7Ideal.Gen Cert.Kernel7Ideal.Value
open Cert.Ffn.Kern (wuArr wdArr wuArr_apply wdArr_apply)
open Cert.Fwd.Kern (rd rd_apply row_ix)

variable (m : (ℓ : Loc nD τ sig) → Buf (Elt Ideal) ℓ) (c : Dev nD)

abbrev a0 : Vec Ideal S4096x1024 .bf16 := m ((c : Thread nD τ).loc main_arg0)
abbrev a1 : Vec Ideal S4096x1024 .f32 := m ((c : Thread nD τ).loc main_arg1)
abbrev a2 : Vec Ideal S1024x5632 .f32 := m ((c : Thread nD τ).loc main_arg2)
abbrev a3 : Vec Ideal S2816x1024 .f32 := m ((c : Thread nD τ).loc main_arg3)

/-! ## What the kernel is launched with -/

set_option maxHeartbeats 4000000 in
theorem V_wu : V m c main_v2 = wuArr (a2 m c) := by
  show StableHlo.after (List.flatten [hostOps0]) _ (Proc.devRef .tc main_v2) = _
  simp only [List.flatten_cons, List.flatten_nil, List.append_nil]
  after_reads_simp
  rfl

set_option maxHeartbeats 4000000 in
theorem V_wd : V m c main_v4 = wdArr (a3 m c) := by
  show StableHlo.after (List.flatten [hostOps0]) _ (Proc.devRef .tc main_v4) = _
  simp only [List.flatten_cons, List.flatten_nil, List.append_nil]
  after_reads_simp
  rfl

/-! ## The blocks -/

theorem i0 : ∀ t : Fin grid0.N, win0_0.index t (0 : Fin 2) = t.val / 4 ∧ win0_0.index t (1 : Fin 2) = 0 := by decide +kernel
theorem i1 : ∀ t : Fin grid0.N, win0_1.index t (0 : Fin 2) = t.val / 4 ∧ win0_1.index t (1 : Fin 2) = 0 := by decide +kernel
theorem i2 : ∀ t : Fin grid0.N, win0_2.index t (0 : Fin 5) = 0 ∧ win0_2.index t (1 : Fin 5) = 0 ∧ win0_2.index t (2 : Fin 5) = t.val % 4
    ∧ win0_2.index t (3 : Fin 5) = 0 ∧ win0_2.index t (4 : Fin 5) = 0 := by decide +kernel
theorem i3 : ∀ t : Fin grid0.N, win0_3.index t (0 : Fin 4) = 0 ∧ win0_3.index t (1 : Fin 4) = t.val % 4 ∧ win0_3.index t (2 : Fin 4) = 0
    ∧ win0_3.index t (3 : Fin 4) = 0 := by decide +kernel

theorem blk0 (t : Fin cfg0.N) (r k : Fin 1024) (hr : 1024 * (t.val / 4) + r.val < 4096) :
    (iblk m c 0 t : Vec Ideal S1024x1024 .bf16) (ix2 r k) = a0 m c (ix2 ⟨1024 * (t.val / 4) + r.val, hr⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val / 4 * 1024 + 1 * r.val = 1024 * (t.val / 4) + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (r k : Fin 1024) (hr : 1024 * (t.val / 4) + r.val < 4096) :
    (iblk m c 1 t : Vec Ideal S1024x1024 .f32) (ix2 r k) = a1 m c (ix2 ⟨1024 * (t.val / 4) + r.val, hr⟩ k) := by
  show V m c main_arg1 _ = _
  rw [V_main_arg1]
  congr 1
  funext d
  match d with
  | ⟨0, _⟩ => exact Fin.ext (show win0_1.index t (0 : Fin 2) * 1024 + 1 * r.val = _ by rw [(i1 t).1]; exact (by omega : t.val / 4 * 1024 + 1 * r.val = 1024 * (t.val / 4) + r.val))
  | ⟨1, _⟩ => exact Fin.ext (show win0_1.index t (1 : Fin 2) * 1024 + 1 * k.val = _ by rw [(i1 t).2]; exact (by omega : 0 * 1024 + 1 * k.val = k.val))

theorem blk2 (t : Fin cfg0.N) (s : Fin 2) (f : Fin 704) (k : Fin 1024) :
    (iblk m c 2 t : Vec Ideal S1x2x1x704x1024 .bf16) (ix5 0 s 0 f k)
      = (V m c main_v2 : Vec Ideal S1x2x4x704x1024 .bf16) (ix5 0 s ⟨t.val % 4, by omega⟩ f k) := by
  show V m c main_v2 _ = _
  congr 1
  funext d
  match d with
  | ⟨0, _⟩ => exact Fin.ext (show win0_2.index t (0 : Fin 5) * 1 + 1 * 0 = _ by rw [(i2 t).1]; rfl)
  | ⟨1, _⟩ => exact Fin.ext (show win0_2.index t (1 : Fin 5) * 2 + 1 * s.val = _ by rw [(i2 t).2.1]; exact (by omega : 0 * 2 + 1 * s.val = s.val))
  | ⟨2, _⟩ => exact Fin.ext (show win0_2.index t (2 : Fin 5) * 1 + 1 * 0 = _ by rw [(i2 t).2.2.1]; exact (by omega : t.val % 4 * 1 + 1 * 0 = t.val % 4))
  | ⟨3, _⟩ => exact Fin.ext (show win0_2.index t (3 : Fin 5) * 704 + 1 * f.val = _ by rw [(i2 t).2.2.2.1]; exact (by omega : 0 * 704 + 1 * f.val = f.val))
  | ⟨4, _⟩ => exact Fin.ext (show win0_2.index t (4 : Fin 5) * 1024 + 1 * k.val = _ by rw [(i2 t).2.2.2.2]; exact (by omega : 0 * 1024 + 1 * k.val = k.val))

theorem blk3 (t : Fin cfg0.N) (f : Fin 704) (k : Fin 1024) :
    (iblk m c 3 t : Vec Ideal S1x1x704x1024 .bf16) (ix4 0 0 f k)
      = (V m c main_v4 : Vec Ideal S1x4x704x1024 .bf16) (ix4 0 ⟨t.val % 4, by omega⟩ f k) := by
  show V m c main_v4 _ = _
  congr 1
  funext d
  match d with
  | ⟨0, _⟩ => exact Fin.ext (show win0_3.index t (0 : Fin 4) * 1 + 1 * 0 = _ by rw [(i3 t).1]; rfl)
  | ⟨1, _⟩ => exact Fin.ext (show win0_3.index t (1 : Fin 4) * 1 + 1 * 0 = _ by rw [(i3 t).2.1]; exact (by omega : t.val % 4 * 1 + 1 * 0 = t.val % 4))
  | ⟨2, _⟩ => exact Fin.ext (show win0_3.index t (2 : Fin 4) * 704 + 1 * f.val = _ by rw [(i3 t).2.2.1]; exact (by omega : 0 * 704 + 1 * f.val = f.val))
  | ⟨3, _⟩ => exact Fin.ext (show win0_3.index t (3 : Fin 4) * 1024 + 1 * k.val = _ by rw [(i3 t).2.2.2]; exact (by omega : 0 * 1024 + 1 * k.val = k.val))

/-! ## The arrays -/

def argsOf : Args where
  u := rd (a0 m c)
  h := rd (a1 m c)
  g0 := fun _ => 0
  g1 := fun _ => 0
  wu := rd (a2 m c)
  wd := rd (a3 m c)

/-- The reference's arrays, with gains that its two results do not read. -/
theorem holds : Ref.Holds (argsOf m c) (a0 m c) (a1 m c) (fun _ => 0) (fun _ => 0) (a2 m c) (a3 m c) where
  u i := (congrArg (a0 m c) (eq_ix2 i)).trans (rd_apply (a := 4096) (b := 1024) _ (i 0) (i 1))
  h i := (congrArg (a1 m c) (eq_ix2 i)).trans (rd_apply (a := 4096) (b := 1024) _ (i 0) (i 1))
  g0 _ := rfl
  g1 _ := rfl
  wu i := (congrArg (a2 m c) (eq_ix2 i)).trans (rd_apply (a := 1024) (b := 5632) _ (i 0) (i 1))
  wd i := (congrArg (a3 m c) (eq_ix2 i)).trans (rd_apply (a := 2816) (b := 1024) _ (i 0) (i 1))

theorem inputs : Inputs m c (argsOf m c) := by
  intro t
  have ht : t.val < 16 := lt_of_lt_of_eq t.isLt N_0
  refine ⟨fun r k => ?_, fun r k => ?_, fun s f k => ?_, fun f k => ?_, fun _ => rfl, fun _ => rfl⟩
  · exact (blk0 m c t r k (by omega)).trans (rd_apply (a := 4096) (b := 1024) (a0 m c) _ k)
  · exact (blk1 m c t r k (by omega)).trans (rd_apply (a := 4096) (b := 1024) (a1 m c) _ k)
  · refine (blk2 m c t s f k).trans ?_
    rw [V_wu]
    exact (wuArr_apply (a2 m c) s _ f k).trans (rd_apply (a := 1024) (b := 5632) (a2 m c) k _)
  · refine (blk3 m c t f k).trans ?_
    rw [V_wd]
    exact (wdArr_apply (a3 m c) _ f k).trans (rd_apply (a := 2816) (b := 1024) (a3 m c) _ k)

end Cert.Fwd.Plain

end
-- ==== Proof.Fwd.Plain.Agree.lean ====
/- The kernel's two arrays are the reference's. -/
module

public import proofs.«01_k».proof.Proof.Fwd.Plain.Inputs
public import proofs.«01_k».proof.Proof.Gen.Reference7Ideal.Read

@[expose] public section

set_option maxRecDepth 16384

noncomputable section

namespace Cert.Fwd.Plain

open Idealize.ShloMosaic Idealize.ShloMosaic.ValueIdx Idealize.ShloMosaic.TcCoe
open Idealize.SL Idealize.SL.Sem
open Cert.Kernel7Ideal Cert.Kernel7Ideal.Gen Cert.Kernel7Ideal.Value

/-! ## Which block a point stores, and when -/

theorem i4 : ∀ t : Fin grid0.N, win0_4.index t (0 : Fin 2) = t.val / 4 ∧ win0_4.index t (1 : Fin 2) = 0 := by decide +kernel
theorem last4 : ∀ t : Fin grid0.N, t.val % 4 = 3 → win0_4.flush t = true := by decide +kernel
theorem one4 : ∀ t t' : Fin grid0.N, win0_4.flush t = true → win0_4.flush t' = true → win0_4.index t = win0_4.index t' → t = t' := by decide +kernel
theorem disj4 : ∀ t t' : Fin cfg0.N, (cfg0.win 4).flush t = true → (cfg0.win 4).flush t' = true → t ≠ t' →
    Disjoint ((cfg0.win 4).blk t).view.set ((cfg0.win 4).blk t').view.set :=
  fun t t' f f' hne => (cfg0.win 4).disjoint_blk fun h => hne (one4 t t' f f' h)
theorem i5 : ∀ t : Fin grid0.N, win0_5.index t (0 : Fin 4) = 0 ∧ win0_5.index t (1 : Fin 4) = t.val % 4 ∧ win0_5.index t (2 : Fin 4) = t.val / 4
    ∧ win0_5.index t (3 : Fin 4) = 0 := by decide +kernel
theorem every5 : ∀ t : Fin grid0.N, win0_5.flush t = true := by decide +kernel

/-! ## The arrays -/

section

variable (m : (ℓ : Loc nD τ sig) → Buf (Elt Ideal) ℓ) (c : Dev nD) {A : Args} (hb : Inputs m c A)
include hb

/-- The residual stream: row block `q` is what its last point stores. -/
theorem array4 (y : S4096x1024.Idx) : ((dats m 0 c).arrAt 4 cfg0.N : Vec Ideal S4096x1024 .f32) y = HN A (y 0).val (y 1).val := by
  have h0 : (y 0).val < 4096 := (y 0).isLt
  have h1 : (y 1).val < 1024 := (y 1).isLt
  let t : Fin cfg0.N := ⟨4 * ((y 0).val / 1024) + 3, lt_of_lt_of_eq (by omega) N_0.symm⟩
  have e3 : t.val % 4 = 3 := by show (4 * ((y 0).val / 1024) + 3) % 4 = 3; omega
  have e4 : t.val / 4 = (y 0).val / 1024 := by show (4 * ((y 0).val / 1024) + 3) / 4 = _; omega
  let z : S1024x1024.Idx := ix2 (n0 := 1024) (n1 := 1024) ⟨(y 0).val % 1024, by omega⟩ (y 1)
  have h := congrFun ((dats m 0 c).read_blk_arrAt_eq_flushed 4 disj4 cfg0.N t t.isLt (last4 t e3)) z
  rw [flushed4] at h
  have hz : (outsAt0 m c t.val t.isLt).1 z = HN A (1024 * (t.val / 4) + (z 0).val) (z 1).val := ((ok_outs m c hb t.val t.isLt).hn z).trans (acc_last A t.val e3 z)
  refine Eq.trans ?_ (h.trans (Eq.trans hz ?_))
  · show (dats m 0 c).arrAt 4 cfg0.N _ = (dats m 0 c).arrAt 4 cfg0.N _
    congr 1
    funext d
    match d with
    | ⟨0, _⟩ => exact Fin.ext (show (y 0).val = win0_4.index t (0 : Fin 2) * 1024 + 1 * ((y 0).val % 1024) by rw [(i4 t).1, e4]; omega)
    | ⟨1, _⟩ => exact Fin.ext (show (y 1).val = win0_4.index t (1 : Fin 2) * 1024 + 1 * (y 1).val by rw [(i4 t).2]; omega)
  · show HN A (1024 * (t.val / 4) + (y 0).val % 1024) (y 1).val = _
    rw [e4, show 1024 * ((y 0).val / 1024) + (y 0).val % 1024 = (y 0).val by omega]

/-- The gates and ups: each point stores its own block. -/
theorem array5 (y : S2x4x4096x704.Idx) : ((dats m 0 c).arrAt 5 cfg0.N : Vec Ideal S2x4x4096x704 .bf16) y
    = GU A (y 2).val (2816 * (y 0).val + (704 * (y 1).val + (y 3).val)) := by
  have h1 : (y 1).val < 4 := (y 1).isLt
  have h2 : (y 2).val < 4096 := (y 2).isLt
  let t : Fin cfg0.N := ⟨4 * ((y 2).val / 1024) + (y 1).val, lt_of_lt_of_eq (by omega) N_0.symm⟩
  have e3 : t.val % 4 = (y 1).val := by show (4 * ((y 2).val / 1024) + (y 1).val) % 4 = _; omega
  have e4 : t.val / 4 = (y 2).val / 1024 := by show (4 * ((y 2).val / 1024) + (y 1).val) / 4 = _; omega
  let z : S2x1x1024x704.Idx := ix4 (n0 := 2) (n1 := 1) (n2 := 1024) (n3 := 704) (y 0) 0 ⟨(y 2).val % 1024, by omega⟩ (y 3)
  have h := congrFun (blocks5 m c t (every5 t)) z
  rw [flushed5] at h
  have hz : (outsAt0 m c t.val t.isLt).2 z = O7 A t.val z := (ok_outs m c hb t.val t.isLt).gu z
  refine Eq.trans ?_ (h.trans (Eq.trans hz ?_))
  · show (dats m 0 c).arrAt 5 cfg0.N _ = (dats m 0 c).arrAt 5 cfg0.N _
    congr 1
    funext d
    match d with
    | ⟨0, _⟩ => exact Fin.ext (show (y 0).val = win0_5.index t (0 : Fin 4) * 2 + 1 * (y 0).val by rw [(i5 t).1]; omega)
    | ⟨1, _⟩ => exact Fin.ext (show (y 1).val = win0_5.index t (1 : Fin 4) * 1 + 1 * 0 by rw [(i5 t).2.1, e3]; omega)
    | ⟨2, _⟩ => exact Fin.ext (show (y 2).val = win0_5.index t (2 : Fin 4) * 1024 + 1 * ((y 2).val % 1024) by rw [(i5 t).2.2.1, e4]; omega)
    | ⟨3, _⟩ => exact Fin.ext (show (y 3).val = win0_5.index t (3 : Fin 4) * 704 + 1 * (y 3).val by rw [(i5 t).2.2.2]; omega)
  · show GU A (1024 * (t.val / 4) + (y 2).val % 1024) (2816 * (y 0).val + (704 * (t.val % 4) + (y 3).val)) = _
    rw [e3, e4, show 1024 * ((y 2).val / 1024) + (y 2).val % 1024 = (y 2).val by omega]

end

/-! ## The reference's arrays -/

variable (m : (ℓ : Loc nD τ sig) → Buf (Elt Ideal) ℓ) (c : Dev nD)

theorem out0 : Cert.Reference7Ideal.Read.val_main_v7 (F := Ideal) (a0 m c) (a1 m c) (a2 m c) (a3 m c) = (dats m 0 c).arrAt 4 cfg0.N :=
  (rfl : Cert.Reference7Ideal.Read.val_main_v7 (F := Ideal) (a0 m c) (a1 m c) (a2 m c) (a3 m c) = Cert.Reference5Ideal.Read.val_main_v7 (F := Ideal) (a0 m c) (a1 m c) (a2 m c) (a3 m c)).trans
    (funext fun i => (Ref.r7 (holds m c) i).trans (array4 m c (inputs m c) i).symm)

theorem out1 : Cert.Reference7Ideal.Read.val_main_v10 (F := Ideal) (a0 m c) (a2 m c) = (dats m 0 c).arrAt 5 cfg0.N :=
  (rfl : Cert.Reference7Ideal.Read.val_main_v10 (F := Ideal) (a0 m c) (a2 m c) = Cert.Reference5Ideal.Read.val_main_v10 (F := Ideal) (a0 m c) (a2 m c)).trans
    (funext fun i => (Ref.r10 (holds m c) i).trans (array5 m c (inputs m c) i).symm)

end Cert.Fwd.Plain

end
-- ==== Proof.Layer.Product.lean ====
/- The two products of one block of rows by a square matrix, plain and by its transpose, read at an index, and the matrix
   as the calls are handed it. -/
module

public import proofs.«01_k».proof.Proof.Gen.Kernel8Ideal
public import proofs.«01_k».proof.Proof.Gen.Kernel9Ideal
public import Idealize.ShloMosaic.Lib.ValueLayout
public import Idealize.ShloMosaic.Lib.ValueLayoutCasts
public import Idealize.ShloMosaic.Lib.MatmulPlain

@[expose] public section

set_option maxRecDepth 16384

noncomputable section

namespace Cert.Layer

open Idealize.ShloMosaic Idealize.ShloMosaic.ValueIdx

abbrev Rows : Shape := ⟨2, ![4096, 1024]⟩
abbrev Square : Shape := ⟨2, ![1024, 1024]⟩
abbrev Sheet : Shape := ⟨3, ![1, 1024, 1024]⟩

open Cert.Kernel8Ideal Cert.Kernel8Ideal.Gen in
theorem dot_nn (L R : FVec Ideal Square .bf16) (r k : Fin 1024) :
    matmul dot_S1024x1024_S1024x1024_S1024x1024_1_0_0_1_n_n none L R (constant Square .f32 0x00000000#32) (ix2 r k)
      = ∑ c : Fin 1024, L (ix2 r c) * R (ix2 c k) := by
  refine (Ideal.matmul_constant_zero_apply _ none L R (ix2 r k)).trans ?_
  rw [← (contrEquiv1 dot_S1024x1024_S1024x1024_S1024x1024_1_0_0_1_n_n 1024 rfl rfl).symm.sum_comp]
  refine Finset.sum_congr rfl fun c _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

open Cert.Kernel9Ideal Cert.Kernel9Ideal.Gen in
theorem dot_nt (L R : FVec Ideal Square .bf16) (r k : Fin 1024) :
    matmul dot_S1024x1024_S1024x1024_S1024x1024_1_1_0_0_n_n none L R (constant Square .f32 0x00000000#32) (ix2 r k)
      = ∑ c : Fin 1024, L (ix2 r c) * R (ix2 k c) := by
  refine (Ideal.matmul_constant_zero_apply _ none L R (ix2 r k)).trans ?_
  rw [← (contrEquiv1 dot_S1024x1024_S1024x1024_S1024x1024_1_1_0_0_n_n 1024 rfl rfl).symm.sum_comp]
  refine Finset.sum_congr rfl fun c _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- A matrix under a leading axis of one, without that axis. -/
theorem sheet_apply (x : FVec Ideal Sheet .bf16) (h : Sheet.ShapeCasts Square) (r k : Fin 1024) :
    shapeCast Square x h (ix2 r k) = x (ix3 0 r k) := by
  refine shapeCast_apply _ _ _ (ix3 0 r k) ?_
  rw [Shape.rowMajor_val_two, Shape.rowMajor_val_three]
  show (0 * 1024 + r.val) * 1024 + k.val = r.val * 1024 + k.val
  omega

/-- Row `r` of the whole array is row `r % 1024` of block `r / 1024`. -/
theorem row_eq (r : Fin 4096) : 1024 * (r.val / 1024) + r.val % 1024 = r.val := by omega

end Cert.Layer

end
-- ==== Proof.Layer.Query.lean ====
/- The attention's query projection: each of the 4 points stores 1024 rows of the product of the layer's input and the
   weights, and the reference's result is the same sum. -/
module

public import proofs.«01_k».proof.Proof.Gen.Kernel8Ideal.Value
public import proofs.«01_k».proof.Proof.Gen.Reference8Ideal.Read
public import proofs.«01_k».proof.Proof.Layer.Product
public import Idealize.ShloMosaic.Lib.Pipeline.ValueKit.Basic
public import Idealize.ShloMosaic.Lib.StableHlo.RunRead

@[expose] public section

set_option maxRecDepth 16384

noncomputable section

namespace Cert.Layer.Query

open Idealize.ShloMosaic Idealize.ShloMosaic.ValueIdx Idealize.ShloMosaic.TcCoe
open Idealize.SL Idealize.SL.Sem
open Cert.Kernel8Ideal Cert.Kernel8Ideal.Gen Cert.Kernel8Ideal.Value

/-! ## One point -/

/-- What a point leaves in the buffer it stores, from the rows and the weights it reads. -/
theorem out_apply (x0 : Vec Ideal S1024x1024 .bf16) (x1 : Vec Ideal S1x1024x1024 .bf16) (r k : Fin 1024) :
    out0_2 x0 x1 (ix2 r k) = ∑ c : Fin 1024, x0 (ix2 r c) * x1 (ix3 0 c k) := by
  unfold out0_2
  rw [View.canon_cons_unit_lit _ _ _ fun a => by match a with | ⟨0, _⟩ => rfl | ⟨1, _⟩ => rfl]
  rw [View.ld_unit_lit _ x0 fun a => by match a with | ⟨0, _⟩ => rfl | ⟨1, _⟩ => rfl]
  rw [View.ld_unit_lit _ x1 fun a => by match a with | ⟨0, _⟩ => rfl | ⟨1, _⟩ => rfl | ⟨2, _⟩ => rfl]
  exact (dot_nn x0 _ r k).trans (Finset.sum_congr rfl fun c _ => congrArg (x0 (ix2 r c) * ·) (sheet_apply x1 _ c k))

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S1024x1024 .f32 := m ((c : Thread nD τ).loc main_arg1)

set_option maxHeartbeats 4000000 in
/-- The weights as the call is handed them. -/
theorem V_rhs (a b : Fin 1024) : (V m c main_v1 : Vec Ideal S1x1024x1024 .bf16) (ix3 0 a b) = rhs m c (ix2 a b) := by
  have h : (V m c main_v1 : Vec Ideal S1x1024x1024 .bf16)
      = broadcastInDim S1x1024x1024 ![1, 2] bcast_S1024x1024_S1x1024x1024_1_2 (rhs m c : Vec Ideal S1024x1024 .bf16) := by
    show StableHlo.after (List.flatten [hostOps0]) _ (Proc.devRef .tc main_v1) = _
    simp only [List.flatten_cons, List.flatten_nil, List.append_nil]
    after_reads_simp
    rfl
  rw [h]
  exact broadcastInDim_apply _ _ _ _ _ fun d => by
    match d with
    | ⟨0, _⟩ => rfl
    | ⟨1, _⟩ => rfl

theorem i0 : ∀ t : Fin grid0.N, win0_0.index t (0 : Fin 2) = t.val ∧ win0_0.index t (1 : Fin 2) = 0 := by decide +kernel
theorem i1 : ∀ t : Fin grid0.N, win0_1.index t (0 : Fin 3) = 0 ∧ win0_1.index t (1 : Fin 3) = 0 ∧ win0_1.index t (2 : Fin 3) = 0 := by decide +kernel
theorem i2 : ∀ t : Fin grid0.N, win0_2.index t (0 : Fin 2) = t.val ∧ win0_2.index t (1 : Fin 2) = 0 := by decide +kernel
theorem stores : ∀ t : Fin grid0.N, win0_2.flush t = true := by decide +kernel

theorem blk0 (t : Fin cfg0.N) (ht : t.val < 4) (r k : Fin 1024) :
    (iblk m c 0 t : Vec Ideal S1024x1024 .bf16) (ix2 r k) = lhs m c (ix2 ⟨1024 * t.val + r.val, by omega⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val * 1024 + 1 * r.val = 1024 * t.val + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (a b : Fin 1024) :
    (iblk m c 1 t : Vec Ideal S1x1024x1024 .bf16) (ix3 0 a b) = rhs m c (ix2 a b) := by
  refine Eq.trans ?_ (V_rhs m c a b)
  show V m c main_v1 _ = _
  congr 1
  funext d
  match d with
  | ⟨0, _⟩ => exact Fin.ext (show win0_1.index t (0 : Fin 3) * 1 + 1 * 0 = _ by rw [(i1 t).1]; rfl)
  | ⟨1, _⟩ => exact Fin.ext (show win0_1.index t (1 : Fin 3) * 1024 + 1 * a.val = _ by rw [(i1 t).2.1]; exact (by omega : 0 * 1024 + 1 * a.val = a.val))
  | ⟨2, _⟩ => exact Fin.ext (show win0_1.index t (2 : Fin 3) * 1024 + 1 * b.val = _ by rw [(i1 t).2.2]; exact (by omega : 0 * 1024 + 1 * b.val = b.val))

/-! ## The array -/

/-- Rows `1024 t` to `1024 t + 1023` of the result are what point `t` stores. -/
theorem array_apply (j : Fin 4) (r k : Fin 1024) :
    ((dats m 0 c).arrAt 2 cfg0.N : Vec Ideal S4096x1024 .bf16) (ix2 ⟨1024 * j.val + r.val, by omega⟩ k)
      = ∑ n : Fin 1024, lhs m c (ix2 ⟨1024 * j.val + r.val, by omega⟩ n) * rhs m c (ix2 n k) := by
  let t : Fin cfg0.N := ⟨j.val, lt_of_lt_of_eq j.isLt N_0.symm⟩
  have h := congrFun (blocks2 m c t (stores t)) (ix2 (n0 := 1024) (n1 := 1024) r k)
  rw [flushed2] at h
  refine Eq.trans ?_ (h.trans ((out_apply _ _ r k).trans (Finset.sum_congr rfl fun n _ => congrArg₂ (· * ·) (blk0 m c t j.isLt r n) (blk1 m c t n k))))
  show (dats m 0 c).arrAt 2 cfg0.N _ = (dats m 0 c).arrAt 2 cfg0.N _
  congr 1
  funext d
  match d with
  | ⟨0, _⟩ => exact Fin.ext (show _ = win0_2.index t (0 : Fin 2) * 1024 + 1 * r.val by rw [(i2 t).1]; exact (by omega : 1024 * j.val + r.val = j.val * 1024 + 1 * r.val))
  | ⟨1, _⟩ => exact Fin.ext (show _ = win0_2.index t (1 : Fin 2) * 1024 + 1 * k.val by rw [(i2 t).2]; exact (by omega : k.val = 0 * 1024 + 1 * k.val))

/-! ## The reference -/

open Cert.Reference8Ideal.Read in
theorem ref_apply (a : Vec Ideal S4096x1024 .bf16) (w : Vec Ideal S1024x1024 .f32) (r : Fin 4096) (k : Fin 1024) :
    (val_main_v2 (F := Ideal) a w : Vec Ideal S4096x1024 .bf16) (ix2 r k) = ∑ n : Fin 1024, a (ix2 r n) * w (ix2 n k) := by
  refine (val_main_v1_apply a w (ix2 r k)).trans (Finset.sum_congr rfl fun n _ => congrArg₂ (· * ·) (congrArg a ?_) (congrArg w ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference8Ideal.Read.val_main_v2 (F := Ideal) (lhs m c) (rhs m c) = (dats m 0 c).arrAt 2 cfg0.N :=
  funext fun (i : S4096x1024.Idx) => by
    obtain ⟨r, k, rfl⟩ : ∃ (r : Fin 4096) (k : Fin 1024), i = ix2 r k := ⟨i 0, i 1, eq_ix2 i⟩
    have e : r = (⟨1024 * (r.val / 1024) + r.val % 1024, (row_eq r).symm ▸ r.isLt⟩ : Fin 4096) := Fin.ext (row_eq r).symm
    rw [e]
    exact (ref_apply _ _ _ k).trans (array_apply m c ⟨r.val / 1024, by omega⟩ ⟨r.val % 1024, by omega⟩ k).symm

end Cert.Layer.Query

end
-- ==== Proof.Layer.Out.lean ====
/- The cotangent of the attention's output projection: each of the 4 points stores 1024 rows of the product of the
   residual stream's cotangent and the transposed weights, and the reference's result is the same sum. -/
module

public import proofs.«01_k».proof.Proof.Gen.Kernel9Ideal.Value
public import proofs.«01_k».proof.Proof.Gen.Reference9Ideal.Read
public import proofs.«01_k».proof.Proof.Layer.Product
public import Idealize.ShloMosaic.Lib.Pipeline.ValueKit.Basic
public import Idealize.ShloMosaic.Lib.StableHlo.RunRead

@[expose] public section

set_option maxRecDepth 16384

noncomputable section

namespace Cert.Layer.Out

open Idealize.ShloMosaic Idealize.ShloMosaic.ValueIdx Idealize.ShloMosaic.TcCoe
open Idealize.SL Idealize.SL.Sem
open Cert.Kernel9Ideal Cert.Kernel9Ideal.Gen Cert.Kernel9Ideal.Value

/-! ## One point -/

/-- What a point leaves in the buffer it stores, from the rows and the weights it reads. -/
theorem out_apply (x0 : Vec Ideal S1024x1024 .f32) (x1 : Vec Ideal S1x1024x1024 .bf16) (r k : Fin 1024) :
    out0_2 x0 x1 (ix2 r k) = ∑ c : Fin 1024, x0 (ix2 r c) * x1 (ix3 0 k c) := by
  unfold out0_2
  rw [View.canon_cons_unit_lit _ _ _ fun a => by match a with | ⟨0, _⟩ => rfl | ⟨1, _⟩ => rfl]
  rw [View.ld_unit_lit _ x0 fun a => by match a with | ⟨0, _⟩ => rfl | ⟨1, _⟩ => rfl]
  rw [View.ld_unit_lit _ x1 fun a => by match a with | ⟨0, _⟩ => rfl | ⟨1, _⟩ => rfl | ⟨2, _⟩ => rfl]
  exact (dot_nt x0 _ r k).trans (Finset.sum_congr rfl fun c _ => congrArg (x0 (ix2 r c) * ·) (sheet_apply x1 _ k c))

/-! ## The blocks -/

variable (m : (ℓ : Loc nD τ sig) → Buf (Elt Ideal) ℓ) (c : Dev nD)

abbrev lhs : Vec Ideal S4096x1024 .f32 := m ((c : Thread nD τ).loc main_arg0)
abbrev rhs : Vec Ideal S1024x1024 .f32 := m ((c : Thread nD τ).loc main_arg1)

set_option maxHeartbeats 4000000 in
/-- The weights as the call is handed them. -/
theorem V_rhs (a b : Fin 1024) : (V m c main_v1 : Vec Ideal S1x1024x1024 .bf16) (ix3 0 a b) = rhs m c (ix2 a b) := by
  have h : (V m c main_v1 : Vec Ideal S1x1024x1024 .bf16)
      = broadcastInDim S1x1024x1024 ![1, 2] bcast_S1024x1024_S1x1024x1024_1_2 (rhs m c : Vec Ideal S1024x1024 .bf16) := by
    show StableHlo.after (List.flatten [hostOps0]) _ (Proc.devRef .tc main_v1) = _
    simp only [List.flatten_cons, List.flatten_nil, List.append_nil]
    after_reads_simp
    rfl
  rw [h]
  exact broadcastInDim_apply _ _ _ _ _ fun d => by
    match d with
    | ⟨0, _⟩ => rfl
    | ⟨1, _⟩ => rfl

theorem i0 : ∀ t : Fin grid0.N, win0_0.index t (0 : Fin 2) = t.val ∧ win0_0.index t (1 : Fin 2) = 0 := by decide +kernel
theorem i1 : ∀ t : Fin grid0.N, win0_1.index t (0 : Fin 3) = 0 ∧ win0_1.index t (1 : Fin 3) = 0 ∧ win0_1.index t (2 : Fin 3) = 0 := by decide +kernel
theorem i2 : ∀ t : Fin grid0.N, win0_2.index t (0 : Fin 2) = t.val ∧ win0_2.index t (1 : Fin 2) = 0 := by decide +kernel
theorem stores : ∀ t : Fin grid0.N, win0_2.flush t = true := by decide +kernel

theorem blk0 (t : Fin cfg0.N) (ht : t.val < 4) (r k : Fin 1024) :
    (iblk m c 0 t : Vec Ideal S1024x1024 .f32) (ix2 r k) = lhs m c (ix2 ⟨1024 * t.val + r.val, by omega⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val * 1024 + 1 * r.val = 1024 * t.val + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (a b : Fin 1024) :
    (iblk m c 1 t : Vec Ideal S1x1024x1024 .bf16) (ix3 0 a b) = rhs m c (ix2 a b) := by
  refine Eq.trans ?_ (V_rhs m c a b)
  show V m c main_v1 _ = _
  congr 1
  funext d
  match d with
  | ⟨0, _⟩ => exact Fin.ext (show win0_1.index t (0 : Fin 3) * 1 + 1 * 0 = _ by rw [(i1 t).1]; rfl)
  | ⟨1, _⟩ => exact Fin.ext (show win0_1.index t (1 : Fin 3) * 1024 + 1 * a.val = _ by rw [(i1 t).2.1]; exact (by omega : 0 * 1024 + 1 * a.val = a.val))
  | ⟨2, _⟩ => exact Fin.ext (show win0_1.index t (2 : Fin 3) * 1024 + 1 * b.val = _ by rw [(i1 t).2.2]; exact (by omega : 0 * 1024 + 1 * b.val = b.val))

/-! ## The array -/

/-- Rows `1024 t` to `1024 t + 1023` of the result are what point `t` stores. -/
theorem array_apply (j : Fin 4) (r k : Fin 1024) :
    ((dats m 0 c).arrAt 2 cfg0.N : Vec Ideal S4096x1024 .bf16) (ix2 ⟨1024 * j.val + r.val, by omega⟩ k)
      = ∑ n : Fin 1024, lhs m c (ix2 ⟨1024 * j.val + r.val, by omega⟩ n) * rhs m c (ix2 k n) := by
  let t : Fin cfg0.N := ⟨j.val, lt_of_lt_of_eq j.isLt N_0.symm⟩
  have h := congrFun (blocks2 m c t (stores t)) (ix2 (n0 := 1024) (n1 := 1024) r k)
  rw [flushed2] at h
  refine Eq.trans ?_ (h.trans ((out_apply _ _ r k).trans (Finset.sum_congr rfl fun n _ => congrArg₂ (· * ·) (blk0 m c t j.isLt r n) (blk1 m c t k n))))
  show (dats m 0 c).arrAt 2 cfg0.N _ = (dats m 0 c).arrAt 2 cfg0.N _
  congr 1
  funext d
  match d with
  | ⟨0, _⟩ => exact Fin.ext (show _ = win0_2.index t (0 : Fin 2) * 1024 + 1 * r.val by rw [(i2 t).1]; exact (by omega : 1024 * j.val + r.val = j.val * 1024 + 1 * r.val))
  | ⟨1, _⟩ => exact Fin.ext (show _ = win0_2.index t (1 : Fin 2) * 1024 + 1 * k.val by rw [(i2 t).2]; exact (by omega : k.val = 0 * 1024 + 1 * k.val))

/-! ## The reference -/

open Cert.Reference9Ideal.Read in
theorem ref_apply (a : Vec Ideal S4096x1024 .f32) (w : Vec Ideal S1024x1024 .f32) (r : Fin 4096) (k : Fin 1024) :
    (val_main_v3 (F := Ideal) a w : Vec Ideal S4096x1024 .bf16) (ix2 r k) = ∑ n : Fin 1024, a (ix2 r n) * w (ix2 k n) := by
  refine (val_main_v2_apply a w (ix2 r k)).trans (Finset.sum_congr rfl fun n _ => congrArg₂ (· * ·) (congrArg a ?_) (congrArg w ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference9Ideal.Read.val_main_v3 (F := Ideal) (lhs m c) (rhs m c) = (dats m 0 c).arrAt 2 cfg0.N :=
  funext fun (i : S4096x1024.Idx) => by
    obtain ⟨r, k, rfl⟩ : ∃ (r : Fin 4096) (k : Fin 1024), i = ix2 r k := ⟨i 0, i 1, eq_ix2 i⟩
    have e : r = (⟨1024 * (r.val / 1024) + r.val % 1024, (row_eq r).symm ▸ r.isLt⟩ : Fin 4096) := Fin.ext (row_eq r).symm
    rw [e]
    exact (ref_apply _ _ _ k).trans (array_apply m c ⟨r.val / 1024, by omega⟩ ⟨r.val % 1024, by omega⟩ k).symm

end Cert.Layer.Out

end
-- ==== Proof.Layer.Pointwise.lean ====
/- The cotangent of the convolution's second pointwise product: each of the 4 points stores 1024 rows of the product of
   the residual stream's cotangent and the transposed weights, and the reference's result is the same sum. -/
module

public import proofs.«01_k».proof.Proof.Gen.Kernel10Ideal.Value
public import proofs.«01_k».proof.Proof.Gen.Reference10Ideal.Read
public import proofs.«01_k».proof.Proof.Layer.Product
public import Idealize.ShloMosaic.Lib.Pipeline.ValueKit.Basic
public import Idealize.ShloMosaic.Lib.StableHlo.RunRead

@[expose] public section

set_option maxRecDepth 16384

noncomputable section

namespace Cert.Layer.Pointwise

open Idealize.ShloMosaic Idealize.ShloMosaic.ValueIdx Idealize.ShloMosaic.TcCoe
open Idealize.SL Idealize.SL.Sem
open Cert.Kernel10Ideal Cert.Kernel10Ideal.Gen Cert.Kernel10Ideal.Value

/-! ## One point -/

/-- What a point leaves in the buffer it stores, from the rows and the weights it reads. -/
theorem out_apply (x0 : Vec Ideal S1024x1024 .f32) (x1 : Vec Ideal S1x1024x1024 .bf16) (r k : Fin 1024) :
    out0_2 x0 x1 (ix2 r k) = ∑ c : Fin 1024, x0 (ix2 r c) * x1 (ix3 0 k c) := by
  unfold out0_2
  rw [View.canon_cons_unit_lit _ _ _ fun a => by match a with | ⟨0, _⟩ => rfl | ⟨1, _⟩ => rfl]
  rw [View.ld_unit_lit _ x0 fun a => by match a with | ⟨0, _⟩ => rfl | ⟨1, _⟩ => rfl]
  rw [View.ld_unit_lit _ x1 fun a => by match a with | ⟨0, _⟩ => rfl | ⟨1, _⟩ => rfl | ⟨2, _⟩ => rfl]
  exact (dot_nt x0 _ r k).trans (Finset.sum_congr rfl fun c _ => congrArg (x0 (ix2 r c) * ·) (sheet_apply x1 _ k c))

/-! ## The blocks -/

variable (m : (ℓ : Loc nD τ sig) → Buf (Elt Ideal) ℓ) (c : Dev nD)

abbrev lhs : Vec Ideal S4096x1024 .f32 := m ((c : Thread nD τ).loc main_arg0)
abbrev rhs : Vec Ideal S1024x1024 .f32 := m ((c : Thread nD τ).loc main_arg1)

set_option maxHeartbeats 4000000 in
/-- The weights as the call is handed them. -/
theorem V_rhs (a b : Fin 1024) : (V m c main_v1 : Vec Ideal S1x1024x1024 .bf16) (ix3 0 a b) = rhs m c (ix2 a b) := by
  have h : (V m c main_v1 : Vec Ideal S1x1024x1024 .bf16)
      = broadcastInDim S1x1024x1024 ![1, 2] bcast_S1024x1024_S1x1024x1024_1_2 (rhs m c : Vec Ideal S1024x1024 .bf16) := by
    show StableHlo.after (List.flatten [hostOps0]) _ (Proc.devRef .tc main_v1) = _
    simp only [List.flatten_cons, List.flatten_nil, List.append_nil]
    after_reads_simp
    rfl
  rw [h]
  exact broadcastInDim_apply _ _ _ _ _ fun d => by
    match d with
    | ⟨0, _⟩ => rfl
    | ⟨1, _⟩ => rfl

theorem i0 : ∀ t : Fin grid0.N, win0_0.index t (0 : Fin 2) = t.val ∧ win0_0.index t (1 : Fin 2) = 0 := by decide +kernel
theorem i1 : ∀ t : Fin grid0.N, win0_1.index t (0 : Fin 3) = 0 ∧ win0_1.index t (1 : Fin 3) = 0 ∧ win0_1.index t (2 : Fin 3) = 0 := by decide +kernel
theorem i2 : ∀ t : Fin grid0.N, win0_2.index t (0 : Fin 2) = t.val ∧ win0_2.index t (1 : Fin 2) = 0 := by decide +kernel
theorem stores : ∀ t : Fin grid0.N, win0_2.flush t = true := by decide +kernel

theorem blk0 (t : Fin cfg0.N) (ht : t.val < 4) (r k : Fin 1024) :
    (iblk m c 0 t : Vec Ideal S1024x1024 .f32) (ix2 r k) = lhs m c (ix2 ⟨1024 * t.val + r.val, by omega⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val * 1024 + 1 * r.val = 1024 * t.val + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (a b : Fin 1024) :
    (iblk m c 1 t : Vec Ideal S1x1024x1024 .bf16) (ix3 0 a b) = rhs m c (ix2 a b) := by
  refine Eq.trans ?_ (V_rhs m c a b)
  show V m c main_v1 _ = _
  congr 1
  funext d
  match d with
  | ⟨0, _⟩ => exact Fin.ext (show win0_1.index t (0 : Fin 3) * 1 + 1 * 0 = _ by rw [(i1 t).1]; rfl)
  | ⟨1, _⟩ => exact Fin.ext (show win0_1.index t (1 : Fin 3) * 1024 + 1 * a.val = _ by rw [(i1 t).2.1]; exact (by omega : 0 * 1024 + 1 * a.val = a.val))
  | ⟨2, _⟩ => exact Fin.ext (show win0_1.index t (2 : Fin 3) * 1024 + 1 * b.val = _ by rw [(i1 t).2.2]; exact (by omega : 0 * 1024 + 1 * b.val = b.val))

/-! ## The array -/

/-- Rows `1024 t` to `1024 t + 1023` of the result are what point `t` stores. -/
theorem array_apply (j : Fin 4) (r k : Fin 1024) :
    ((dats m 0 c).arrAt 2 cfg0.N : Vec Ideal S4096x1024 .f32) (ix2 ⟨1024 * j.val + r.val, by omega⟩ k)
      = ∑ n : Fin 1024, lhs m c (ix2 ⟨1024 * j.val + r.val, by omega⟩ n) * rhs m c (ix2 k n) := by
  let t : Fin cfg0.N := ⟨j.val, lt_of_lt_of_eq j.isLt N_0.symm⟩
  have h := congrFun (blocks2 m c t (stores t)) (ix2 (n0 := 1024) (n1 := 1024) r k)
  rw [flushed2] at h
  refine Eq.trans ?_ (h.trans ((out_apply _ _ r k).trans (Finset.sum_congr rfl fun n _ => congrArg₂ (· * ·) (blk0 m c t j.isLt r n) (blk1 m c t k n))))
  show (dats m 0 c).arrAt 2 cfg0.N _ = (dats m 0 c).arrAt 2 cfg0.N _
  congr 1
  funext d
  match d with
  | ⟨0, _⟩ => exact Fin.ext (show _ = win0_2.index t (0 : Fin 2) * 1024 + 1 * r.val by rw [(i2 t).1]; exact (by omega : 1024 * j.val + r.val = j.val * 1024 + 1 * r.val))
  | ⟨1, _⟩ => exact Fin.ext (show _ = win0_2.index t (1 : Fin 2) * 1024 + 1 * k.val by rw [(i2 t).2]; exact (by omega : k.val = 0 * 1024 + 1 * k.val))

/-! ## The reference -/

open Cert.Reference10Ideal.Read in
theorem ref_apply (a : Vec Ideal S4096x1024 .f32) (w : Vec Ideal S1024x1024 .f32) (r : Fin 4096) (k : Fin 1024) :
    (val_main_v2 (F := Ideal) a w : Vec Ideal S4096x1024 .f32) (ix2 r k) = ∑ n : Fin 1024, a (ix2 r n) * w (ix2 k n) := by
  refine (val_main_v2_apply a w (ix2 r k)).trans (Finset.sum_congr rfl fun n _ => congrArg₂ (· * ·) (congrArg a ?_) (congrArg w ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference10Ideal.Read.val_main_v2 (F := Ideal) (lhs m c) (rhs m c) = (dats m 0 c).arrAt 2 cfg0.N :=
  funext fun (i : S4096x1024.Idx) => by
    obtain ⟨r, k, rfl⟩ : ∃ (r : Fin 4096) (k : Fin 1024), i = ix2 r k := ⟨i 0, i 1, eq_ix2 i⟩
    have e : r = (⟨1024 * (r.val / 1024) + r.val % 1024, (row_eq r).symm ▸ r.isLt⟩ : Fin 4096) := Fin.ext (row_eq r).symm
    rw [e]
    exact (ref_apply _ _ _ k).trans (array_apply m c ⟨r.val / 1024, by omega⟩ ⟨r.val % 1024, by omega⟩ k).symm

end Cert.Layer.Pointwise

end
-- ==== Proof.Layer.Expand.lean ====
/- The convolution's first pointwise product: each of the 4 points stores 1024 rows of the product of the layer's input
   and the weights plus the bias, in 4 slices of rows by 8 groups of columns, and the reference's result is the same sum. -/
module

public import proofs.«01_k».proof.Proof.Gen.Kernel11Ideal.Value
public import proofs.«01_k».proof.Proof.Gen.Reference11Ideal.Read
public import proofs.«01_k».proof.Proof.Layer.Product
public import Idealize.ShloMosaic.Lib.Pipeline.ReadBack
public import Idealize.ShloMosaic.Lib.Pipeline.ValueKit.Basic
public import Idealize.ShloMosaic.Lib.StableHlo.RunRead

@[expose] public section

set_option maxRecDepth 16384

noncomputable section

namespace Cert.Layer.Expand

open Idealize.ShloMosaic Idealize.ShloMosaic.ValueIdx Idealize.ShloMosaic.TcCoe
open Idealize.SL Idealize.SL.Sem
open Cert.Kernel11Ideal Cert.Kernel11Ideal.Gen Cert.Kernel11Ideal.Value

/-! ## One slice by one group -/

theorem dot_slice (L : FVec Ideal S256x1024 .bf16) (R : FVec Ideal S1024x256 .bf16) (r k : Fin 256) :
    matmul dot_S256x1024_S1024x256_S256x256_1_0_0_1_n_n none L R (constant S256x256 .f32 0x00000000#32) (ix2 r k)
      = ∑ n : Fin 1024, L (ix2 r n) * R (ix2 n k) := by
  refine (Ideal.matmul_constant_zero_apply _ none L R (ix2 r k)).trans ?_
  rw [← (contrEquiv1 dot_S256x1024_S1024x256_S256x256_1_0_0_1_n_n 1024 rfl rfl).symm.sum_comp]
  refine Finset.sum_congr rfl fun n _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- What is stored of one slice of rows and one group of columns. -/
theorem pay_apply (v : FVec Ideal S256x1024 .bf16) (w : FVec Ideal S1x1x1024x256 .bf16) (b : FVec Ideal S1x1x256 .f32) (r k : Fin 256) :
    k0_pay1 v w b (ix2 r k) = (∑ n : Fin 1024, v (ix2 r n) * w (ix4 0 0 n k)) + b (ix3 0 0 k) := by
  show matmul dot_S256x1024_S1024x256_S256x256_1_0_0_1_n_n none v (shapeCast S1024x256 w shapeCasts_S1x1x1024x256_S1024x256)
      (constant S256x256 .f32 0x00000000#32) (ix2 r k)
    + broadcastTo S256x256 (shapeCast S1x256 b shapeCasts_S1x1x256_S1x256) broadcasts_S1x256_S256x256 (ix2 r k) = _
  refine congrArg₂ (· + ·) ((dot_slice _ _ r k).trans (Finset.sum_congr rfl fun n _ => congrArg (v (ix2 r n) * ·)
    (shapeCast_apply _ _ _ (ix4 0 0 n k) ?_))) ?_
  · rw [Shape.rowMajor_val_two, Shape.rowMajor_val_four]
    show ((0 * 1 + 0) * 1024 + n.val) * 256 + k.val = n.val * 256 + k.val
    omega
  · refine (broadcastTo_apply _ broadcasts_S1x256_S256x256 _ (ix2 0 k) fun a => ?_).trans (shapeCast_apply _ _ _ (ix3 0 0 k) ?_)
    · match a with
      | ⟨0, _⟩ => rfl
      | ⟨1, _⟩ => rfl
    · rw [Shape.rowMajor_val_two, Shape.rowMajor_val_three]
      show (0 * 1 + 0) * 256 + k.val = 0 * 256 + k.val
      omega

/-! ## One point -/

section
variable (x0 : Vec Ideal S1024x1024 .bf16) (x1 : Vec Ideal S1x8x1024x256 .bf16) (x2 : Vec Ideal S1x1x2048 .f32)

/-- The point's 1024 rows: the product with the weights, kept as 8 groups of 256 columns, plus the bias. -/
def result (y : S1024x2048.Idx) : EReal :=
  (∑ n : Fin 1024, x0 (ix2 (y 0) n) * x1 (ix4 0 ⟨(y 1).val / 256, by have : (y 1).val < 2048 := (y 1).isLt; omega⟩ n ⟨(y 1).val % 256, by omega⟩))
    + x2 (ix3 0 0 (y 1))

theorem inbX (s : Fin 4) : ∀ a : Fin 2, (![256 * s.val, 0] : Fin 2 → ℕ) a + S256x1024.size a ≤ S1024x1024.size a := by decide +revert
theorem inbW (j : Fin 8) : ∀ a : Fin 4, (![0, j.val, 0, 0] : Fin 4 → ℕ) a + S1x1x1024x256.size a ≤ S1x8x1024x256.size a := by decide +revert
theorem inbB (j : Fin 8) : ∀ a : Fin 3, (![0, 0, 256 * j.val] : Fin 3 → ℕ) a + S1x1x256.size a ≤ S1x1x2048.size a := by decide +revert
theorem inbO (s : Fin 4) (j : Fin 8) : ∀ a : Fin 2, (![256 * s.val, 256 * j.val] : Fin 2 → ℕ) a + S256x256.size a ≤ S1024x2048.size a := by decide +revert

abbrev rX (s : Fin 4) : Rect S1024x1024 := Rect.unit ![256 * s.val, 0] S256x1024.size (inbX s)
abbrev rW (j : Fin 8) : Rect S1x8x1024x256 := Rect.unit ![0, j.val, 0, 0] S1x1x1024x256.size (inbW j)
abbrev rB (j : Fin 8) : Rect S1x1x2048 := Rect.unit ![0, 0, 256 * j.val] S1x1x256.size (inbB j)
abbrev rO (s : Fin 4) (j : Fin 8) : Rect S1024x2048 := Rect.unit ![256 * s.val, 256 * j.val] S256x256.size (inbO s j)

/-- The store of slice `s` of the rows and group `j` of the columns. -/
def piece (s : Fin 4) (j : Fin 8) : View.Piece (Elt Ideal) S1024x2048 .bf16 :=
  ⟨rO s j, k0_pay1 (View.ld x0 (rX s)) (View.ld x1 (rW j)) (View.ld x2 (rB j))⟩

/-- The stores of slice `s`, the last one first. -/
def slice (s : Fin 4) : List (View.Piece (Elt Ideal) S1024x2048 .bf16) :=
  [piece x0 x1 x2 s 7, piece x0 x1 x2 s 6, piece x0 x1 x2 s 5, piece x0 x1 x2 s 4, piece x0 x1 x2 s 3, piece x0 x1 x2 s 2, piece x0 x1 x2 s 1, piece x0 x1 x2 s 0]

def pieces : List (View.Piece (Elt Ideal) S1024x2048 .bf16) :=
  slice x0 x1 x2 3 ++ (slice x0 x1 x2 2 ++ (slice x0 x1 x2 1 ++ slice x0 x1 x2 0))

theorem out_eq : out0_3 x0 x1 x2 = View.canon (pieces x0 x1 x2) := rfl

theorem mem_slice (s : Fin 4) (j : Fin 8) : piece x0 x1 x2 s j ∈ slice x0 x1 x2 s := by
  unfold slice
  match j with
  | 0 => simp only [List.mem_cons, true_or, or_true]
  | 1 => simp only [List.mem_cons, true_or, or_true]
  | 2 => simp only [List.mem_cons, true_or, or_true]
  | 3 => simp only [List.mem_cons, true_or, or_true]
  | 4 => simp only [List.mem_cons, true_or, or_true]
  | 5 => simp only [List.mem_cons, true_or, or_true]
  | 6 => simp only [List.mem_cons, true_or, or_true]
  | 7 => simp only [List.mem_cons, true_or, or_true]

theorem mem_pieces (s : Fin 4) (j : Fin 8) : piece x0 x1 x2 s j ∈ pieces x0 x1 x2 := by
  have h := mem_slice x0 x1 x2 s j
  unfold pieces
  match s with
  | 0 => simp only [List.mem_append, h, true_or, or_true]
  | 1 => simp only [List.mem_append, h, true_or, or_true]
  | 2 => simp only [List.mem_append, h, true_or, or_true]
  | 3 => simp only [List.mem_append, h, true_or, or_true]

theorem piece_apply (s : Fin 4) (j : Fin 8) (x : (rO s j).shape.Idx) : (piece x0 x1 x2 s j).2 x = result x0 x1 x2 ((rO s j).emb x) := by
  obtain ⟨r, k, rfl⟩ : ∃ (r k : Fin 256), x = ix2 r k := ⟨x 0, x 1, eq_ix2 x⟩
  refine (pay_apply _ _ _ r k).trans (congrArg₂ (· + ·) (Finset.sum_congr rfl fun n _ => congrArg₂ (· * ·) (congrArg x0 ?_) (congrArg x1 ?_)) (congrArg x2 ?_))
  · funext a
    match a with
    | ⟨0, _⟩ => rfl
    | ⟨1, _⟩ => exact Fin.ext (show 0 + 1 * n.val = n.val by omega)
  · funext a
    match a with
    | ⟨0, _⟩ => rfl
    | ⟨1, _⟩ => exact Fin.ext (show j.val + 1 * 0 = (256 * j.val + 1 * k.val) / 256 by omega)
    | ⟨2, _⟩ => exact Fin.ext (show 0 + 1 * n.val = n.val by omega)
    | ⟨3, _⟩ => exact Fin.ext (show 0 + 1 * k.val = (256 * j.val + 1 * k.val) % 256 by omega)
  · funext a
    match a with
    | ⟨0, _⟩ => rfl
    | ⟨1, _⟩ => rfl
    | ⟨2, _⟩ => rfl

theorem mem_rO (y : S1024x2048.Idx) (s : Fin 4) (j : Fin 8) (h0 : (y 0).val / 256 = s.val) (h1 : (y 1).val / 256 = j.val) : y ∈ (rO s j).set := by
  refine Rect.mem_set_unit.mpr fun a => ?_
  match a with
  | ⟨0, _⟩ => exact ⟨show 256 * s.val ≤ (y 0).val by omega, show (y 0).val < 256 * s.val + 256 by omega⟩
  | ⟨1, _⟩ => exact ⟨show 256 * j.val ≤ (y 1).val by omega, show (y 1).val < 256 * j.val + 256 by omega⟩

/-- What a point leaves in the buffer it stores. -/
theorem out_apply (y : S1024x2048.Idx) : out0_3 x0 x1 x2 y = result x0 x1 x2 y := by
  rw [out_eq]
  have hp : View.PiecesOf (Val := Elt Ideal) (e := .bf16) (result x0 x1 x2) (pieces x0 x1 x2) :=
    ⟨piece_apply x0 x1 x2 3 7, piece_apply x0 x1 x2 3 6, piece_apply x0 x1 x2 3 5, piece_apply x0 x1 x2 3 4, piece_apply x0 x1 x2 3 3, piece_apply x0 x1 x2 3 2, piece_apply x0 x1 x2 3 1, piece_apply x0 x1 x2 3 0,
      piece_apply x0 x1 x2 2 7, piece_apply x0 x1 x2 2 6, piece_apply x0 x1 x2 2 5, piece_apply x0 x1 x2 2 4, piece_apply x0 x1 x2 2 3, piece_apply x0 x1 x2 2 2, piece_apply x0 x1 x2 2 1, piece_apply x0 x1 x2 2 0,
      piece_apply x0 x1 x2 1 7, piece_apply x0 x1 x2 1 6, piece_apply x0 x1 x2 1 5, piece_apply x0 x1 x2 1 4, piece_apply x0 x1 x2 1 3, piece_apply x0 x1 x2 1 2, piece_apply x0 x1 x2 1 1, piece_apply x0 x1 x2 1 0,
      piece_apply x0 x1 x2 0 7, piece_apply x0 x1 x2 0 6, piece_apply x0 x1 x2 0 5, piece_apply x0 x1 x2 0 4, piece_apply x0 x1 x2 0 3, piece_apply x0 x1 x2 0 2, piece_apply x0 x1 x2 0 1, piece_apply x0 x1 x2 0 0, trivial⟩
  refine View.canon_apply_of_pieces (Val := Elt Ideal) (S := S1024x2048) (e := .bf16) (result x0 x1 x2) _ (View.PiecesOf.mem hp) y ?_
  have h0 : (y 0).val < 1024 := (y 0).isLt
  have h1 : (y 1).val < 2048 := (y 1).isLt
  exact ⟨piece x0 x1 x2 ⟨(y 0).val / 256, by omega⟩ ⟨(y 1).val / 256, by omega⟩, mem_pieces x0 x1 x2 _ _, mem_rO y _ _ rfl rfl⟩

end

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S1024x2048 .f32 := m ((c : Thread nD τ).loc main_arg1)
abbrev bias : Vec Ideal S2x2048 .f32 := m ((c : Thread nD τ).loc main_arg2)

set_option maxHeartbeats 4000000 in
/-- The weights as the call is handed them: 8 groups of 256 columns. -/
theorem V_rhs (j : Fin 8) (n : Fin 1024) (k : Fin 256) :
    (V m c main_v3 : Vec Ideal S1x8x1024x256 .bf16) (ix4 0 j n k) = rhs m c (ix2 n ⟨256 * j.val + k.val, by omega⟩) := by
  have h : (V m c main_v3 : Vec Ideal S1x8x1024x256 .bf16)
      = broadcastInDim S1x8x1024x256 ![1, 2, 3] bcast_S8x1024x256_S1x8x1024x256_1_2_3 (transpose S8x1024x256 [1, 0, 2]
        (shapeCast S1024x8x256 (rhs m c : Vec Ideal S1024x2048 .bf16) shapeCasts_S1024x2048_S1024x8x256) transposes_S1024x8x256_S8x1024x256_1_0_2) := by
    show StableHlo.after (List.flatten [hostOps0]) _ (Proc.devRef .tc main_v3) = _
    simp only [List.flatten_cons, List.flatten_nil, List.append_nil]
    after_reads_simp
    rfl
  rw [h]
  refine (broadcastInDim_apply _ _ _ _ (ix3 j n k) fun d => by
    match d with
    | ⟨0, _⟩ => rfl
    | ⟨1, _⟩ => rfl
    | ⟨2, _⟩ => rfl).trans ((transpose_apply _ _ _ _ (ix3 n j k) fun b => match b with
    | ⟨0, _⟩ => rfl
    | ⟨1, _⟩ => rfl
    | ⟨2, _⟩ => rfl).trans (shapeCast_apply _ _ _ _ ?_))
  rw [Shape.rowMajor_val_two, Shape.rowMajor_val_three]
  show n.val * 2048 + (256 * j.val + k.val) = (n.val * 8 + j.val) * 256 + k.val
  omega

set_option maxHeartbeats 4000000 in
/-- The biases of both convolution layers as the call is handed them. -/
theorem V_bias (l : Fin 2) (k : Fin 2048) : (V m c main_v4 : Vec Ideal S2x1x2048 .f32) (ix3 l 0 k) = bias m c (ix2 l k) := by
  have h : (V m c main_v4 : Vec Ideal S2x1x2048 .f32) = broadcastInDim S2x1x2048 ![0, 2] bcast_S2x2048_S2x1x2048_0_2 (bias m c) := by
    show StableHlo.after (List.flatten [hostOps0]) _ (Proc.devRef .tc main_v4) = _
    simp only [List.flatten_cons, List.flatten_nil, List.append_nil]
    after_reads_simp
  rw [h]
  exact broadcastInDim_apply _ _ _ _ _ fun d => by
    match d with
    | ⟨0, _⟩ => rfl
    | ⟨1, _⟩ => rfl

theorem i0 : ∀ t : Fin grid0.N, win0_0.index t (0 : Fin 2) = t.val ∧ win0_0.index t (1 : Fin 2) = 0 := by decide +kernel
theorem i1 : ∀ t : Fin grid0.N, win0_1.index t (0 : Fin 4) = 0 ∧ win0_1.index t (1 : Fin 4) = 0 ∧ win0_1.index t (2 : Fin 4) = 0
    ∧ win0_1.index t (3 : Fin 4) = 0 := by decide +kernel
theorem i2 : ∀ t : Fin grid0.N, win0_2.index t (0 : Fin 3) = 1 ∧ win0_2.index t (1 : Fin 3) = 0 ∧ win0_2.index t (2 : Fin 3) = 0 := by decide +kernel
theorem i3 : ∀ t : Fin grid0.N, win0_3.index t (0 : Fin 2) = t.val ∧ win0_3.index t (1 : Fin 2) = 0 := by decide +kernel
theorem stores : ∀ t : Fin grid0.N, win0_3.flush t = true := by decide +kernel

theorem blk0 (t : Fin cfg0.N) (ht : t.val < 4) (r k : Fin 1024) :
    (iblk m c 0 t : Vec Ideal S1024x1024 .bf16) (ix2 r k) = lhs m c (ix2 ⟨1024 * t.val + r.val, by omega⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val * 1024 + 1 * r.val = 1024 * t.val + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (j : Fin 8) (n : Fin 1024) (k : Fin 256) :
    (iblk m c 1 t : Vec Ideal S1x8x1024x256 .bf16) (ix4 0 j n k) = rhs m c (ix2 n ⟨256 * j.val + k.val, by omega⟩) := by
  refine Eq.trans ?_ (V_rhs m c j n k)
  show V m c main_v3 _ = _
  congr 1
  funext d
  match d with
  | ⟨0, _⟩ => exact Fin.ext (show win0_1.index t (0 : Fin 4) * 1 + 1 * 0 = _ by rw [(i1 t).1]; rfl)
  | ⟨1, _⟩ => exact Fin.ext (show win0_1.index t (1 : Fin 4) * 8 + 1 * j.val = _ by rw [(i1 t).2.1]; exact (by omega : 0 * 8 + 1 * j.val = j.val))
  | ⟨2, _⟩ => exact Fin.ext (show win0_1.index t (2 : Fin 4) * 1024 + 1 * n.val = _ by rw [(i1 t).2.2.1]; exact (by omega : 0 * 1024 + 1 * n.val = n.val))
  | ⟨3, _⟩ => exact Fin.ext (show win0_1.index t (3 : Fin 4) * 256 + 1 * k.val = _ by rw [(i1 t).2.2.2]; exact (by omega : 0 * 256 + 1 * k.val = k.val))

theorem blk2 (t : Fin cfg0.N) (k : Fin 2048) : (iblk m c 2 t : Vec Ideal S1x1x2048 .f32) (ix3 0 0 k) = bias m c (ix2 1 k) := by
  refine Eq.trans ?_ (V_bias m c 1 k)
  show V m c main_v4 _ = _
  congr 1
  funext d
  match d with
  | ⟨0, _⟩ => exact Fin.ext (show win0_2.index t (0 : Fin 3) * 1 + 1 * 0 = _ by rw [(i2 t).1]; rfl)
  | ⟨1, _⟩ => exact Fin.ext (show win0_2.index t (1 : Fin 3) * 1 + 1 * 0 = _ by rw [(i2 t).2.1]; rfl)
  | ⟨2, _⟩ => exact Fin.ext (show win0_2.index t (2 : Fin 3) * 2048 + 1 * k.val = _ by rw [(i2 t).2.2]; exact (by omega : 0 * 2048 + 1 * k.val = k.val))

/-! ## The array -/

/-- Rows `1024 j` to `1024 j + 1023` of the result are what point `j` stores. -/
theorem array_apply (j : Fin 4) (r : Fin 1024) (k : Fin 2048) :
    ((dats m 0 c).arrAt 3 cfg0.N : Vec Ideal S4096x2048 .bf16) (ix2 ⟨1024 * j.val + r.val, by omega⟩ k)
      = (∑ n : Fin 1024, lhs m c (ix2 ⟨1024 * j.val + r.val, by omega⟩ n) * rhs m c (ix2 n k)) + bias m c (ix2 1 k) := by
  let t : Fin cfg0.N := ⟨j.val, lt_of_lt_of_eq j.isLt N_0.symm⟩
  have h := congrFun (blocks3 m c t (stores t)) (ix2 (n0 := 1024) (n1 := 2048) r k)
  rw [flushed3] at h
  have e : (⟨256 * (k.val / 256) + k.val % 256, by omega⟩ : Fin 2048) = k := Fin.ext (by show 256 * (k.val / 256) + k.val % 256 = k.val; omega)
  refine Eq.trans ?_ (h.trans ((out_apply _ _ _ (ix2 r k)).trans (congrArg₂ (· + ·)
    (Finset.sum_congr rfl fun n _ => congrArg₂ (· * ·) (blk0 m c t j.isLt r n)
      ((blk1 m c t ⟨k.val / 256, by omega⟩ n ⟨k.val % 256, by omega⟩).trans (congrArg (fun q => rhs m c (ix2 n q)) e)))
    (blk2 m c t k))))
  show (dats m 0 c).arrAt 3 cfg0.N _ = (dats m 0 c).arrAt 3 cfg0.N _
  congr 1
  funext d
  match d with
  | ⟨0, _⟩ => exact Fin.ext (show _ = win0_3.index t (0 : Fin 2) * 1024 + 1 * r.val by rw [(i3 t).1]; exact (by omega : 1024 * j.val + r.val = j.val * 1024 + 1 * r.val))
  | ⟨1, _⟩ => exact Fin.ext (show _ = win0_3.index t (1 : Fin 2) * 2048 + 1 * k.val by rw [(i3 t).2]; exact (by omega : k.val = 0 * 2048 + 1 * k.val))

/-! ## The reference -/

open Cert.Reference11Ideal.Read in
theorem ref_apply (a : Vec Ideal S4096x1024 .bf16) (w : Vec Ideal S1024x2048 .f32) (b : Vec Ideal S2x2048 .f32) (r : Fin 4096) (k : Fin 2048) :
    (val_main_v7 (F := Ideal) a w b : Vec Ideal S4096x2048 .bf16) (ix2 r k) = (∑ n : Fin 1024, a (ix2 r n) * w (ix2 n k)) + b (ix2 1 k) := by
  show val_main_v1 (F := Ideal) a w (ix2 r k) + val_main_v5 (F := Ideal) b (ix2 r k) = _
  refine congrArg₂ (· + ·) ((val_main_v1_apply a w (ix2 r k)).trans (Finset.sum_congr rfl fun n _ => congrArg₂ (· * ·) (congrArg a ?_) (congrArg w ?_))) ?_
  · funext d
    match d with
    | ⟨0, _⟩ => rfl
    | ⟨1, _⟩ => rfl
  · funext d
    match d with
    | ⟨0, _⟩ => rfl
    | ⟨1, _⟩ => rfl
  · rw [val_main_v5_apply, val_main_v4_apply, val_main_v3_apply, val_main_v2_apply]
    refine congrArg b ?_
    funext d
    match d with
    | ⟨0, _⟩ => rfl
    | ⟨1, _⟩ => exact Fin.ext (show k.val % 2048 = k.val by omega)

/-- The reference's result is the array the run leaves. -/
theorem agree : Cert.Reference11Ideal.Read.val_main_v7 (F := Ideal) (lhs m c) (rhs m c) (bias m c) = (dats m 0 c).arrAt 3 cfg0.N :=
  funext fun (i : S4096x2048.Idx) => by
    obtain ⟨r, k, rfl⟩ : ∃ (r : Fin 4096) (k : Fin 2048), i = ix2 r k := ⟨i 0, i 1, eq_ix2 i⟩
    have e : r = (⟨1024 * (r.val / 1024) + r.val % 1024, (row_eq r).symm ▸ r.isLt⟩ : Fin 4096) := Fin.ext (row_eq r).symm
    rw [e]
    exact (ref_apply _ _ _ _ k).trans (array_apply m c ⟨r.val / 1024, by omega⟩ ⟨r.val % 1024, by omega⟩ k).symm

end Cert.Layer.Expand

end
-- ==== Proof.Layer.ExpandFirst.lean ====
/- The convolution's first pointwise product in the layer whose bias is the first of the two: the sums are those of the
   other layer's product, with that bias. -/
module

public import proofs.«01_k».proof.Proof.Gen.Kernel12Ideal.Value
public import proofs.«01_k».proof.Proof.Gen.Reference12Ideal.Read
public import proofs.«01_k».proof.Proof.Layer.Expand

@[expose] public section

set_option maxRecDepth 16384

noncomputable section

namespace Cert.Layer.ExpandFirst

open Idealize.ShloMosaic Idealize.ShloMosaic.ValueIdx Idealize.ShloMosaic.TcCoe
open Idealize.SL Idealize.SL.Sem
open Cert.Kernel12Ideal Cert.Kernel12Ideal.Gen Cert.Kernel12Ideal.Value

/-! ## One point -/

/-- What a point leaves in the buffer it stores is what the other layer's point leaves. -/
theorem out_apply (x0 : Vec Ideal S1024x1024 .bf16) (x1 : Vec Ideal S1x8x1024x256 .bf16) (x2 : Vec Ideal S1x1x2048 .f32) (y : S1024x2048.Idx) :
    out0_3 x0 x1 x2 y = Expand.result x0 x1 x2 y :=
  (congrFun (show out0_3 x0 x1 x2 = Cert.Kernel11Ideal.Gen.out0_3 x0 x1 x2 from rfl) y).trans (Expand.out_apply x0 x1 x2 y)

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S1024x2048 .f32 := m ((c : Thread nD τ).loc main_arg1)
abbrev bias : Vec Ideal S2x2048 .f32 := m ((c : Thread nD τ).loc main_arg2)

set_option maxHeartbeats 4000000 in
/-- The weights as the call is handed them: 8 groups of 256 columns. -/
theorem V_rhs (j : Fin 8) (n : Fin 1024) (k : Fin 256) :
    (V m c main_v3 : Vec Ideal S1x8x1024x256 .bf16) (ix4 0 j n k) = rhs m c (ix2 n ⟨256 * j.val + k.val, by omega⟩) := by
  have h : (V m c main_v3 : Vec Ideal S1x8x1024x256 .bf16)
      = broadcastInDim S1x8x1024x256 ![1, 2, 3] bcast_S8x1024x256_S1x8x1024x256_1_2_3 (transpose S8x1024x256 [1, 0, 2]
        (shapeCast S1024x8x256 (rhs m c : Vec Ideal S1024x2048 .bf16) shapeCasts_S1024x2048_S1024x8x256) transposes_S1024x8x256_S8x1024x256_1_0_2) := by
    show StableHlo.after (List.flatten [hostOps0]) _ (Proc.devRef .tc main_v3) = _
    simp only [List.flatten_cons, List.flatten_nil, List.append_nil]
    after_reads_simp
    rfl
  rw [h]
  refine (broadcastInDim_apply _ _ _ _ (ix3 j n k) fun d => by
    match d with
    | ⟨0, _⟩ => rfl
    | ⟨1, _⟩ => rfl
    | ⟨2, _⟩ => rfl).trans ((transpose_apply _ _ _ _ (ix3 n j k) fun b => match b with
    | ⟨0, _⟩ => rfl
    | ⟨1, _⟩ => rfl
    | ⟨2, _⟩ => rfl).trans (shapeCast_apply _ _ _ _ ?_))
  rw [Shape.rowMajor_val_two, Shape.rowMajor_val_three]
  show n.val * 2048 + (256 * j.val + k.val) = (n.val * 8 + j.val) * 256 + k.val
  omega

set_option maxHeartbeats 4000000 in
/-- The biases of both convolution layers as the call is handed them. -/
theorem V_bias (l : Fin 2) (k : Fin 2048) : (V m c main_v4 : Vec Ideal S2x1x2048 .f32) (ix3 l 0 k) = bias m c (ix2 l k) := by
  have h : (V m c main_v4 : Vec Ideal S2x1x2048 .f32) = broadcastInDim S2x1x2048 ![0, 2] bcast_S2x2048_S2x1x2048_0_2 (bias m c) := by
    show StableHlo.after (List.flatten [hostOps0]) _ (Proc.devRef .tc main_v4) = _
    simp only [List.flatten_cons, List.flatten_nil, List.append_nil]
    after_reads_simp
  rw [h]
  exact broadcastInDim_apply _ _ _ _ _ fun d => by
    match d with
    | ⟨0, _⟩ => rfl
    | ⟨1, _⟩ => rfl

theorem i0 : ∀ t : Fin grid0.N, win0_0.index t (0 : Fin 2) = t.val ∧ win0_0.index t (1 : Fin 2) = 0 := by decide +kernel
theorem i1 : ∀ t : Fin grid0.N, win0_1.index t (0 : Fin 4) = 0 ∧ win0_1.index t (1 : Fin 4) = 0 ∧ win0_1.index t (2 : Fin 4) = 0
    ∧ win0_1.index t (3 : Fin 4) = 0 := by decide +kernel
theorem i2 : ∀ t : Fin grid0.N, win0_2.index t (0 : Fin 3) = 0 ∧ win0_2.index t (1 : Fin 3) = 0 ∧ win0_2.index t (2 : Fin 3) = 0 := by decide +kernel
theorem i3 : ∀ t : Fin grid0.N, win0_3.index t (0 : Fin 2) = t.val ∧ win0_3.index t (1 : Fin 2) = 0 := by decide +kernel
theorem stores : ∀ t : Fin grid0.N, win0_3.flush t = true := by decide +kernel

theorem blk0 (t : Fin cfg0.N) (ht : t.val < 4) (r k : Fin 1024) :
    (iblk m c 0 t : Vec Ideal S1024x1024 .bf16) (ix2 r k) = lhs m c (ix2 ⟨1024 * t.val + r.val, by omega⟩ k) := by
  show V m c main_arg0 _ = _
  rw [V_main_arg0]
  congr 1
  funext d
  match d with
  | ⟨0, _⟩ => exact Fin.ext (show win0_0.index t (0 : Fin 2) * 1024 + 1 * r.val = _ by rw [(i0 t).1]; exact (by omega : t.val * 1024 + 1 * r.val = 1024 * t.val + r.val))
  | ⟨1, _⟩ => exact Fin.ext (show win0_0.index t (1 : Fin 2) * 1024 + 1 * k.val = _ by rw [(i0 t).2]; exact (by omega : 0 * 1024 + 1 * k.val = k.val))

theorem blk1 (t : Fin cfg0.N) (j : Fin 8) (n : Fin 1024) (k : Fin 256) :
    (iblk m c 1 t : Vec Ideal S1x8x1024x256 .bf16) (ix4 0 j n k) = rhs m c (ix2 n ⟨256 * j.val + k.val, by omega⟩) := by
  refine Eq.trans ?_ (V_rhs m c j n k)
  show V m c main_v3 _ = _
  congr 1
  funext d
  match d with
  | ⟨0, _⟩ => exact Fin.ext (show win0_1.index t (0 : Fin 4) * 1 + 1 * 0 = _ by rw [(i1 t).1]; rfl)
  | ⟨1, _⟩ => exact Fin.ext (show win0_1.index t (1 : Fin 4) * 8 + 1 * j.val = _ by rw [(i1 t).2.1]; exact (by omega : 0 * 8 + 1 * j.val = j.val))
  | ⟨2, _⟩ => exact Fin.ext (show win0_1.index t (2 : Fin 4) * 1024 + 1 * n.val = _ by rw [(i1 t).2.2.1]; exact (by omega : 0 * 1024 + 1 * n.val = n.val))
  | ⟨3, _⟩ => exact Fin.ext (show win0_1.index t (3 : Fin 4) * 256 + 1 * k.val = _ by rw [(i1 t).2.2.2]; exact (by omega : 0 * 256 + 1 * k.val = k.val))

theorem blk2 (t : Fin cfg0.N) (k : Fin 2048) : (iblk m c 2 t : Vec Ideal S1x1x2048 .f32) (ix3 0 0 k) = bias m c (ix2 0 k) := by
  refine Eq.trans ?_ (V_bias m c 0 k)
  show V m c main_v4 _ = _
  congr 1
  funext d
  match d with
  | ⟨0, _⟩ => exact Fin.ext (show win0_2.index t (0 : Fin 3) * 1 + 1 * 0 = _ by rw [(i2 t).1]; rfl)
  | ⟨1, _⟩ => exact Fin.ext (show win0_2.index t (1 : Fin 3) * 1 + 1 * 0 = _ by rw [(i2 t).2.1]; rfl)
  | ⟨2, _⟩ => exact Fin.ext (show win0_2.index t (2 : Fin 3) * 2048 + 1 * k.val = _ by rw [(i2 t).2.2]; exact (by omega : 0 * 2048 + 1 * k.val = k.val))

/-! ## The array -/

/-- Rows `1024 j` to `1024 j + 1023` of the result are what point `j` stores. -/
theorem array_apply (j : Fin 4) (r : Fin 1024) (k : Fin 2048) :
    ((dats m 0 c).arrAt 3 cfg0.N : Vec Ideal S4096x2048 .bf16) (ix2 ⟨1024 * j.val + r.val, by omega⟩ k)
      = (∑ n : Fin 1024, lhs m c (ix2 ⟨1024 * j.val + r.val, by omega⟩ n) * rhs m c (ix2 n k)) + bias m c (ix2 0 k) := by
  let t : Fin cfg0.N := ⟨j.val, lt_of_lt_of_eq j.isLt N_0.symm⟩
  have h := congrFun (blocks3 m c t (stores t)) (ix2 (n0 := 1024) (n1 := 2048) r k)
  rw [flushed3] at h
  have e : (⟨256 * (k.val / 256) + k.val % 256, by omega⟩ : Fin 2048) = k := Fin.ext (by show 256 * (k.val / 256) + k.val % 256 = k.val; omega)
  refine Eq.trans ?_ (h.trans ((out_apply _ _ _ (ix2 r k)).trans (congrArg₂ (· + ·)
    (Finset.sum_congr rfl fun n _ => congrArg₂ (· * ·) (blk0 m c t j.isLt r n)
      ((blk1 m c t ⟨k.val / 256, by omega⟩ n ⟨k.val % 256, by omega⟩).trans (congrArg (fun q => rhs m c (ix2 n q)) e)))
    (blk2 m c t k))))
  show (dats m 0 c).arrAt 3 cfg0.N _ = (dats m 0 c).arrAt 3 cfg0.N _
  congr 1
  funext d
  match d with
  | ⟨0, _⟩ => exact Fin.ext (show _ = win0_3.index t (0 : Fin 2) * 1024 + 1 * r.val by rw [(i3 t).1]; exact (by omega : 1024 * j.val + r.val = j.val * 1024 + 1 * r.val))
  | ⟨1, _⟩ => exact Fin.ext (show _ = win0_3.index t (1 : Fin 2) * 2048 + 1 * k.val by rw [(i3 t).2]; exact (by omega : k.val = 0 * 2048 + 1 * k.val))

/-! ## The reference -/

open Cert.Reference12Ideal.Read in
theorem ref_apply (a : Vec Ideal S4096x1024 .bf16) (w : Vec Ideal S1024x2048 .f32) (b : Vec Ideal S2x2048 .f32) (r : Fin 4096) (k : Fin 2048) :
    (val_main_v7 (F := Ideal) a w b : Vec Ideal S4096x2048 .bf16) (ix2 r k) = (∑ n : Fin 1024, a (ix2 r n) * w (ix2 n k)) + b (ix2 0 k) := by
  show val_main_v1 (F := Ideal) a w (ix2 r k) + val_main_v5 (F := Ideal) b (ix2 r k) = _
  refine congrArg₂ (· + ·) ((val_main_v1_apply a w (ix2 r k)).trans (Finset.sum_congr rfl fun n _ => congrArg₂ (· * ·) (congrArg a ?_) (congrArg w ?_))) ?_
  · funext d
    match d with
    | ⟨0, _⟩ => rfl
    | ⟨1, _⟩ => rfl
  · funext d
    match d with
    | ⟨0, _⟩ => rfl
    | ⟨1, _⟩ => rfl
  · rw [val_main_v5_apply, val_main_v4_apply, val_main_v3_apply, val_main_v2_apply]
    refine congrArg b ?_
    funext d
    match d with
    | ⟨0, _⟩ => rfl
    | ⟨1, _⟩ => exact Fin.ext (show k.val % 2048 = k.val by omega)

/-- The reference's result is the array the run leaves. -/
theorem agree : Cert.Reference12Ideal.Read.val_main_v7 (F := Ideal) (lhs m c) (rhs m c) (bias m c) = (dats m 0 c).arrAt 3 cfg0.N :=
  funext fun (i : S4096x2048.Idx) => by
    obtain ⟨r, k, rfl⟩ : ∃ (r : Fin 4096) (k : Fin 2048), i = ix2 r k := ⟨i 0, i 1, eq_ix2 i⟩
    have e : r = (⟨1024 * (r.val / 1024) + r.val % 1024, (row_eq r).symm ▸ r.isLt⟩ : Fin 4096) := Fin.ext (row_eq r).symm
    rw [e]
    exact (ref_apply _ _ _ _ k).trans (array_apply m c ⟨r.val / 1024, by omega⟩ ⟨r.val % 1024, by omega⟩ k).symm

end Cert.Layer.ExpandFirst

end
-- ==== Proof.Layer.Blocks.lean ====
/- The product of the transpose of one block of rows by another, read at an index, and a sum over all rows as the sum of
   the four blocks' sums. -/
module

public import proofs.«01_k».proof.Proof.Gen.Kernel13Ideal
public import proofs.«01_k».proof.Proof.Layer.Product

@[expose] public section

set_option maxRecDepth 16384

noncomputable section

namespace Cert.Layer

open Idealize.ShloMosaic Idealize.ShloMosaic.ValueIdx

open Cert.Kernel13Ideal Cert.Kernel13Ideal.Gen in
theorem dot_tn (L R : FVec Ideal Square .bf16) (a b : Fin 1024) :
    matmul dot_S1024x1024_S1024x1024_S1024x1024_0_0_1_1_n_n none L R (constant Square .f32 0x00000000#32) (ix2 a b)
      = ∑ r : Fin 1024, L (ix2 r a) * R (ix2 r b) := by
  refine (Ideal.matmul_constant_zero_apply _ none L R (ix2 a b)).trans ?_
  rw [← (contrEquiv1 dot_S1024x1024_S1024x1024_S1024x1024_0_0_1_1_n_n 1024 rfl rfl).symm.sum_comp]
  refine Finset.sum_congr rfl fun c _ => ?_
  congr 2
  · funext d
    match d with
    | ⟨0, _⟩ => exact Fin.ext rfl
    | ⟨1, _⟩ => exact Fin.ext rfl
  · funext d
    match d with
    | ⟨0, _⟩ => exact Fin.ext rfl
    | ⟨1, _⟩ => exact Fin.ext rfl

/-- Row `r` of block `j` of 1024 rows. -/
abbrev row (j : Fin 4) (r : Fin 1024) : Fin 4096 := ⟨1024 * j.val + r.val, by omega⟩

theorem sum_blocks (f : Fin 4096 → EReal) :
    ∑ r : Fin 4096, f r = ∑ r, f (row 0 r) + ∑ r, f (row 1 r) + ∑ r, f (row 2 r) + ∑ r, f (row 3 r) := by
  rw [← (finProdFinEquiv (m := 4) (n := 1024)).sum_comp f, Fintype.sum_prod_type, Fin.sum_univ_four]
  have e : ∀ (j : Fin 4) (r : Fin 1024), (finProdFinEquiv (j, r) : Fin 4096) = row j r := fun j r => Fin.ext (Nat.add_comm _ _)
  simp only [e]

/-- Block `j`'s part of the product of `A`'s transpose by `B`. -/
def part (A B : Rows.Idx → EReal) (j : Fin 4) (a b : Fin 1024) : EReal :=
  ∑ r : Fin 1024, A (ix2 (row j r) a) * B (ix2 (row j r) b)

/-- The product of `A`'s transpose by `B` is the sum of the four blocks' parts. -/
theorem product_eq (A B : Rows.Idx → EReal) (a b : Fin 1024) :
    ∑ r : Fin 4096, A (ix2 r a) * B (ix2 r b) = part A B 0 a b + part A B 1 a b + part A B 2 a b + part A B 3 a b :=
  sum_blocks fun r => A (ix2 r a) * B (ix2 r b)

end Cert.Layer

end
-- ==== Proof.Layer.OutGrad.lean ====
/- The gradient of the attention output's weights: each of the 4 points adds the product of its 1024 rows of the two
   arrays, the last stores the sum, and the reference's result is the same sum over all 4096 rows. -/
module

public import proofs.«01_k».proof.Proof.Gen.Kernel13Ideal.Value
public import proofs.«01_k».proof.Proof.Gen.Reference13Ideal.Read
public import proofs.«01_k».proof.Proof.Layer.Blocks
public import Idealize.ShloMosaic.Lib.Pipeline.ReadBack
public import Idealize.ShloMosaic.Lib.Pipeline.ValueKit.Acc
public import Idealize.ShloMosaic.Lib.StableHlo.RunRead

@[expose] public section

set_option maxRecDepth 16384

noncomputable section

namespace Cert.Layer.OutGrad

open Idealize.ShloMosaic Idealize.ShloMosaic.ValueIdx Idealize.ShloMosaic.TcCoe
open Idealize.SL Idealize.SL.Sem
open Cert.Kernel13Ideal Cert.Kernel13Ideal.Gen Cert.Kernel13Ideal.Value

/-! ## One point -/

section Point

variable (x0 : Vec Ideal S1024x1024 .bf16) (x1 : Vec Ideal S1024x1024 .f32) (acc : Vec Ideal S1024x1024 .f32) (a b : Fin 1024)

theorem pay1_apply : k0_pay1 x0 x1 (ix2 a b) = ∑ r : Fin 1024, x0 (ix2 r a) * x1 (ix2 r b) := dot_tn x0 x1 a b

theorem pay2_apply : k0_pay2 x0 x1 (ix2 a b) = ∑ r : Fin 1024, x0 (ix2 r a) * x1 (ix2 r b) := by
  unfold k0_pay2
  exact (shapeCast_apply _ _ _ (ix2 a b) rfl).trans (pay1_apply x0 x1 a b)

theorem pay3_apply : k0_pay3 x0 x1 acc (ix2 a b) = acc (ix2 a b) + ∑ r : Fin 1024, x0 (ix2 r a) * x1 (ix2 r b) := by
  unfold k0_pay3
  exact (shapeCast_apply _ _ _ (ix2 a b) rfl).trans (congrArg (acc (ix2 a b) + ·) (pay1_apply x0 x1 a b))

variable (c : Dev nD) (i : grid0.Coords) (arg2 : Memref sig .tc .vmem S1024x1024 .bf16) (harg2 : arg2.IsWhole)
  (arg3 : Memref sig .tc .vmem S1024x1024 .f32) (harg3 : arg3.IsWhole) (arg4 : Memref sig .tc .vmem S1024x1024 .bf16) (harg4 : arg4.IsWhole)
  (arg5 : Memref sig .tc .vmem S1024x1024 .f32) (harg5 : arg5.IsWhole)

/-- The first point's product, kept for the next. -/
theorem sum_first (hc0 : cond0_0 i) (hc1 : ¬cond0_1 i) (hc2 : ¬cond0_2 i) :
    sout0_A_0 c i arg2 harg2 arg3 harg3 arg4 harg4 arg5 harg5 hc0 hc1 hc2 x0 x1 (ix2 a b)
      = ∑ r : Fin 1024, x0 (ix2 r a) * x1 (ix2 r b) := by
  frame_out [↓View.readCov_skip, ↓View.readCov_fill, View.readCov_eq_canon']
  exact pay2_apply x0 x1 a b

/-- A later point's product, added to the sum so far. -/
theorem sum_next (hc0 : ¬cond0_0 i) (hc1 : cond0_1 i) (hc2 : ¬cond0_2 i) :
    sout0_B_0 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

/-- What the last point stores. -/
theorem stored (hc0 : ¬cond0_0 i) (hc1 : cond0_1 i) (hc2 : cond0_2 i) :
    out0_C_2 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

end Point

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S4096x1024 .f32 := m ((c : Thread nD τ).loc main_arg1)

abbrev bl0 (t : Fin cfg0.N) : Vec Ideal S1024x1024 .bf16 := iblk m c 0 t
abbrev bl1 (t : Fin cfg0.N) : Vec Ideal S1024x1024 .f32 := iblk m c 1 t

theorem i0 : ∀ t : Fin grid0.N, win0_0.index t (0 : Fin 2) = t.val ∧ win0_0.index t (1 : Fin 2) = 0 := by decide +kernel
theorem i1 : ∀ t : Fin grid0.N, win0_1.index t (0 : Fin 2) = t.val ∧ win0_1.index t (1 : Fin 2) = 0 := by decide +kernel

theorem blk0 (t : Fin cfg0.N) (j : Fin 4) (e : t.val = j.val) (r a : Fin 1024) :
    bl0 m c t (ix2 r a) = lhs m c (ix2 (row j r) a) := by
  show V m c main_arg0 _ = _
  rw [V_main_arg0]
  congr 1
  funext d
  match d with
  | ⟨0, _⟩ => exact Fin.ext (show win0_0.index t (0 : Fin 2) * 1024 + 1 * r.val = 1024 * j.val + r.val by rw [(i0 t).1]; omega)
  | ⟨1, _⟩ => exact Fin.ext (show win0_0.index t (1 : Fin 2) * 1024 + 1 * a.val = a.val by rw [(i0 t).2]; omega)

theorem blk1 (t : Fin cfg0.N) (j : Fin 4) (e : t.val = j.val) (r b : Fin 1024) :
    bl1 m c t (ix2 r b) = rhs m c (ix2 (row j r) b) := by
  show V m c main_arg1 _ = _
  rw [V_main_arg1]
  congr 1
  funext d
  match d with
  | ⟨0, _⟩ => exact Fin.ext (show win0_1.index t (0 : Fin 2) * 1024 + 1 * r.val = 1024 * j.val + r.val by rw [(i1 t).1]; omega)
  | ⟨1, _⟩ => exact Fin.ext (show win0_1.index t (1 : Fin 2) * 1024 + 1 * b.val = b.val by rw [(i1 t).2]; omega)

/-- The product of point `j`'s blocks is its part of the whole product. -/
theorem blocks_part (t : Fin cfg0.N) (j : Fin 4) (e : t.val = j.val) (a b : Fin 1024) :
    ∑ r : Fin 1024, bl0 m c t (ix2 r a) * bl1 m c t (ix2 r b) = part (lhs m c) (rhs m c) j a b :=
  Finset.sum_congr rfl fun r _ => congrArg₂ (· * ·) (blk0 m c t j e r a) (blk1 m c t j e r b)

/-! ## The sums, point by point -/

theorem inGrid (j : Fin 4) : j.val < cfg0.N := lt_of_lt_of_eq j.isLt N_0.symm

theorem first (t : Fin cfg0.N) (e : t.val = 0) (a b : Fin 1024) :
    (outsAt0 m c t.val t.isLt).2 (ix2 a b) = part (lhs m c) (rhs m c) 0 a b := by
  rw [outsAt0_A m c t (by omega) (by omega) (by omega)]
  dsimp only
  rw [sum_first]
  exact blocks_part m c t 0 e a b

theorem next (t : Fin cfg0.N) (j : Fin 4) (e : t.val = j.val) (h1 : 1 ≤ j.val) (h2 : j.val < 3) (a b : Fin 1024) :
    (outsAt0 m c t.val t.isLt).2 (ix2 a b)
      = (outsAt0 m c (t.val - 1) (Nat.lt_of_le_of_lt (Nat.sub_le _ _) t.isLt)).2 (ix2 a b) + part (lhs m c) (rhs m c) j a b := by
  rw [outsAt0_B m c t (by omega) (by omega) (by omega)]
  dsimp only
  rw [sum_next]
  exact congrArg (_ + ·) (blocks_part m c t j e a b)

theorem last (t : Fin cfg0.N) (e : t.val = 3) (a b : Fin 1024) :
    (outsAt0 m c t.val t.isLt).1 (ix2 a b)
      = (outsAt0 m c (t.val - 1) (Nat.lt_of_le_of_lt (Nat.sub_le _ _) t.isLt)).2 (ix2 a b) + part (lhs m c) (rhs m c) 3 a b := by
  rw [outsAt0_C m c t (by omega) (by omega) (by omega)]
  dsimp only
  rw [stored]
  exact congrArg (_ + ·) (blocks_part m c t 3 e a b)

/-- What the last point stores is the product over all rows. -/
theorem result (a b : Fin 1024) :
    (outsAt0 m c 3 (inGrid 3)).1 (ix2 a b) = ∑ r : Fin 4096, lhs m c (ix2 r a) * rhs m c (ix2 r b) := by
  rw [product_eq (lhs m c) (rhs m c) a b]
  have e0 := first m c ⟨0, inGrid 0⟩ rfl a b
  have e1 := next m c ⟨1, inGrid 1⟩ 1 rfl (by decide) (by decide) a b
  have e2 := next m c ⟨2, inGrid 2⟩ 2 rfl (by decide) (by decide) a b
  have e3 := last m c ⟨3, inGrid 3⟩ rfl a b
  dsimp only [Nat.reduceSub] at e0 e1 e2 e3
  rw [e3, e2, e1, e0]

/-- The array the run leaves. -/
theorem array_apply (a b : Fin 1024) :
    (G2 m c : Vec Ideal S1024x1024 .bf16) (ix2 a b) = ∑ r : Fin 4096, lhs m c (ix2 r a) * rhs m c (ix2 r b) := by
  have h := result m c a b
  rw [outsAt0_sweep m c 3 (inGrid 3)] at h
  rw [G2_last m c]
  exact h

/-! ## The reference -/

open Cert.Reference13Ideal.Read in
theorem ref_apply (x : Vec Ideal S4096x1024 .bf16) (y : Vec Ideal S4096x1024 .f32) (a b : Fin 1024) :
    (val_main_v5 (F := Ideal) x y : Vec Ideal S1024x1024 .bf16) (ix2 a b) = ∑ r : Fin 4096, x (ix2 r a) * y (ix2 r b) := by
  show val_main_v4 (F := Ideal) x y (ix2 a b) = _
  rw [val_main_v4_apply, val_main_v3_apply]
  refine Finset.sum_congr rfl fun r _ => (mul_comm _ _).trans (congrArg₂ (· * ·) (congrArg x ?_) (congrArg y ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference13Ideal.Read.val_main_v5 (F := Ideal) (lhs m c) (rhs m c) = G2 m c :=
  funext fun (i : S1024x1024.Idx) => by
    obtain ⟨a, b, rfl⟩ : ∃ a b : Fin 1024, i = ix2 a b := ⟨i 0, i 1, eq_ix2 i⟩
    exact (ref_apply _ _ a b).trans (array_apply m c a b).symm

end Cert.Layer.OutGrad

end
-- ==== Proof.Layer.QueryGrad.lean ====
/- The gradient of the query projection's weights: each of the 4 points adds the product of its 1024 rows of the two
   arrays, the last stores the sum, and the reference's result is the same sum over all 4096 rows. -/
module

public import proofs.«01_k».proof.Proof.Gen.Kernel14Ideal.Value
public import proofs.«01_k».proof.Proof.Gen.Reference14Ideal.Read
public import proofs.«01_k».proof.Proof.Layer.Blocks
public import Idealize.ShloMosaic.Lib.Pipeline.ReadBack
public import Idealize.ShloMosaic.Lib.Pipeline.ValueKit.Acc
public import Idealize.ShloMosaic.Lib.StableHlo.RunRead

@[expose] public section

set_option maxRecDepth 16384

noncomputable section

namespace Cert.Layer.QueryGrad

open Idealize.ShloMosaic Idealize.ShloMosaic.ValueIdx Idealize.ShloMosaic.TcCoe
open Idealize.SL Idealize.SL.Sem
open Cert.Kernel14Ideal Cert.Kernel14Ideal.Gen Cert.Kernel14Ideal.Value

/-! ## One point -/

section Point

variable (x0 : Vec Ideal S1024x1024 .bf16) (x1 : Vec Ideal S1024x1024 .bf16) (acc : Vec Ideal S1024x1024 .f32) (a b : Fin 1024)

theorem pay1_apply : k0_pay1 x0 x1 (ix2 a b) = ∑ r : Fin 1024, x0 (ix2 r a) * x1 (ix2 r b) := dot_tn x0 x1 a b

theorem pay2_apply : k0_pay2 x0 x1 (ix2 a b) = ∑ r : Fin 1024, x0 (ix2 r a) * x1 (ix2 r b) := by
  unfold k0_pay2
  exact (shapeCast_apply _ _ _ (ix2 a b) rfl).trans (pay1_apply x0 x1 a b)

theorem pay3_apply : k0_pay3 x0 x1 acc (ix2 a b) = acc (ix2 a b) + ∑ r : Fin 1024, x0 (ix2 r a) * x1 (ix2 r b) := by
  unfold k0_pay3
  exact (shapeCast_apply _ _ _ (ix2 a b) rfl).trans (congrArg (acc (ix2 a b) + ·) (pay1_apply x0 x1 a b))

variable (c : Dev nD) (i : grid0.Coords) (arg2 : Memref sig .tc .vmem S1024x1024 .bf16) (harg2 : arg2.IsWhole)
  (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole)

/-- The first point's product, kept for the next. -/
theorem sum_first (hc0 : cond0_0 i) (hc1 : ¬cond0_1 i) (hc2 : ¬cond0_2 i) :
    sout0_A_0 c i arg2 harg2 arg3 harg3 arg4 harg4 arg5 harg5 hc0 hc1 hc2 x0 x1 (ix2 a b)
      = ∑ r : Fin 1024, x0 (ix2 r a) * x1 (ix2 r b) := by
  frame_out [↓View.readCov_skip, ↓View.readCov_fill, View.readCov_eq_canon']
  exact pay2_apply x0 x1 a b

/-- A later point's product, added to the sum so far. -/
theorem sum_next (hc0 : ¬cond0_0 i) (hc1 : cond0_1 i) (hc2 : ¬cond0_2 i) :
    sout0_B_0 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

/-- What the last point stores. -/
theorem stored (hc0 : ¬cond0_0 i) (hc1 : cond0_1 i) (hc2 : cond0_2 i) :
    out0_C_2 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

end Point

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S4096x1024 .bf16 := m ((c : Thread nD τ).loc main_arg1)

abbrev bl0 (t : Fin cfg0.N) : Vec Ideal S1024x1024 .bf16 := iblk m c 0 t
abbrev bl1 (t : Fin cfg0.N) : Vec Ideal S1024x1024 .bf16 := iblk m c 1 t

theorem i0 : ∀ t : Fin grid0.N, win0_0.index t (0 : Fin 2) = t.val ∧ win0_0.index t (1 : Fin 2) = 0 := by decide +kernel
theorem i1 : ∀ t : Fin grid0.N, win0_1.index t (0 : Fin 2) = t.val ∧ win0_1.index t (1 : Fin 2) = 0 := by decide +kernel

theorem blk0 (t : Fin cfg0.N) (j : Fin 4) (e : t.val = j.val) (r a : Fin 1024) :
    bl0 m c t (ix2 r a) = lhs m c (ix2 (row j r) a) := by
  show V m c main_arg0 _ = _
  rw [V_main_arg0]
  congr 1
  funext d
  match d with
  | ⟨0, _⟩ => exact Fin.ext (show win0_0.index t (0 : Fin 2) * 1024 + 1 * r.val = 1024 * j.val + r.val by rw [(i0 t).1]; omega)
  | ⟨1, _⟩ => exact Fin.ext (show win0_0.index t (1 : Fin 2) * 1024 + 1 * a.val = a.val by rw [(i0 t).2]; omega)

theorem blk1 (t : Fin cfg0.N) (j : Fin 4) (e : t.val = j.val) (r b : Fin 1024) :
    bl1 m c t (ix2 r b) = rhs m c (ix2 (row j r) b) := by
  show V m c main_arg1 _ = _
  rw [V_main_arg1]
  congr 1
  funext d
  match d with
  | ⟨0, _⟩ => exact Fin.ext (show win0_1.index t (0 : Fin 2) * 1024 + 1 * r.val = 1024 * j.val + r.val by rw [(i1 t).1]; omega)
  | ⟨1, _⟩ => exact Fin.ext (show win0_1.index t (1 : Fin 2) * 1024 + 1 * b.val = b.val by rw [(i1 t).2]; omega)

/-- The product of point `j`'s blocks is its part of the whole product. -/
theorem blocks_part (t : Fin cfg0.N) (j : Fin 4) (e : t.val = j.val) (a b : Fin 1024) :
    ∑ r : Fin 1024, bl0 m c t (ix2 r a) * bl1 m c t (ix2 r b) = part (lhs m c) (rhs m c) j a b :=
  Finset.sum_congr rfl fun r _ => congrArg₂ (· * ·) (blk0 m c t j e r a) (blk1 m c t j e r b)

/-! ## The sums, point by point -/

theorem inGrid (j : Fin 4) : j.val < cfg0.N := lt_of_lt_of_eq j.isLt N_0.symm

theorem first (t : Fin cfg0.N) (e : t.val = 0) (a b : Fin 1024) :
    (outsAt0 m c t.val t.isLt).2 (ix2 a b) = part (lhs m c) (rhs m c) 0 a b := by
  rw [outsAt0_A m c t (by omega) (by omega) (by omega)]
  dsimp only
  rw [sum_first]
  exact blocks_part m c t 0 e a b

theorem next (t : Fin cfg0.N) (j : Fin 4) (e : t.val = j.val) (h1 : 1 ≤ j.val) (h2 : j.val < 3) (a b : Fin 1024) :
    (outsAt0 m c t.val t.isLt).2 (ix2 a b)
      = (outsAt0 m c (t.val - 1) (Nat.lt_of_le_of_lt (Nat.sub_le _ _) t.isLt)).2 (ix2 a b) + part (lhs m c) (rhs m c) j a b := by
  rw [outsAt0_B m c t (by omega) (by omega) (by omega)]
  dsimp only
  rw [sum_next]
  exact congrArg (_ + ·) (blocks_part m c t j e a b)

theorem last (t : Fin cfg0.N) (e : t.val = 3) (a b : Fin 1024) :
    (outsAt0 m c t.val t.isLt).1 (ix2 a b)
      = (outsAt0 m c (t.val - 1) (Nat.lt_of_le_of_lt (Nat.sub_le _ _) t.isLt)).2 (ix2 a b) + part (lhs m c) (rhs m c) 3 a b := by
  rw [outsAt0_C m c t (by omega) (by omega) (by omega)]
  dsimp only
  rw [stored]
  exact congrArg (_ + ·) (blocks_part m c t 3 e a b)

/-- What the last point stores is the product over all rows. -/
theorem result (a b : Fin 1024) :
    (outsAt0 m c 3 (inGrid 3)).1 (ix2 a b) = ∑ r : Fin 4096, lhs m c (ix2 r a) * rhs m c (ix2 r b) := by
  rw [product_eq (lhs m c) (rhs m c) a b]
  have e0 := first m c ⟨0, inGrid 0⟩ rfl a b
  have e1 := next m c ⟨1, inGrid 1⟩ 1 rfl (by decide) (by decide) a b
  have e2 := next m c ⟨2, inGrid 2⟩ 2 rfl (by decide) (by decide) a b
  have e3 := last m c ⟨3, inGrid 3⟩ rfl a b
  dsimp only [Nat.reduceSub] at e0 e1 e2 e3
  rw [e3, e2, e1, e0]

/-- The array the run leaves. -/
theorem array_apply (a b : Fin 1024) :
    (G2 m c : Vec Ideal S1024x1024 .bf16) (ix2 a b) = ∑ r : Fin 4096, lhs m c (ix2 r a) * rhs m c (ix2 r b) := by
  have h := result m c a b
  rw [outsAt0_sweep m c 3 (inGrid 3)] at h
  rw [G2_last m c]
  exact h

/-! ## The reference -/

open Cert.Reference14Ideal.Read in
theorem ref_apply (x : Vec Ideal S4096x1024 .bf16) (y : Vec Ideal S4096x1024 .bf16) (a b : Fin 1024) :
    (val_main_v6 (F := Ideal) x y : Vec Ideal S1024x1024 .bf16) (ix2 a b) = ∑ r : Fin 4096, x (ix2 r a) * y (ix2 r b) := by
  show val_main_v5 (F := Ideal) x y (ix2 a b) = _
  rw [val_main_v5_apply, val_main_v4_apply]
  refine Finset.sum_congr rfl fun r _ => (mul_comm _ _).trans (congrArg₂ (· * ·) (congrArg x ?_) (congrArg y ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference14Ideal.Read.val_main_v6 (F := Ideal) (lhs m c) (rhs m c) = G2 m c :=
  funext fun (i : S1024x1024.Idx) => by
    obtain ⟨a, b, rfl⟩ : ∃ a b : Fin 1024, i = ix2 a b := ⟨i 0, i 1, eq_ix2 i⟩
    exact (ref_apply _ _ a b).trans (array_apply m c a b).symm

end Cert.Layer.QueryGrad

end
-- ==== Proof.Layer.PointwiseGrad.lean ====
/- The gradients of the convolution's second pointwise weights and of its bias: each of the 4 points adds the product of its
   1024 rows of the two arrays and the sum of its rows of the second, the last stores the sums, and the reference's results
   are the same sums over all 4096 rows. -/
module

public import proofs.«01_k».proof.Proof.Gen.Kernel15Ideal.Value
public import proofs.«01_k».proof.Proof.Gen.Reference15Ideal.Read
public import proofs.«01_k».proof.Proof.Layer.Blocks
public import Idealize.ShloMosaic.Lib.Pipeline.ReadBack
public import Idealize.ShloMosaic.Lib.Pipeline.ValueKit.Acc
public import Idealize.ShloMosaic.Lib.StableHlo.RunRead

@[expose] public section

set_option maxRecDepth 16384

noncomputable section

namespace Cert.Layer.PointwiseGrad

open Idealize.ShloMosaic Idealize.ShloMosaic.ValueIdx Idealize.ShloMosaic.TcCoe
open Idealize.SL Idealize.SL.Sem
open Cert.Kernel15Ideal Cert.Kernel15Ideal.Gen Cert.Kernel15Ideal.Value

/-! ## One point -/

section Point

variable (x0 : Vec Ideal S1024x1024 .bf16) (x1 : Vec Ideal S1024x1024 .f32) (acc : Vec Ideal S1024x1024 .f32) (bias : Vec Ideal S1x1024 .f32) (a b : Fin 1024)

theorem pay1_apply : k0_pay1 x0 x1 (ix2 a b) = ∑ r : Fin 1024, x0 (ix2 r a) * x1 (ix2 r b) := dot_tn x0 x1 a b

theorem pay2_apply : k0_pay2 x0 x1 (ix2 a b) = ∑ r : Fin 1024, x0 (ix2 r a) * x1 (ix2 r b) := by
  unfold k0_pay2
  exact (shapeCast_apply _ _ _ (ix2 a b) rfl).trans (pay1_apply x0 x1 a b)

theorem pay3_apply : k0_pay3 x0 x1 acc (ix2 a b) = acc (ix2 a b) + ∑ r : Fin 1024, x0 (ix2 r a) * x1 (ix2 r b) := by
  unfold k0_pay3
  exact (shapeCast_apply _ _ _ (ix2 a b) rfl).trans (congrArg (acc (ix2 a b) + ·) (pay1_apply x0 x1 a b))

/-- The sum of a block's rows. -/
theorem pay5_apply (x1 : FVec Ideal S1024x1024 .f32) (b : Fin 1024) : k0_pay5 x1 (ix2 0 b) = ∑ r : Fin 1024, x1 (ix2 r b) := by
  have e : k0_pay5 x1 (ix2 0 b) = multiReduction .add [0] S1024 x1 0x00000000#32 reduces_S1024x1024_S1024 (.inl rfl) rfl (ix1 b) := by
    refine shapeCast_apply (multiReduction .add [0] S1024 x1 0x00000000#32 reduces_S1024x1024_S1024 (.inl rfl) rfl) shapeCasts_S1024_S1x1024 _ _ ?_
    rw [Shape.rowMajor_val_one, Shape.rowMajor_val_two]
    show b.val = 0 * 1024 + b.val
    omega
  rw [e]
  refine (Ideal.multiReduction_add_single x1 _ reduces_S1024x1024_S1024 (.inl rfl) rfl (ix1 b)).trans ?_
  refine Finset.sum_congr rfl fun r _ => congrArg x1 ?_
  funext d
  match d with
  | ⟨0, _⟩ => rfl
  | ⟨1, _⟩ => rfl

theorem pay6_apply : k0_pay6 x1 bias (ix2 0 b) = bias (ix2 0 b) + ∑ r : Fin 1024, x1 (ix2 r b) := by
  unfold k0_pay6
  exact congrArg₂ (· + ·) (shapeCast_apply bias _ _ (ix2 0 b) rfl) (pay5_apply x1 b)

variable (c : Dev nD) (i : grid0.Coords) (arg2 : Memref sig .tc .vmem S1024x1024 .bf16) (harg2 : arg2.IsWhole)
  (arg3 : Memref sig .tc .vmem S1024x1024 .f32) (harg3 : arg3.IsWhole) (arg4 : Memref sig .tc .vmem S1024x1024 .bf16) (harg4 : arg4.IsWhole)
  (arg5 : Memref sig .tc .vmem S1x1024 .f32) (harg5 : arg5.IsWhole)
  (arg6 : Memref sig .tc .vmem S1024x1024 .f32) (harg6 : arg6.IsWhole)

/-- The first point's product, kept for the next. -/
theorem sum_first (hc0 : cond0_0 i) (hc1 : ¬cond0_1 i) (hc2 : ¬cond0_2 i) (hc3 : cond0_3 i) (hc4 : ¬cond0_4 i) :
    sout0_A_0 c i arg2 harg2 arg3 harg3 arg4 harg4 arg5 harg5 arg6 harg6 hc0 hc1 hc2 hc3 hc4 x0 x1 (ix2 a b)
      = ∑ r : Fin 1024, x0 (ix2 r a) * x1 (ix2 r b) := by
  frame_out [↓View.readCov_skip, ↓View.readCov_fill, View.readCov_eq_canon']
  exact pay2_apply x0 x1 a b

/-- A later point's product, added to the sum so far. -/
theorem sum_next (hc0 : ¬cond0_0 i) (hc1 : cond0_1 i) (hc2 : ¬cond0_2 i) (hc3 : ¬cond0_3 i) (hc4 : cond0_4 i) :
    sout0_B_0 c i arg2 harg2 arg3 harg3 arg4 harg4 arg5 harg5 arg6 harg6 hc0 hc1 hc2 hc3 hc4 x0 x1 bias acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

/-- What the last point stores. -/
theorem stored (hc0 : ¬cond0_0 i) (hc1 : cond0_1 i) (hc2 : cond0_2 i) (hc3 : ¬cond0_3 i) (hc4 : cond0_4 i) :
    out0_C_2 c i arg2 harg2 arg3 harg3 arg4 harg4 arg5 harg5 arg6 harg6 hc0 hc1 hc2 hc3 hc4 x0 x1 bias acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

theorem bias_first (hc0 : cond0_0 i) (hc1 : ¬cond0_1 i) (hc2 : ¬cond0_2 i) (hc3 : cond0_3 i) (hc4 : ¬cond0_4 i) :
    out0_A_3 c i arg2 harg2 arg3 harg3 arg4 harg4 arg5 harg5 arg6 harg6 hc0 hc1 hc2 hc3 hc4 x0 x1 (ix2 0 b)
      = ∑ r : Fin 1024, x1 (ix2 r b) := by
  frame_out [↓View.readCov_skip, ↓View.readCov_fill, View.readCov_eq_canon']
  exact pay5_apply x1 b

theorem bias_next (hc0 : ¬cond0_0 i) (hc1 : cond0_1 i) (hc2 : ¬cond0_2 i) (hc3 : ¬cond0_3 i) (hc4 : cond0_4 i) :
    out0_B_3 c i arg2 harg2 arg3 harg3 arg4 harg4 arg5 harg5 arg6 harg6 hc0 hc1 hc2 hc3 hc4 x0 x1 bias acc (ix2 0 b)
      = bias (ix2 0 b) + ∑ r : Fin 1024, x1 (ix2 r b) := by
  frame_out [↓View.readCov_skip, ↓View.readCov_fill, View.readCov_eq_canon']
  exact pay6_apply x1 bias b

theorem bias_last (hc0 : ¬cond0_0 i) (hc1 : cond0_1 i) (hc2 : cond0_2 i) (hc3 : ¬cond0_3 i) (hc4 : cond0_4 i) :
    out0_C_3 c i arg2 harg2 arg3 harg3 arg4 harg4 arg5 harg5 arg6 harg6 hc0 hc1 hc2 hc3 hc4 x0 x1 bias acc (ix2 0 b)
      = bias (ix2 0 b) + ∑ r : Fin 1024, x1 (ix2 r b) := by
  frame_out [↓View.readCov_skip, ↓View.readCov_fill, View.readCov_eq_canon']
  exact pay6_apply x1 bias b

end Point

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S4096x1024 .f32 := m ((c : Thread nD τ).loc main_arg1)

abbrev bl0 (t : Fin cfg0.N) : Vec Ideal S1024x1024 .bf16 := iblk m c 0 t
abbrev bl1 (t : Fin cfg0.N) : Vec Ideal S1024x1024 .f32 := iblk m c 1 t

theorem i0 : ∀ t : Fin grid0.N, win0_0.index t (0 : Fin 2) = t.val ∧ win0_0.index t (1 : Fin 2) = 0 := by decide +kernel
theorem i1 : ∀ t : Fin grid0.N, win0_1.index t (0 : Fin 2) = t.val ∧ win0_1.index t (1 : Fin 2) = 0 := by decide +kernel

theorem blk0 (t : Fin cfg0.N) (j : Fin 4) (e : t.val = j.val) (r a : Fin 1024) :
    bl0 m c t (ix2 r a) = lhs m c (ix2 (row j r) a) := by
  show V m c main_arg0 _ = _
  rw [V_main_arg0]
  congr 1
  funext d
  match d with
  | ⟨0, _⟩ => exact Fin.ext (show win0_0.index t (0 : Fin 2) * 1024 + 1 * r.val = 1024 * j.val + r.val by rw [(i0 t).1]; omega)
  | ⟨1, _⟩ => exact Fin.ext (show win0_0.index t (1 : Fin 2) * 1024 + 1 * a.val = a.val by rw [(i0 t).2]; omega)

theorem blk1 (t : Fin cfg0.N) (j : Fin 4) (e : t.val = j.val) (r b : Fin 1024) :
    bl1 m c t (ix2 r b) = rhs m c (ix2 (row j r) b) := by
  show V m c main_arg1 _ = _
  rw [V_main_arg1]
  congr 1
  funext d
  match d with
  | ⟨0, _⟩ => exact Fin.ext (show win0_1.index t (0 : Fin 2) * 1024 + 1 * r.val = 1024 * j.val + r.val by rw [(i1 t).1]; omega)
  | ⟨1, _⟩ => exact Fin.ext (show win0_1.index t (1 : Fin 2) * 1024 + 1 * b.val = b.val by rw [(i1 t).2]; omega)

/-- The product of point `j`'s blocks is its part of the whole product. -/
theorem blocks_part (t : Fin cfg0.N) (j : Fin 4) (e : t.val = j.val) (a b : Fin 1024) :
    ∑ r : Fin 1024, bl0 m c t (ix2 r a) * bl1 m c t (ix2 r b) = part (lhs m c) (rhs m c) j a b :=
  Finset.sum_congr rfl fun r _ => congrArg₂ (· * ·) (blk0 m c t j e r a) (blk1 m c t j e r b)

/-! ## The sums, point by point -/

theorem inGrid (j : Fin 4) : j.val < cfg0.N := lt_of_lt_of_eq j.isLt N_0.symm

theorem first (t : Fin cfg0.N) (e : t.val = 0) (a b : Fin 1024) :
    (outsAt0 m c t.val t.isLt).2.2 (ix2 a b) = part (lhs m c) (rhs m c) 0 a b := by
  rw [outsAt0_A m c t (by omega) (by omega) (by omega) (by omega) (by omega)]
  dsimp only
  rw [sum_first]
  exact blocks_part m c t 0 e a b

theorem next (t : Fin cfg0.N) (j : Fin 4) (e : t.val = j.val) (h1 : 1 ≤ j.val) (h2 : j.val < 3) (a b : Fin 1024) :
    (outsAt0 m c t.val t.isLt).2.2 (ix2 a b)
      = (outsAt0 m c (t.val - 1) (Nat.lt_of_le_of_lt (Nat.sub_le _ _) t.isLt)).2.2 (ix2 a b) + part (lhs m c) (rhs m c) j a b := by
  rw [outsAt0_B m c t (by omega) (by omega) (by omega) (by omega) (by omega)]
  dsimp only
  rw [sum_next]
  exact congrArg (_ + ·) (blocks_part m c t j e a b)

theorem last (t : Fin cfg0.N) (e : t.val = 3) (a b : Fin 1024) :
    (outsAt0 m c t.val t.isLt).1 (ix2 a b)
      = (outsAt0 m c (t.val - 1) (Nat.lt_of_le_of_lt (Nat.sub_le _ _) t.isLt)).2.2 (ix2 a b) + part (lhs m c) (rhs m c) 3 a b := by
  rw [outsAt0_C m c t (by omega) (by omega) (by omega) (by omega) (by omega)]
  dsimp only
  rw [stored]
  exact congrArg (_ + ·) (blocks_part m c t 3 e a b)

/-- What the last point stores is the product over all rows. -/
theorem result (a b : Fin 1024) :
    (outsAt0 m c 3 (inGrid 3)).1 (ix2 a b) = ∑ r : Fin 4096, lhs m c (ix2 r a) * rhs m c (ix2 r b) := by
  rw [product_eq (lhs m c) (rhs m c) a b]
  have e0 := first m c ⟨0, inGrid 0⟩ rfl a b
  have e1 := next m c ⟨1, inGrid 1⟩ 1 rfl (by decide) (by decide) a b
  have e2 := next m c ⟨2, inGrid 2⟩ 2 rfl (by decide) (by decide) a b
  have e3 := last m c ⟨3, inGrid 3⟩ rfl a b
  dsimp only [Nat.reduceSub] at e0 e1 e2 e3
  rw [e3, e2, e1, e0]

/-- The array the run leaves. -/
theorem array_apply (a b : Fin 1024) :
    (G2 m c : Vec Ideal S1024x1024 .bf16) (ix2 a b) = ∑ r : Fin 4096, lhs m c (ix2 r a) * rhs m c (ix2 r b) := by
  have h := result m c a b
  rw [outsAt0_sweep m c 3 (inGrid 3)] at h
  rw [G2_last m c]
  exact h

/-! ## The bias's sums, point by point -/

/-- Block `j`'s part of the sum of all rows. -/
abbrev colPart (j : Fin 4) (b : Fin 1024) : EReal := ∑ r : Fin 1024, rhs m c (ix2 (row j r) b)

theorem blocks_col (t : Fin cfg0.N) (j : Fin 4) (e : t.val = j.val) (b : Fin 1024) :
    ∑ r : Fin 1024, bl1 m c t (ix2 r b) = colPart m c j b :=
  Finset.sum_congr rfl fun r _ => blk1 m c t j e r b

theorem col_first (t : Fin cfg0.N) (e : t.val = 0) (b : Fin 1024) : (outsAt0 m c t.val t.isLt).2.1 (ix2 0 b) = colPart m c 0 b := by
  rw [outsAt0_A m c t (by omega) (by omega) (by omega) (by omega) (by omega)]
  dsimp only
  rw [bias_first]
  exact blocks_col m c t 0 e b

theorem col_next (t : Fin cfg0.N) (j : Fin 4) (e : t.val = j.val) (h1 : 1 ≤ j.val) (b : Fin 1024) :
    (outsAt0 m c t.val t.isLt).2.1 (ix2 0 b)
      = (outsAt0 m c (t.val - 1) (Nat.lt_of_le_of_lt (Nat.sub_le _ _) t.isLt)).2.1 (ix2 0 b) + colPart m c j b := by
  by_cases h3 : j.val = 3
  · rw [outsAt0_C m c t (by omega) (by omega) (by omega) (by omega) (by omega)]
    dsimp only
    rw [bias_last]
    exact congrArg (_ + ·) (blocks_col m c t j e b)
  · rw [outsAt0_B m c t (by omega) (by omega) (by omega) (by omega) (by omega)]
    dsimp only
    rw [bias_next]
    exact congrArg (_ + ·) (blocks_col m c t j e b)

/-- What the last point stores of the bias is the sum of all rows. -/
theorem col_result (b : Fin 1024) : (outsAt0 m c 3 (inGrid 3)).2.1 (ix2 0 b) = ∑ r : Fin 4096, rhs m c (ix2 r b) := by
  rw [sum_blocks fun r => rhs m c (ix2 r b)]
  have e0 := col_first m c ⟨0, inGrid 0⟩ rfl b
  have e1 := col_next m c ⟨1, inGrid 1⟩ 1 rfl (by decide) b
  have e2 := col_next m c ⟨2, inGrid 2⟩ 2 rfl (by decide) b
  have e3 := col_next m c ⟨3, inGrid 3⟩ 3 rfl (by decide) b
  dsimp only [Nat.reduceSub] at e0 e1 e2 e3
  rw [e3, e2, e1, e0]

theorem col_apply (b : Fin 1024) : (G3 m c : Vec Ideal S1x1024 .f32) (ix2 0 b) = ∑ r : Fin 4096, rhs m c (ix2 r b) := by
  have h := col_result m c b
  rw [outsAt0_sweep m c 3 (inGrid 3)] at h
  rw [G3_last m c]
  exact h

/-! ## The reference -/

open Cert.Reference15Ideal.Read in
theorem ref_apply (x : Vec Ideal S4096x1024 .bf16) (y : Vec Ideal S4096x1024 .f32) (a b : Fin 1024) :
    (val_main_v13 (F := Ideal) x y : Vec Ideal S1024x1024 .bf16) (ix2 a b) = ∑ r : Fin 4096, x (ix2 r a) * y (ix2 r b) := by
  show val_main_v12 (F := Ideal) x y (ix2 a b) = _
  rw [val_main_v12_apply, val_main_v11_apply]
  refine Finset.sum_congr rfl fun r _ => (mul_comm _ _).trans (congrArg₂ (· * ·) (congrArg x ?_) ?_)
  · funext d
    match d with
    | ⟨0, _⟩ => rfl
    | ⟨1, _⟩ => rfl
  · rw [val_main_v7_apply]
    refine congrArg y ?_
    funext d
    match d with
    | ⟨0, _⟩ => exact Fin.ext (show (r.val * 1024 + b.val) / 1024 = r.val by omega)
    | ⟨1, _⟩ => exact Fin.ext (show (r.val * 1024 + b.val) % 1024 = b.val by omega)

/-- The reference's result is the array the run leaves. -/
theorem agree : Cert.Reference15Ideal.Read.val_main_v13 (F := Ideal) (lhs m c) (rhs m c) = G2 m c :=
  funext fun (i : S1024x1024.Idx) => by
    obtain ⟨a, b, rfl⟩ : ∃ a b : Fin 1024, i = ix2 a b := ⟨i 0, i 1, eq_ix2 i⟩
    exact (ref_apply _ _ a b).trans (array_apply m c a b).symm

open Cert.Reference15Ideal.Read in
theorem ref_col (y : Vec Ideal S4096x1024 .f32) (b : Fin 1024) :
    (val_main_v14 (F := Ideal) y : Vec Ideal S1x1024 .f32) (ix2 0 b) = ∑ r : Fin 4096, y (ix2 r b) := by
  rw [val_main_v14_apply, val_main_v10_apply, Fin.sum_univ_one, val_main_v9_apply, val_main_v8_apply]
  have z1 : val_main_cst_1 (F := Ideal) (Shape.Idx.first Cert.Reference15Ideal.Gen.h_S_) = 0 := Ideal.ofBits_zero_f32
  have z2 : val_main_cst_2 (F := Ideal) (Shape.Idx.first Cert.Reference15Ideal.Gen.h_S_) = 0 := Ideal.ofBits_zero_f32
  rw [z1, z2, zero_add, zero_add]
  refine Finset.sum_congr rfl fun r _ => congrArg y ?_
  funext d
  match d with
  | ⟨0, _⟩ => rfl
  | ⟨1, _⟩ => exact Fin.ext (show 0 * 1024 + b.val = b.val by omega)

/-- The reference's second result is the second array the run leaves. -/
theorem agree_col : Cert.Reference15Ideal.Read.val_main_v14 (F := Ideal) (rhs m c) = G3 m c :=
  funext fun (i : S1x1024.Idx) => by
    obtain ⟨z, b, rfl⟩ : ∃ (z : Fin 1) (b : Fin 1024), i = ix2 z b := ⟨i 0, i 1, eq_ix2 i⟩
    obtain rfl : z = 0 := Subsingleton.elim _ _
    exact (ref_col _ b).trans (col_apply m c b).symm

end Cert.Layer.PointwiseGrad

end
-- ==== Proof.Layer.ExpandGrad.lean ====
/- The gradients of the convolution's first pointwise weights and of its bias: each of the 4 points adds the product of its
   1024 rows of the two arrays and the sum of its rows of the second, the last stores the sums, and the reference's results
   are the same sums over all 4096 rows. -/
module

public import proofs.«01_k».proof.Proof.Gen.Kernel16Ideal.Value
public import proofs.«01_k».proof.Proof.Gen.Reference16Ideal.Read
public import proofs.«01_k».proof.Proof.Layer.Blocks
public import Idealize.ShloMosaic.Lib.Pipeline.ReadBack
public import Idealize.ShloMosaic.Lib.Pipeline.ValueKit.Acc
public import Idealize.ShloMosaic.Lib.StableHlo.RunRead

@[expose] public section

set_option maxRecDepth 16384

noncomputable section

namespace Cert.Layer.ExpandGrad

open Idealize.ShloMosaic Idealize.ShloMosaic.ValueIdx Idealize.ShloMosaic.TcCoe
open Idealize.SL Idealize.SL.Sem
open Cert.Kernel16Ideal Cert.Kernel16Ideal.Gen Cert.Kernel16Ideal.Value

theorem dot_tn (L : FVec Ideal S1024x1024 .bf16) (R : FVec Ideal S1024x2048 .bf16) (a : Fin 1024) (b : Fin 2048) :
    matmul dot_S1024x1024_S1024x2048_S1024x2048_0_0_1_1_n_n none L R (constant S1024x2048 .f32 0x00000000#32) (ix2 a b)
      = ∑ r : Fin 1024, L (ix2 r a) * R (ix2 r b) := by
  refine (Ideal.matmul_constant_zero_apply _ none L R (ix2 a b)).trans ?_
  rw [← (contrEquiv1 dot_S1024x1024_S1024x2048_S1024x2048_0_0_1_1_n_n 1024 rfl rfl).symm.sum_comp]
  refine Finset.sum_congr rfl fun c _ => ?_
  congr 2
  · funext d
    match d with
    | ⟨0, _⟩ => exact Fin.ext rfl
    | ⟨1, _⟩ => exact Fin.ext rfl
  · funext d
    match d with
    | ⟨0, _⟩ => exact Fin.ext rfl
    | ⟨1, _⟩ => exact Fin.ext rfl

/-- Block `j`'s part of the product of `A`'s transpose by `B`. -/
def part (A : S4096x1024.Idx → EReal) (B : S4096x2048.Idx → EReal) (j : Fin 4) (a : Fin 1024) (b : Fin 2048) : EReal :=
  ∑ r : Fin 1024, A (ix2 (row j r) a) * B (ix2 (row j r) b)

/-- The product of `A`'s transpose by `B` is the sum of the four blocks' parts. -/
theorem product_eq (A : S4096x1024.Idx → EReal) (B : S4096x2048.Idx → EReal) (a : Fin 1024) (b : Fin 2048) :
    ∑ r : Fin 4096, A (ix2 r a) * B (ix2 r b) = part A B 0 a b + part A B 1 a b + part A B 2 a b + part A B 3 a b :=
  sum_blocks fun r => A (ix2 r a) * B (ix2 r b)

/-! ## The groups of columns -/

/-- Column `k` of group `g`. -/
abbrev col (g : Fin 8) (k : Fin 256) : Fin 2048 := ⟨256 * g.val + k.val, by omega⟩

section Groups

variable (s : Vec Ideal S1024x2048 .f32)

/-- The array `s` with its columns in 8 groups of 256. -/
def grouped (y : S8x1024x256.Idx) : EReal := s (ix2 (y 1) (col (y 0) (y 2)))

theorem inbI (g : Fin 8) : ∀ a : Fin 2, (![0, 256 * g.val] : Fin 2 → ℕ) a + S1024x256.size a ≤ S1024x2048.size a := by decide +revert
theorem inbO (g : Fin 8) : ∀ a : Fin 3, (![g.val, 0, 0] : Fin 3 → ℕ) a + S1x1024x256.size a ≤ S8x1024x256.size a := by decide +revert

abbrev rI (g : Fin 8) : Rect S1024x2048 := Rect.unit ![0, 256 * g.val] S1024x256.size (inbI g)
abbrev rO (g : Fin 8) : Rect S8x1024x256 := Rect.unit ![g.val, 0, 0] S1x1024x256.size (inbO g)

/-- The store of group `g`. -/
def piece (g : Fin 8) : View.Piece (Elt Ideal) S8x1024x256 .bf16 := ⟨rO g, k0_pay13 (View.ld s (rI g))⟩

/-- The stores, the last one first. -/
def pieces : List (View.Piece (Elt Ideal) S8x1024x256 .bf16) :=
  [piece s 7, piece s 6, piece s 5, piece s 4, piece s 3, piece s 2, piece s 1, piece s 0]

theorem mem_pieces (g : Fin 8) : piece s g ∈ pieces s := by
  unfold pieces
  match g with
  | 0 => simp only [List.mem_cons, true_or, or_true]
  | 1 => simp only [List.mem_cons, true_or, or_true]
  | 2 => simp only [List.mem_cons, true_or, or_true]
  | 3 => simp only [List.mem_cons, true_or, or_true]
  | 4 => simp only [List.mem_cons, true_or, or_true]
  | 5 => simp only [List.mem_cons, true_or, or_true]
  | 6 => simp only [List.mem_cons, true_or, or_true]
  | 7 => simp only [List.mem_cons, true_or, or_true]

theorem piece_apply (g : Fin 8) (x : (rO g).shape.Idx) : (piece s g).2 x = grouped s ((rO g).emb x) := by
  obtain ⟨z, a, k, rfl⟩ : ∃ (z : Fin 1) (a : Fin 1024) (k : Fin 256), x = ix3 z a k := ⟨x 0, x 1, x 2, eq_ix3 x⟩
  obtain rfl : z = 0 := Subsingleton.elim _ _
  refine (shapeCast_apply (truncf (F := Ideal) .bf16 (View.ld s (rI g)) bitsLt_bf16_f32) shapeCasts_S1024x256_S1x1024x256 (ix3 0 a k)
    (ix2 a k) ?_).trans (congrArg s (a₁ := (rI g).emb (ix2 a k)) ?_)
  · rw [Shape.rowMajor_val_two, Shape.rowMajor_val_three]
    show a.val * 256 + k.val = (0 * 1024 + a.val) * 256 + k.val
    omega
  · funext d
    match d with
    | ⟨0, _⟩ => exact Fin.ext (show 0 + 1 * a.val = 0 + 1 * a.val from rfl)
    | ⟨1, _⟩ => exact Fin.ext (show 256 * g.val + 1 * k.val = 256 * (g.val + 1 * 0) + (0 + 1 * k.val) by omega)

theorem mem_rO (y : S8x1024x256.Idx) : y ∈ (rO (y 0)).set := by
  have h1 : (y 1).val < 1024 := (y 1).isLt
  have h2 : (y 2).val < 256 := (y 2).isLt
  refine Rect.mem_set_unit.mpr fun a => ?_
  match a with
  | ⟨0, _⟩ => exact ⟨show (y 0).val ≤ (y 0).val by omega, show (y 0).val < (y 0).val + 1 by omega⟩
  | ⟨1, _⟩ => exact ⟨show 0 ≤ (y 1).val by omega, show (y 1).val < 0 + 1024 by omega⟩
  | ⟨2, _⟩ => exact ⟨show 0 ≤ (y 2).val by omega, show (y 2).val < 0 + 256 by omega⟩

/-- The stores together hold the groups. -/
theorem pieces_apply (y : S8x1024x256.Idx) : View.canon (pieces s) y = grouped s y := by
  have hp : View.PiecesOf (Val := Elt Ideal) (e := .bf16) (grouped s) (pieces s) :=
    ⟨piece_apply s 7, piece_apply s 6, piece_apply s 5, piece_apply s 4, piece_apply s 3, piece_apply s 2, piece_apply s 1, piece_apply s 0, trivial⟩
  refine View.canon_apply_of_pieces (Val := Elt Ideal) (S := S8x1024x256) (e := .bf16) (grouped s) _ (View.PiecesOf.mem hp) y ?_
  exact ⟨piece s (y 0), mem_pieces s _, mem_rO y⟩

end Groups

/-! ## One point -/

section Point

variable (x0 : Vec Ideal S1024x1024 .bf16) (x1 : Vec Ideal S1024x2048 .bf16) (acc : Vec Ideal S1024x2048 .f32) (bias : Vec Ideal S1x2048 .f32) (a : Fin 1024) (b : Fin 2048)

theorem pay1_apply : k0_pay1 x0 x1 (ix2 a b) = ∑ r : Fin 1024, x0 (ix2 r a) * x1 (ix2 r b) := dot_tn x0 x1 a b

theorem pay3_apply : k0_pay3 x0 x1 (ix2 a b) = ∑ r : Fin 1024, x0 (ix2 r a) * x1 (ix2 r b) := by
  unfold k0_pay3
  exact (shapeCast_apply _ _ _ (ix2 a b) rfl).trans (pay1_apply x0 x1 a b)

theorem pay4_apply : k0_pay4 x0 x1 acc (ix2 a b) = acc (ix2 a b) + ∑ r : Fin 1024, x0 (ix2 r a) * x1 (ix2 r b) := by
  unfold k0_pay4
  exact (shapeCast_apply _ _ _ (ix2 a b) rfl).trans (congrArg (acc (ix2 a b) + ·) (pay1_apply x0 x1 a b))

/-- The sum of a block's rows. -/
theorem pay2_apply (b : Fin 2048) : k0_pay2 x1 (ix2 0 b) = ∑ r : Fin 1024, x1 (ix2 r b) := by
  have e : k0_pay2 x1 (ix2 0 b) = multiReduction (F := Ideal) .add [0] S2048 (extf .f32 x1 bitsLt_bf16_f32) 0x00000000#32 reduces_S1024x2048_S2048 (.inl rfl) rfl (ix1 b) := by
    refine shapeCast_apply (multiReduction (F := Ideal) .add [0] S2048 (extf .f32 x1 bitsLt_bf16_f32) 0x00000000#32 reduces_S1024x2048_S2048 (.inl rfl) rfl) shapeCasts_S2048_S1x2048 _ _ ?_
    rw [Shape.rowMajor_val_one, Shape.rowMajor_val_two]
    show b.val = 0 * 2048 + b.val
    omega
  rw [e]
  refine (Ideal.multiReduction_add_single (extf .f32 x1 bitsLt_bf16_f32) _ reduces_S1024x2048_S2048 (.inl rfl) rfl (ix1 b)).trans ?_
  refine Finset.sum_congr rfl fun r _ => congrArg x1 ?_
  funext d
  match d with
  | ⟨0, _⟩ => rfl
  | ⟨1, _⟩ => rfl

theorem pay5_apply : k0_pay5 x1 bias (ix2 0 b) = bias (ix2 0 b) + ∑ r : Fin 1024, x1 (ix2 r b) := by
  unfold k0_pay5
  exact congrArg₂ (· + ·) (shapeCast_apply bias _ _ (ix2 0 b) rfl) (pay2_apply x1 b)

variable (c : Dev nD) (i : grid0.Coords) (arg1 : Memref sig .tc .vmem S1024x1024 .bf16) (harg1 : arg1.IsWhole)
  (arg2 : Memref sig .tc .vmem S1024x2048 .bf16) (harg2 : arg2.IsWhole) (arg3 : Memref sig .tc .vmem S8x1024x256 .bf16) (harg3 : arg3.IsWhole)
  (arg4 : Memref sig .tc .vmem S1x2048 .f32) (harg4 : arg4.IsWhole)
  (arg5 : Memref sig .tc .vmem S1024x2048 .f32) (harg5 : arg5.IsWhole)

/-- The first point's product, kept for the next. -/
theorem sum_first (hc0 : cond0_0 i) (hc1 : ¬cond0_1 i) (hc2 : ¬cond0_2 i) :
    sout0_A_0 c i arg1 harg1 arg2 harg2 arg3 harg3 arg4 harg4 arg5 harg5 hc0 hc1 hc2 x0 x1 (ix2 a b)
      = ∑ r : Fin 1024, x0 (ix2 r a) * x1 (ix2 r b) := by
  frame_out [↓View.readCov_skip, ↓View.readCov_fill, View.readCov_eq_canon']
  exact pay3_apply x0 x1 a b

/-- A later point's product, added to the sum so far. -/
theorem sum_next (hc0 : ¬cond0_0 i) (hc1 : cond0_1 i) (hc2 : ¬cond0_2 i) :
    sout0_B_0 c i arg1 harg1 arg2 harg2 arg3 harg3 arg4 harg4 arg5 harg5 hc0 hc1 hc2 x0 x1 bias acc (ix2 a b)
      = acc (ix2 a b) + ∑ r : Fin 1024, x0 (ix2 r a) * x1 (ix2 r b) := by
  frame_out [↓View.readCov_skip, ↓View.readCov_fill, View.readCov_eq_canon']
  exact pay4_apply x0 x1 acc a b

/-- What the last point stores: group `g` of 256 columns of the sum. -/
theorem stored (hc0 : ¬cond0_0 i) (hc1 : cond0_1 i) (hc2 : cond0_2 i) (g : Fin 8) (k : Fin 256) :
    out0_C_2 c i arg1 harg1 arg2 harg2 arg3 harg3 arg4 harg4 arg5 harg5 hc0 hc1 hc2 x0 x1 bias acc (ix3 g a k)
      = acc (ix2 a (col g k)) + ∑ r : Fin 1024, x0 (ix2 r a) * x1 (ix2 r (col g k)) := by
  frame_out [↓View.readCov_skip, ↓View.readCov_fill, View.readCov_eq_canon']
  exact (pieces_apply (k0_pay4 x0 x1 acc) (ix3 g a k)).trans (pay4_apply x0 x1 acc a (col g k))

theorem bias_first (hc0 : cond0_0 i) (hc1 : ¬cond0_1 i) (hc2 : ¬cond0_2 i) :
    out0_A_3 c i arg1 harg1 arg2 harg2 arg3 harg3 arg4 harg4 arg5 harg5 hc0 hc1 hc2 x0 x1 (ix2 0 b)
      = ∑ r : Fin 1024, x1 (ix2 r b) := by
  frame_out [↓View.readCov_skip, ↓View.readCov_fill, View.readCov_eq_canon']
  exact pay2_apply x1 b

theorem bias_next (hc0 : ¬cond0_0 i) (hc1 : cond0_1 i) (hc2 : ¬cond0_2 i) :
    out0_B_3 c i arg1 harg1 arg2 harg2 arg3 harg3 arg4 harg4 arg5 harg5 hc0 hc1 hc2 x0 x1 bias acc (ix2 0 b)
      = bias (ix2 0 b) + ∑ r : Fin 1024, x1 (ix2 r b) := by
  frame_out [↓View.readCov_skip, ↓View.readCov_fill, View.readCov_eq_canon']
  exact pay5_apply x1 bias b

theorem bias_last (hc0 : ¬cond0_0 i) (hc1 : cond0_1 i) (hc2 : cond0_2 i) :
    out0_C_3 c i arg1 harg1 arg2 harg2 arg3 harg3 arg4 harg4 arg5 harg5 hc0 hc1 hc2 x0 x1 bias acc (ix2 0 b)
      = bias (ix2 0 b) + ∑ r : Fin 1024, x1 (ix2 r b) := by
  frame_out [↓View.readCov_skip, ↓View.readCov_fill, View.readCov_eq_canon']
  exact pay5_apply x1 bias b

end Point

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S4096x2048 .bf16 := m ((c : Thread nD τ).loc main_arg1)

abbrev bl0 (t : Fin cfg0.N) : Vec Ideal S1024x1024 .bf16 := iblk m c 0 t
abbrev bl1 (t : Fin cfg0.N) : Vec Ideal S1024x2048 .bf16 := iblk m c 1 t

theorem i0 : ∀ t : Fin grid0.N, win0_0.index t (0 : Fin 2) = t.val ∧ win0_0.index t (1 : Fin 2) = 0 := by decide +kernel
theorem i1 : ∀ t : Fin grid0.N, win0_1.index t (0 : Fin 2) = t.val ∧ win0_1.index t (1 : Fin 2) = 0 := by decide +kernel

theorem blk0 (t : Fin cfg0.N) (j : Fin 4) (e : t.val = j.val) (r a : Fin 1024) :
    bl0 m c t (ix2 r a) = lhs m c (ix2 (row j r) a) := by
  show V m c main_arg0 _ = _
  rw [V_main_arg0]
  congr 1
  funext d
  match d with
  | ⟨0, _⟩ => exact Fin.ext (show win0_0.index t (0 : Fin 2) * 1024 + 1 * r.val = 1024 * j.val + r.val by rw [(i0 t).1]; omega)
  | ⟨1, _⟩ => exact Fin.ext (show win0_0.index t (1 : Fin 2) * 1024 + 1 * a.val = a.val by rw [(i0 t).2]; omega)

theorem blk1 (t : Fin cfg0.N) (j : Fin 4) (e : t.val = j.val) (r : Fin 1024) (b : Fin 2048) :
    bl1 m c t (ix2 r b) = rhs m c (ix2 (row j r) b) := by
  show V m c main_arg1 _ = _
  rw [V_main_arg1]
  congr 1
  funext d
  match d with
  | ⟨0, _⟩ => exact Fin.ext (show win0_1.index t (0 : Fin 2) * 1024 + 1 * r.val = 1024 * j.val + r.val by rw [(i1 t).1]; omega)
  | ⟨1, _⟩ => exact Fin.ext (show win0_1.index t (1 : Fin 2) * 1024 + 1 * b.val = b.val by rw [(i1 t).2]; omega)

/-- The product of point `j`'s blocks is its part of the whole product. -/
theorem blocks_part (t : Fin cfg0.N) (j : Fin 4) (e : t.val = j.val) (a : Fin 1024) (b : Fin 2048) :
    ∑ r : Fin 1024, bl0 m c t (ix2 r a) * bl1 m c t (ix2 r b) = part (lhs m c) (rhs m c) j a b :=
  Finset.sum_congr rfl fun r _ => congrArg₂ (· * ·) (blk0 m c t j e r a) (blk1 m c t j e r b)

/-! ## The sums, point by point -/

theorem inGrid (j : Fin 4) : j.val < cfg0.N := lt_of_lt_of_eq j.isLt N_0.symm

theorem first (t : Fin cfg0.N) (e : t.val = 0) (a : Fin 1024) (b : Fin 2048) :
    (outsAt0 m c t.val t.isLt).2.2 (ix2 a b) = part (lhs m c) (rhs m c) 0 a b := by
  rw [outsAt0_A m c t (by omega) (by omega) (by omega)]
  dsimp only
  rw [sum_first]
  exact blocks_part m c t 0 e a b

theorem next (t : Fin cfg0.N) (j : Fin 4) (e : t.val = j.val) (h1 : 1 ≤ j.val) (h2 : j.val < 3) (a : Fin 1024) (b : Fin 2048) :
    (outsAt0 m c t.val t.isLt).2.2 (ix2 a b)
      = (outsAt0 m c (t.val - 1) (Nat.lt_of_le_of_lt (Nat.sub_le _ _) t.isLt)).2.2 (ix2 a b) + part (lhs m c) (rhs m c) j a b := by
  rw [outsAt0_B m c t (by omega) (by omega) (by omega)]
  dsimp only
  rw [sum_next]
  exact congrArg (_ + ·) (blocks_part m c t j e a b)

theorem last (t : Fin cfg0.N) (e : t.val = 3) (g : Fin 8) (a : Fin 1024) (k : Fin 256) :
    (outsAt0 m c t.val t.isLt).1 (ix3 g a k)
      = (outsAt0 m c (t.val - 1) (Nat.lt_of_le_of_lt (Nat.sub_le _ _) t.isLt)).2.2 (ix2 a (col g k)) + part (lhs m c) (rhs m c) 3 a (col g k) := by
  rw [outsAt0_C m c t (by omega) (by omega) (by omega)]
  dsimp only
  rw [stored]
  exact congrArg (_ + ·) (blocks_part m c t 3 e a (col g k))

/-- What the last point stores is the product over all rows. -/
theorem result (g : Fin 8) (a : Fin 1024) (k : Fin 256) :
    (outsAt0 m c 3 (inGrid 3)).1 (ix3 g a k) = ∑ r : Fin 4096, lhs m c (ix2 r a) * rhs m c (ix2 r (col g k)) := by
  rw [product_eq (lhs m c) (rhs m c) a (col g k)]
  have e0 := first m c ⟨0, inGrid 0⟩ rfl a (col g k)
  have e1 := next m c ⟨1, inGrid 1⟩ 1 rfl (by decide) (by decide) a (col g k)
  have e2 := next m c ⟨2, inGrid 2⟩ 2 rfl (by decide) (by decide) a (col g k)
  have e3 := last m c ⟨3, inGrid 3⟩ rfl g a k
  dsimp only [Nat.reduceSub] at e0 e1 e2 e3
  rw [e3, e2, e1, e0]

/-- The array the run leaves. -/
theorem array_apply (g : Fin 8) (a : Fin 1024) (k : Fin 256) :
    (G2 m c : Vec Ideal S8x1024x256 .bf16) (ix3 g a k) = ∑ r : Fin 4096, lhs m c (ix2 r a) * rhs m c (ix2 r (col g k)) := by
  have h := result m c g a k
  rw [outsAt0_sweep m c 3 (inGrid 3)] at h
  rw [G2_last m c]
  exact h

/-! ## The bias's sums, point by point -/

/-- Block `j`'s part of the sum of all rows. -/
abbrev colPart (j : Fin 4) (b : Fin 2048) : EReal := ∑ r : Fin 1024, rhs m c (ix2 (row j r) b)

theorem blocks_col (t : Fin cfg0.N) (j : Fin 4) (e : t.val = j.val) (b : Fin 2048) :
    ∑ r : Fin 1024, bl1 m c t (ix2 r b) = colPart m c j b :=
  Finset.sum_congr rfl fun r _ => blk1 m c t j e r b

theorem col_first (t : Fin cfg0.N) (e : t.val = 0) (b : Fin 2048) : (outsAt0 m c t.val t.isLt).2.1 (ix2 0 b) = colPart m c 0 b := by
  rw [outsAt0_A m c t (by omega) (by omega) (by omega)]
  dsimp only
  rw [bias_first]
  exact blocks_col m c t 0 e b

theorem col_next (t : Fin cfg0.N) (j : Fin 4) (e : t.val = j.val) (h1 : 1 ≤ j.val) (b : Fin 2048) :
    (outsAt0 m c t.val t.isLt).2.1 (ix2 0 b)
      = (outsAt0 m c (t.val - 1) (Nat.lt_of_le_of_lt (Nat.sub_le _ _) t.isLt)).2.1 (ix2 0 b) + colPart m c j b := by
  by_cases h3 : j.val = 3
  · rw [outsAt0_C m c t (by omega) (by omega) (by omega)]
    dsimp only
    rw [bias_last]
    exact congrArg (_ + ·) (blocks_col m c t j e b)
  · rw [outsAt0_B m c t (by omega) (by omega) (by omega)]
    dsimp only
    rw [bias_next]
    exact congrArg (_ + ·) (blocks_col m c t j e b)

/-- What the last point stores of the bias is the sum of all rows. -/
theorem col_result (b : Fin 2048) : (outsAt0 m c 3 (inGrid 3)).2.1 (ix2 0 b) = ∑ r : Fin 4096, rhs m c (ix2 r b) := by
  rw [sum_blocks fun r => rhs m c (ix2 r b)]
  have e0 := col_first m c ⟨0, inGrid 0⟩ rfl b
  have e1 := col_next m c ⟨1, inGrid 1⟩ 1 rfl (by decide) b
  have e2 := col_next m c ⟨2, inGrid 2⟩ 2 rfl (by decide) b
  have e3 := col_next m c ⟨3, inGrid 3⟩ 3 rfl (by decide) b
  dsimp only [Nat.reduceSub] at e0 e1 e2 e3
  rw [e3, e2, e1, e0]

theorem col_apply (b : Fin 2048) : (G3 m c : Vec Ideal S1x2048 .f32) (ix2 0 b) = ∑ r : Fin 4096, rhs m c (ix2 r b) := by
  have h := col_result m c b
  rw [outsAt0_sweep m c 3 (inGrid 3)] at h
  rw [G3_last m c]
  exact h

/-! ## The reference -/

open Cert.Reference16Ideal.Read in
theorem ref_apply (x : Vec Ideal S4096x1024 .bf16) (y : Vec Ideal S4096x2048 .bf16) (g : Fin 8) (a : Fin 1024) (k : Fin 256) :
    (val_main_v15 (F := Ideal) x y : Vec Ideal S8x1024x256 .bf16) (ix3 g a k) = ∑ r : Fin 4096, x (ix2 r a) * y (ix2 r (col g k)) := by
  show val_main_v14 (F := Ideal) x y (ix3 g a k) = _
  rw [val_main_v14_apply, val_main_v13_apply, val_main_v12_apply, val_main_v11_apply]
  refine Finset.sum_congr rfl fun r _ => (mul_comm _ _).trans (congrArg₂ (· * ·) (congrArg x ?_) (congrArg y ?_))
  · funext d
    match d with
    | ⟨0, _⟩ => rfl
    | ⟨1, _⟩ => exact Fin.ext (show ((a.val * 8 + g.val) * 256 + k.val) / 2048 = a.val by omega)
  · funext d
    match d with
    | ⟨0, _⟩ => rfl
    | ⟨1, _⟩ => exact Fin.ext (show ((a.val * 8 + g.val) * 256 + k.val) % 2048 = 256 * g.val + k.val by omega)

/-- The reference's result is the array the run leaves. -/
theorem agree : Cert.Reference16Ideal.Read.val_main_v15 (F := Ideal) (lhs m c) (rhs m c) = G2 m c :=
  funext fun (i : S8x1024x256.Idx) => by
    obtain ⟨g, a, k, rfl⟩ : ∃ (g : Fin 8) (a : Fin 1024) (k : Fin 256), i = ix3 g a k := ⟨i 0, i 1, i 2, eq_ix3 i⟩
    exact (ref_apply _ _ g a k).trans (array_apply m c g a k).symm

open Cert.Reference16Ideal.Read in
theorem ref_col (y : Vec Ideal S4096x2048 .bf16) (b : Fin 2048) :
    (val_main_v16 (F := Ideal) y : Vec Ideal S1x2048 .f32) (ix2 0 b) = ∑ r : Fin 4096, y (ix2 r b) := by
  rw [val_main_v16_apply, val_main_v10_apply, Fin.sum_univ_one, val_main_v9_apply, val_main_v8_apply]
  have z1 : val_main_cst_1 (F := Ideal) (Shape.Idx.first Cert.Reference16Ideal.Gen.h_S_) = 0 := Ideal.ofBits_zero_f32
  have z2 : val_main_cst_2 (F := Ideal) (Shape.Idx.first Cert.Reference16Ideal.Gen.h_S_) = 0 := Ideal.ofBits_zero_f32
  rw [z1, z2, zero_add, zero_add]
  refine Finset.sum_congr rfl fun r _ => congrArg y ?_
  funext d
  match d with
  | ⟨0, _⟩ => rfl
  | ⟨1, _⟩ => exact Fin.ext (show 0 * 2048 + b.val = b.val by omega)

/-- The reference's second result is the second array the run leaves. -/
theorem agree_col : Cert.Reference16Ideal.Read.val_main_v16 (F := Ideal) (rhs m c) = G3 m c :=
  funext fun (i : S1x2048.Idx) => by
    obtain ⟨z, b, rfl⟩ : ∃ (z : Fin 1) (b : Fin 2048), i = ix2 z b := ⟨i 0, i 1, eq_ix2 i⟩
    obtain rfl : z = 0 := Subsingleton.elim _ _
    exact (ref_col _ b).trans (col_apply m c b).symm

end Cert.Layer.ExpandGrad

end
-- ==== Proof.Layer.KeyGrad.lean ====
/- The gradient of the weights that make the keys and values: each of the 4 points adds the product of its 1024 rows of the two
   arrays, the last stores the sum, and the reference's result is the same sum over all 4096 rows. -/
module

public import proofs.«01_k».proof.Proof.Gen.Kernel17Ideal.Value
public import proofs.«01_k».proof.Proof.Gen.Reference17Ideal.Read
public import proofs.«01_k».proof.Proof.Layer.Blocks
public import Idealize.ShloMosaic.Lib.Pipeline.ReadBack
public import Idealize.ShloMosaic.Lib.Pipeline.ValueKit.Acc
public import Idealize.ShloMosaic.Lib.StableHlo.RunRead

@[expose] public section

set_option maxRecDepth 16384

noncomputable section

namespace Cert.Layer.KeyGrad

open Idealize.ShloMosaic Idealize.ShloMosaic.ValueIdx Idealize.ShloMosaic.TcCoe
open Idealize.SL Idealize.SL.Sem
open Cert.Kernel17Ideal Cert.Kernel17Ideal.Gen Cert.Kernel17Ideal.Value

theorem dot_tn (L : FVec Ideal S1024x1024 .bf16) (R : FVec Ideal S1024x512 .bf16) (a : Fin 1024) (b : Fin 512) :
    matmul dot_S1024x1024_S1024x512_S1024x512_0_0_1_1_n_n none L R (constant S1024x512 .f32 0x00000000#32) (ix2 a b)
      = ∑ r : Fin 1024, L (ix2 r a) * R (ix2 r b) := by
  refine (Ideal.matmul_constant_zero_apply _ none L R (ix2 a b)).trans ?_
  rw [← (contrEquiv1 dot_S1024x1024_S1024x512_S1024x512_0_0_1_1_n_n 1024 rfl rfl).symm.sum_comp]
  refine Finset.sum_congr rfl fun c _ => ?_
  congr 2
  · funext d
    match d with
    | ⟨0, _⟩ => exact Fin.ext rfl
    | ⟨1, _⟩ => exact Fin.ext rfl
  · funext d
    match d with
    | ⟨0, _⟩ => exact Fin.ext rfl
    | ⟨1, _⟩ => exact Fin.ext rfl

/-- Block `j`'s part of the product of `A`'s transpose by `B`. -/
def part (A : S4096x1024.Idx → EReal) (B : S4096x512.Idx → EReal) (j : Fin 4) (a : Fin 1024) (b : Fin 512) : EReal :=
  ∑ r : Fin 1024, A (ix2 (row j r) a) * B (ix2 (row j r) b)

/-- The product of `A`'s transpose by `B` is the sum of the four blocks' parts. -/
theorem product_eq (A : S4096x1024.Idx → EReal) (B : S4096x512.Idx → EReal) (a : Fin 1024) (b : Fin 512) :
    ∑ r : Fin 4096, A (ix2 r a) * B (ix2 r b) = part A B 0 a b + part A B 1 a b + part A B 2 a b + part A B 3 a b :=
  sum_blocks fun r => A (ix2 r a) * B (ix2 r b)

/-! ## One point -/

section Point

variable (x0 : Vec Ideal S1024x1024 .bf16) (x1 : Vec Ideal S1024x512 .bf16) (acc : Vec Ideal S1024x512 .f32) (a : Fin 1024) (b : Fin 512)

theorem pay1_apply : k0_pay1 x0 x1 (ix2 a b) = ∑ r : Fin 1024, x0 (ix2 r a) * x1 (ix2 r b) := dot_tn x0 x1 a b

theorem pay2_apply : k0_pay2 x0 x1 (ix2 a b) = ∑ r : Fin 1024, x0 (ix2 r a) * x1 (ix2 r b) := by
  unfold k0_pay2
  exact (shapeCast_apply _ _ _ (ix2 a b) rfl).trans (pay1_apply x0 x1 a b)

theorem pay3_apply : k0_pay3 x0 x1 acc (ix2 a b) = acc (ix2 a b) + ∑ r : Fin 1024, x0 (ix2 r a) * x1 (ix2 r b) := by
  unfold k0_pay3
  exact (shapeCast_apply _ _ _ (ix2 a b) rfl).trans (congrArg (acc (ix2 a b) + ·) (pay1_apply x0 x1 a b))

variable (c : Dev nD) (i : grid0.Coords) (arg2 : Memref sig .tc .vmem S1024x1024 .bf16) (harg2 : arg2.IsWhole)
  (arg3 : Memref sig .tc .vmem S1024x512 .bf16) (harg3 : arg3.IsWhole) (arg4 : Memref sig .tc .vmem S1024x512 .bf16) (harg4 : arg4.IsWhole)
  (arg5 : Memref sig .tc .vmem S1024x512 .f32) (harg5 : arg5.IsWhole)

/-- The first point's product, kept for the next. -/
theorem sum_first (hc0 : cond0_0 i) (hc1 : ¬cond0_1 i) (hc2 : ¬cond0_2 i) :
    sout0_A_0 c i arg2 harg2 arg3 harg3 arg4 harg4 arg5 harg5 hc0 hc1 hc2 x0 x1 (ix2 a b)
      = ∑ r : Fin 1024, x0 (ix2 r a) * x1 (ix2 r b) := by
  frame_out [↓View.readCov_skip, ↓View.readCov_fill, View.readCov_eq_canon']
  exact pay2_apply x0 x1 a b

/-- A later point's product, added to the sum so far. -/
theorem sum_next (hc0 : ¬cond0_0 i) (hc1 : cond0_1 i) (hc2 : ¬cond0_2 i) :
    sout0_B_0 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

/-- What the last point stores. -/
theorem stored (hc0 : ¬cond0_0 i) (hc1 : cond0_1 i) (hc2 : cond0_2 i) :
    out0_C_2 c i arg2 harg2 arg3 harg3 arg4 harg4 arg5 harg5 hc0 hc1 hc2 x0 x1 acc (ix2 a b)
      = acc (ix2 a b) + ∑ r : Fin 1024, x0 (ix2 r a) * x1 (ix2 r b) := by
  frame_out [↓View.readCov_skip, ↓View.readCov_fill, View.readCov_eq_canon']
  exact pay3_apply x0 x1 acc a b

end Point

/-! ## The blocks -/

variable (m : (ℓ : Loc nD τ sig) → Buf (Elt Ideal) ℓ) (c : Dev nD)

abbrev lhs : Vec Ideal S4096x1024 .bf16 := m ((c : Thread nD τ).loc main_arg0)
abbrev rhs : Vec Ideal S4096x512 .bf16 := m ((c : Thread nD τ).loc main_arg1)

abbrev bl0 (t : Fin cfg0.N) : Vec Ideal S1024x1024 .bf16 := iblk m c 0 t
abbrev bl1 (t : Fin cfg0.N) : Vec Ideal S1024x512 .bf16 := iblk m c 1 t

theorem i0 : ∀ t : Fin grid0.N, win0_0.index t (0 : Fin 2) = t.val ∧ win0_0.index t (1 : Fin 2) = 0 := by decide +kernel
theorem i1 : ∀ t : Fin grid0.N, win0_1.index t (0 : Fin 2) = t.val ∧ win0_1.index t (1 : Fin 2) = 0 := by decide +kernel

theorem blk0 (t : Fin cfg0.N) (j : Fin 4) (e : t.val = j.val) (r a : Fin 1024) :
    bl0 m c t (ix2 r a) = lhs m c (ix2 (row j r) a) := by
  show V m c main_arg0 _ = _
  rw [V_main_arg0]
  congr 1
  funext d
  match d with
  | ⟨0, _⟩ => exact Fin.ext (show win0_0.index t (0 : Fin 2) * 1024 + 1 * r.val = 1024 * j.val + r.val by rw [(i0 t).1]; omega)
  | ⟨1, _⟩ => exact Fin.ext (show win0_0.index t (1 : Fin 2) * 1024 + 1 * a.val = a.val by rw [(i0 t).2]; omega)

theorem blk1 (t : Fin cfg0.N) (j : Fin 4) (e : t.val = j.val) (r : Fin 1024) (b : Fin 512) :
    bl1 m c t (ix2 r b) = rhs m c (ix2 (row j r) b) := by
  show V m c main_arg1 _ = _
  rw [V_main_arg1]
  congr 1
  funext d
  match d with
  | ⟨0, _⟩ => exact Fin.ext (show win0_1.index t (0 : Fin 2) * 1024 + 1 * r.val = 1024 * j.val + r.val by rw [(i1 t).1]; omega)
  | ⟨1, _⟩ => exact Fin.ext (show win0_1.index t (1 : Fin 2) * 1024 + 1 * b.val = b.val by rw [(i1 t).2]; omega)

/-- The product of point `j`'s blocks is its part of the whole product. -/
theorem blocks_part (t : Fin cfg0.N) (j : Fin 4) (e : t.val = j.val) (a : Fin 1024) (b : Fin 512) :
    ∑ r : Fin 1024, bl0 m c t (ix2 r a) * bl1 m c t (ix2 r b) = part (lhs m c) (rhs m c) j a b :=
  Finset.sum_congr rfl fun r _ => congrArg₂ (· * ·) (blk0 m c t j e r a) (blk1 m c t j e r b)

/-! ## The sums, point by point -/

theorem inGrid (j : Fin 4) : j.val < cfg0.N := lt_of_lt_of_eq j.isLt N_0.symm

theorem first (t : Fin cfg0.N) (e : t.val = 0) (a : Fin 1024) (b : Fin 512) :
    (outsAt0 m c t.val t.isLt).2 (ix2 a b) = part (lhs m c) (rhs m c) 0 a b := by
  rw [outsAt0_A m c t (by omega) (by omega) (by omega)]
  dsimp only
  rw [sum_first]
  exact blocks_part m c t 0 e a b

theorem next (t : Fin cfg0.N) (j : Fin 4) (e : t.val = j.val) (h1 : 1 ≤ j.val) (h2 : j.val < 3) (a : Fin 1024) (b : Fin 512) :
    (outsAt0 m c t.val t.isLt).2 (ix2 a b)
      = (outsAt0 m c (t.val - 1) (Nat.lt_of_le_of_lt (Nat.sub_le _ _) t.isLt)).2 (ix2 a b) + part (lhs m c) (rhs m c) j a b := by
  rw [outsAt0_B m c t (by omega) (by omega) (by omega)]
  dsimp only
  rw [sum_next]
  exact congrArg (_ + ·) (blocks_part m c t j e a b)

theorem last (t : Fin cfg0.N) (e : t.val = 3) (a : Fin 1024) (b : Fin 512) :
    (outsAt0 m c t.val t.isLt).1 (ix2 a b)
      = (outsAt0 m c (t.val - 1) (Nat.lt_of_le_of_lt (Nat.sub_le _ _) t.isLt)).2 (ix2 a b) + part (lhs m c) (rhs m c) 3 a b := by
  rw [outsAt0_C m c t (by omega) (by omega) (by omega)]
  dsimp only
  rw [stored]
  exact congrArg (_ + ·) (blocks_part m c t 3 e a b)

/-- What the last point stores is the product over all rows. -/
theorem result (a : Fin 1024) (b : Fin 512) :
    (outsAt0 m c 3 (inGrid 3)).1 (ix2 a b) = ∑ r : Fin 4096, lhs m c (ix2 r a) * rhs m c (ix2 r b) := by
  rw [product_eq (lhs m c) (rhs m c) a b]
  have e0 := first m c ⟨0, inGrid 0⟩ rfl a b
  have e1 := next m c ⟨1, inGrid 1⟩ 1 rfl (by decide) (by decide) a b
  have e2 := next m c ⟨2, inGrid 2⟩ 2 rfl (by decide) (by decide) a b
  have e3 := last m c ⟨3, inGrid 3⟩ rfl a b
  dsimp only [Nat.reduceSub] at e0 e1 e2 e3
  rw [e3, e2, e1, e0]

/-- The array the run leaves. -/
theorem array_apply (a : Fin 1024) (b : Fin 512) :
    (G2 m c : Vec Ideal S1024x512 .bf16) (ix2 a b) = ∑ r : Fin 4096, lhs m c (ix2 r a) * rhs m c (ix2 r b) := by
  have h := result m c a b
  rw [outsAt0_sweep m c 3 (inGrid 3)] at h
  rw [G2_last m c]
  exact h

/-! ## The reference -/

open Cert.Reference17Ideal.Read in
theorem ref_apply (x : Vec Ideal S4096x1024 .bf16) (y : Vec Ideal S4096x512 .bf16) (a : Fin 1024) (b : Fin 512) :
    (val_main_v6 (F := Ideal) x y : Vec Ideal S1024x512 .bf16) (ix2 a b) = ∑ r : Fin 4096, x (ix2 r a) * y (ix2 r b) := by
  show val_main_v5 (F := Ideal) x y (ix2 a b) = _
  rw [val_main_v5_apply, val_main_v4_apply]
  refine Finset.sum_congr rfl fun r _ => (mul_comm _ _).trans (congrArg₂ (· * ·) (congrArg x ?_) (congrArg y ?_))
  · funext d
    match d with
    | ⟨0, _⟩ => rfl
    | ⟨1, _⟩ => rfl
  · funext d
    match d with
    | ⟨0, _⟩ => rfl
    | ⟨1, _⟩ => rfl

/-- The reference's result is the array the run leaves. -/
theorem agree : Cert.Reference17Ideal.Read.val_main_v6 (F := Ideal) (lhs m c) (rhs m c) = G2 m c :=
  funext fun (i : S1024x512.Idx) => by
    obtain ⟨a, b, rfl⟩ : ∃ (a : Fin 1024) (b : Fin 512), i = ix2 a b := ⟨i 0, i 1, eq_ix2 i⟩
    exact (ref_apply _ _ a b).trans (array_apply m c a b).symm

end Cert.Layer.KeyGrad

end
-- ==== Proof.Grad.Down.lean ====
/- The gradient of the down projection's weights: each of the 4 points stores one group of 704 rows, the product of that
   group's gated values and the residual stream's cotangent over all 4096 rows, and the reference's result is the same sum. -/
module

public import proofs.«01_k».proof.Proof.Gen.Kernel4Ideal.Value
public import proofs.«01_k».proof.Proof.Gen.Reference4Ideal.Read
public import proofs.«01_k».proof.Proof.Grad.Product
public import Idealize.ShloMosaic.Lib.Pipeline.ValueKit.Basic
public import Idealize.ShloMosaic.Lib.StableHlo.RunRead

@[expose] public section

set_option maxRecDepth 16384

noncomputable section

namespace Cert.Grad.Down

open Idealize.ShloMosaic Idealize.ShloMosaic.ValueIdx Idealize.ShloMosaic.TcCoe
open Idealize.SL Idealize.SL.Sem
open Cert.Kernel4Ideal Cert.Kernel4Ideal.Gen Cert.Kernel4Ideal.Value

/-! ## One point -/

/-- What a point leaves in the buffer it stores, from the blocks it reads: the product over all rows. -/
theorem out_apply (x0 : Vec Ideal S1x4096x704 .bf16) (x1 : Vec Ideal S4096x1024 .f32) (f : Fin 704) (k : Fin 1024) :
    out0_2 x0 x1 (ix3 0 f k) = ∑ r : Fin 4096, x0 (ix3 0 r f) * x1 (ix2 r k) := by
  unfold out0_2
  rw [View.canon_cons_unit_lit _ _ _ fun a => by match a with | ⟨0, _⟩ => rfl | ⟨1, _⟩ => rfl | ⟨2, _⟩ => rfl]
  rw [View.ld_unit_lit _ x0 fun a => by match a with | ⟨0, _⟩ => rfl | ⟨1, _⟩ => rfl | ⟨2, _⟩ => rfl]
  rw [View.ld_unit_lit _ x1 fun a => by match a with | ⟨0, _⟩ => rfl | ⟨1, _⟩ => rfl]
  exact product_apply x0 x1 f k

/-! ## The blocks -/

variable (m : (ℓ : Loc nD τ sig) → Buf (Elt Ideal) ℓ) (c : Dev nD)

/-- The left factor as the call is handed it: 4 groups of 704 columns. -/
def arr (x : Vec Ideal S4096x2816 .bf16) : Vec Ideal S4x4096x704 .bf16 :=
  transpose S4x4096x704 [1, 0, 2] (shapeCast S4096x4x704 x shapeCasts_S4096x2816_S4096x4x704) transposes_S4096x4x704_S4x4096x704_1_0_2

theorem arr_apply (x : Vec Ideal S4096x2816 .bf16) (j : Fin 4) (r : Fin 4096) (f : Fin 704) :
    arr x (ix3 j r f) = x (ix2 r ⟨704 * j.val + f.val, by omega⟩) := by
  unfold arr
  refine (transpose_apply _ _ _ _ (ix3 r j f) fun b => match b with
    | ⟨0, _⟩ => rfl
    | ⟨1, _⟩ => rfl
    | ⟨2, _⟩ => rfl).trans ?_
  refine shapeCast_apply _ _ _ _ ?_
  rw [Shape.rowMajor_val_two, Shape.rowMajor_val_three]
  show r.val * 2816 + (704 * j.val + f.val) = (r.val * 4 + j.val) * 704 + f.val
  omega

abbrev lhs : Vec Ideal S4096x2816 .bf16 := m ((c : Thread nD τ).loc main_arg0)
abbrev rhs : Vec Ideal S4096x1024 .f32 := m ((c : Thread nD τ).loc main_arg1)

set_option maxHeartbeats 4000000 in
theorem V_lhs : V m c main_v1 = arr (lhs m c) := by
  show StableHlo.after (List.flatten [hostOps0]) _ (Proc.devRef .tc main_v1) = _
  simp only [List.flatten_cons, List.flatten_nil, List.append_nil]
  after_reads_simp
  rfl

theorem i0 : ∀ t : Fin grid0.N, win0_0.index t (0 : Fin 3) = t.val ∧ win0_0.index t (1 : Fin 3) = 0 ∧ win0_0.index t (2 : Fin 3) = 0 := by decide +kernel
theorem i1 : ∀ t : Fin grid0.N, win0_1.index t (0 : Fin 2) = 0 ∧ win0_1.index t (1 : Fin 2) = 0 := by decide +kernel
theorem i2 : ∀ t : Fin grid0.N, win0_2.index t (0 : Fin 3) = t.val ∧ win0_2.index t (1 : Fin 3) = 0 ∧ win0_2.index t (2 : Fin 3) = 0 := by decide +kernel
theorem stores : ∀ t : Fin grid0.N, win0_2.flush t = true := by decide +kernel

theorem blk0 (t : Fin cfg0.N) (ht : t.val < 4) (r : Fin 4096) (f : Fin 704) :
    (iblk m c 0 t : Vec Ideal S1x4096x704 .bf16) (ix3 0 r f) = lhs m c (ix2 r ⟨704 * t.val + f.val, by omega⟩) := by
  refine Eq.trans ?_ (arr_apply (lhs m c) ⟨t.val, ht⟩ r f)
  rw [← V_lhs]
  show V m c main_v1 _ = _
  congr 1
  funext d
  match d with
  | ⟨0, _⟩ => exact Fin.ext (show win0_0.index t (0 : Fin 3) * 1 + 1 * 0 = _ by rw [(i0 t).1]; exact (by omega : t.val * 1 + 1 * 0 = t.val))
  | ⟨1, _⟩ => exact Fin.ext (show win0_0.index t (1 : Fin 3) * 4096 + 1 * r.val = _ by rw [(i0 t).2.1]; exact (by omega : 0 * 4096 + 1 * r.val = r.val))
  | ⟨2, _⟩ => exact Fin.ext (show win0_0.index t (2 : Fin 3) * 704 + 1 * f.val = _ by rw [(i0 t).2.2]; exact (by omega : 0 * 704 + 1 * f.val = f.val))

theorem blk1 (t : Fin cfg0.N) (r : Fin 4096) (k : Fin 1024) :
    (iblk m c 1 t : Vec Ideal S4096x1024 .f32) (ix2 r k) = rhs m c (ix2 r k) := by
  show V m c main_arg1 _ = _
  rw [V_main_arg1]
  congr 1
  funext d
  match d with
  | ⟨0, _⟩ => exact Fin.ext (show win0_1.index t (0 : Fin 2) * 4096 + 1 * r.val = _ by rw [(i1 t).1]; exact (by omega : 0 * 4096 + 1 * r.val = r.val))
  | ⟨1, _⟩ => exact Fin.ext (show win0_1.index t (1 : Fin 2) * 1024 + 1 * k.val = _ by rw [(i1 t).2]; exact (by omega : 0 * 1024 + 1 * k.val = k.val))

/-! ## The array -/

/-- Group `j` of the weights' gradient is what point `j` stores. -/
theorem array_apply (j : Fin 4) (f : Fin 704) (k : Fin 1024) :
    ((dats m 0 c).arrAt 2 cfg0.N : Vec Ideal S4x704x1024 .bf16) (ix3 j f k)
      = ∑ r : Fin 4096, lhs m c (ix2 r ⟨704 * j.val + f.val, by omega⟩) * rhs m c (ix2 r k) := by
  let t : Fin cfg0.N := ⟨j.val, lt_of_lt_of_eq j.isLt N_0.symm⟩
  have h := congrFun (blocks2 m c t (stores t)) (ix3 (n0 := 1) (n1 := 704) (n2 := 1024) 0 f k)
  rw [flushed2] at h
  refine Eq.trans ?_ (h.trans ((out_apply _ _ f k).trans (Finset.sum_congr rfl fun r _ => congrArg₂ (· * ·) (blk0 m c t j.isLt r f) (blk1 m c t r k))))
  show (dats m 0 c).arrAt 2 cfg0.N _ = (dats m 0 c).arrAt 2 cfg0.N _
  congr 1
  funext d
  match d with
  | ⟨0, _⟩ => exact Fin.ext (show _ = win0_2.index t (0 : Fin 3) * 1 + 1 * 0 by rw [(i2 t).1]; exact (by omega : j.val = j.val * 1 + 1 * 0))
  | ⟨1, _⟩ => exact Fin.ext (show _ = win0_2.index t (1 : Fin 3) * 704 + 1 * f.val by rw [(i2 t).2.1]; exact (by omega : f.val = 0 * 704 + 1 * f.val))
  | ⟨2, _⟩ => exact Fin.ext (show _ = win0_2.index t (2 : Fin 3) * 1024 + 1 * k.val by rw [(i2 t).2.2]; exact (by omega : k.val = 0 * 1024 + 1 * k.val))

/-! ## The reference -/

open Cert.Reference4Ideal.Read in
theorem ref_apply (a : Vec Ideal S4096x2816 .bf16) (g : Vec Ideal S4096x1024 .f32) (j : Fin 4) (f : Fin 704) (k : Fin 1024) :
    (val_main_v6 (F := Ideal) a g : Vec Ideal S4x704x1024 .bf16) (ix3 j f k)
      = ∑ r : Fin 4096, a (ix2 r ⟨704 * j.val + f.val, by omega⟩) * g (ix2 r k) := by
  show val_main_v5 (F := Ideal) a g (ix3 j f k) = _
  rw [val_main_v5_apply, val_main_v4_apply, val_main_v3_apply]
  refine Finset.sum_congr rfl fun r _ => (mul_comm _ _).trans (congrArg₂ (· * ·) (congrArg a ?_) (congrArg g ?_))
  · funext d
    match d with
    | ⟨0, _⟩ => rfl
    | ⟨1, _⟩ => exact Fin.ext (show ((j.val * 704 + f.val) * 1024 + k.val) / 1024 = 704 * j.val + f.val by omega)
  · funext d
    match d with
    | ⟨0, _⟩ => rfl
    | ⟨1, _⟩ => exact Fin.ext (show ((j.val * 704 + f.val) * 1024 + k.val) % 1024 = k.val by omega)

/-- The reference's result is the array the run leaves. -/
theorem agree : Cert.Reference4Ideal.Read.val_main_v6 (F := Ideal) (lhs m c) (rhs m c) = (dats m 0 c).arrAt 2 cfg0.N :=
  funext fun (i : S4x704x1024.Idx) => by
    obtain ⟨j, f, k, rfl⟩ : ∃ (j : Fin 4) (f : Fin 704) (k : Fin 1024), i = ix3 j f k := ⟨i 0, i 1, i 2, eq_ix3 i⟩
    exact (ref_apply _ _ j f k).trans (array_apply m c j f k).symm

end Cert.Grad.Down

end
-- ==== Proof.Ffn.Pre.lean ====
/- What the precondition says of the feed-forward layer's arguments: every element is a real number. -/
module

public import proofs.«01_k».proof.Proof.Pre

@[expose] public section

set_option maxRecDepth 16384

noncomputable section

namespace Cert.Ffn.Pre

open Idealize.ShloMosaic Idealize.ShloMosaic.ValueIdx
open Idealize.SL Idealize.SL.Sem
open Cert.Pre_finite2
open Cert.Attn.Kern (Fin')
open Cert.Attn.Pre (real_of_lt and_one)

theorem facts : Cert.Pre_finite2.Facts where
  bcast_S_S4096x1024 := by decide
  reducesTo_S4096x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

instance : Subsingleton S_.Idx := ⟨fun a b => funext fun x => x.elim0⟩

variable (x0 : FVec Ideal S4096x1024 .f32) (x1 : FVec Ideal S4096x1024 .f32) (x2 : FVec Ideal S1x1024 .f32)
  (x3 : FVec Ideal S1024x5632 .f32) (x4 : FVec Ideal S2816x1024 .f32)

theorem finite (h : @Cert.Pre_finite2.fn facts Ideal _ x0 x1 x2 x3 x4 = fun _ => 1#1) :
    Fin' (S := S4096x1024) x0 ∧ Fin' (S := S4096x1024) x1 ∧ Fin' (S := S1x1024) x2
      ∧ Fin' (S := S1024x5632) x3 ∧ Fin' (S := S2816x1024) x4 := by
  have hz := congrFun h (fun a => Fin.elim0 a)
  obtain ⟨h22, h19⟩ := and_one hz
  obtain ⟨h21, h15⟩ := and_one h22
  obtain ⟨h20, h11⟩ := and_one h21
  obtain ⟨h3, h7⟩ := and_one h20
  refine ⟨fun i => ?_, fun i => ?_, fun i => ?_, fun i => ?_, fun i => ?_⟩
  · exact real_of_lt (x0 i) (Host.reduce_andi_all _ _ _ _ _ h3 i)
  · exact real_of_lt (x1 i) (Host.reduce_andi_all _ _ _ _ _ h7 i)
  · exact real_of_lt (x2 i) (Host.reduce_andi_all _ _ _ _ _ h11 i)
  · exact real_of_lt (x3 i) (Host.reduce_andi_all _ _ _ _ _ h15 i)
  · exact real_of_lt (x4 i) (Host.reduce_andi_all _ _ _ _ _ h19 i)

end Cert.Ffn.Pre

end
-- ==== Proof.lean ====
/- The claims about the attention backward kernel, about the feed-forward layer's backward kernel, about the two kernels
   that make its weights' gradients, about the layer's forward kernel, with two norms, with one and with none, and about
   kernels that make products of the attention and convolution layers and the gradients of such products.

   The kernel's and its ideal's frames are the generated ones. The reference is a list of host operations and declares
   no semaphore, so its frame is its run. The rewrite named "mask" is the named constant's own statement. For the value
   claim both programs are read on real arguments, which the precondition gives: the kernel's four results
   (Proof/Fold.lean) and the reference's (Proof/RefOut.lean) are the same real sums (Proof/Spec.lean). The second call's
   claims go the same way, by Proof/Ffn/Fold.lean, Proof/Ffn/Ref.lean and Proof/Ffn/Spec.lean. The weights' gradients are
   equal sums of products of any extended reals (Proof/Grad/Up.lean, Proof/Grad/Down.lean), and so are the layer's forward
   results (Proof/Fwd/Spec.lean, Proof/Fwd/Agree.lean, and the modules Agree of Proof/Fwd/One and Proof/Fwd/Plain),
   the products of the attention and convolution layers (Proof/Layer/Query.lean, Out.lean, Pointwise.lean, Expand.lean and
   ExpandFirst.lean) and the gradients of their weights (Proof/Layer/OutGrad.lean, QueryGrad.lean,
   PointwiseGrad.lean, ExpandGrad.lean and KeyGrad.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Agree
public import proofs.«01_k».proof.Proof.Pre
public import proofs.«01_k».proof.Proof.Ffn.Agree
public import proofs.«01_k».proof.Proof.Grad.Up
public import proofs.«01_k».proof.Proof.Fwd.Agree
public import proofs.«01_k».proof.Proof.Fwd.One.Agree
public import proofs.«01_k».proof.Proof.Fwd.Plain.Agree
public import proofs.«01_k».proof.Proof.Layer.Query
public import proofs.«01_k».proof.Proof.Layer.Out
public import proofs.«01_k».proof.Proof.Layer.Pointwise
public import proofs.«01_k».proof.Proof.Layer.Expand
public import proofs.«01_k».proof.Proof.Layer.ExpandFirst
public import proofs.«01_k».proof.Proof.Layer.OutGrad
public import proofs.«01_k».proof.Proof.Layer.QueryGrad
public import proofs.«01_k».proof.Proof.Layer.PointwiseGrad
public import proofs.«01_k».proof.Proof.Layer.ExpandGrad
public import proofs.«01_k».proof.Proof.Layer.KeyGrad
public import proofs.«01_k».proof.Proof.Grad.Down
public import proofs.«01_k».proof.Proof.Ffn.Pre
public import Idealize.ShloMosaic.Adequacy
public import Idealize.ShloMosaic.Init

@[expose] public section

set_option maxRecDepth 16384

noncomputable section

namespace Cert.Proof

open Idealize.ShloMosaic Idealize.SL.Sem Cert.Attn

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_ri : Cert.quiescent_ReferenceIdeal (hReferenceIdeal := Cert.ReferenceIdeal.Gen.facts) := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m ρ m' ρ' hpre hagree
  refine ⟨fun c => Cert.KernelIdeal.Value.G6 m c, fun c => Cert.KernelIdeal.Value.G7 m c,
    fun c => Cert.KernelIdeal.Value.G8 m c, fun c => Cert.KernelIdeal.Value.G9 m c, Cert.KernelIdeal.Value.run (F := Ideal) m ρ, ?_⟩
  refine (θ_run Cert.ReferenceIdeal.defs _ _).mono (fun r h c => ?_) (Cert.ReferenceIdeal.Value.run (F := Ideal) m' ρ')
  obtain ⟨k0, k1, k2, k3, ha⟩ := h c
  obtain ⟨e0, e1, e2, e3, e4⟩ := hagree c
  obtain ⟨f0, f1, f2, f3, f4⟩ := Pre.finite _ _ _ _ _ (hpre c)
  have V {T : Type} (f : Vec Ideal Cert.ReferenceIdeal.S4096x1024 .bf16 → Vec Ideal Cert.ReferenceIdeal.S4096x512 .bf16
      → Vec Ideal Cert.ReferenceIdeal.S4096x1024 .bf16 → Vec Ideal Cert.ReferenceIdeal.S32x16 .f32 → Vec Ideal Cert.ReferenceIdeal.S1x16 .f32 → T) :
      f (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
      = f (Kern.a0 m c) (Kern.a1 m c) (Kern.a2 m c) (Kern.a3 m c) (Kern.a4 m c) := by
    rw [e0, e1, e2, e3, e4]
  refine ⟨?_, ?_, ?_, ?_, ha⟩
  · exact k0.trans ((Cert.ReferenceIdeal.Read.val_main_v196_eq _).trans ((V (Cert.ReferenceIdeal.Read.val_main_v196 (F := Ideal))).trans (Kern.out0 m c f0 f1 f2 f3 f4)))
  · exact k1.trans ((Cert.ReferenceIdeal.Read.val_main_v197_eq _).trans ((V (Cert.ReferenceIdeal.Read.val_main_v197 (F := Ideal))).trans (Kern.out1 m c f0 f1 f2 f3 f4)))
  · exact k2.trans ((Cert.ReferenceIdeal.Read.val_main_v184_eq _).trans ((V (Cert.ReferenceIdeal.Read.val_main_v184 (F := Ideal))).trans (Kern.out2 m c f0 f1 f2 f3 f4)))
  · exact k3.trans ((Cert.ReferenceIdeal.Read.val_main_v198_eq _).trans ((V (Cert.ReferenceIdeal.Read.val_main_v198 (F := Ideal))).trans (Kern.out3 m c f0 f1 f2 f3 f4)))

/-! ## The second call: the feed-forward layer's gradient -/

theorem frame_p2 : Cert.quiescent_Kernel2 (hKernel2 := Cert.Kernel2.Gen.facts) := fun m ρ _ => Cert.Kernel2.Gen.frame m ρ

theorem frame_pi2 : Cert.quiescent_Kernel2Ideal (hKernel2Ideal := Cert.Kernel2Ideal.Gen.facts) :=
  fun m ρ _ => Cert.Kernel2Ideal.Gen.frame m ρ

theorem frame_ri2 : Cert.quiescent_Reference2Ideal (hReference2Ideal := Cert.Reference2Ideal.Gen.facts) := by
  intro m ρ _
  exact (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal_pre_finite2 (hKernel2Ideal := Cert.Kernel2Ideal.Gen.facts)
    (hReference2Ideal := Cert.Reference2Ideal.Gen.facts) (hPre_finite2 := Ffn.Pre.facts) := by
  intro m ρ m' ρ' hpre hagree
  refine ⟨fun c => Cert.Kernel2Ideal.Value.G6 m c, fun c => Cert.Kernel2Ideal.Value.G7 m c,
    fun c => Cert.Kernel2Ideal.Value.G8 m c, fun c => Cert.Kernel2Ideal.Value.G9 m c, Cert.Kernel2Ideal.Value.run (F := Ideal) m ρ, ?_⟩
  refine (θ_run Cert.Reference2Ideal.defs _ _).mono (fun r h c => ?_) (Cert.Reference2Ideal.Value.run (F := Ideal) m' ρ')
  obtain ⟨k0, k1, k2, k3, ha⟩ := h c
  obtain ⟨e0, e1, e2, e3, e4⟩ := hagree c
  obtain ⟨f0, f1, f2, f3, f4⟩ := Ffn.Pre.finite _ _ _ _ _ (hpre c)
  have V {T : Type} (f : Vec Ideal Cert.Reference2Ideal.S4096x1024 .f32 → Vec Ideal Cert.Reference2Ideal.S4096x1024 .f32
      → Vec Ideal Cert.Reference2Ideal.S1x1024 .f32 → Vec Ideal Cert.Reference2Ideal.S1024x5632 .f32 → Vec Ideal Cert.Reference2Ideal.S2816x1024 .f32 → T) :
      f (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
      = f (Ffn.Kern.a0 m c) (Ffn.Kern.a1 m c) (Ffn.Kern.a2 m c) (Ffn.Kern.a3 m c) (Ffn.Kern.a4 m c) := by
    rw [e0, e1, e2, e3, e4]
  refine ⟨?_, ?_, ?_, ?_, ha⟩
  · exact k0.trans ((Cert.Reference2Ideal.Read.val_main_v50_eq _ _).trans ((V (Cert.Reference2Ideal.Read.val_main_v50 (F := Ideal))).trans (Ffn.Kern.out0 m c f0 f1 f2 f3 f4)))
  · exact k1.trans ((Cert.Reference2Ideal.Read.val_main_v29_eq _ _).trans ((V (Cert.Reference2Ideal.Read.val_main_v29 (F := Ideal))).trans (Ffn.Kern.out1 m c f0 f1 f2 f3 f4)))
  · exact k2.trans ((Cert.Reference2Ideal.Read.val_main_v51_eq _ _ _).trans
      ((V fun _ x1 x2 x3 _ => Cert.Reference2Ideal.Read.val_main_v51 (F := Ideal) x1 x2 x3).trans (Ffn.Kern.out2 m c f0 f1 f2 f3 f4)))
  · exact k3.trans ((Cert.Reference2Ideal.Read.val_main_v52_eq _ _).trans ((V (Cert.Reference2Ideal.Read.val_main_v52 (F := Ideal))).trans (Ffn.Kern.out3 m c f0 f1 f2 f3 f4)))

/-! ## The gradient of the gate and up projections' weights -/

theorem frame_p3 : Cert.quiescent_Kernel3 (hKernel3 := Cert.Kernel3.Gen.facts) := fun m ρ _ => Cert.Kernel3.Gen.frame m ρ

theorem frame_pi3 : Cert.quiescent_Kernel3Ideal (hKernel3Ideal := Cert.Kernel3Ideal.Gen.facts) :=
  fun m ρ _ => Cert.Kernel3Ideal.Gen.frame m ρ

theorem frame_ri3 : Cert.quiescent_Reference3Ideal (hReference3Ideal := Cert.Reference3Ideal.Gen.facts) := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 2 Cert.Kernel3Ideal.cfg0.N, Cert.Kernel3Ideal.Value.run_blocks (F := Ideal) m ρ, ?_⟩
  refine (θ_run Cert.Reference3Ideal.defs _ _).mono (fun r h c => ?_) (Cert.Reference3Ideal.Value.run (F := Ideal) m' ρ')
  obtain ⟨k0, ha⟩ := h c
  obtain ⟨e0, e1⟩ := hagree c
  have V {T : Type} (f : Vec Ideal Cert.Reference3Ideal.S4096x1024 .bf16 → Vec Ideal Cert.Reference3Ideal.S4096x5632 .bf16 → T) :
      f (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
      = f (Grad.Up.rhs m c) (Grad.Up.lhs m c) := by
    rw [e0, e1]
  exact ⟨k0.trans ((Cert.Reference3Ideal.Read.val_main_v8_eq _ _).trans ((V (Cert.Reference3Ideal.Read.val_main_v8 (F := Ideal))).trans (Grad.Up.agree m c))), ha⟩

/-! ## The gradient of the down projection's weights -/

theorem frame_p4 : Cert.quiescent_Kernel4 (hKernel4 := Cert.Kernel4.Gen.facts) := fun m ρ _ => Cert.Kernel4.Gen.frame m ρ

theorem frame_pi4 : Cert.quiescent_Kernel4Ideal (hKernel4Ideal := Cert.Kernel4Ideal.Gen.facts) :=
  fun m ρ _ => Cert.Kernel4Ideal.Gen.frame m ρ

theorem frame_ri4 : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 2 Cert.Kernel4Ideal.cfg0.N, Cert.Kernel4Ideal.Value.run_blocks (F := Ideal) m ρ, ?_⟩
  refine (θ_run Cert.Reference4Ideal.defs _ _).mono (fun r h c => ?_) (Cert.Reference4Ideal.Value.run (F := Ideal) m' ρ')
  obtain ⟨k0, ha⟩ := h c
  obtain ⟨e0, e1⟩ := hagree c
  have V {T : Type} (f : Vec Ideal Cert.Reference4Ideal.S4096x2816 .bf16 → Vec Ideal Cert.Reference4Ideal.S4096x1024 .f32 → T) :
      f (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
      = f (Grad.Down.lhs m c) (Grad.Down.rhs m c) := by
    rw [e0, e1]
  exact ⟨k0.trans ((Cert.Reference4Ideal.Read.val_main_v6_eq _ _).trans ((V (Cert.Reference4Ideal.Read.val_main_v6 (F := Ideal))).trans (Grad.Down.agree m c))), ha⟩

/-! ## The feed-forward layer's forward pass -/

theorem frame_p5 : Cert.quiescent_Kernel5 (hKernel5 := Cert.Kernel5.Gen.facts) := fun m ρ _ => Cert.Kernel5.Gen.frame m ρ

theorem frame_pi5 : Cert.quiescent_Kernel5Ideal (hKernel5Ideal := Cert.Kernel5Ideal.Gen.facts) :=
  fun m ρ _ => Cert.Kernel5Ideal.Gen.frame m ρ

theorem frame_ri5 : Cert.quiescent_Reference5Ideal (hReference5Ideal := Cert.Reference5Ideal.Gen.facts) := by
  intro m ρ _
  exact (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

theorem preserves5 : Cert.preserves_Kernel5_Kernel5Ideal := trivial

theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    fun c => (Cert.Kernel5Ideal.Gen.dats m 0 c).arrAt 8 Cert.Kernel5Ideal.cfg0.N, fun c => (Cert.Kernel5Ideal.Gen.dats m 0 c).arrAt 9 Cert.Kernel5Ideal.cfg0.N,
    Cert.Kernel5Ideal.Value.run_blocks (F := Ideal) m ρ, ?_⟩
  refine (θ_run Cert.Reference5Ideal.defs _ _).mono (fun r h c => ?_) (Cert.Reference5Ideal.Value.run (F := Ideal) m' ρ')
  obtain ⟨k0, k1, k2, k3, ha⟩ := h c
  obtain ⟨e0, e1, e2, e3, e4, e5⟩ := hagree c
  have V {T : Type} (f : Vec Ideal Cert.Reference5Ideal.S4096x1024 .bf16 → Vec Ideal Cert.Reference5Ideal.S4096x1024 .f32
      → Vec Ideal Cert.Reference5Ideal.S1x1024 .f32 → Vec Ideal Cert.Reference5Ideal.S1x1024 .f32
      → Vec Ideal Cert.Reference5Ideal.S1024x5632 .f32 → Vec Ideal Cert.Reference5Ideal.S2816x1024 .f32 → T) :
      f (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3))
        (m' ((c.tc : Thread Cert.Reference5Ideal.nD Cert.Reference5Ideal.τ).loc Cert.Reference5Ideal.main_arg4))
        (m' ((c.tc : Thread Cert.Reference5Ideal.nD Cert.Reference5Ideal.τ).loc Cert.Reference5Ideal.main_arg5))
      = f (Fwd.Kern.a0 m c) (Fwd.Kern.a1 m c) (Fwd.Kern.a2 m c) (Fwd.Kern.a3 m c) (Fwd.Kern.a4 m c) (Fwd.Kern.a5 m c) := by
    rw [e0, e1, e2, e3, e4, e5]
  refine ⟨?_, ?_, ?_, ?_, ha⟩
  · exact k0.trans ((Cert.Reference5Ideal.Read.val_main_v7_eq _ _ _ _).trans
      ((V fun x0 x1 _ _ x4 x5 => Cert.Reference5Ideal.Read.val_main_v7 (F := Ideal) x0 x1 x4 x5).trans (Fwd.Kern.out0 m c)))
  · exact k1.trans ((Cert.Reference5Ideal.Read.val_main_v10_eq _ _).trans
      ((V fun x0 _ _ _ x4 _ => Cert.Reference5Ideal.Read.val_main_v10 (F := Ideal) x0 x4).trans (Fwd.Kern.out1 m c)))
  · exact k2.trans ((Cert.Reference5Ideal.Read.val_main_v23_eq _ _).trans
      ((V fun x0 x1 x2 _ x4 x5 => Cert.Reference5Ideal.Read.val_main_v23 (F := Ideal) x0 x1 x2 x4 x5).trans (Fwd.Kern.out2 m c)))
  · exact k3.trans ((Cert.Reference5Ideal.Read.val_main_v36_eq _ _).trans
      ((V fun x0 x1 _ x3 x4 x5 => Cert.Reference5Ideal.Read.val_main_v36 (F := Ideal) x0 x1 x3 x4 x5).trans (Fwd.Kern.out3 m c)))

/-! ## The same where one norm follows the layer -/

theorem frame_p6 : Cert.quiescent_Kernel6 (hKernel6 := Cert.Kernel6.Gen.facts) := fun m ρ _ => Cert.Kernel6.Gen.frame m ρ

theorem frame_pi6 : Cert.quiescent_Kernel6Ideal (hKernel6Ideal := Cert.Kernel6Ideal.Gen.facts) :=
  fun m ρ _ => Cert.Kernel6Ideal.Gen.frame m ρ

theorem frame_ri6 : Cert.quiescent_Reference6Ideal (hReference6Ideal := Cert.Reference6Ideal.Gen.facts) := by
  intro m ρ _
  exact (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

theorem preserves6 : Cert.preserves_Kernel6_Kernel6Ideal := trivial

theorem algebraic6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N,
    Cert.Kernel6Ideal.Value.run_blocks (F := Ideal) m ρ, ?_⟩
  refine (θ_run Cert.Reference6Ideal.defs _ _).mono (fun r h c => ?_) (Cert.Reference6Ideal.Value.run (F := Ideal) m' ρ')
  obtain ⟨k0, k1, k2, ha⟩ := h c
  obtain ⟨e0, e1, e2, e3, e4⟩ := hagree c
  have V {T : Type} (f : Vec Ideal Cert.Reference6Ideal.S4096x1024 .bf16
      → Vec Ideal Cert.Reference6Ideal.S4096x1024 .f32
      → Vec Ideal Cert.Reference6Ideal.S1x1024 .f32
      → Vec Ideal Cert.Reference6Ideal.S1024x5632 .f32
      → Vec Ideal Cert.Reference6Ideal.S2816x1024 .f32 → T) :
      f (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4))
      = f (Fwd.One.a0 m c) (Fwd.One.a1 m c) (Fwd.One.a2 m c) (Fwd.One.a3 m c) (Fwd.One.a4 m c) := by
    rw [e0, e1, e2, e3, e4]
  refine ⟨?_, ?_, ?_, ha⟩
  · exact k0.trans ((Cert.Reference6Ideal.Read.val_main_v7_eq _ _ _ _).trans
      ((V fun x0 x1 _ x3 x4 => Cert.Reference6Ideal.Read.val_main_v7 (F := Ideal) x0 x1 x3 x4).trans (Fwd.One.out0 m c)))
  · exact k1.trans ((Cert.Reference6Ideal.Read.val_main_v10_eq _ _).trans
      ((V fun x0 _ _ x3 _ => Cert.Reference6Ideal.Read.val_main_v10 (F := Ideal) x0 x3).trans (Fwd.One.out1 m c)))
  · exact k2.trans ((Cert.Reference6Ideal.Read.val_main_v23_eq _ _).trans
      ((V fun x0 x1 x2 x3 x4 => Cert.Reference6Ideal.Read.val_main_v23 (F := Ideal) x0 x1 x2 x3 x4).trans (Fwd.One.out2 m c)))

/-! ## The same where no norm follows it -/

theorem frame_p7 : Cert.quiescent_Kernel7 (hKernel7 := Cert.Kernel7.Gen.facts) := fun m ρ _ => Cert.Kernel7.Gen.frame m ρ

theorem frame_pi7 : Cert.quiescent_Kernel7Ideal (hKernel7Ideal := Cert.Kernel7Ideal.Gen.facts) :=
  fun m ρ _ => Cert.Kernel7Ideal.Gen.frame m ρ

theorem frame_ri7 : Cert.quiescent_Reference7Ideal (hReference7Ideal := Cert.Reference7Ideal.Gen.facts) := by
  intro m ρ _
  exact (θ_run Cert.Reference7Ideal.defs _ _).mono
    (fun r h => ⟨fun c => (h c).2.2, Idealize.ShloMosaic.sem_eq_zero_of_no_sems (by decide) r.2⟩)
    (Cert.Reference7Ideal.Value.run (F := Ideal) m ρ)

theorem preserves7 : Cert.preserves_Kernel7_Kernel7Ideal := trivial

theorem algebraic7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N,
    Cert.Kernel7Ideal.Value.run_blocks (F := Ideal) m ρ, ?_⟩
  refine (θ_run Cert.Reference7Ideal.defs _ _).mono (fun r h c => ?_) (Cert.Reference7Ideal.Value.run (F := Ideal) m' ρ')
  obtain ⟨k0, k1, ha⟩ := h c
  obtain ⟨e0, e1, e2, e3⟩ := hagree c
  have V {T : Type} (f : Vec Ideal Cert.Reference7Ideal.S4096x1024 .bf16
      → Vec Ideal Cert.Reference7Ideal.S4096x1024 .f32
      → Vec Ideal Cert.Reference7Ideal.S1024x5632 .f32
      → Vec Ideal Cert.Reference7Ideal.S2816x1024 .f32 → T) :
      f (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2))
        (m' ((c.tc : Thread Cert.Reference7Ideal.nD Cert.Reference7Ideal.τ).loc Cert.Reference7Ideal.main_arg3))
      = f (Fwd.Plain.a0 m c) (Fwd.Plain.a1 m c) (Fwd.Plain.a2 m c) (Fwd.Plain.a3 m c) := by
    rw [e0, e1, e2, e3]
  refine ⟨?_, ?_, ha⟩
  · exact k0.trans ((Cert.Reference7Ideal.Read.val_main_v7_eq _ _ _ _).trans
      ((V fun x0 x1 x2 x3 => Cert.Reference7Ideal.Read.val_main_v7 (F := Ideal) x0 x1 x2 x3).trans (Fwd.Plain.out0 m c)))
  · exact k1.trans ((Cert.Reference7Ideal.Read.val_main_v10_eq _ _).trans
      ((V fun x0 _ x2 _ => Cert.Reference7Ideal.Read.val_main_v10 (F := Ideal) x0 x2).trans (Fwd.Plain.out1 m c)))

/-! ## The query projection -/

theorem frame_p8 : Cert.quiescent_Kernel8 (hKernel8 := Cert.Kernel8.Gen.facts) := fun m ρ _ => Cert.Kernel8.Gen.frame m ρ

theorem frame_pi8 : Cert.quiescent_Kernel8Ideal (hKernel8Ideal := Cert.Kernel8Ideal.Gen.facts) :=
  fun m ρ _ => Cert.Kernel8Ideal.Gen.frame m ρ

theorem frame_ri8 : Cert.quiescent_Reference8Ideal (hReference8Ideal := Cert.Reference8Ideal.Gen.facts) := by
  intro m ρ _
  exact (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem preserves8 : Cert.preserves_Kernel8_Kernel8Ideal := trivial

theorem algebraic8 : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => (Cert.Kernel8Ideal.Gen.dats m 0 c).arrAt 2 Cert.Kernel8Ideal.cfg0.N, Cert.Kernel8Ideal.Value.run_blocks (F := Ideal) m ρ, ?_⟩
  refine (θ_run Cert.Reference8Ideal.defs _ _).mono (fun r h c => ?_) (Cert.Reference8Ideal.Value.run (F := Ideal) m' ρ')
  obtain ⟨k0, ha⟩ := h c
  obtain ⟨e0, e1⟩ := hagree c
  have V {T : Type} (f : Vec Ideal Cert.Reference8Ideal.S4096x1024 .bf16 → Vec Ideal Cert.Reference8Ideal.S1024x1024 .f32 → T) :
      f (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1))
      = f (Layer.Query.lhs m c) (Layer.Query.rhs m c) := by
    rw [e0, e1]
  exact ⟨k0.trans ((Cert.Reference8Ideal.Read.val_main_v2_eq _ _).trans ((V (Cert.Reference8Ideal.Read.val_main_v2 (F := Ideal))).trans (Layer.Query.agree m c))), ha⟩

/-! ## The cotangent of the attention's output projection -/

theorem frame_p9 : Cert.quiescent_Kernel9 (hKernel9 := Cert.Kernel9.Gen.facts) := fun m ρ _ => Cert.Kernel9.Gen.frame m ρ

theorem frame_pi9 : Cert.quiescent_Kernel9Ideal (hKernel9Ideal := Cert.Kernel9Ideal.Gen.facts) :=
  fun m ρ _ => Cert.Kernel9Ideal.Gen.frame m ρ

theorem frame_ri9 : Cert.quiescent_Reference9Ideal (hReference9Ideal := Cert.Reference9Ideal.Gen.facts) := by
  intro m ρ _
  exact (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem preserves9 : Cert.preserves_Kernel9_Kernel9Ideal := trivial

theorem algebraic9 : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => (Cert.Kernel9Ideal.Gen.dats m 0 c).arrAt 2 Cert.Kernel9Ideal.cfg0.N, Cert.Kernel9Ideal.Value.run_blocks (F := Ideal) m ρ, ?_⟩
  refine (θ_run Cert.Reference9Ideal.defs _ _).mono (fun r h c => ?_) (Cert.Reference9Ideal.Value.run (F := Ideal) m' ρ')
  obtain ⟨k0, ha⟩ := h c
  obtain ⟨e0, e1⟩ := hagree c
  have V {T : Type} (f : Vec Ideal Cert.Reference9Ideal.S4096x1024 .f32 → Vec Ideal Cert.Reference9Ideal.S1024x1024 .f32 → T) :
      f (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1))
      = f (Layer.Out.lhs m c) (Layer.Out.rhs m c) := by
    rw [e0, e1]
  exact ⟨k0.trans ((Cert.Reference9Ideal.Read.val_main_v3_eq _ _).trans ((V (Cert.Reference9Ideal.Read.val_main_v3 (F := Ideal))).trans (Layer.Out.agree m c))), ha⟩

/-! ## The cotangent of the convolution's second pointwise product -/

theorem frame_p10 : Cert.quiescent_Kernel10 (hKernel10 := Cert.Kernel10.Gen.facts) := fun m ρ _ => Cert.Kernel10.Gen.frame m ρ

theorem frame_pi10 : Cert.quiescent_Kernel10Ideal (hKernel10Ideal := Cert.Kernel10Ideal.Gen.facts) :=
  fun m ρ _ => Cert.Kernel10Ideal.Gen.frame m ρ

theorem frame_ri10 : Cert.quiescent_Reference10Ideal (hReference10Ideal := Cert.Reference10Ideal.Gen.facts) := by
  intro m ρ _
  exact (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem preserves10 : Cert.preserves_Kernel10_Kernel10Ideal := trivial

theorem algebraic10 : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => (Cert.Kernel10Ideal.Gen.dats m 0 c).arrAt 2 Cert.Kernel10Ideal.cfg0.N, Cert.Kernel10Ideal.Value.run_blocks (F := Ideal) m ρ, ?_⟩
  refine (θ_run Cert.Reference10Ideal.defs _ _).mono (fun r h c => ?_) (Cert.Reference10Ideal.Value.run (F := Ideal) m' ρ')
  obtain ⟨k0, ha⟩ := h c
  obtain ⟨e0, e1⟩ := hagree c
  have V {T : Type} (f : Vec Ideal Cert.Reference10Ideal.S4096x1024 .f32 → Vec Ideal Cert.Reference10Ideal.S1024x1024 .f32 → T) :
      f (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))
      = f (Layer.Pointwise.lhs m c) (Layer.Pointwise.rhs m c) := by
    rw [e0, e1]
  exact ⟨k0.trans ((Cert.Reference10Ideal.Read.val_main_v2_eq _ _).trans ((V (Cert.Reference10Ideal.Read.val_main_v2 (F := Ideal))).trans (Layer.Pointwise.agree m c))), ha⟩

/-! ## The convolution's first pointwise product -/

theorem frame_p11 : Cert.quiescent_Kernel11 (hKernel11 := Cert.Kernel11.Gen.facts) := fun m ρ _ => Cert.Kernel11.Gen.frame m ρ

theorem frame_pi11 : Cert.quiescent_Kernel11Ideal (hKernel11Ideal := Cert.Kernel11Ideal.Gen.facts) :=
  fun m ρ _ => Cert.Kernel11Ideal.Gen.frame m ρ

theorem frame_ri11 : Cert.quiescent_Reference11Ideal (hReference11Ideal := Cert.Reference11Ideal.Gen.facts) := by
  intro m ρ _
  exact (θ_run Cert.Reference11Ideal.defs _ _).mono
    (fun r h => ⟨fun c => (h c).2, Idealize.ShloMosaic.sem_eq_zero_of_no_sems (by decide) r.2⟩)
    (Cert.Reference11Ideal.Value.run (F := Ideal) m ρ)

theorem preserves11 : Cert.preserves_Kernel11_Kernel11Ideal := trivial

theorem algebraic11 : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => (Cert.Kernel11Ideal.Gen.dats m 0 c).arrAt 3 Cert.Kernel11Ideal.cfg0.N, Cert.Kernel11Ideal.Value.run_blocks (F := Ideal) m ρ, ?_⟩
  refine (θ_run Cert.Reference11Ideal.defs _ _).mono (fun r h c => ?_) (Cert.Reference11Ideal.Value.run (F := Ideal) m' ρ')
  obtain ⟨k0, ha⟩ := h c
  obtain ⟨e0, e1, e2⟩ := hagree c
  have V {T : Type} (f : Vec Ideal Cert.Reference11Ideal.S4096x1024 .bf16 → Vec Ideal Cert.Reference11Ideal.S1024x2048 .f32 → Vec Ideal Cert.Reference11Ideal.S2x2048 .f32 → T) :
      f (m' ((c.tc : Thread Cert.Reference11Ideal.nD Cert.Reference11Ideal.τ).loc Cert.Reference11Ideal.main_arg0))
        (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg2))
      = f (Layer.Expand.lhs m c) (Layer.Expand.rhs m c) (Layer.Expand.bias m c) := by
    rw [e0, e1, e2]
  exact ⟨k0.trans ((Cert.Reference11Ideal.Read.val_main_v7_eq _ _ _).trans ((V (Cert.Reference11Ideal.Read.val_main_v7 (F := Ideal))).trans (Layer.Expand.agree m c))), ha⟩

/-! ## The convolution's first pointwise product, with the first of the biases -/

theorem frame_p12 : Cert.quiescent_Kernel12 (hKernel12 := Cert.Kernel12.Gen.facts) := fun m ρ _ => Cert.Kernel12.Gen.frame m ρ

theorem frame_pi12 : Cert.quiescent_Kernel12Ideal (hKernel12Ideal := Cert.Kernel12Ideal.Gen.facts) :=
  fun m ρ _ => Cert.Kernel12Ideal.Gen.frame m ρ

theorem frame_ri12 : Cert.quiescent_Reference12Ideal (hReference12Ideal := Cert.Reference12Ideal.Gen.facts) := by
  intro m ρ _
  exact (θ_run Cert.Reference12Ideal.defs _ _).mono
    (fun r h => ⟨fun c => (h c).2, Idealize.ShloMosaic.sem_eq_zero_of_no_sems (by decide) r.2⟩)
    (Cert.Reference12Ideal.Value.run (F := Ideal) m ρ)

theorem preserves12 : Cert.preserves_Kernel12_Kernel12Ideal := trivial

theorem algebraic12 : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => (Cert.Kernel12Ideal.Gen.dats m 0 c).arrAt 3 Cert.Kernel12Ideal.cfg0.N, Cert.Kernel12Ideal.Value.run_blocks (F := Ideal) m ρ, ?_⟩
  refine (θ_run Cert.Reference12Ideal.defs _ _).mono (fun r h c => ?_) (Cert.Reference12Ideal.Value.run (F := Ideal) m' ρ')
  obtain ⟨k0, ha⟩ := h c
  obtain ⟨e0, e1, e2⟩ := hagree c
  have V {T : Type} (f : Vec Ideal Cert.Reference12Ideal.S4096x1024 .bf16 → Vec Ideal Cert.Reference12Ideal.S1024x2048 .f32 → Vec Ideal Cert.Reference12Ideal.S2x2048 .f32 → T) :
      f (m' ((c.tc : Thread Cert.Reference12Ideal.nD Cert.Reference12Ideal.τ).loc Cert.Reference12Ideal.main_arg0))
        (m' ((c.tc : Thread Cert.Reference12Ideal.nD Cert.Reference12Ideal.τ).loc Cert.Reference12Ideal.main_arg1))
        (m' ((c.tc : Thread Cert.Reference12Ideal.nD Cert.Reference12Ideal.τ).loc Cert.Reference12Ideal.main_arg2))
      = f (Layer.ExpandFirst.lhs m c) (Layer.ExpandFirst.rhs m c) (Layer.ExpandFirst.bias m c) := by
    rw [e0, e1, e2]
  exact ⟨k0.trans ((Cert.Reference12Ideal.Read.val_main_v7_eq _ _ _).trans ((V (Cert.Reference12Ideal.Read.val_main_v7 (F := Ideal))).trans (Layer.ExpandFirst.agree m c))), ha⟩

/-! ## The gradient of the attention output's weights -/

theorem frame_p13 : Cert.quiescent_Kernel13 (hKernel13 := Cert.Kernel13.Gen.facts) := fun m ρ _ => Cert.Kernel13.Gen.frame m ρ

theorem frame_pi13 : Cert.quiescent_Kernel13Ideal (hKernel13Ideal := Cert.Kernel13Ideal.Gen.facts) :=
  fun m ρ _ => Cert.Kernel13Ideal.Gen.frame m ρ

theorem frame_ri13 : Cert.quiescent_Reference13Ideal (hReference13Ideal := Cert.Reference13Ideal.Gen.facts) := by
  intro m ρ _
  exact (θ_run Cert.Reference13Ideal.defs _ _).mono
    (fun r h => ⟨fun c => (h c).2, Idealize.ShloMosaic.sem_eq_zero_of_no_sems (by decide) r.2⟩)
    (Cert.Reference13Ideal.Value.run (F := Ideal) m ρ)

theorem preserves13 : Cert.preserves_Kernel13_Kernel13Ideal := trivial

theorem algebraic13 : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => Cert.Kernel13Ideal.Value.G2 m c, Cert.Kernel13Ideal.Value.run (F := Ideal) m ρ, ?_⟩
  refine (θ_run Cert.Reference13Ideal.defs _ _).mono (fun r h c => ?_) (Cert.Reference13Ideal.Value.run (F := Ideal) m' ρ')
  obtain ⟨k0, ha⟩ := h c
  obtain ⟨e0, e1⟩ := hagree c
  have V {T : Type} (f : Vec Ideal Cert.Reference13Ideal.S4096x1024 .bf16 → Vec Ideal Cert.Reference13Ideal.S4096x1024 .f32 → T) :
      f (m' ((c.tc : Thread Cert.Reference13Ideal.nD Cert.Reference13Ideal.τ).loc Cert.Reference13Ideal.main_arg0))
        (m' ((c.tc : Thread Cert.Reference13Ideal.nD Cert.Reference13Ideal.τ).loc Cert.Reference13Ideal.main_arg1))
      = f (Layer.OutGrad.lhs m c) (Layer.OutGrad.rhs m c) := by
    rw [e0, e1]
  exact ⟨k0.trans ((Cert.Reference13Ideal.Read.val_main_v5_eq _ _).trans ((V (Cert.Reference13Ideal.Read.val_main_v5 (F := Ideal))).trans (Layer.OutGrad.agree m c))), ha⟩

/-! ## The gradient of the query projection's weights -/

theorem frame_p14 : Cert.quiescent_Kernel14 (hKernel14 := Cert.Kernel14.Gen.facts) := fun m ρ _ => Cert.Kernel14.Gen.frame m ρ

theorem frame_pi14 : Cert.quiescent_Kernel14Ideal (hKernel14Ideal := Cert.Kernel14Ideal.Gen.facts) :=
  fun m ρ _ => Cert.Kernel14Ideal.Gen.frame m ρ

theorem frame_ri14 : Cert.quiescent_Reference14Ideal (hReference14Ideal := Cert.Reference14Ideal.Gen.facts) := by
  intro m ρ _
  exact (θ_run Cert.Reference14Ideal.defs _ _).mono
    (fun r h => ⟨fun c => (h c).2, Idealize.ShloMosaic.sem_eq_zero_of_no_sems (by decide) r.2⟩)
    (Cert.Reference14Ideal.Value.run (F := Ideal) m ρ)

theorem preserves14 : Cert.preserves_Kernel14_Kernel14Ideal := trivial

theorem algebraic14 : Cert.algebraic_Kernel14Ideal_Reference14Ideal (hKernel14Ideal := Cert.Kernel14Ideal.Gen.facts)
    (hReference14Ideal := Cert.Reference14Ideal.Gen.facts) := by
  intro m ρ m' ρ' _ hagree
  refine ⟨fun c => Cert.Kernel14Ideal.Value.G2 m c, Cert.Kernel14Ideal.Value.run (F := Ideal) m ρ, ?_⟩
  refine (θ_run Cert.Reference14Ideal.defs _ _).mono (fun r h c => ?_) (Cert.Reference14Ideal.Value.run (F := Ideal) m' ρ')
  obtain ⟨k0, ha⟩ := h c
  obtain ⟨e0, e1⟩ := hagree c
  have V {T : Type} (f : Vec Ideal Cert.Reference14Ideal.S4096x1024 .bf16 → Vec Ideal Cert.Reference14Ideal.S4096x1024 .bf16 → T) :
      f (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg1))
      = f (Layer.QueryGrad.lhs m c) (Layer.QueryGrad.rhs m c) := by
    rw [e0, e1]
  exact ⟨k0.trans ((Cert.Reference14Ideal.Read.val_main_v6_eq _ _).trans ((V (Cert.Reference14Ideal.Read.val_main_v6 (F := Ideal))).trans (Layer.QueryGrad.agree m c))), ha⟩

/-! ## The gradients of the convolution's second pointwise weights and bias -/

theorem frame_p15 : Cert.quiescent_Kernel15 (hKernel15 := Cert.Kernel15.Gen.facts) := fun m ρ _ => Cert.Kernel15.Gen.frame m ρ

theorem frame_pi15 : Cert.quiescent_Kernel15Ideal (hKernel15Ideal := Cert.Kernel15Ideal.Gen.facts) :=
  fun m ρ _ => Cert.Kernel15Ideal.Gen.frame m ρ

theorem frame_ri15 : Cert.quiescent_Reference15Ideal (hReference15Ideal := Cert.Reference15Ideal.Gen.facts) := by
  intro m ρ _
  exact (θ_run Cert.Reference15Ideal.defs _ _).mono
    (fun r h => ⟨fun c => (h c).2.2, Idealize.ShloMosaic.sem_eq_zero_of_no_sems (by decide) r.2⟩)
    (Cert.Reference15Ideal.Value.run (F := Ideal) m ρ)

theorem preserves15 : Cert.preserves_Kernel15_Kernel15Ideal := trivial

theorem algebraic15 : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => Cert.Kernel15Ideal.Value.G2 m c, fun c => Cert.Kernel15Ideal.Value.G3 m c, Cert.Kernel15Ideal.Value.run (F := Ideal) m ρ, ?_⟩
  refine (θ_run Cert.Reference15Ideal.defs _ _).mono (fun r h c => ?_) (Cert.Reference15Ideal.Value.run (F := Ideal) m' ρ')
  obtain ⟨k0, k1, ha⟩ := h c
  obtain ⟨e0, e1⟩ := hagree c
  have V {T : Type} (f : Vec Ideal Cert.Reference15Ideal.S4096x1024 .bf16 → Vec Ideal Cert.Reference15Ideal.S4096x1024 .f32 → T) :
      f (m' ((c.tc : Thread Cert.Reference15Ideal.nD Cert.Reference15Ideal.τ).loc Cert.Reference15Ideal.main_arg0))
        (m' ((c.tc : Thread Cert.Reference15Ideal.nD Cert.Reference15Ideal.τ).loc Cert.Reference15Ideal.main_arg1))
      = f (Layer.PointwiseGrad.lhs m c) (Layer.PointwiseGrad.rhs m c) := by
    rw [e0, e1]
  refine ⟨?_, ?_, ha⟩
  · exact k0.trans ((Cert.Reference15Ideal.Read.val_main_v13_eq _ _).trans ((V (Cert.Reference15Ideal.Read.val_main_v13 (F := Ideal))).trans (Layer.PointwiseGrad.agree m c)))
  · exact k1.trans ((Cert.Reference15Ideal.Read.val_main_v14_eq _).trans
      ((V fun _ x1 => Cert.Reference15Ideal.Read.val_main_v14 (F := Ideal) x1).trans (Layer.PointwiseGrad.agree_col m c)))

/-! ## The gradients of the convolution's first pointwise weights and bias -/

theorem frame_p16 : Cert.quiescent_Kernel16 (hKernel16 := Cert.Kernel16.Gen.facts) := fun m ρ _ => Cert.Kernel16.Gen.frame m ρ

theorem frame_pi16 : Cert.quiescent_Kernel16Ideal (hKernel16Ideal := Cert.Kernel16Ideal.Gen.facts) :=
  fun m ρ _ => Cert.Kernel16Ideal.Gen.frame m ρ

theorem frame_ri16 : Cert.quiescent_Reference16Ideal (hReference16Ideal := Cert.Reference16Ideal.Gen.facts) := by
  intro m ρ _
  exact (θ_run Cert.Reference16Ideal.defs _ _).mono
    (fun r h => ⟨fun c => (h c).2.2, Idealize.ShloMosaic.sem_eq_zero_of_no_sems (by decide) r.2⟩)
    (Cert.Reference16Ideal.Value.run (F := Ideal) m ρ)

theorem preserves16 : Cert.preserves_Kernel16_Kernel16Ideal := trivial

theorem algebraic16 : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => Cert.Kernel16Ideal.Value.G2 m c, fun c => Cert.Kernel16Ideal.Value.G3 m c, Cert.Kernel16Ideal.Value.run (F := Ideal) m ρ, ?_⟩
  refine (θ_run Cert.Reference16Ideal.defs _ _).mono (fun r h c => ?_) (Cert.Reference16Ideal.Value.run (F := Ideal) m' ρ')
  obtain ⟨k0, k1, ha⟩ := h c
  obtain ⟨e0, e1⟩ := hagree c
  have V {T : Type} (f : Vec Ideal Cert.Reference16Ideal.S4096x1024 .bf16 → Vec Ideal Cert.Reference16Ideal.S4096x2048 .bf16 → T) :
      f (m' ((c.tc : Thread Cert.Reference16Ideal.nD Cert.Reference16Ideal.τ).loc Cert.Reference16Ideal.main_arg0))
        (m' ((c.tc : Thread Cert.Reference16Ideal.nD Cert.Reference16Ideal.τ).loc Cert.Reference16Ideal.main_arg1))
      = f (Layer.ExpandGrad.lhs m c) (Layer.ExpandGrad.rhs m c) := by
    rw [e0, e1]
  refine ⟨?_, ?_, ha⟩
  · exact k0.trans ((Cert.Reference16Ideal.Read.val_main_v15_eq _ _).trans ((V (Cert.Reference16Ideal.Read.val_main_v15 (F := Ideal))).trans (Layer.ExpandGrad.agree m c)))
  · exact k1.trans ((Cert.Reference16Ideal.Read.val_main_v16_eq _).trans
      ((V fun _ x1 => Cert.Reference16Ideal.Read.val_main_v16 (F := Ideal) x1).trans (Layer.ExpandGrad.agree_col m c)))

/-! ## The gradient of the weights that make the keys and values -/

theorem frame_p17 : Cert.quiescent_Kernel17 (hKernel17 := Cert.Kernel17.Gen.facts) := fun m ρ _ => Cert.Kernel17.Gen.frame m ρ

theorem frame_pi17 : Cert.quiescent_Kernel17Ideal (hKernel17Ideal := Cert.Kernel17Ideal.Gen.facts) :=
  fun m ρ _ => Cert.Kernel17Ideal.Gen.frame m ρ

theorem frame_ri17 : Cert.quiescent_Reference17Ideal (hReference17Ideal := Cert.Reference17Ideal.Gen.facts) := by
  intro m ρ _
  exact (θ_run Cert.Reference17Ideal.defs _ _).mono
    (fun r h => ⟨fun c => (h c).2, Idealize.ShloMosaic.sem_eq_zero_of_no_sems (by decide) r.2⟩)
    (Cert.Reference17Ideal.Value.run (F := Ideal) m ρ)

theorem preserves17 : Cert.preserves_Kernel17_Kernel17Ideal := trivial

theorem algebraic17 : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => Cert.Kernel17Ideal.Value.G2 m c, Cert.Kernel17Ideal.Value.run (F := Ideal) m ρ, ?_⟩
  refine (θ_run Cert.Reference17Ideal.defs _ _).mono (fun r h c => ?_) (Cert.Reference17Ideal.Value.run (F := Ideal) m' ρ')
  obtain ⟨k0, ha⟩ := h c
  obtain ⟨e0, e1⟩ := hagree c
  have V {T : Type} (f : Vec Ideal Cert.Reference17Ideal.S4096x1024 .bf16 → Vec Ideal Cert.Reference17Ideal.S4096x512 .bf16 → T) :
      f (m' ((c.tc : Thread Cert.Reference17Ideal.nD Cert.Reference17Ideal.τ).loc Cert.Reference17Ideal.main_arg0))
        (m' ((c.tc : Thread Cert.Reference17Ideal.nD Cert.Reference17Ideal.τ).loc Cert.Reference17Ideal.main_arg1))
      = f (Layer.KeyGrad.lhs m c) (Layer.KeyGrad.rhs m c) := by
    rw [e0, e1]
  exact ⟨k0.trans ((Cert.Reference17Ideal.Read.val_main_v6_eq _ _).trans ((V (Cert.Reference17Ideal.Read.val_main_v6 (F := Ideal))).trans (Layer.KeyGrad.agree m c))), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts, Pre.facts, Ffn.Pre.facts,
  frame_p, frame_pi, fun m ρ _ => frame_pi m ρ trivial, frame_ri, fun m ρ _ => frame_ri m ρ trivial,
  frame_p2, frame_pi2, fun m ρ _ => frame_pi2 m ρ trivial, frame_ri2, fun m ρ _ => frame_ri2 m ρ trivial,
  frame_p3, frame_pi3, frame_ri3, frame_p4, frame_pi4, frame_ri4, frame_p5, frame_pi5, frame_ri5,
  frame_p6, frame_pi6, frame_ri6, frame_p7, frame_pi7, frame_ri7,
  frame_p8, frame_pi8, frame_ri8, frame_p9, frame_pi9, frame_ri9,
  frame_p10, frame_pi10, frame_ri10, frame_p11, frame_pi11, frame_ri11,
  frame_p12, frame_pi12, frame_ri12, frame_p13, frame_pi13, frame_ri13,
  frame_p14, frame_pi14, frame_ri14, frame_p15, frame_pi15, frame_ri15,
  frame_p16, frame_pi16, frame_ri16, frame_p17, frame_pi17, frame_ri17,
  preserves, algebraic, preserves2, algebraic2, preserves3, algebraic3, preserves4, algebraic4, preserves5, algebraic5,
  preserves6, algebraic6, preserves7, algebraic7,
  preserves8, algebraic8, preserves9, algebraic9, preserves10, algebraic10, preserves11, algebraic11,
  preserves12, algebraic12, preserves13, algebraic13, preserves14, algebraic14, preserves15, algebraic15,
  preserves16, algebraic16, preserves17, algebraic17⟩

end Cert.Proof

end
